-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Hgrn [hPre_lower_bounds : Cert.Pre_lower_bounds.Facts] (m : (ℓ : Loc Cert.Hgrn.nD Cert.Hgrn.τ Cert.Hgrn.sig) → Buf (Elt Bits) ℓ) : Prop :=
  ∀ c : Dev Cert.Hgrn.nD,
    (Cert.Pre_lower_bounds.fn (F := Bits) (m ((c.tc : Thread Cert.Hgrn.nD Cert.Hgrn.τ).loc Cert.Hgrn.main_arg0)) (m ((c.tc : Thread Cert.Hgrn.nD Cert.Hgrn.τ).loc Cert.Hgrn.main_arg1)) (m ((c.tc : Thread Cert.Hgrn.nD Cert.Hgrn.τ).loc Cert.Hgrn.main_arg2)) (m ((c.tc : Thread Cert.Hgrn.nD Cert.Hgrn.τ).loc Cert.Hgrn.main_arg3))) = (fun _ => 1#1)

def Pre_HgrnIdeal [hPre_lower_bounds : Cert.Pre_lower_bounds.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_lower_bounds.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3))) = (fun _ => 1#1)

def Pre_HgrnRefIdeal [hPre_lower_bounds : Cert.Pre_lower_bounds.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_lower_bounds.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3))) = (fun _ => 1#1)

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_ShortRefIdeal (m : (ℓ : Loc Cert.ShortRefIdeal.nD Cert.ShortRefIdeal.τ Cert.ShortRefIdeal.sig) → Buf (Elt Ideal) ℓ) : Prop :=
  True

def Pre_DownS (m : (ℓ : Loc Cert.DownS.nD Cert.DownS.τ Cert.DownS.sig) → Buf (Elt Bits) ℓ) : Prop :=
  True

def Pre_DownSIdeal (m : (ℓ : Loc Cert.DownSIdeal.nD Cert.DownSIdeal.τ Cert.DownSIdeal.sig) → Buf (Elt Ideal) ℓ) : Prop :=
  True

def Pre_DownSRefIdeal (m : (ℓ : Loc Cert.DownSRefIdeal.nD Cert.DownSRefIdeal.τ Cert.DownSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2)
      ∧ r.2.mem ((c.tc : Thread Cert.Outp.nD Cert.Outp.τ).loc Cert.Outp.main_arg3) = m ((c.tc : Thread Cert.Outp.nD Cert.Outp.τ).loc Cert.Outp.main_arg3)
      ∧ r.2.mem ((c.tc : Thread Cert.Outp.nD Cert.Outp.τ).loc Cert.Outp.main_arg4) = m ((c.tc : Thread Cert.Outp.nD Cert.Outp.τ).loc Cert.Outp.main_arg4)
      ∧ r.2.mem ((c.tc : Thread Cert.Outp.nD Cert.Outp.τ).loc Cert.Outp.main_arg5) = m ((c.tc : Thread Cert.Outp.nD Cert.Outp.τ).loc Cert.Outp.main_arg5)
      ∧ r.2.mem ((c.tc : Thread Cert.Outp.nD Cert.Outp.τ).loc Cert.Outp.main_arg6) = m ((c.tc : Thread Cert.Outp.nD Cert.Outp.τ).loc Cert.Outp.main_arg6))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
      ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
      ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
      ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
      ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2)
      ∧ r.2.mem ((c.tc : Thread Cert.OutpRefIdeal.nD Cert.OutpRefIdeal.τ).loc Cert.OutpRefIdeal.main_arg3) = m ((c.tc : Thread Cert.OutpRefIdeal.nD Cert.OutpRefIdeal.τ).loc Cert.OutpRefIdeal.main_arg3)
      ∧ r.2.mem ((c.tc : Thread Cert.OutpRefIdeal.nD Cert.OutpRefIdeal.τ).loc Cert.OutpRefIdeal.main_arg4) = m ((c.tc : Thread Cert.OutpRefIdeal.nD Cert.OutpRefIdeal.τ).loc Cert.OutpRefIdeal.main_arg4)
      ∧ r.2.mem ((c.tc : Thread Cert.OutpRefIdeal.nD Cert.OutpRefIdeal.τ).loc Cert.OutpRefIdeal.main_arg5) = m ((c.tc : Thread Cert.OutpRefIdeal.nD Cert.OutpRefIdeal.τ).loc Cert.OutpRefIdeal.main_arg5)
      ∧ r.2.mem ((c.tc : Thread Cert.OutpRefIdeal.nD Cert.OutpRefIdeal.τ).loc Cert.OutpRefIdeal.main_arg6) = m ((c.tc : Thread Cert.OutpRefIdeal.nD Cert.OutpRefIdeal.τ).loc Cert.OutpRefIdeal.main_arg6))
      ∧ r.2.sem = fun _ => 0)

def quiescent_Hgrn [hHgrn : Cert.Hgrn.Facts] [hPre_lower_bounds : Cert.Pre_lower_bounds.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] [hPre_lower_bounds : Cert.Pre_lower_bounds.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_HgrnRefIdeal [hHgrnRefIdeal : Cert.HgrnRefIdeal.Facts] [hPre_lower_bounds : Cert.Pre_lower_bounds.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2)
      ∧ r.2.mem ((c.tc : Thread Cert.Short.nD Cert.Short.τ).loc Cert.Short.main_arg3) = m ((c.tc : Thread Cert.Short.nD Cert.Short.τ).loc Cert.Short.main_arg3)
      ∧ r.2.mem ((c.tc : Thread Cert.Short.nD Cert.Short.τ).loc Cert.Short.main_arg4) = m ((c.tc : Thread Cert.Short.nD Cert.Short.τ).loc Cert.Short.main_arg4)
      ∧ r.2.mem ((c.tc : Thread Cert.Short.nD Cert.Short.τ).loc Cert.Short.main_arg5) = m ((c.tc : Thread Cert.Short.nD Cert.Short.τ).loc Cert.Short.main_arg5))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
      ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3)
      ∧ r.2.mem ((c.tc : Thread Cert.ShortIdeal.nD Cert.ShortIdeal.τ).loc Cert.ShortIdeal.main_arg4) = m ((c.tc : Thread Cert.ShortIdeal.nD Cert.ShortIdeal.τ).loc Cert.ShortIdeal.main_arg4)
      ∧ r.2.mem ((c.tc : Thread Cert.ShortIdeal.nD Cert.ShortIdeal.τ).loc Cert.ShortIdeal.main_arg5) = m ((c.tc : Thread Cert.ShortIdeal.nD Cert.ShortIdeal.τ).loc Cert.ShortIdeal.main_arg5))
      ∧ r.2.sem = fun _ => 0)

def quiescent_ShortRefIdeal [hShortRefIdeal : Cert.ShortRefIdeal.Facts] : Prop :=
  ∀ (m : (ℓ : Loc Cert.ShortRefIdeal.nD Cert.ShortRefIdeal.τ Cert.ShortRefIdeal.sig) → Buf (Elt Ideal) ℓ) (g : Dev Cert.ShortRefIdeal.nD → PrngReg), Pre_ShortRefIdeal m →
    θ_run (Cert.ShortRefIdeal.defs (F := Ideal)) (onTc (τ := Cert.ShortRefIdeal.τ) (Cert.ShortRefIdeal.main (F := Ideal))) ⟨m, fun _ => 0, g⟩ (fun r => (∀ c : Dev Cert.ShortRefIdeal.nD,
      r.2.mem ((c.tc : Thread Cert.ShortRefIdeal.nD Cert.ShortRefIdeal.τ).loc Cert.ShortRefIdeal.main_arg0) = m ((c.tc : Thread Cert.ShortRefIdeal.nD Cert.ShortRefIdeal.τ).loc Cert.ShortRefIdeal.main_arg0)
      ∧ r.2.mem ((c.tc : Thread Cert.ShortRefIdeal.nD Cert.ShortRefIdeal.τ).loc Cert.ShortRefIdeal.main_arg1) = m ((c.tc : Thread Cert.ShortRefIdeal.nD Cert.ShortRefIdeal.τ).loc Cert.ShortRefIdeal.main_arg1)
      ∧ r.2.mem ((c.tc : Thread Cert.ShortRefIdeal.nD Cert.ShortRefIdeal.τ).loc Cert.ShortRefIdeal.main_arg2) = m ((c.tc : Thread Cert.ShortRefIdeal.nD Cert.ShortRefIdeal.τ).loc Cert.ShortRefIdeal.main_arg2)
      ∧ r.2.mem ((c.tc : Thread Cert.ShortRefIdeal.nD Cert.ShortRefIdeal.τ).loc Cert.ShortRefIdeal.main_arg3) = m ((c.tc : Thread Cert.ShortRefIdeal.nD Cert.ShortRefIdeal.τ).loc Cert.ShortRefIdeal.main_arg3)
      ∧ r.2.mem ((c.tc : Thread Cert.ShortRefIdeal.nD Cert.ShortRefIdeal.τ).loc Cert.ShortRefIdeal.main_arg4) = m ((c.tc : Thread Cert.ShortRefIdeal.nD Cert.ShortRefIdeal.τ).loc Cert.ShortRefIdeal.main_arg4)
      ∧ r.2.mem ((c.tc : Thread Cert.ShortRefIdeal.nD Cert.ShortRefIdeal.τ).loc Cert.ShortRefIdeal.main_arg5) = m ((c.tc : Thread Cert.ShortRefIdeal.nD Cert.ShortRefIdeal.τ).loc Cert.ShortRefIdeal.main_arg5))
      ∧ r.2.sem = fun _ => 0)

def quiescent_DownS [hDownS : Cert.DownS.Facts] : Prop :=
  ∀ (m : (ℓ : Loc Cert.DownS.nD Cert.DownS.τ Cert.DownS.sig) → Buf (Elt Bits) ℓ) (g : Dev Cert.DownS.nD → PrngReg), Pre_DownS m →
    θ_run (Cert.DownS.defs (F := Bits)) (onTc (τ := Cert.DownS.τ) (Cert.DownS.main (F := Bits))) ⟨m, fun _ => 0, g⟩ (fun r => (∀ c : Dev Cert.DownS.nD,
      r.2.mem ((c.tc : Thread Cert.DownS.nD Cert.DownS.τ).loc Cert.DownS.main_arg0) = m ((c.tc : Thread Cert.DownS.nD Cert.DownS.τ).loc Cert.DownS.main_arg0)
      ∧ r.2.mem ((c.tc : Thread Cert.DownS.nD Cert.DownS.τ).loc Cert.DownS.main_arg1) = m ((c.tc : Thread Cert.DownS.nD Cert.DownS.τ).loc Cert.DownS.main_arg1)
      ∧ r.2.mem ((c.tc : Thread Cert.DownS.nD Cert.DownS.τ).loc Cert.DownS.main_arg2) = m ((c.tc : Thread Cert.DownS.nD Cert.DownS.τ).loc Cert.DownS.main_arg2)
      ∧ r.2.mem ((c.tc : Thread Cert.DownS.nD Cert.DownS.τ).loc Cert.DownS.main_arg3) = m ((c.tc : Thread Cert.DownS.nD Cert.DownS.τ).loc Cert.DownS.main_arg3)
      ∧ r.2.mem ((c.tc : Thread Cert.DownS.nD Cert.DownS.τ).loc Cert.DownS.main_arg4) = m ((c.tc : Thread Cert.DownS.nD Cert.DownS.τ).loc Cert.DownS.main_arg4))
      ∧ r.2.sem = fun _ => 0)

def quiescent_DownSIdeal [hDownSIdeal : Cert.DownSIdeal.Facts] : Prop :=
  ∀ (m : (ℓ : Loc Cert.DownSIdeal.nD Cert.DownSIdeal.τ Cert.DownSIdeal.sig) → Buf (Elt Ideal) ℓ) (g : Dev Cert.DownSIdeal.nD → PrngReg), Pre_DownSIdeal m →
    θ_run (Cert.DownSIdeal.defs (F := Ideal)) (onTc (τ := Cert.DownSIdeal.τ) (Cert.DownSIdeal.main (F := Ideal))) ⟨m, fun _ => 0, g⟩ (fun r => (∀ c : Dev Cert.DownSIdeal.nD,
      r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
      ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
      ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
      ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3)
      ∧ r.2.mem ((c.tc : Thread Cert.DownSIdeal.nD Cert.DownSIdeal.τ).loc Cert.DownSIdeal.main_arg4) = m ((c.tc : Thread Cert.DownSIdeal.nD Cert.DownSIdeal.τ).loc Cert.DownSIdeal.main_arg4))
      ∧ r.2.sem = fun _ => 0)

def quiescent_DownSRefIdeal [hDownSRefIdeal : Cert.DownSRefIdeal.Facts] : Prop :=
  ∀ (m : (ℓ : Loc Cert.DownSRefIdeal.nD Cert.DownSRefIdeal.τ Cert.DownSRefIdeal.sig) → Buf (Elt Ideal) ℓ) (g : Dev Cert.DownSRefIdeal.nD → PrngReg), Pre_DownSRefIdeal m →
    θ_run (Cert.DownSRefIdeal.defs (F := Ideal)) (onTc (τ := Cert.DownSRefIdeal.τ) (Cert.DownSRefIdeal.main (F := Ideal))) ⟨m, fun _ => 0, g⟩ (fun r => (∀ c : Dev Cert.DownSRefIdeal.nD,
      r.2.mem ((c.tc : Thread Cert.DownSRefIdeal.nD Cert.DownSRefIdeal.τ).loc Cert.DownSRefIdeal.main_arg0) = m ((c.tc : Thread Cert.DownSRefIdeal.nD Cert.DownSRefIdeal.τ).loc Cert.DownSRefIdeal.main_arg0)
      ∧ r.2.mem ((c.tc : Thread Cert.DownSRefIdeal.nD Cert.DownSRefIdeal.τ).loc Cert.DownSRefIdeal.main_arg1) = m ((c.tc : Thread Cert.DownSRefIdeal.nD Cert.DownSRefIdeal.τ).loc Cert.DownSRefIdeal.main_arg1)
      ∧ r.2.mem ((c.tc : Thread Cert.DownSRefIdeal.nD Cert.DownSRefIdeal.τ).loc Cert.DownSRefIdeal.main_arg2) = m ((c.tc : Thread Cert.DownSRefIdeal.nD Cert.DownSRefIdeal.τ).loc Cert.DownSRefIdeal.main_arg2)
      ∧ r.2.mem ((c.tc : Thread Cert.DownSRefIdeal.nD Cert.DownSRefIdeal.τ).loc Cert.DownSRefIdeal.main_arg3) = m ((c.tc : Thread Cert.DownSRefIdeal.nD Cert.DownSRefIdeal.τ).loc Cert.DownSRefIdeal.main_arg3)
      ∧ r.2.mem ((c.tc : Thread Cert.DownSRefIdeal.nD Cert.DownSRefIdeal.τ).loc Cert.DownSRefIdeal.main_arg4) = m ((c.tc : Thread Cert.DownSRefIdeal.nD Cert.DownSRefIdeal.τ).loc Cert.DownSRefIdeal.main_arg4))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v6_0)) (v1 : (c : Dev Cert.DownIdeal.nD) → Buf (Elt Ideal) ((c.tc : Thread Cert.DownIdeal.nD Cert.DownIdeal.τ).loc Cert.DownIdeal.main_v6_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6_0) = v0 c
          ∧ r.2.mem ((c.tc : Thread Cert.DownIdeal.nD Cert.DownIdeal.τ).loc Cert.DownIdeal.main_v6_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v30) = v0 c
          ∧ r.2.mem ((c.tc : Thread Cert.DownRefIdeal.nD Cert.DownRefIdeal.τ).loc Cert.DownRefIdeal.main_v32) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v4) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)
      ∧ m' ((c.tc : Thread Cert.OutpRefIdeal.nD Cert.OutpRefIdeal.τ).loc Cert.OutpRefIdeal.main_arg3) = m ((c.tc : Thread Cert.OutpIdeal.nD Cert.OutpIdeal.τ).loc Cert.OutpIdeal.main_arg3)
      ∧ m' ((c.tc : Thread Cert.OutpRefIdeal.nD Cert.OutpRefIdeal.τ).loc Cert.OutpRefIdeal.main_arg4) = m ((c.tc : Thread Cert.OutpIdeal.nD Cert.OutpIdeal.τ).loc Cert.OutpIdeal.main_arg4)
      ∧ m' ((c.tc : Thread Cert.OutpRefIdeal.nD Cert.OutpRefIdeal.τ).loc Cert.OutpRefIdeal.main_arg5) = m ((c.tc : Thread Cert.OutpIdeal.nD Cert.OutpIdeal.τ).loc Cert.OutpIdeal.main_arg5)
      ∧ m' ((c.tc : Thread Cert.OutpRefIdeal.nD Cert.OutpRefIdeal.τ).loc Cert.OutpRefIdeal.main_arg6) = m ((c.tc : Thread Cert.OutpIdeal.nD Cert.OutpIdeal.τ).loc Cert.OutpIdeal.main_arg6)) →
    ∃ (v0 : (c : Dev Cert.OutpIdeal.nD) → Buf (Elt Ideal) ((c.tc : Thread Cert.OutpIdeal.nD Cert.OutpIdeal.τ).loc Cert.OutpIdeal.main_v10_0)) (v1 : (c : Dev Cert.OutpIdeal.nD) → Buf (Elt Ideal) ((c.tc : Thread Cert.OutpIdeal.nD Cert.OutpIdeal.τ).loc Cert.OutpIdeal.main_v10_1)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v10_0) = v0 c
          ∧ r.2.mem ((c.tc : Thread Cert.OutpIdeal.nD Cert.OutpIdeal.τ).loc Cert.OutpIdeal.main_v10_1) = v1 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2)
          ∧ r.2.mem ((c.tc : Thread Cert.OutpIdeal.nD Cert.OutpIdeal.τ).loc Cert.OutpIdeal.main_arg3) = m ((c.tc : Thread Cert.OutpIdeal.nD Cert.OutpIdeal.τ).loc Cert.OutpIdeal.main_arg3)
          ∧ r.2.mem ((c.tc : Thread Cert.OutpIdeal.nD Cert.OutpIdeal.τ).loc Cert.OutpIdeal.main_arg4) = m ((c.tc : Thread Cert.OutpIdeal.nD Cert.OutpIdeal.τ).loc Cert.OutpIdeal.main_arg4)
          ∧ r.2.mem ((c.tc : Thread Cert.OutpIdeal.nD Cert.OutpIdeal.τ).loc Cert.OutpIdeal.main_arg5) = m ((c.tc : Thread Cert.OutpIdeal.nD Cert.OutpIdeal.τ).loc Cert.OutpIdeal.main_arg5)
          ∧ r.2.mem ((c.tc : Thread Cert.OutpIdeal.nD Cert.OutpIdeal.τ).loc Cert.OutpIdeal.main_arg6) = m ((c.tc : Thread Cert.OutpIdeal.nD Cert.OutpIdeal.τ).loc Cert.OutpIdeal.main_arg6))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v31) = v0 c
          ∧ r.2.mem ((c.tc : Thread Cert.OutpRefIdeal.nD Cert.OutpRefIdeal.τ).loc Cert.OutpRefIdeal.main_v33) = v1 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2)
          ∧ r.2.mem ((c.tc : Thread Cert.OutpRefIdeal.nD Cert.OutpRefIdeal.τ).loc Cert.OutpRefIdeal.main_arg3) = m' ((c.tc : Thread Cert.OutpRefIdeal.nD Cert.OutpRefIdeal.τ).loc Cert.OutpRefIdeal.main_arg3)
          ∧ r.2.mem ((c.tc : Thread Cert.OutpRefIdeal.nD Cert.OutpRefIdeal.τ).loc Cert.OutpRefIdeal.main_arg4) = m' ((c.tc : Thread Cert.OutpRefIdeal.nD Cert.OutpRefIdeal.τ).loc Cert.OutpRefIdeal.main_arg4)
          ∧ r.2.mem ((c.tc : Thread Cert.OutpRefIdeal.nD Cert.OutpRefIdeal.τ).loc Cert.OutpRefIdeal.main_arg5) = m' ((c.tc : Thread Cert.OutpRefIdeal.nD Cert.OutpRefIdeal.τ).loc Cert.OutpRefIdeal.main_arg5)
          ∧ r.2.mem ((c.tc : Thread Cert.OutpRefIdeal.nD Cert.OutpRefIdeal.τ).loc Cert.OutpRefIdeal.main_arg6) = m' ((c.tc : Thread Cert.OutpRefIdeal.nD Cert.OutpRefIdeal.τ).loc Cert.OutpRefIdeal.main_arg6))

def preserves_Hgrn_HgrnIdeal : Prop :=
  True

def algebraic_HgrnIdeal_HgrnRefIdeal [hHgrnIdeal : Cert.HgrnIdeal.Facts] [hHgrnRefIdeal : Cert.HgrnRefIdeal.Facts] [hPre_lower_bounds : Cert.Pre_lower_bounds.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)) →
    ∃ (v0 : (c : Dev Cert.HgrnIdeal.nD) → Buf (Elt Ideal) ((c.tc : Thread Cert.HgrnIdeal.nD Cert.HgrnIdeal.τ).loc Cert.HgrnIdeal.main_v3_0)) (v1 : (c : Dev Cert.HgrnIdeal.nD) → Buf (Elt Ideal) ((c.tc : Thread Cert.HgrnIdeal.nD Cert.HgrnIdeal.τ).loc Cert.HgrnIdeal.main_v3_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v3_0) = v0 c
          ∧ r.2.mem ((c.tc : Thread Cert.HgrnIdeal.nD Cert.HgrnIdeal.τ).loc Cert.HgrnIdeal.main_v3_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v88) = v0 c
          ∧ r.2.mem ((c.tc : Thread Cert.HgrnRefIdeal.nD Cert.HgrnRefIdeal.τ).loc Cert.HgrnRefIdeal.main_v67) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3))

def preserves_Short_ShortIdeal : Prop :=
  True

def algebraic_ShortIdeal_ShortRefIdeal [hShortIdeal : Cert.ShortIdeal.Facts] [hShortRefIdeal : Cert.ShortRefIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.ShortRefIdeal.nD Cert.ShortRefIdeal.τ Cert.ShortRefIdeal.sig) → Buf (Elt Ideal) ℓ) (g' : Dev Cert.ShortRefIdeal.nD → PrngReg), Pre_ShortIdeal m →
    (∀ c : Dev Cert.ShortIdeal.nD,
      m' ((c.tc : Thread Cert.ShortRefIdeal.nD Cert.ShortRefIdeal.τ).loc Cert.ShortRefIdeal.main_arg0) = m ((c.tc : Thread Cert.ShortIdeal.nD Cert.ShortIdeal.τ).loc Cert.ShortIdeal.main_arg0)
      ∧ m' ((c.tc : Thread Cert.ShortRefIdeal.nD Cert.ShortRefIdeal.τ).loc Cert.ShortRefIdeal.main_arg1) = m ((c.tc : Thread Cert.ShortIdeal.nD Cert.ShortIdeal.τ).loc Cert.ShortIdeal.main_arg1)
      ∧ m' ((c.tc : Thread Cert.ShortRefIdeal.nD Cert.ShortRefIdeal.τ).loc Cert.ShortRefIdeal.main_arg2) = m ((c.tc : Thread Cert.ShortIdeal.nD Cert.ShortIdeal.τ).loc Cert.ShortIdeal.main_arg2)
      ∧ m' ((c.tc : Thread Cert.ShortRefIdeal.nD Cert.ShortRefIdeal.τ).loc Cert.ShortRefIdeal.main_arg3) = m ((c.tc : Thread Cert.ShortIdeal.nD Cert.ShortIdeal.τ).loc Cert.ShortIdeal.main_arg3)
      ∧ m' ((c.tc : Thread Cert.ShortRefIdeal.nD Cert.ShortRefIdeal.τ).loc Cert.ShortRefIdeal.main_arg4) = m ((c.tc : Thread Cert.ShortIdeal.nD Cert.ShortIdeal.τ).loc Cert.ShortIdeal.main_arg4)
      ∧ m' ((c.tc : Thread Cert.ShortRefIdeal.nD Cert.ShortRefIdeal.τ).loc Cert.ShortRefIdeal.main_arg5) = m ((c.tc : Thread Cert.ShortIdeal.nD Cert.ShortIdeal.τ).loc Cert.ShortIdeal.main_arg5)) →
    ∃ (v0 : (c : Dev Cert.ShortIdeal.nD) → Buf (Elt Ideal) ((c.tc : Thread Cert.ShortIdeal.nD Cert.ShortIdeal.τ).loc Cert.ShortIdeal.main_v18_0)) (v1 : (c : Dev Cert.ShortIdeal.nD) → Buf (Elt Ideal) ((c.tc : Thread Cert.ShortIdeal.nD Cert.ShortIdeal.τ).loc Cert.ShortIdeal.main_v18_1)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v18_0) = v0 c
          ∧ r.2.mem ((c.tc : Thread Cert.ShortIdeal.nD Cert.ShortIdeal.τ).loc Cert.ShortIdeal.main_v18_1) = v1 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2)
          ∧ r.2.mem ((c.tc : Thread Cert.ShortIdeal.nD Cert.ShortIdeal.τ).loc Cert.ShortIdeal.main_arg3) = m ((c.tc : Thread Cert.ShortIdeal.nD Cert.ShortIdeal.τ).loc Cert.ShortIdeal.main_arg3)
          ∧ r.2.mem ((c.tc : Thread Cert.ShortIdeal.nD Cert.ShortIdeal.τ).loc Cert.ShortIdeal.main_arg4) = m ((c.tc : Thread Cert.ShortIdeal.nD Cert.ShortIdeal.τ).loc Cert.ShortIdeal.main_arg4)
          ∧ r.2.mem ((c.tc : Thread Cert.ShortIdeal.nD Cert.ShortIdeal.τ).loc Cert.ShortIdeal.main_arg5) = m ((c.tc : Thread Cert.ShortIdeal.nD Cert.ShortIdeal.τ).loc Cert.ShortIdeal.main_arg5))
      ∧ θ_run (Cert.ShortRefIdeal.defs (F := Ideal)) (onTc (τ := Cert.ShortRefIdeal.τ) (Cert.ShortRefIdeal.main (F := Ideal))) ⟨m', fun _ => 0, g'⟩ (fun r => ∀ c : Dev Cert.ShortRefIdeal.nD,
          r.2.mem ((c.tc : Thread Cert.ShortRefIdeal.nD Cert.ShortRefIdeal.τ).loc Cert.ShortRefIdeal.main_v33) = v0 c
          ∧ r.2.mem ((c.tc : Thread Cert.ShortRefIdeal.nD Cert.ShortRefIdeal.τ).loc Cert.ShortRefIdeal.main_v34) = v1 c
          ∧ r.2.mem ((c.tc : Thread Cert.ShortRefIdeal.nD Cert.ShortRefIdeal.τ).loc Cert.ShortRefIdeal.main_arg0) = m' ((c.tc : Thread Cert.ShortRefIdeal.nD Cert.ShortRefIdeal.τ).loc Cert.ShortRefIdeal.main_arg0)
          ∧ r.2.mem ((c.tc : Thread Cert.ShortRefIdeal.nD Cert.ShortRefIdeal.τ).loc Cert.ShortRefIdeal.main_arg1) = m' ((c.tc : Thread Cert.ShortRefIdeal.nD Cert.ShortRefIdeal.τ).loc Cert.ShortRefIdeal.main_arg1)
          ∧ r.2.mem ((c.tc : Thread Cert.ShortRefIdeal.nD Cert.ShortRefIdeal.τ).loc Cert.ShortRefIdeal.main_arg2) = m' ((c.tc : Thread Cert.ShortRefIdeal.nD Cert.ShortRefIdeal.τ).loc Cert.ShortRefIdeal.main_arg2)
          ∧ r.2.mem ((c.tc : Thread Cert.ShortRefIdeal.nD Cert.ShortRefIdeal.τ).loc Cert.ShortRefIdeal.main_arg3) = m' ((c.tc : Thread Cert.ShortRefIdeal.nD Cert.ShortRefIdeal.τ).loc Cert.ShortRefIdeal.main_arg3)
          ∧ r.2.mem ((c.tc : Thread Cert.ShortRefIdeal.nD Cert.ShortRefIdeal.τ).loc Cert.ShortRefIdeal.main_arg4) = m' ((c.tc : Thread Cert.ShortRefIdeal.nD Cert.ShortRefIdeal.τ).loc Cert.ShortRefIdeal.main_arg4)
          ∧ r.2.mem ((c.tc : Thread Cert.ShortRefIdeal.nD Cert.ShortRefIdeal.τ).loc Cert.ShortRefIdeal.main_arg5) = m' ((c.tc : Thread Cert.ShortRefIdeal.nD Cert.ShortRefIdeal.τ).loc Cert.ShortRefIdeal.main_arg5))

def preserves_DownS_DownSIdeal : Prop :=
  True

def algebraic_DownSIdeal_DownSRefIdeal [hDownSIdeal : Cert.DownSIdeal.Facts] [hDownSRefIdeal : Cert.DownSRefIdeal.Facts] : Prop :=
  ∀ (m : (ℓ : Loc Cert.DownSIdeal.nD Cert.DownSIdeal.τ Cert.DownSIdeal.sig) → Buf (Elt Ideal) ℓ) (g : Dev Cert.DownSIdeal.nD → PrngReg)
    (m' : (ℓ : Loc Cert.DownSRefIdeal.nD Cert.DownSRefIdeal.τ Cert.DownSRefIdeal.sig) → Buf (Elt Ideal) ℓ) (g' : Dev Cert.DownSRefIdeal.nD → PrngReg), Pre_DownSIdeal m →
    (∀ c : Dev Cert.DownSIdeal.nD,
      m' ((c.tc : Thread Cert.DownSRefIdeal.nD Cert.DownSRefIdeal.τ).loc Cert.DownSRefIdeal.main_arg0) = m ((c.tc : Thread Cert.DownSIdeal.nD Cert.DownSIdeal.τ).loc Cert.DownSIdeal.main_arg0)
      ∧ m' ((c.tc : Thread Cert.DownSRefIdeal.nD Cert.DownSRefIdeal.τ).loc Cert.DownSRefIdeal.main_arg1) = m ((c.tc : Thread Cert.DownSIdeal.nD Cert.DownSIdeal.τ).loc Cert.DownSIdeal.main_arg1)
      ∧ m' ((c.tc : Thread Cert.DownSRefIdeal.nD Cert.DownSRefIdeal.τ).loc Cert.DownSRefIdeal.main_arg2) = m ((c.tc : Thread Cert.DownSIdeal.nD Cert.DownSIdeal.τ).loc Cert.DownSIdeal.main_arg2)
      ∧ m' ((c.tc : Thread Cert.DownSRefIdeal.nD Cert.DownSRefIdeal.τ).loc Cert.DownSRefIdeal.main_arg3) = m ((c.tc : Thread Cert.DownSIdeal.nD Cert.DownSIdeal.τ).loc Cert.DownSIdeal.main_arg3)
      ∧ m' ((c.tc : Thread Cert.DownSRefIdeal.nD Cert.DownSRefIdeal.τ).loc Cert.DownSRefIdeal.main_arg4) = m ((c.tc : Thread Cert.DownSIdeal.nD Cert.DownSIdeal.τ).loc Cert.DownSIdeal.main_arg4)) →
    ∃ (v0 : (c : Dev Cert.DownSIdeal.nD) → Buf (Elt Ideal) ((c.tc : Thread Cert.DownSIdeal.nD Cert.DownSIdeal.τ).loc Cert.DownSIdeal.main_v6_0)) (v1 : (c : Dev Cert.DownSIdeal.nD) → Buf (Elt Ideal) ((c.tc : Thread Cert.DownSIdeal.nD Cert.DownSIdeal.τ).loc Cert.DownSIdeal.main_v6_1)),
      θ_run (Cert.DownSIdeal.defs (F := Ideal)) (onTc (τ := Cert.DownSIdeal.τ) (Cert.DownSIdeal.main (F := Ideal))) ⟨m, fun _ => 0, g⟩ (fun r => ∀ c : Dev Cert.DownSIdeal.nD,
          r.2.mem ((c.tc : Thread Cert.DownSIdeal.nD Cert.DownSIdeal.τ).loc Cert.DownSIdeal.main_v6_0) = v0 c
          ∧ r.2.mem ((c.tc : Thread Cert.DownSIdeal.nD Cert.DownSIdeal.τ).loc Cert.DownSIdeal.main_v6_1) = v1 c
          ∧ r.2.mem ((c.tc : Thread Cert.DownSIdeal.nD Cert.DownSIdeal.τ).loc Cert.DownSIdeal.main_arg0) = m ((c.tc : Thread Cert.DownSIdeal.nD Cert.DownSIdeal.τ).loc Cert.DownSIdeal.main_arg0)
          ∧ r.2.mem ((c.tc : Thread Cert.DownSIdeal.nD Cert.DownSIdeal.τ).loc Cert.DownSIdeal.main_arg1) = m ((c.tc : Thread Cert.DownSIdeal.nD Cert.DownSIdeal.τ).loc Cert.DownSIdeal.main_arg1)
          ∧ r.2.mem ((c.tc : Thread Cert.DownSIdeal.nD Cert.DownSIdeal.τ).loc Cert.DownSIdeal.main_arg2) = m ((c.tc : Thread Cert.DownSIdeal.nD Cert.DownSIdeal.τ).loc Cert.DownSIdeal.main_arg2)
          ∧ r.2.mem ((c.tc : Thread Cert.DownSIdeal.nD Cert.DownSIdeal.τ).loc Cert.DownSIdeal.main_arg3) = m ((c.tc : Thread Cert.DownSIdeal.nD Cert.DownSIdeal.τ).loc Cert.DownSIdeal.main_arg3)
          ∧ r.2.mem ((c.tc : Thread Cert.DownSIdeal.nD Cert.DownSIdeal.τ).loc Cert.DownSIdeal.main_arg4) = m ((c.tc : Thread Cert.DownSIdeal.nD Cert.DownSIdeal.τ).loc Cert.DownSIdeal.main_arg4))
      ∧ θ_run (Cert.DownSRefIdeal.defs (F := Ideal)) (onTc (τ := Cert.DownSRefIdeal.τ) (Cert.DownSRefIdeal.main (F := Ideal))) ⟨m', fun _ => 0, g'⟩ (fun r => ∀ c : Dev Cert.DownSRefIdeal.nD,
          r.2.mem ((c.tc : Thread Cert.DownSRefIdeal.nD Cert.DownSRefIdeal.τ).loc Cert.DownSRefIdeal.main_v30) = v0 c
          ∧ r.2.mem ((c.tc : Thread Cert.DownSRefIdeal.nD Cert.DownSRefIdeal.τ).loc Cert.DownSRefIdeal.main_v32) = v1 c
          ∧ r.2.mem ((c.tc : Thread Cert.DownSRefIdeal.nD Cert.DownSRefIdeal.τ).loc Cert.DownSRefIdeal.main_arg0) = m' ((c.tc : Thread Cert.DownSRefIdeal.nD Cert.DownSRefIdeal.τ).loc Cert.DownSRefIdeal.main_arg0)
          ∧ r.2.mem ((c.tc : Thread Cert.DownSRefIdeal.nD Cert.DownSRefIdeal.τ).loc Cert.DownSRefIdeal.main_arg1) = m' ((c.tc : Thread Cert.DownSRefIdeal.nD Cert.DownSRefIdeal.τ).loc Cert.DownSRefIdeal.main_arg1)
          ∧ r.2.mem ((c.tc : Thread Cert.DownSRefIdeal.nD Cert.DownSRefIdeal.τ).loc Cert.DownSRefIdeal.main_arg2) = m' ((c.tc : Thread Cert.DownSRefIdeal.nD Cert.DownSRefIdeal.τ).loc Cert.DownSRefIdeal.main_arg2)
          ∧ r.2.mem ((c.tc : Thread Cert.DownSRefIdeal.nD Cert.DownSRefIdeal.τ).loc Cert.DownSRefIdeal.main_arg3) = m' ((c.tc : Thread Cert.DownSRefIdeal.nD Cert.DownSRefIdeal.τ).loc Cert.DownSRefIdeal.main_arg3)
          ∧ r.2.mem ((c.tc : Thread Cert.DownSRefIdeal.nD Cert.DownSRefIdeal.τ).loc Cert.DownSRefIdeal.main_arg4) = m' ((c.tc : Thread Cert.DownSRefIdeal.nD Cert.DownSRefIdeal.τ).loc Cert.DownSRefIdeal.main_arg4))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)) →
    ∃ (v0 : (c : Dev Cert.ProjSIdeal.nD) → Buf (Elt Ideal) ((c.tc : Thread Cert.ProjSIdeal.nD Cert.ProjSIdeal.τ).loc Cert.ProjSIdeal.main_v2)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v2) = v0 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v4) = v0 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v18_0)) (v1 : (c : Dev Cert.RopeIdeal.nD) → Buf (Elt Ideal) ((c.tc : Thread Cert.RopeIdeal.nD Cert.RopeIdeal.τ).loc Cert.RopeIdeal.main_v18_1)) (v2 : (c : Dev Cert.RopeIdeal.nD) → Buf (Elt Ideal) ((c.tc : Thread Cert.RopeIdeal.nD Cert.RopeIdeal.τ).loc Cert.RopeIdeal.main_v18_2)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v18_0) = v0 c
          ∧ r.2.mem ((c.tc : Thread Cert.RopeIdeal.nD Cert.RopeIdeal.τ).loc Cert.RopeIdeal.main_v18_1) = v1 c
          ∧ r.2.mem ((c.tc : Thread Cert.RopeIdeal.nD Cert.RopeIdeal.τ).loc Cert.RopeIdeal.main_v18_2) = v2 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v85) = v0 c
          ∧ r.2.mem ((c.tc : Thread Cert.RopeRefIdeal.nD Cert.RopeRefIdeal.τ).loc Cert.RopeRefIdeal.main_v84) = v1 c
          ∧ r.2.mem ((c.tc : Thread Cert.RopeRefIdeal.nD Cert.RopeRefIdeal.τ).loc Cert.RopeRefIdeal.main_v86) = v2 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hOutp : Cert.Outp.Facts) (hOutpIdeal : Cert.OutpIdeal.Facts) (hOutpRefIdeal : Cert.OutpRefIdeal.Facts) (hHgrn : Cert.Hgrn.Facts) (hHgrnIdeal : Cert.HgrnIdeal.Facts) (hHgrnRefIdeal : Cert.HgrnRefIdeal.Facts) (hShort : Cert.Short.Facts) (hShortIdeal : Cert.ShortIdeal.Facts) (hShortRefIdeal : Cert.ShortRefIdeal.Facts) (hDownS : Cert.DownS.Facts) (hDownSIdeal : Cert.DownSIdeal.Facts) (hDownSRefIdeal : Cert.DownSRefIdeal.Facts) (hProjS : Cert.ProjS.Facts) (hProjSIdeal : Cert.ProjSIdeal.Facts) (hProjSRefIdeal : Cert.ProjSRefIdeal.Facts) (hRope : Cert.Rope.Facts) (hRopeIdeal : Cert.RopeIdeal.Facts) (hRopeRefIdeal : Cert.RopeRefIdeal.Facts) (hPre_lower_bounds : Cert.Pre_lower_bounds.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_Outp (hOutp := hOutp)
    ∧ quiescent_OutpIdeal (hOutpIdeal := hOutpIdeal)
    ∧ quiescent_OutpRefIdeal (hOutpRefIdeal := hOutpRefIdeal)
    ∧ quiescent_Hgrn (hHgrn := hHgrn) (hPre_lower_bounds := hPre_lower_bounds)
    ∧ quiescent_HgrnIdeal (hHgrnIdeal := hHgrnIdeal) (hPre_lower_bounds := hPre_lower_bounds)
    ∧ quiescent_HgrnRefIdeal (hHgrnRefIdeal := hHgrnRefIdeal) (hPre_lower_bounds := hPre_lower_bounds)
    ∧ quiescent_Short (hShort := hShort)
    ∧ quiescent_ShortIdeal (hShortIdeal := hShortIdeal)
    ∧ quiescent_ShortRefIdeal (hShortRefIdeal := hShortRefIdeal)
    ∧ quiescent_DownS (hDownS := hDownS)
    ∧ quiescent_DownSIdeal (hDownSIdeal := hDownSIdeal)
    ∧ quiescent_DownSRefIdeal (hDownSRefIdeal := hDownSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_Outp_OutpIdeal
    ∧ algebraic_OutpIdeal_OutpRefIdeal (hOutpIdeal := hOutpIdeal) (hOutpRefIdeal := hOutpRefIdeal)
    ∧ preserves_Hgrn_HgrnIdeal
    ∧ algebraic_HgrnIdeal_HgrnRefIdeal (hHgrnIdeal := hHgrnIdeal) (hHgrnRefIdeal := hHgrnRefIdeal) (hPre_lower_bounds := hPre_lower_bounds)
    ∧ preserves_Short_ShortIdeal
    ∧ algebraic_ShortIdeal_ShortRefIdeal (hShortIdeal := hShortIdeal) (hShortRefIdeal := hShortRefIdeal)
    ∧ preserves_DownS_DownSIdeal
    ∧ algebraic_DownSIdeal_DownSRefIdeal (hDownSIdeal := hDownSIdeal) (hDownSRefIdeal := hDownSRefIdeal)
    ∧ preserves_ProjS_ProjSIdeal
    ∧ algebraic_ProjSIdeal_ProjSRefIdeal (hProjSIdeal := hProjSIdeal) (hProjSRefIdeal := hProjSRefIdeal)
    ∧ preserves_Rope_RopeIdeal
    ∧ algebraic_RopeIdeal_RopeRefIdeal (hRopeIdeal := hRopeIdeal) (hRopeRefIdeal := hRopeRefIdeal)
-- ==== Pre_lower_bounds.lean ====
abbrev S8x4x5376 : Shape := ⟨3, ![8, 4, 5376]⟩
abbrev S8x6x128x128 : Shape := ⟨4, ![8, 6, 128, 128]⟩
abbrev S768 : Shape := ⟨1, ![768]⟩
abbrev S_ : Shape := ⟨0, ![]⟩

class Facts : Prop where
  bcast_S_S768 : S_.BroadcastsInDim S768 (![] : Fin 0 → Fin S768.rank)

variable [Facts]

def fn {F : FTy → Type} [FloatOps F] (main_arg0 : FVec F S8x4x5376 .f32) (main_arg1 : FVec F S8x6x128x128 .f32) (main_arg2 : FVec F S768 .f32) (main_arg3 : FVec F S768 .f32) : IVec S768 1 :=
  let main_cst : FVec F S_ .f32 := constant S_ .f32 0xFF800000#32
  let main_v0 : FVec F S768 .f32 := broadcastInDim S768 ![] bcast_S_S768 main_cst
  let main_v1 : IVec S768 1 := cmpf .ogt main_arg2 main_v0
  let main_cst_0 : FVec F S_ .f32 := constant S_ .f32 0x3F800000#32
  let main_v2 : FVec F S768 .f32 := broadcastInDim S768 ![] bcast_S_S768 main_cst_0
  let main_v3 : IVec S768 1 := cmpf .ole main_arg2 main_v2
  let main_v4 : IVec S768 1 := andi main_v1 main_v3
  main_v4
-- ==== Kernel.lean ====
abbrev S2x4096x2048 : Shape := ⟨3, ![2, 4096, 2048]⟩
abbrev S4x2048x5632 : Shape := ⟨3, ![4, 2048, 5632]⟩
abbrev S3x5632 : Shape := ⟨2, ![3, 5632]⟩
abbrev S5632 : Shape := ⟨1, ![5632]⟩
abbrev S2x2x5632 : Shape := ⟨3, ![2, 2, 5632]⟩
abbrev S1x5632 : Shape := ⟨2, ![1, 5632]⟩
abbrev S2x4096x5632 : Shape := ⟨3, ![2, 4096, 5632]⟩
abbrev S1x1024x2048 : Shape := ⟨3, ![1, 1024, 2048]⟩
abbrev S1x2048x512 : Shape := ⟨3, ![1, 2048, 512]⟩
abbrev S3x512 : Shape := ⟨2, ![3, 512]⟩
abbrev S1x512 : Shape := ⟨2, ![1, 512]⟩
abbrev S1x2x512 : Shape := ⟨3, ![1, 2, 512]⟩
abbrev S1x1024x512 : Shape := ⟨3, ![1, 1024, 512]⟩
abbrev S2048x512 : Shape := ⟨2, ![2048, 512]⟩
abbrev S1032x512 : Shape := ⟨2, ![1032, 512]⟩
abbrev S6x512 : Shape := ⟨2, ![6, 512]⟩
abbrev S2x512 : Shape := ⟨2, ![2, 512]⟩
abbrev S1x256x2048 : Shape := ⟨3, ![1, 256, 2048]⟩
abbrev S256x2048 : Shape := ⟨2, ![256, 2048]⟩
abbrev S2048x256 : Shape := ⟨2, ![2048, 256]⟩
abbrev S256x256 : Shape := ⟨2, ![256, 256]⟩
abbrev S1x256 : Shape := ⟨2, ![1, 256]⟩
abbrev S1x256x256 : Shape := ⟨3, ![1, 256, 256]⟩
abbrev S8x512 : Shape := ⟨2, ![8, 512]⟩

abbrev nBuf : Space → Nat
  | .hbm => 10
  | .vmem => 19
  | .smem => 0
  | _ => 0

abbrev bufTy : (tb : Table) → Fin (tcTables nBuf tb) → BufTy
  | .hbm, ⟨0, _⟩ => ⟨S2x4096x2048, .f32⟩
  | .hbm, ⟨1, _⟩ => ⟨S4x2048x5632, .f32⟩
  | .hbm, ⟨2, _⟩ => ⟨S4x2048x5632, .f32⟩
  | .hbm, ⟨3, _⟩ => ⟨S3x5632, .f32⟩
  | .hbm, ⟨4, _⟩ => ⟨S5632, .f32⟩
  | .hbm, ⟨5, _⟩ => ⟨S2x2x5632, .f32⟩
  | .hbm, ⟨6, _⟩ => ⟨S2x4096x2048, .bf16⟩
  | .hbm, ⟨7, _⟩ => ⟨S1x5632, .f32⟩
  | .hbm, ⟨8, _⟩ => ⟨S2x4096x5632, .bf16⟩
  | .hbm, ⟨9, _⟩ => ⟨S2x2x5632, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S1x2x512, .f32⟩
  | .local _ .vmem, ⟨11, _⟩ => ⟨S1x2x512, .f32⟩
  | .local _ .vmem, ⟨12, _⟩ => ⟨S1x1024x512, .bf16⟩
  | .local _ .vmem, ⟨13, _⟩ => ⟨S1x1024x512, .bf16⟩
  | .local _ .vmem, ⟨14, _⟩ => ⟨S1x2x512, .f32⟩
  | .local _ .vmem, ⟨15, _⟩ => ⟨S1x2x512, .f32⟩
  | .local _ .vmem, ⟨16, _⟩ => ⟨S2048x512, .bf16⟩
  | .local _ .vmem, ⟨17, _⟩ => ⟨S2048x512, .bf16⟩
  | .local _ .vmem, ⟨18, _⟩ => ⟨S1032x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![11, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S2x4096x2048 : Shape := ⟨3, ![2, 4096, 2048]⟩
abbrev S4x2048x5632 : Shape := ⟨3, ![4, 2048, 5632]⟩
abbrev S3x5632 : Shape := ⟨2, ![3, 5632]⟩
abbrev S5632 : Shape := ⟨1, ![5632]⟩
abbrev S2x2x5632 : Shape := ⟨3, ![2, 2, 5632]⟩
abbrev S1x2048x5632 : Shape := ⟨3, ![1, 2048, 5632]⟩
abbrev S2048x5632 : Shape := ⟨2, ![2048, 5632]⟩
abbrev S2x4096x5632 : Shape := ⟨3, ![2, 4096, 5632]⟩
abbrev S2x4098x5632 : Shape := ⟨3, ![2, 4098, 5632]⟩
abbrev S1x5632 : Shape := ⟨2, ![1, 5632]⟩
abbrev S1x1x5632 : Shape := ⟨3, ![1, 1, 5632]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048x5632, .f32⟩
  | .hbm, ⟨2, _⟩ => ⟨S4x2048x5632, .f32⟩
  | .hbm, ⟨3, _⟩ => ⟨S3x5632, .f32⟩
  | .hbm, ⟨4, _⟩ => ⟨S5632, .f32⟩
  | .hbm, ⟨5, _⟩ => ⟨S2x2x5632, .f32⟩
  | .hbm, ⟨6, _⟩ => ⟨S1x2048x5632, .f32⟩
  | .hbm, ⟨7, _⟩ => ⟨S2048x5632, .f32⟩
  | .hbm, ⟨8, _⟩ => ⟨S2x4096x5632, .f32⟩
  | .hbm, ⟨9, _⟩ => ⟨S2x4098x5632, .f32⟩
  | .hbm, ⟨10, _⟩ => ⟨S1x5632, .f32⟩
  | .hbm, ⟨11, _⟩ => ⟨S5632, .f32⟩
  | .hbm, ⟨12, _⟩ => ⟨S2x4096x5632, .f32⟩
  | .hbm, ⟨13, _⟩ => ⟨S1x1x5632, .f32⟩
  | .hbm, ⟨14, _⟩ => ⟨S2x4096x5632, .f32⟩
  | .hbm, ⟨15, _⟩ => ⟨S2x4096x5632, .f32⟩
  | .hbm, ⟨16, _⟩ => ⟨S1x1x5632, .f32⟩
  | .hbm, ⟨17, _⟩ => ⟨S2x4096x5632, .f32⟩
  | .hbm, ⟨18, _⟩ => ⟨S2x4096x5632, .f32⟩
  | .hbm, ⟨19, _⟩ => ⟨S1x5632, .f32⟩
  | .hbm, ⟨20, _⟩ => ⟨S5632, .f32⟩
  | .hbm, ⟨21, _⟩ => ⟨S2x4096x5632, .f32⟩
  | .hbm, ⟨22, _⟩ => ⟨S1x1x5632, .f32⟩
  | .hbm, ⟨23, _⟩ => ⟨S2x4096x5632, .f32⟩
  | .hbm, ⟨24, _⟩ => ⟨S2x4096x5632, .f32⟩
  | .hbm, ⟨25, _⟩ => ⟨S2x4096x5632, .f32⟩
  | .hbm, ⟨26, _⟩ => ⟨S1x5632, .f32⟩
  | .hbm, ⟨27, _⟩ => ⟨S5632, .f32⟩
  | .hbm, ⟨28, _⟩ => ⟨S2x4096x5632, .f32⟩
  | .hbm, ⟨29, _⟩ => ⟨S1x1x5632, .f32⟩
  | .hbm, ⟨30, _⟩ => ⟨S2x4096x5632, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S_, .f32⟩
  | .hbm, ⟨39, _⟩ => ⟨S2x4096x5632, .f32⟩
  | .hbm, ⟨40, _⟩ => ⟨S2x4096x5632, .f32⟩
  | .hbm, ⟨41, _⟩ => ⟨S2x4096x5632, .f32⟩
  | .hbm, ⟨42, _⟩ => ⟨S1x2048x5632, .f32⟩
  | .hbm, ⟨43, _⟩ => ⟨S2048x5632, .f32⟩
  | .hbm, ⟨44, _⟩ => ⟨S2x4096x5632, .f32⟩
  | .hbm, ⟨45, _⟩ => ⟨S2x4096x5632, .f32⟩
  | .hbm, ⟨46, _⟩ => ⟨S2x4096x5632, .bf16⟩
  | .hbm, ⟨47, _⟩ => ⟨S2x2x5632, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Down.lean ====
abbrev S2x4096x5632 : Shape := ⟨3, ![2, 4096, 5632]⟩
abbrev S4x5632x2048 : Shape := ⟨3, ![4, 5632, 2048]⟩
abbrev S2x4096x2048 : Shape := ⟨3, ![2, 4096, 2048]⟩
abbrev S2048 : Shape := ⟨1, ![2048]⟩
abbrev S8192x5632 : Shape := ⟨2, ![8192, 5632]⟩
abbrev S8192x2048 : Shape := ⟨2, ![8192, 2048]⟩
abbrev S1x2048 : Shape := ⟨2, ![1, 2048]⟩
abbrev S256x5632 : Shape := ⟨2, ![256, 5632]⟩
abbrev S1x5632x2048 : Shape := ⟨3, ![1, 5632, 2048]⟩
abbrev S256x2048 : Shape := ⟨2, ![256, 2048]⟩
abbrev S5632x2048 : Shape := ⟨2, ![5632, 2048]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x4096x5632, .f32⟩
  | .hbm, ⟨1, _⟩ => ⟨S4x5632x2048, .f32⟩
  | .hbm, ⟨2, _⟩ => ⟨S2x4096x2048, .f32⟩
  | .hbm, ⟨3, _⟩ => ⟨S2048, .f32⟩
  | .hbm, ⟨4, _⟩ => ⟨S2048, .f32⟩
  | .hbm, ⟨5, _⟩ => ⟨S8192x5632, .f32⟩
  | .hbm, ⟨6, _⟩ => ⟨S8192x5632, .bf16⟩
  | .hbm, ⟨7, _⟩ => ⟨S4x5632x2048, .bf16⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S1x5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownRefIdeal.lean ====
abbrev S2x4096x5632 : Shape := ⟨3, ![2, 4096, 5632]⟩
abbrev S4x5632x2048 : Shape := ⟨3, ![4, 5632, 2048]⟩
abbrev S2x4096x2048 : Shape := ⟨3, ![2, 4096, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x5632, .f32⟩
  | .hbm, ⟨1, _⟩ => ⟨S4x5632x2048, .f32⟩
  | .hbm, ⟨2, _⟩ => ⟨S2x4096x2048, .f32⟩
  | .hbm, ⟨3, _⟩ => ⟨S2048, .f32⟩
  | .hbm, ⟨4, _⟩ => ⟨S2048, .f32⟩
  | .hbm, ⟨5, _⟩ => ⟨S1x5632x2048, .f32⟩
  | .hbm, ⟨6, _⟩ => ⟨S5632x2048, .f32⟩
  | .hbm, ⟨7, _⟩ => ⟨S2x4096x2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S2x4096x2048, .f32⟩
  | .hbm, ⟨26, _⟩ => ⟨S_, .f32⟩
  | .hbm, ⟨27, _⟩ => ⟨S2x4096, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S2x4096x1, .f32⟩
  | .hbm, ⟨36, _⟩ => ⟨S2x4096x2048, .f32⟩
  | .hbm, ⟨37, _⟩ => ⟨S2x4096x2048, .f32⟩
  | .hbm, ⟨38, _⟩ => ⟨S1x1x2048, .f32⟩
  | .hbm, ⟨39, _⟩ => ⟨S2x4096x2048, .f32⟩
  | .hbm, ⟨40, _⟩ => ⟨S2x4096x2048, .f32⟩
  | .hbm, ⟨41, _⟩ => ⟨S8192x2048, .f32⟩
  | .hbm, ⟨42, _⟩ => ⟨S2x4096x2048, .bf16⟩
  | .hbm, ⟨43, _⟩ => ⟨S8192x2048, .bf16⟩
  | _, _ => ⟨S2x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Proj.lean ====
abbrev S2x4096x2048 : Shape := ⟨3, ![2, 4096, 2048]⟩
abbrev S4x2048x5888 : Shape := ⟨3, ![4, 2048, 5888]⟩
abbrev S8192x2048 : Shape := ⟨2, ![8192, 2048]⟩
abbrev S8192x5376 : Shape := ⟨2, ![8192, 5376]⟩
abbrev S1024x2048 : Shape := ⟨2, ![1024, 2048]⟩
abbrev S1x2048x256 : Shape := ⟨3, ![1, 2048, 256]⟩
abbrev S1024x768 : Shape := ⟨2, ![1024, 768]⟩
abbrev S2048x768 : Shape := ⟨2, ![2048, 768]⟩
abbrev S2048x256 : Shape := ⟨2, ![2048, 256]⟩

abbrev nBuf : Space → Nat
  | .hbm => 5
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S4x2048x5888, .f32⟩
  | .hbm, ⟨2, _⟩ => ⟨S8192x2048, .f32⟩
  | .hbm, ⟨3, _⟩ => ⟨S8192x2048, .bf16⟩
  | .hbm, ⟨4, _⟩ => ⟨S8192x5376, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1024x768, .f32⟩
  | .local _ .vmem, ⟨9, _⟩ => ⟨S1024x768, .f32⟩
  | .local _ .vmem, ⟨10, _⟩ => ⟨S2048x768, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi c2_i32 v0
  let c0_i32 : BitVec 32 := 0#32
  let v2 : BitVec 32 := Scalar.addi v1 c0_i32
  let c1_i32 : BitVec 32 := 1#32
  let c0_i32_0 : BitVec 32 := 0#32
  let c0_i32_1 : BitVec 32 := 0#32
  ![c1_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi c2_i32 v0
  let c1_i32 : BitVec 32 := 1#32
  let v2 : BitVec 32 := Scalar.addi v1 c1_i32
  let c1_i32_0 : BitVec 32 := 1#32
  let c0_i32 : BitVec 32 := 0#32
  let c0_i32_1 : BitVec 32 := 0#32
  ![c1_i32_0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi c2_i32 v0
  let c2_i32_0 : BitVec 32 := 2#32
  let v2 : BitVec 32 := Scalar.addi v1 c2_i32_0
  let c1_i32 : BitVec 32 := 1#32
  let c0_i32 : BitVec 32 := 0#32
  let c0_i32_1 : BitVec 32 := 0#32
  ![c1_i32.toNat, c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S2x4096x2048 : Shape := ⟨3, ![2, 4096, 2048]⟩
abbrev S4x2048x5888 : Shape := ⟨3, ![4, 2048, 5888]⟩
abbrev S1x2048x5888 : Shape := ⟨3, ![1, 2048, 5888]⟩
abbrev S2048x5888 : Shape := ⟨2, ![2048, 5888]⟩
abbrev S2x4096x5888 : Shape := ⟨3, ![2, 4096, 5888]⟩
abbrev S2x4096x5376 : Shape := ⟨3, ![2, 4096, 5376]⟩
abbrev S8192x5376 : Shape := ⟨2, ![8192, 5376]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048x5888, .f32⟩
  | .hbm, ⟨2, _⟩ => ⟨S1x2048x5888, .f32⟩
  | .hbm, ⟨3, _⟩ => ⟨S2048x5888, .f32⟩
  | .hbm, ⟨4, _⟩ => ⟨S2x4096x5888, .f32⟩
  | .hbm, ⟨5, _⟩ => ⟨S2x4096x5376, .f32⟩
  | .hbm, ⟨6, _⟩ => ⟨S8192x5376, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Outp.lean ====
abbrev S2x4096x512 : Shape := ⟨3, ![2, 4096, 512]⟩
abbrev S2x4096x768 : Shape := ⟨3, ![2, 4096, 768]⟩
abbrev S4x2048x2048 : Shape := ⟨3, ![4, 2048, 2048]⟩
abbrev S2x4096x2048 : Shape := ⟨3, ![2, 4096, 2048]⟩
abbrev S2048 : Shape := ⟨1, ![2048]⟩
abbrev S8192x512 : Shape := ⟨2, ![8192, 512]⟩
abbrev S8192x768 : Shape := ⟨2, ![8192, 768]⟩
abbrev S8192x2048 : Shape := ⟨2, ![8192, 2048]⟩
abbrev S1x2048 : Shape := ⟨2, ![1, 2048]⟩
abbrev S512x512 : Shape := ⟨2, ![512, 512]⟩
abbrev S512x768 : Shape := ⟨2, ![512, 768]⟩
abbrev S1x2048x2048 : Shape := ⟨3, ![1, 2048, 2048]⟩
abbrev S512x2048 : Shape := ⟨2, ![512, 2048]⟩
abbrev S256x512 : Shape := ⟨2, ![256, 512]⟩
abbrev S1x512x2048 : Shape := ⟨3, ![1, 512, 2048]⟩
abbrev S256x2048 : Shape := ⟨2, ![256, 2048]⟩
abbrev S256x768 : Shape := ⟨2, ![256, 768]⟩
abbrev S1x768x2048 : Shape := ⟨3, ![1, 768, 2048]⟩
abbrev S768x2048 : Shape := ⟨2, ![768, 2048]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S2x4096x512, .f32⟩
  | .hbm, ⟨1, _⟩ => ⟨S2x4096x768, .f32⟩
  | .hbm, ⟨2, _⟩ => ⟨S2x4096x768, .f32⟩
  | .hbm, ⟨3, _⟩ => ⟨S4x2048x2048, .f32⟩
  | .hbm, ⟨4, _⟩ => ⟨S2x4096x2048, .f32⟩
  | .hbm, ⟨5, _⟩ => ⟨S2048, .f32⟩
  | .hbm, ⟨6, _⟩ => ⟨S2048, .f32⟩
  | .hbm, ⟨7, _⟩ => ⟨S8192x512, .f32⟩
  | .hbm, ⟨8, _⟩ => ⟨S8192x512, .bf16⟩
  | .hbm, ⟨9, _⟩ => ⟨S8192x768, .f32⟩
  | .hbm, ⟨10, _⟩ => ⟨S8192x768, .bf16⟩
  | .hbm, ⟨11, _⟩ => ⟨S8192x768, .f32⟩
  | .hbm, ⟨12, _⟩ => ⟨S8192x768, .bf16⟩
  | .hbm, ⟨13, _⟩ => ⟨S4x2048x2048, .bf16⟩
  | .hbm, ⟨14, _⟩ => ⟨S8192x2048, .f32⟩
  | .hbm, ⟨15, _⟩ => ⟨S1x2048, .f32⟩
  | .hbm, ⟨16, _⟩ => ⟨S1x2048, .f32⟩
  | .hbm, ⟨17, _⟩ => ⟨S8192x2048, .f32⟩
  | .hbm, ⟨18, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutpRefIdeal.lean ====
abbrev S2x4096x512 : Shape := ⟨3, ![2, 4096, 512]⟩
abbrev S2x4096x768 : Shape := ⟨3, ![2, 4096, 768]⟩
abbrev S4x2048x2048 : Shape := ⟨3, ![4, 2048, 2048]⟩
abbrev S2x4096x2048 : Shape := ⟨3, ![2, 4096, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x768, .f32⟩
  | .hbm, ⟨2, _⟩ => ⟨S2x4096x768, .f32⟩
  | .hbm, ⟨3, _⟩ => ⟨S4x2048x2048, .f32⟩
  | .hbm, ⟨4, _⟩ => ⟨S2x4096x2048, .f32⟩
  | .hbm, ⟨5, _⟩ => ⟨S2048, .f32⟩
  | .hbm, ⟨6, _⟩ => ⟨S2048, .f32⟩
  | .hbm, ⟨7, _⟩ => ⟨S2x4096x2048, .f32⟩
  | .hbm, ⟨8, _⟩ => ⟨S1x2048x2048, .f32⟩
  | .hbm, ⟨9, _⟩ => ⟨S2048x2048, .f32⟩
  | .hbm, ⟨10, _⟩ => ⟨S2x4096x2048, .f32⟩
  | .hbm, ⟨11, _⟩ => ⟨S2x4096x2048, .f32⟩
  | .hbm, ⟨12, _⟩ => ⟨S_, .f32⟩
  | .hbm, ⟨13, _⟩ => ⟨S2x4096, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S1x1x2048, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S2x4096x1, .f32⟩
  | .hbm, ⟨39, _⟩ => ⟨S2x4096x2048, .f32⟩
  | .hbm, ⟨40, _⟩ => ⟨S2x4096x2048, .f32⟩
  | .hbm, ⟨41, _⟩ => ⟨S1x1x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | .hbm, ⟨45, _⟩ => ⟨S2x4096x2048, .bf16⟩
  | .hbm, ⟨46, _⟩ => ⟨S8192x2048, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Hgrn.lean ====
abbrev S8x4x5376 : Shape := ⟨3, ![8, 4, 5376]⟩
abbrev S8x6x128x128 : Shape := ⟨4, ![8, 6, 128, 128]⟩
abbrev S768 : Shape := ⟨1, ![768]⟩
abbrev S_ : Shape := ⟨0, ![]⟩
abbrev S8x8x5376 : Shape := ⟨3, ![8, 8, 5376]⟩
abbrev S1x768 : Shape := ⟨2, ![1, 768]⟩
abbrev S8x8x768 : Shape := ⟨3, ![8, 8, 768]⟩
abbrev S1x8x768 : Shape := ⟨3, ![1, 8, 768]⟩
abbrev S1x6x128x128 : Shape := ⟨4, ![1, 6, 128, 128]⟩
abbrev S6x128x128 : Shape := ⟨3, ![6, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x128 : Shape := ⟨2, ![8, 128]⟩
abbrev S1x8x128 : Shape := ⟨3, ![1, 8, 128]⟩
abbrev S1x128 : Shape := ⟨2, ![1, 128]⟩
abbrev S8 : Shape := ⟨1, ![8]⟩
abbrev S8x1 : Shape := ⟨2, ![8, 1]⟩
abbrev S128x8 : Shape := ⟨2, ![128, 8]⟩

abbrev nBuf : Space → Nat
  | .hbm => 11
  | .vmem => 17
  | .smem => 0
  | _ => 0

abbrev bufTy : (tb : Table) → Fin (tcTables nBuf tb) → BufTy
  | .hbm, ⟨0, _⟩ => ⟨S8x4x5376, .f32⟩
  | .hbm, ⟨1, _⟩ => ⟨S8x6x128x128, .f32⟩
  | .hbm, ⟨2, _⟩ => ⟨S768, .f32⟩
  | .hbm, ⟨3, _⟩ => ⟨S768, .f32⟩
  | .hbm, ⟨4, _⟩ => ⟨S_, .i32⟩
  | .hbm, ⟨5, _⟩ => ⟨S_, .f32⟩
  | .hbm, ⟨6, _⟩ => ⟨S8x8x5376, .f32⟩
  | .hbm, ⟨7, _⟩ => ⟨S1x768, .f32⟩
  | .hbm, ⟨8, _⟩ => ⟨S1x768, .f32⟩
  | .hbm, ⟨9, _⟩ => ⟨S8x8x768, .bf16⟩
  | .hbm, ⟨10, _⟩ => ⟨S8x6x128x128, .f32⟩
  | .local _ .vmem, ⟨0, _⟩ => ⟨S1x8x768, .f32⟩
  | .local _ .vmem, ⟨1, _⟩ => ⟨S1x8x768, .f32⟩
  | .local _ .vmem, ⟨2, _⟩ => ⟨S1x8x768, .f32⟩
  | .local _ .vmem, ⟨3, _⟩ => ⟨S1x8x768, .f32⟩
  | .local _ .vmem, ⟨4, _⟩ => ⟨S1x8x768, .f32⟩
  | .local _ .vmem, ⟨5, _⟩ => ⟨S1x8x768, .f32⟩
  | .local _ .vmem, ⟨6, _⟩ => ⟨S1x8x768, .f32⟩
  | .local _ .vmem, ⟨7, _⟩ => ⟨S1x8x768, .f32⟩
  | .local _ .vmem, ⟨8, _⟩ => ⟨S1x6x128x128, .f32⟩
  | .local _ .vmem, ⟨9, _⟩ => ⟨S1x6x128x128, .f32⟩
  | .local _ .vmem, ⟨10, _⟩ => ⟨S1x768, .f32⟩
  | .local _ .vmem, ⟨11, _⟩ => ⟨S1x768, .f32⟩
  | .local _ .vmem, ⟨12, _⟩ => ⟨S1x8x768, .bf16⟩
  | .local _ .vmem, ⟨13, _⟩ => ⟨S1x8x768, .bf16⟩
  | .local _ .vmem, ⟨14, _⟩ => ⟨S1x6x128x128, .f32⟩
  | .local _ .vmem, ⟨15, _⟩ => ⟨S1x6x128x128, .f32⟩
  | .local _ .vmem, ⟨16, _⟩ => ⟨S6x128x128, .f32⟩
  | _, _ => ⟨S8x4x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 1, 1], ![false, false, false]⟩

def k0_mult1 : BitVec 32 :=
  let c0_i32_1 : BitVec 32 := 0#32
  c0_i32_1
def k0_cond2 (i : grid0.Coords) : BitVec 1 :=
  let arg2 : BitVec 32 := BitVec.ofNat 32 (i 2).val
  let c0_i32_511 : BitVec 32 := 0#32
  let v1607 : BitVec 1 := Scalar.cmpi .eq arg2 c0_i32_511
  let v1608 : BitVec 32 := Scalar.extui v1607
  let c0_i32_512 : BitVec 32 := 0#32
  let v1609 : BitVec 1 := Scalar.cmpi .ne v1608 c0_i32_512
  v1609

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x6x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]

abbrev stage0_7 : Fin 2 → Memref sig .tc .vmem S1x8x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x6x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== HgrnRefIdeal.lean ====
abbrev S8x4x5376 : Shape := ⟨3, ![8, 4, 5376]⟩
abbrev S8x6x128x128 : Shape := ⟨4, ![8, 6, 128, 128]⟩
abbrev S768 : Shape := ⟨1, ![768]⟩
abbrev S8x4x768 : Shape := ⟨3, ![8, 4, 768]⟩
abbrev S6x128 : Shape := ⟨2, ![6, 128]⟩
abbrev S8x4x6x128 : Shape := ⟨4, ![8, 4, 6, 128]⟩
abbrev S_ : Shape := ⟨0, ![]⟩
abbrev S1x1x6x128 : Shape := ⟨4, ![1, 1, 6, 128]⟩
abbrev S4x4 : Shape := ⟨2, ![4, 4]⟩
abbrev S1x4x4x1x1 : Shape := ⟨5, ![1, 4, 4, 1, 1]⟩
abbrev S8x6x128x4 : Shape := ⟨4, ![8, 6, 128, 4]⟩
abbrev S8x4x1x6x128 : Shape := ⟨5, ![8, 4, 1, 6, 128]⟩
abbrev S8x1x4x6x128 : Shape := ⟨5, ![8, 1, 4, 6, 128]⟩
abbrev S8x4x4x6x128 : Shape := ⟨5, ![8, 4, 4, 6, 128]⟩
abbrev S8x6x4x4 : Shape := ⟨4, ![8, 6, 4, 4]⟩
abbrev S8x1x6x128 : Shape := ⟨4, ![8, 1, 6, 128]⟩
abbrev S8x6x128 : Shape := ⟨3, ![8, 6, 128]⟩
abbrev S8x6x128x1 : Shape := ⟨4, ![8, 6, 128, 1]⟩
abbrev S8x4x6 : Shape := ⟨3, ![8, 4, 6]⟩
abbrev S8x4x6x1 : Shape := ⟨4, ![8, 4, 6, 1]⟩
abbrev S8x8x768 : Shape := ⟨3, ![8, 8, 768]⟩

abbrev nBuf : Space → Nat
  | .hbm => 141
  | .vmem => 0
  | .smem => 0
  | _ => 0

abbrev hbmTy0_0 (i : Nat) : BufTy := match i % 128 with
  | 0 => ⟨S8x4x5376, .f32⟩
  | 1 => ⟨S8x6x128x128, .f32⟩
  | 2 => ⟨S768, .f32⟩
  | 3 => ⟨S768, .f32⟩
  | 4 => ⟨S8x4x768, .f32⟩
  | 5 => ⟨S8x4x768, .f32⟩
  | 6 => ⟨S8x4x768, .f32⟩
  | 7 => ⟨S8x4x768, .f32⟩
  | 8 => ⟨S6x128, .f32⟩
  | 9 => ⟨S8x4x6x128, .f32⟩
  | 10 => ⟨S_, .f32⟩
  | 11 => ⟨S6x128, .f32⟩
  | 12 => ⟨S6x128, .f32⟩
  | 13 => ⟨S6x128, .f32⟩
  | 14 => ⟨S6x128, .f32⟩
  | 15 => ⟨S6x128, .f32⟩
  | 16 => ⟨S8x4x6x128, .f32⟩
  | 17 => ⟨S_, .f32⟩
  | 18 => ⟨S8x4x6x128, .f32⟩
  | 19 => ⟨S8x4x6x128, .f32⟩
  | 20 => ⟨S8x4x6x128, .f32⟩
  | 21 => ⟨S8x4x6x128, .f32⟩
  | 22 => ⟨S8x4x6x128, .i1⟩
  | 23 => ⟨S8x4x6x128, .f32⟩
  | 24 => ⟨S8x4x6x128, .f32⟩
  | 25 => ⟨S8x4x6x128, .f32⟩
  | 26 => ⟨S8x4x6x128, .f32⟩
  | 27 => ⟨S8x4x6x128, .f32⟩
  | 28 => ⟨S8x4x6x128, .f32⟩
  | 29 => ⟨S8x4x6x128, .f32⟩
  | 30 => ⟨S8x4x6x128, .f32⟩
  | 31 => ⟨S8x4x6x128, .f32⟩
  | 32 => ⟨S1x1x6x128, .f32⟩
  | 33 => ⟨S8x4x6x128, .f32⟩
  | 34 => ⟨S8x4x6x128, .f32⟩
  | 35 => ⟨S1x1x6x128, .f32⟩
  | 36 => ⟨S8x4x6x128, .f32⟩
  | 37 => ⟨S8x4x6x128, .f32⟩
  | 38 => ⟨S8x4x6x128, .f32⟩
  | 39 => ⟨S8x4x6x128, .f32⟩
  | 40 => ⟨S8x4x6x128, .i1⟩
  | 41 => ⟨S8x4x6x128, .f32⟩
  | 42 => ⟨S8x4x6x128, .f32⟩
  | 43 => ⟨S8x4x6x128, .f32⟩
  | 44 => ⟨S8x4x6x128, .f32⟩
  | 45 => ⟨S8x4x6x128, .f32⟩
  | 46 => ⟨S8x4x6x128, .f32⟩
  | 47 => ⟨S8x4x6x128, .f32⟩
  | 48 => ⟨S8x4x6x128, .f32⟩
  | 49 => ⟨S8x4x6x128, .f32⟩
  | 50 => ⟨S8x4x6x128, .f32⟩
  | 51 => ⟨S8x4x6x128, .f32⟩
  | 52 => ⟨S8x4x6x128, .f32⟩
  | 53 => ⟨S_, .i1⟩
  | 54 => ⟨S4x4, .i1⟩
  | 55 => ⟨S4x4, .i32⟩
  | 56 => ⟨S_, .i32⟩
  | 57 => ⟨S4x4, .i32⟩
  | 58 => ⟨S4x4, .i32⟩
  | 59 => ⟨S4x4, .i32⟩
  | 60 => ⟨S4x4, .i1⟩
  | 61 => ⟨S_, .i1⟩
  | 62 => ⟨S4x4, .i1⟩
  | 63 => ⟨S4x4, .i1⟩
  | 64 => ⟨S1x4x4x1x1, .i1⟩
  | 65 => ⟨S_, .f32⟩
  | 66 => ⟨S_, .f32⟩
  | 67 => ⟨S8x4x6x128, .f32⟩
  | 68 => ⟨S8x4x6x128, .f32⟩
  | 69 => ⟨S8x4x6x128, .f32⟩
  | 70 => ⟨S8x6x128x4, .f32⟩
  | 71 => ⟨S8x4x6x128, .f32⟩
  | 72 => ⟨S8x4x1x6x128, .f32⟩
  | 73 => ⟨S8x1x4x6x128, .f32⟩
  | 74 => ⟨S8x4x4x6x128, .f32⟩
  | 75 => ⟨S8x4x4x6x128, .f32⟩
  | 76 => ⟨S8x4x4x6x128, .f32⟩
  | 77 => ⟨S_, .f32⟩
  | 78 => ⟨S_, .f32⟩
  | 79 => ⟨S8x4x4x6x128, .i1⟩
  | 80 => ⟨S8x4x4x6x128, .f32⟩
  | 81 => ⟨S8x4x4x6x128, .f32⟩
  | 82 => ⟨S8x4x4x6x128, .f32⟩
  | 83 => ⟨S_, .f32⟩
  | 84 => ⟨S_, .f32⟩
  | 85 => ⟨S8x4x4x6x128, .i1⟩
  | 86 => ⟨S8x4x4x6x128, .f32⟩
  | 87 => ⟨S8x4x4x6x128, .f32⟩
  | 88 => ⟨S8x1x4x6x128, .f32⟩
  | 89 => ⟨S8x4x4x6x128, .f32⟩
  | 90 => ⟨S8x4x4x6x128, .f32⟩
  | 91 => ⟨S8x6x4x4, .f32⟩
  | 92 => ⟨S8x6x128x4, .f32⟩
  | 93 => ⟨S8x4x6x128, .f32⟩
  | 94 => ⟨S8x1x6x128, .f32⟩
  | 95 => ⟨S8x6x128, .f32⟩
  | 96 => ⟨S8x1x6x128, .f32⟩
  | 97 => ⟨S8x4x6x128, .f32⟩
  | 98 => ⟨S8x4x6x128, .f32⟩
  | 99 => ⟨S8x4x6x128, .f32⟩
  | 100 => ⟨S8x4x6x128, .f32⟩
  | 101 => ⟨S8x6x128, .f32⟩
  | 102 => ⟨S8x6x128x1, .f32⟩
  | 103 => ⟨S8x6x128x128, .f32⟩
  | 104 => ⟨S8x6x128x128, .f32⟩
  | 105 => ⟨S8x6x128x128, .f32⟩
  | 106 => ⟨S8x6x128x128, .f32⟩
  | 107 => ⟨S8x4x6x128, .f32⟩
  | 108 => ⟨S6x128, .f32⟩
  | 109 => ⟨S8x4x6x128, .f32⟩
  | 110 => ⟨S_, .f32⟩
  | 111 => ⟨S8x4x6, .f32⟩
  | 112 => ⟨S8x4x6x1, .f32⟩
  | 113 => ⟨S_, .f32⟩
  | 114 => ⟨S8x4x6x1, .f32⟩
  | 115 => ⟨S8x4x6x1, .f32⟩
  | 116 => ⟨S_, .f32⟩
  | 117 => ⟨S8x4x6x1, .f32⟩
  | 118 => ⟨S8x4x6x1, .f32⟩
  | 119 => ⟨S8x4x6x1, .f32⟩
  | 120 => ⟨S8x4x6x128, .f32⟩
  | 121 => ⟨S8x4x6x128, .f32⟩
  | 122 => ⟨S1x1x6x128, .f32⟩
  | 123 => ⟨S8x4x6x128, .f32⟩
  | 124 => ⟨S8x4x6x128, .f32⟩
  | 125 => ⟨S8x4x6x128, .f32⟩
  | 126 => ⟨S8x4x6x128, .f32⟩
  | 127 => ⟨S8x4x6x128, .f32⟩
  | _ => ⟨S8x4x5376, .f32⟩

abbrev hbmTy0_1 (i : Nat) : BufTy := match i % 128 with
  | 0 => ⟨S_, .f32⟩
  | 1 => ⟨S8x4x6x128, .f32⟩
  | 2 => ⟨S8x4x6x128, .f32⟩
  | 3 => ⟨S_, .f32⟩
  | 4 => ⟨S8x4x6x128, .f32⟩
  | 5 => ⟨S8x4x6x128, .f32⟩
  | 6 => ⟨S8x4x6x128, .f32⟩
  | 7 => ⟨S8x4x6x128, .f32⟩
  | 8 => ⟨S8x4x768, .f32⟩
  | 9 => ⟨S_, .i32⟩
  | 10 => ⟨S_, .f32⟩
  | 11 => ⟨S8x8x768, .f32⟩
  | 12 => ⟨S8x8x768, .bf16⟩
  | _ => ⟨S8x4x5376, .f32⟩

abbrev hbmTy (i : Nat) : BufTy := match i / 128 with
  | 0 => hbmTy0_0 i
  | 1 => hbmTy0_1 i
  | _ => ⟨S8x4x5376, .f32⟩

abbrev bufTy : (tb : Table) → Fin (tcTables nBuf tb) → BufTy
  | .hbm, ⟨i, _⟩ => hbmTy i
  | _, _ => ⟨S8x4x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c : Ref sig .tc := ⟨.hbm, 53, rfl⟩
abbrev main_v33 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_0 : Ref sig .tc := ⟨.hbm, 61, rfl⟩
abbrev main_call1_v5 : Ref sig .tc := ⟨.hbm, 62, rfl⟩
abbrev main_v34 : Ref sig .tc := ⟨.hbm, 63, rfl⟩
abbrev main_v35 : Ref sig .tc := ⟨.hbm, 64, rfl⟩
abbrev main_call2_call0_cst : Ref sig .tc := ⟨.hbm, 65, rfl⟩
abbrev main_call2_call0_v0 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_0 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v46 : Ref sig .tc := ⟨.hbm, 81, rfl⟩
abbrev main_v47 : Ref sig .tc := ⟨.hbm, 82, rfl⟩
abbrev main_cst_1 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_2 : Ref sig .tc := ⟨.hbm, 110, rfl⟩
abbrev main_v71 : Ref sig .tc := ⟨.hbm, 111, rfl⟩
abbrev main_v72 : Ref sig .tc := ⟨.hbm, 112, rfl⟩
abbrev main_cst_3 : Ref sig .tc := ⟨.hbm, 113, rfl⟩
abbrev main_v73 : Ref sig .tc := ⟨.hbm, 114, rfl⟩
abbrev main_v74 : Ref sig .tc := ⟨.hbm, 115, rfl⟩
abbrev main_cst_4 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_call5_v0 : Ref sig .tc := ⟨.hbm, 126, rfl⟩
abbrev main_call5_v1 : Ref sig .tc := ⟨.hbm, 127, rfl⟩
abbrev main_call5_cst : Ref sig .tc := ⟨.hbm, 128, rfl⟩
abbrev main_call5_v2 : Ref sig .tc := ⟨.hbm, 129, rfl⟩
abbrev main_call5_v3 : Ref sig .tc := ⟨.hbm, 130, rfl⟩
abbrev main_call5_cst_0 : Ref sig .tc := ⟨.hbm, 131, rfl⟩
abbrev main_call5_v4 : Ref sig .tc := ⟨.hbm, 132, rfl⟩
abbrev main_call5_v5 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_c_5 : Ref sig .tc := ⟨.hbm, 137, rfl⟩
abbrev main_call6_v0 : Ref sig .tc := ⟨.hbm, 138, rfl⟩
abbrev main_v87 : Ref sig .tc := ⟨.hbm, 139, rfl⟩
abbrev main_v88 : Ref sig .tc := ⟨.hbm, 140, rfl⟩

abbrev nD : Nat := 1
abbrev τ : Topo := Topo.v7x

variable {F : FTy → Type} [FloatOps F]
-- ==== Short.lean ====
abbrev S8x4x2048 : Shape := ⟨3, ![8, 4, 2048]⟩
abbrev S4x2048x5632 : Shape := ⟨3, ![4, 2048, 5632]⟩
abbrev S3x5632 : Shape := ⟨2, ![3, 5632]⟩
abbrev S5632 : Shape := ⟨1, ![5632]⟩
abbrev S8x2x5632 : Shape := ⟨3, ![8, 2, 5632]⟩
abbrev S_ : Shape := ⟨0, ![]⟩
abbrev S8x4x5632 : Shape := ⟨3, ![8, 4, 5632]⟩
abbrev S8x1x5632 : Shape := ⟨3, ![8, 1, 5632]⟩
abbrev S8x5632 : Shape := ⟨2, ![8, 5632]⟩
abbrev S1 : Shape := ⟨1, ![1]⟩
abbrev S32x5632 : Shape := ⟨2, ![32, 5632]⟩
abbrev S32x2048 : Shape := ⟨2, ![32, 2048]⟩
abbrev S1x5632 : Shape := ⟨2, ![1, 5632]⟩
abbrev S1x2048x512 : Shape := ⟨3, ![1, 2048, 512]⟩
abbrev S3x512 : Shape := ⟨2, ![3, 512]⟩
abbrev S1x512 : Shape := ⟨2, ![1, 512]⟩
abbrev S32x512 : Shape := ⟨2, ![32, 512]⟩
abbrev S2048x512 : Shape := ⟨2, ![2048, 512]⟩

abbrev nBuf : Space → Nat
  | .hbm => 30
  | .vmem => 17
  | .smem => 0
  | _ => 0

abbrev bufTy : (tb : Table) → Fin (tcTables nBuf tb) → BufTy
  | .hbm, ⟨0, _⟩ => ⟨S8x4x2048, .f32⟩
  | .hbm, ⟨1, _⟩ => ⟨S4x2048x5632, .f32⟩
  | .hbm, ⟨2, _⟩ => ⟨S4x2048x5632, .f32⟩
  | .hbm, ⟨3, _⟩ => ⟨S3x5632, .f32⟩
  | .hbm, ⟨4, _⟩ => ⟨S5632, .f32⟩
  | .hbm, ⟨5, _⟩ => ⟨S8x2x5632, .f32⟩
  | .hbm, ⟨6, _⟩ => ⟨S_, .f32⟩
  | .hbm, ⟨7, _⟩ => ⟨S8x4x5632, .f32⟩
  | .hbm, ⟨8, _⟩ => ⟨S8x1x5632, .f32⟩
  | .hbm, ⟨9, _⟩ => ⟨S8x5632, .f32⟩
  | .hbm, ⟨10, _⟩ => ⟨S_, .i32⟩
  | .hbm, ⟨11, _⟩ => ⟨S1, .i32⟩
  | .hbm, ⟨12, _⟩ => ⟨S8x4x5632, .f32⟩
  | .hbm, ⟨13, _⟩ => ⟨S32x5632, .f32⟩
  | .hbm, ⟨14, _⟩ => ⟨S8x1x5632, .f32⟩
  | .hbm, ⟨15, _⟩ => ⟨S8x5632, .f32⟩
  | .hbm, ⟨16, _⟩ => ⟨S_, .i32⟩
  | .hbm, ⟨17, _⟩ => ⟨S1, .i32⟩
  | .hbm, ⟨18, _⟩ => ⟨S8x4x5632, .f32⟩
  | .hbm, ⟨19, _⟩ => ⟨S8x1x5632, .f32⟩
  | .hbm, ⟨20, _⟩ => ⟨S8x5632, .f32⟩
  | .hbm, ⟨21, _⟩ => ⟨S_, .i32⟩
  | .hbm, ⟨22, _⟩ => ⟨S1, .i32⟩
  | .hbm, ⟨23, _⟩ => ⟨S8x4x5632, .f32⟩
  | .hbm, ⟨24, _⟩ => ⟨S32x5632, .f32⟩
  | .hbm, ⟨25, _⟩ => ⟨S32x2048, .f32⟩
  | .hbm, ⟨26, _⟩ => ⟨S32x2048, .bf16⟩
  | .hbm, ⟨27, _⟩ => ⟨S1x5632, .f32⟩
  | .hbm, ⟨28, _⟩ => ⟨S32x5632, .bf16⟩
  | .hbm, ⟨29, _⟩ => ⟨S32x5632, .f32⟩
  | .local _ .vmem, ⟨0, _⟩ => ⟨S32x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S3x512, .f32⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .bf16⟩
  | .local _ .vmem, ⟨14, _⟩ => ⟨S32x512, .bf16⟩
  | .local _ .vmem, ⟨15, _⟩ => ⟨S32x512, .f32⟩
  | .local _ .vmem, ⟨16, _⟩ => ⟨S32x512, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ShortRefIdeal.lean ====
abbrev S8x4x2048 : Shape := ⟨3, ![8, 4, 2048]⟩
abbrev S4x2048x5632 : Shape := ⟨3, ![4, 2048, 5632]⟩
abbrev S3x5632 : Shape := ⟨2, ![3, 5632]⟩
abbrev S5632 : Shape := ⟨1, ![5632]⟩
abbrev S8x2x5632 : Shape := ⟨3, ![8, 2, 5632]⟩
abbrev S1x2048x5632 : Shape := ⟨3, ![1, 2048, 5632]⟩
abbrev S2048x5632 : Shape := ⟨2, ![2048, 5632]⟩
abbrev S8x4x5632 : Shape := ⟨3, ![8, 4, 5632]⟩
abbrev S8x6x5632 : Shape := ⟨3, ![8, 6, 5632]⟩
abbrev S1x5632 : Shape := ⟨2, ![1, 5632]⟩
abbrev S1x1x5632 : Shape := ⟨3, ![1, 1, 5632]⟩
abbrev S_ : Shape := ⟨0, ![]⟩
abbrev S32x5632 : Shape := ⟨2, ![32, 5632]⟩

abbrev nBuf : Space → Nat
  | .hbm => 49
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S4x2048x5632, .f32⟩
  | .hbm, ⟨2, _⟩ => ⟨S4x2048x5632, .f32⟩
  | .hbm, ⟨3, _⟩ => ⟨S3x5632, .f32⟩
  | .hbm, ⟨4, _⟩ => ⟨S5632, .f32⟩
  | .hbm, ⟨5, _⟩ => ⟨S8x2x5632, .f32⟩
  | .hbm, ⟨6, _⟩ => ⟨S1x2048x5632, .f32⟩
  | .hbm, ⟨7, _⟩ => ⟨S2048x5632, .f32⟩
  | .hbm, ⟨8, _⟩ => ⟨S8x4x5632, .f32⟩
  | .hbm, ⟨9, _⟩ => ⟨S8x6x5632, .f32⟩
  | .hbm, ⟨10, _⟩ => ⟨S1x5632, .f32⟩
  | .hbm, ⟨11, _⟩ => ⟨S5632, .f32⟩
  | .hbm, ⟨12, _⟩ => ⟨S8x4x5632, .f32⟩
  | .hbm, ⟨13, _⟩ => ⟨S1x1x5632, .f32⟩
  | .hbm, ⟨14, _⟩ => ⟨S8x4x5632, .f32⟩
  | .hbm, ⟨15, _⟩ => ⟨S8x4x5632, .f32⟩
  | .hbm, ⟨16, _⟩ => ⟨S1x1x5632, .f32⟩
  | .hbm, ⟨17, _⟩ => ⟨S8x4x5632, .f32⟩
  | .hbm, ⟨18, _⟩ => ⟨S8x4x5632, .f32⟩
  | .hbm, ⟨19, _⟩ => ⟨S1x5632, .f32⟩
  | .hbm, ⟨20, _⟩ => ⟨S5632, .f32⟩
  | .hbm, ⟨21, _⟩ => ⟨S8x4x5632, .f32⟩
  | .hbm, ⟨22, _⟩ => ⟨S1x1x5632, .f32⟩
  | .hbm, ⟨23, _⟩ => ⟨S8x4x5632, .f32⟩
  | .hbm, ⟨24, _⟩ => ⟨S8x4x5632, .f32⟩
  | .hbm, ⟨25, _⟩ => ⟨S8x4x5632, .f32⟩
  | .hbm, ⟨26, _⟩ => ⟨S1x5632, .f32⟩
  | .hbm, ⟨27, _⟩ => ⟨S5632, .f32⟩
  | .hbm, ⟨28, _⟩ => ⟨S8x4x5632, .f32⟩
  | .hbm, ⟨29, _⟩ => ⟨S1x1x5632, .f32⟩
  | .hbm, ⟨30, _⟩ => ⟨S8x4x5632, .f32⟩
  | .hbm, ⟨31, _⟩ => ⟨S8x4x5632, .f32⟩
  | .hbm, ⟨32, _⟩ => ⟨S8x4x5632, .f32⟩
  | .hbm, ⟨33, _⟩ => ⟨S8x4x5632, .f32⟩
  | .hbm, ⟨34, _⟩ => ⟨S8x4x5632, .f32⟩
  | .hbm, ⟨35, _⟩ => ⟨S_, .f32⟩
  | .hbm, ⟨36, _⟩ => ⟨S8x4x5632, .f32⟩
  | .hbm, ⟨37, _⟩ => ⟨S8x4x5632, .f32⟩
  | .hbm, ⟨38, _⟩ => ⟨S_, .f32⟩
  | .hbm, ⟨39, _⟩ => ⟨S8x4x5632, .f32⟩
  | .hbm, ⟨40, _⟩ => ⟨S8x4x5632, .f32⟩
  | .hbm, ⟨41, _⟩ => ⟨S8x4x5632, .f32⟩
  | .hbm, ⟨42, _⟩ => ⟨S1x2048x5632, .f32⟩
  | .hbm, ⟨43, _⟩ => ⟨S2048x5632, .f32⟩
  | .hbm, ⟨44, _⟩ => ⟨S8x4x5632, .f32⟩
  | .hbm, ⟨45, _⟩ => ⟨S8x4x5632, .f32⟩
  | .hbm, ⟨46, _⟩ => ⟨S8x4x5632, .bf16⟩
  | .hbm, ⟨47, _⟩ => ⟨S32x5632, .bf16⟩
  | .hbm, ⟨48, _⟩ => ⟨S32x5632, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== DownS.lean ====
abbrev S8x4x5632 : Shape := ⟨3, ![8, 4, 5632]⟩
abbrev S4x5632x2048 : Shape := ⟨3, ![4, 5632, 2048]⟩
abbrev S8x4x2048 : Shape := ⟨3, ![8, 4, 2048]⟩
abbrev S2048 : Shape := ⟨1, ![2048]⟩
abbrev S32x5632 : Shape := ⟨2, ![32, 5632]⟩
abbrev S32x2048 : Shape := ⟨2, ![32, 2048]⟩
abbrev S1x2048 : Shape := ⟨2, ![1, 2048]⟩
abbrev S1x5632x2048 : Shape := ⟨3, ![1, 5632, 2048]⟩
abbrev S5632x2048 : Shape := ⟨2, ![5632, 2048]⟩
abbrev S32 : Shape := ⟨1, ![32]⟩
abbrev S32x1 : Shape := ⟨2, ![32, 1]⟩

abbrev nBuf : Space → Nat
  | .hbm => 13
  | .vmem => 7
  | .smem => 0
  | _ => 0

abbrev bufTy : (tb : Table) → Fin (tcTables nBuf tb) → BufTy
  | .hbm, ⟨0, _⟩ => ⟨S8x4x5632, .f32⟩
  | .hbm, ⟨1, _⟩ => ⟨S4x5632x2048, .f32⟩
  | .hbm, ⟨2, _⟩ => ⟨S8x4x2048, .f32⟩
  | .hbm, ⟨3, _⟩ => ⟨S2048, .f32⟩
  | .hbm, ⟨4, _⟩ => ⟨S2048, .f32⟩
  | .hbm, ⟨5, _⟩ => ⟨S32x5632, .f32⟩
  | .hbm, ⟨6, _⟩ => ⟨S32x5632, .bf16⟩
  | .hbm, ⟨7, _⟩ => ⟨S4x5632x2048, .bf16⟩
  | .hbm, ⟨8, _⟩ => ⟨S32x2048, .f32⟩
  | .hbm, ⟨9, _⟩ => ⟨S1x2048, .f32⟩
  | .hbm, ⟨10, _⟩ => ⟨S1x2048, .f32⟩
  | .hbm, ⟨11, _⟩ => ⟨S32x2048, .f32⟩
  | .hbm, ⟨12, _⟩ => ⟨S32x2048, .bf16⟩
  | .local _ .vmem, ⟨0, _⟩ => ⟨S32x5632, .bf16⟩
  | .local _ .vmem, ⟨1, _⟩ => ⟨S1x5632x2048, .bf16⟩
  | .local _ .vmem, ⟨2, _⟩ => ⟨S32x2048, .f32⟩
  | .local _ .vmem, ⟨3, _⟩ => ⟨S1x2048, .f32⟩
  | .local _ .vmem, ⟨4, _⟩ => ⟨S1x2048, .f32⟩
  | .local _ .vmem, ⟨5, _⟩ => ⟨S32x2048, .f32⟩
  | .local _ .vmem, ⟨6, _⟩ => ⟨S32x2048, .bf16⟩
  | _, _ => ⟨S8x4x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== DownSRefIdeal.lean ====
abbrev S8x4x5632 : Shape := ⟨3, ![8, 4, 5632]⟩
abbrev S4x5632x2048 : Shape := ⟨3, ![4, 5632, 2048]⟩
abbrev S8x4x2048 : Shape := ⟨3, ![8, 4, 2048]⟩
abbrev S2048 : Shape := ⟨1, ![2048]⟩
abbrev S1x5632x2048 : Shape := ⟨3, ![1, 5632, 2048]⟩
abbrev S5632x2048 : Shape := ⟨2, ![5632, 2048]⟩
abbrev S_ : Shape := ⟨0, ![]⟩
abbrev S8x4 : Shape := ⟨2, ![8, 4]⟩
abbrev S8x4x1 : Shape := ⟨3, ![8, 4, 1]⟩
abbrev S1x1x2048 : Shape := ⟨3, ![1, 1, 2048]⟩
abbrev S32x2048 : Shape := ⟨2, ![32, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x4x5632, .f32⟩
  | .hbm, ⟨1, _⟩ => ⟨S4x5632x2048, .f32⟩
  | .hbm, ⟨2, _⟩ => ⟨S8x4x2048, .f32⟩
  | .hbm, ⟨3, _⟩ => ⟨S2048, .f32⟩
  | .hbm, ⟨4, _⟩ => ⟨S2048, .f32⟩
  | .hbm, ⟨5, _⟩ => ⟨S1x5632x2048, .f32⟩
  | .hbm, ⟨6, _⟩ => ⟨S5632x2048, .f32⟩
  | .hbm, ⟨7, _⟩ => ⟨S8x4x2048, .f32⟩
  | .hbm, ⟨8, _⟩ => ⟨S8x4x2048, .f32⟩
  | .hbm, ⟨9, _⟩ => ⟨S_, .f32⟩
  | .hbm, ⟨10, _⟩ => ⟨S8x4, .f32⟩
  | .hbm, ⟨11, _⟩ => ⟨S8x4x1, .f32⟩
  | .hbm, ⟨12, _⟩ => ⟨S_, .f32⟩
  | .hbm, ⟨13, _⟩ => ⟨S8x4x1, .f32⟩
  | .hbm, ⟨14, _⟩ => ⟨S8x4x1, .f32⟩
  | .hbm, ⟨15, _⟩ => ⟨S_, .f32⟩
  | .hbm, ⟨16, _⟩ => ⟨S8x4x1, .f32⟩
  | .hbm, ⟨17, _⟩ => ⟨S8x4x1, .f32⟩
  | .hbm, ⟨18, _⟩ => ⟨S8x4x1, .f32⟩
  | .hbm, ⟨19, _⟩ => ⟨S8x4x2048, .f32⟩
  | .hbm, ⟨20, _⟩ => ⟨S8x4x2048, .f32⟩
  | .hbm, ⟨21, _⟩ => ⟨S1x1x2048, .f32⟩
  | .hbm, ⟨22, _⟩ => ⟨S8x4x2048, .f32⟩
  | .hbm, ⟨23, _⟩ => ⟨S8x4x2048, .f32⟩
  | .hbm, ⟨24, _⟩ => ⟨S8x4x2048, .f32⟩
  | .hbm, ⟨25, _⟩ => ⟨S8x4x2048, .f32⟩
  | .hbm, ⟨26, _⟩ => ⟨S_, .f32⟩
  | .hbm, ⟨27, _⟩ => ⟨S8x4, .f32⟩
  | .hbm, ⟨28, _⟩ => ⟨S8x4x1, .f32⟩
  | .hbm, ⟨29, _⟩ => ⟨S_, .f32⟩
  | .hbm, ⟨30, _⟩ => ⟨S8x4x1, .f32⟩
  | .hbm, ⟨31, _⟩ => ⟨S8x4x1, .f32⟩
  | .hbm, ⟨32, _⟩ => ⟨S_, .f32⟩
  | .hbm, ⟨33, _⟩ => ⟨S8x4x1, .f32⟩
  | .hbm, ⟨34, _⟩ => ⟨S8x4x1, .f32⟩
  | .hbm, ⟨35, _⟩ => ⟨S8x4x1, .f32⟩
  | .hbm, ⟨36, _⟩ => ⟨S8x4x2048, .f32⟩
  | .hbm, ⟨37, _⟩ => ⟨S8x4x2048, .f32⟩
  | .hbm, ⟨38, _⟩ => ⟨S1x1x2048, .f32⟩
  | .hbm, ⟨39, _⟩ => ⟨S8x4x2048, .f32⟩
  | .hbm, ⟨40, _⟩ => ⟨S8x4x2048, .f32⟩
  | .hbm, ⟨41, _⟩ => ⟨S32x2048, .f32⟩
  | .hbm, ⟨42, _⟩ => ⟨S8x4x2048, .bf16⟩
  | .hbm, ⟨43, _⟩ => ⟨S32x2048, .bf16⟩
  | _, _ => ⟨S8x4x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== ProjS.lean ====
abbrev S8x4x2048 : Shape := ⟨3, ![8, 4, 2048]⟩
abbrev S4x2048x5888 : Shape := ⟨3, ![4, 2048, 5888]⟩
abbrev S32x2048 : Shape := ⟨2, ![32, 2048]⟩
abbrev S32x5376 : Shape := ⟨2, ![32, 5376]⟩
abbrev S1x2048x256 : Shape := ⟨3, ![1, 2048, 256]⟩
abbrev S32x768 : Shape := ⟨2, ![32, 768]⟩
abbrev S2048x768 : Shape := ⟨2, ![2048, 768]⟩
abbrev S2048x256 : Shape := ⟨2, ![2048, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x4x2048, .f32⟩
  | .hbm, ⟨1, _⟩ => ⟨S4x2048x5888, .f32⟩
  | .hbm, ⟨2, _⟩ => ⟨S32x2048, .f32⟩
  | .hbm, ⟨3, _⟩ => ⟨S32x2048, .bf16⟩
  | .hbm, ⟨4, _⟩ => ⟨S32x5376, .f32⟩
  | .local _ .vmem, ⟨0, _⟩ => ⟨S32x2048, .bf16⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S32x768, .f32⟩
  | .local _ .vmem, ⟨8, _⟩ => ⟨S32x768, .f32⟩
  | .local _ .vmem, ⟨9, _⟩ => ⟨S2048x768, .bf16⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![7, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi c2_i32 v0
  let c0_i32 : BitVec 32 := 0#32
  let v2 : BitVec 32 := Scalar.addi v1 c0_i32
  let c1_i32 : BitVec 32 := 1#32
  let c0_i32_0 : BitVec 32 := 0#32
  let c0_i32_1 : BitVec 32 := 0#32
  ![c1_i32.toNat, c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi c2_i32 v0
  let c1_i32 : BitVec 32 := 1#32
  let v2 : BitVec 32 := Scalar.addi v1 c1_i32
  let c1_i32_0 : BitVec 32 := 1#32
  let c0_i32 : BitVec 32 := 0#32
  let c0_i32_1 : BitVec 32 := 0#32
  ![c1_i32_0.toNat, c0_i32.toNat, v2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let c2_i32 : BitVec 32 := 2#32
  let v1 : BitVec 32 := Scalar.addi c2_i32 v0
  let c2_i32_0 : BitVec 32 := 2#32
  let v2 : BitVec 32 := Scalar.addi v1 c2_i32_0
  let c1_i32 : BitVec 32 := 1#32
  let c0_i32 : BitVec 32 := 0#32
  let c0_i32_1 : BitVec 32 := 0#32
  ![c1_i32.toNat, c0_i32.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjSRefIdeal.lean ====
abbrev S8x4x2048 : Shape := ⟨3, ![8, 4, 2048]⟩
abbrev S4x2048x5888 : Shape := ⟨3, ![4, 2048, 5888]⟩
abbrev S1x2048x5888 : Shape := ⟨3, ![1, 2048, 5888]⟩
abbrev S2048x5888 : Shape := ⟨2, ![2048, 5888]⟩
abbrev S8x4x5888 : Shape := ⟨3, ![8, 4, 5888]⟩
abbrev S8x4x5376 : Shape := ⟨3, ![8, 4, 5376]⟩
abbrev S32x5376 : Shape := ⟨2, ![32, 5376]⟩

abbrev nBuf : Space → Nat
  | .hbm => 7
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S4x2048x5888, .f32⟩
  | .hbm, ⟨2, _⟩ => ⟨S1x2048x5888, .f32⟩
  | .hbm, ⟨3, _⟩ => ⟨S2048x5888, .f32⟩
  | .hbm, ⟨4, _⟩ => ⟨S8x4x5888, .f32⟩
  | .hbm, ⟨5, _⟩ => ⟨S8x4x5376, .f32⟩
  | .hbm, ⟨6, _⟩ => ⟨S32x5376, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Rope.lean ====
abbrev S8x4x5376 : Shape := ⟨3, ![8, 4, 5376]⟩
abbrev S128 : Shape := ⟨1, ![128]⟩
abbrev S_ : Shape := ⟨0, ![]⟩
abbrev S8x8x5376 : Shape := ⟨3, ![8, 8, 5376]⟩
abbrev S8 : Shape := ⟨1, ![8]⟩
abbrev S1x8 : Shape := ⟨2, ![1, 8]⟩
abbrev S16x8 : Shape := ⟨2, ![16, 8]⟩
abbrev S1x128 : Shape := ⟨2, ![1, 128]⟩
abbrev S8x8x768 : Shape := ⟨3, ![8, 8, 768]⟩
abbrev S1x8x768 : Shape := ⟨3, ![1, 8, 768]⟩
abbrev S8x128 : Shape := ⟨2, ![8, 128]⟩
abbrev S1x8x128 : Shape := ⟨3, ![1, 8, 128]⟩

abbrev nBuf : Space → Nat
  | .hbm => 34
  | .vmem => 13
  | .smem => 0
  | _ => 0

abbrev bufTy : (tb : Table) → Fin (tcTables nBuf tb) → BufTy
  | .hbm, ⟨0, _⟩ => ⟨S8x4x5376, .f32⟩
  | .hbm, ⟨1, _⟩ => ⟨S128, .i1⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S8x8x5376, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S1x8, .f32⟩
  | .hbm, ⟨22, _⟩ => ⟨S16x8, .f32⟩
  | .hbm, ⟨23, _⟩ => ⟨S128, .f32⟩
  | .hbm, ⟨24, _⟩ => ⟨S_, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S8x8x768, .bf16⟩
  | .hbm, ⟨32, _⟩ => ⟨S8x8x768, .f32⟩
  | .hbm, ⟨33, _⟩ => ⟨S8x8x768, .bf16⟩
  | .local _ .vmem, ⟨0, _⟩ => ⟨S1x8x768, .f32⟩
  | .local _ .vmem, ⟨1, _⟩ => ⟨S1x8x768, .f32⟩
  | .local _ .vmem, ⟨2, _⟩ => ⟨S1x8x768, .f32⟩
  | .local _ .vmem, ⟨3, _⟩ => ⟨S1x8x768, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x8x768, .bf16⟩
  | .local _ .vmem, ⟨8, _⟩ => ⟨S1x8x768, .bf16⟩
  | .local _ .vmem, ⟨9, _⟩ => ⟨S1x8x768, .f32⟩
  | .local _ .vmem, ⟨10, _⟩ => ⟨S1x8x768, .f32⟩
  | .local _ .vmem, ⟨11, _⟩ => ⟨S1x8x768, .bf16⟩
  | .local _ .vmem, ⟨12, _⟩ => ⟨S1x8x768, .bf16⟩
  | _, _ => ⟨S8x4x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_cst_0 : Ref sig .tc := ⟨.hbm, 3, rfl⟩
abbrev main_c_1 : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_cst_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_6 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RopeRefIdeal.lean ====
abbrev S8x4x5376 : Shape := ⟨3, ![8, 4, 5376]⟩
abbrev S4 : Shape := ⟨1, ![4]⟩
abbrev S_ : Shape := ⟨0, ![]⟩
abbrev S8x4x768 : Shape := ⟨3, ![8, 4, 768]⟩
abbrev S8x4x6x2x64 : Shape := ⟨5, ![8, 4, 6, 2, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x1x8 : Shape := ⟨5, ![1, 4, 1, 1, 8]⟩
abbrev S8x4x6x2x16 : Shape := ⟨5, ![8, 4, 6, 2, 16]⟩
abbrev S8x4x6x2x8 : Shape := ⟨5, ![8, 4, 6, 2, 8]⟩
abbrev S8x4x6x2x48 : Shape := ⟨5, ![8, 4, 6, 2, 48]⟩
abbrev S8x8x768 : Shape := ⟨3, ![8, 8, 768]⟩

abbrev nBuf : Space → Nat
  | .hbm => 102
  | .vmem => 0
  | .smem => 0
  | _ => 0

abbrev bufTy : (tb : Table) → Fin (tcTables nBuf tb) → BufTy
  | .hbm, ⟨0, _⟩ => ⟨S8x4x5376, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S8x4x768, .f32⟩
  | .hbm, ⟨6, _⟩ => ⟨S8x4x768, .f32⟩
  | .hbm, ⟨7, _⟩ => ⟨S8x4x6x2x64, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S4, .f32⟩
  | .hbm, ⟨23, _⟩ => ⟨S4x1, .f32⟩
  | .hbm, ⟨24, _⟩ => ⟨S1x8, .f32⟩
  | .hbm, ⟨25, _⟩ => ⟨S4x8, .f32⟩
  | .hbm, ⟨26, _⟩ => ⟨S4x8, .f32⟩
  | .hbm, ⟨27, _⟩ => ⟨S4x8, .f32⟩
  | .hbm, ⟨28, _⟩ => ⟨S4x8, .f32⟩
  | .hbm, ⟨29, _⟩ => ⟨S1x4x1x1x8, .f32⟩
  | .hbm, ⟨30, _⟩ => ⟨S4x8, .f32⟩
  | .hbm, ⟨31, _⟩ => ⟨S1x4x1x1x8, .f32⟩
  | .hbm, ⟨32, _⟩ => ⟨S8x4x6x2x16, .f32⟩
  | .hbm, ⟨33, _⟩ => ⟨S8x4x6x2x8, .f32⟩
  | .hbm, ⟨34, _⟩ => ⟨S8x4x6x2x8, .f32⟩
  | .hbm, ⟨35, _⟩ => ⟨S8x4x6x2x8, .f32⟩
  | .hbm, ⟨36, _⟩ => ⟨S8x4x6x2x8, .f32⟩
  | .hbm, ⟨37, _⟩ => ⟨S8x4x6x2x8, .f32⟩
  | .hbm, ⟨38, _⟩ => ⟨S8x4x6x2x8, .f32⟩
  | .hbm, ⟨39, _⟩ => ⟨S8x4x6x2x8, .f32⟩
  | .hbm, ⟨40, _⟩ => ⟨S8x4x6x2x8, .f32⟩
  | .hbm, ⟨41, _⟩ => ⟨S8x4x6x2x8, .f32⟩
  | .hbm, ⟨42, _⟩ => ⟨S8x4x6x2x8, .f32⟩
  | .hbm, ⟨43, _⟩ => ⟨S8x4x6x2x8, .f32⟩
  | .hbm, ⟨44, _⟩ => ⟨S8x4x6x2x8, .f32⟩
  | .hbm, ⟨45, _⟩ => ⟨S8x4x6x2x16, .f32⟩
  | .hbm, ⟨46, _⟩ => ⟨S8x4x6x2x48, .f32⟩
  | .hbm, ⟨47, _⟩ => ⟨S8x4x6x2x64, .f32⟩
  | .hbm, ⟨48, _⟩ => ⟨S_, .f32⟩
  | .hbm, ⟨49, _⟩ => ⟨S8x4x6x2x64, .f32⟩
  | .hbm, ⟨50, _⟩ => ⟨S8x4x6x2x64, .f32⟩
  | .hbm, ⟨51, _⟩ => ⟨S8x4x6x2x64, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S4, .f32⟩
  | .hbm, ⟨67, _⟩ => ⟨S4x1, .f32⟩
  | .hbm, ⟨68, _⟩ => ⟨S1x8, .f32⟩
  | .hbm, ⟨69, _⟩ => ⟨S4x8, .f32⟩
  | .hbm, ⟨70, _⟩ => ⟨S4x8, .f32⟩
  | .hbm, ⟨71, _⟩ => ⟨S4x8, .f32⟩
  | .hbm, ⟨72, _⟩ => ⟨S4x8, .f32⟩
  | .hbm, ⟨73, _⟩ => ⟨S1x4x1x1x8, .f32⟩
  | .hbm, ⟨74, _⟩ => ⟨S4x8, .f32⟩
  | .hbm, ⟨75, _⟩ => ⟨S1x4x1x1x8, .f32⟩
  | .hbm, ⟨76, _⟩ => ⟨S8x4x6x2x16, .f32⟩
  | .hbm, ⟨77, _⟩ => ⟨S8x4x6x2x8, .f32⟩
  | .hbm, ⟨78, _⟩ => ⟨S8x4x6x2x8, .f32⟩
  | .hbm, ⟨79, _⟩ => ⟨S8x4x6x2x8, .f32⟩
  | .hbm, ⟨80, _⟩ => ⟨S8x4x6x2x8, .f32⟩
  | .hbm, ⟨81, _⟩ => ⟨S8x4x6x2x8, .f32⟩
  | .hbm, ⟨82, _⟩ => ⟨S8x4x6x2x8, .f32⟩
  | .hbm, ⟨83, _⟩ => ⟨S8x4x6x2x8, .f32⟩
  | .hbm, ⟨84, _⟩ => ⟨S8x4x6x2x8, .f32⟩
  | .hbm, ⟨85, _⟩ => ⟨S8x4x6x2x8, .f32⟩
  | .hbm, ⟨86, _⟩ => ⟨S8x4x6x2x8, .f32⟩
  | .hbm, ⟨87, _⟩ => ⟨S8x4x6x2x8, .f32⟩
  | .hbm, ⟨88, _⟩ => ⟨S8x4x6x2x8, .f32⟩
  | .hbm, ⟨89, _⟩ => ⟨S8x4x6x2x16, .f32⟩
  | .hbm, ⟨90, _⟩ => ⟨S8x4x6x2x48, .f32⟩
  | .hbm, ⟨91, _⟩ => ⟨S8x4x6x2x64, .f32⟩
  | .hbm, ⟨92, _⟩ => ⟨S8x4x768, .f32⟩
  | .hbm, ⟨93, _⟩ => ⟨S_, .i32⟩
  | .hbm, ⟨94, _⟩ => ⟨S_, .f32⟩
  | .hbm, ⟨95, _⟩ => ⟨S8x8x768, .f32⟩
  | .hbm, ⟨96, _⟩ => ⟨S8x4x768, .f32⟩
  | .hbm, ⟨97, _⟩ => ⟨S_, .i32⟩
  | .hbm, ⟨98, _⟩ => ⟨S_, .f32⟩
  | .hbm, ⟨99, _⟩ => ⟨S8x8x768, .f32⟩
  | .hbm, ⟨100, _⟩ => ⟨S8x8x768, .bf16⟩
  | .hbm, ⟨101, _⟩ => ⟨S8x8x768, .bf16⟩
  | _, _ => ⟨S8x4x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_4 : Ref sig .tc := ⟨.hbm, 53, rfl⟩
abbrev main_v46 : Ref sig .tc := ⟨.hbm, 54, rfl⟩
abbrev main_v47 : Ref sig .tc := ⟨.hbm, 55, rfl⟩
abbrev main_cst_5 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_cst_7 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_c_8 : Ref sig .tc := ⟨.hbm, 93, rfl⟩
abbrev main_call0_v0 : Ref sig .tc := ⟨.hbm, 94, rfl⟩
abbrev main_v82 : Ref sig .tc := ⟨.hbm, 95, rfl⟩
abbrev main_v83 : Ref sig .tc := ⟨.hbm, 96, rfl⟩
abbrev main_c_9 : Ref sig .tc := ⟨.hbm, 97, rfl⟩
abbrev main_call1_v0 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩

abbrev nD : Nat := 1
abbrev τ : Topo := Topo.v7x

variable {F : FTy → Type} [FloatOps F]
-- ==== Proof.UpCommon.lean ====
/- What the gated-convolution kernel's body computes on one tile, as plain functions of the tile's operands. -/
module
public import proofs.«01_k».proof.Proof.Gen.KernelIdeal.Value
public import Idealize.ShloMosaic.Lib.WritesUnit
public import Idealize.ShloMosaic.Lib.VecWindow
public import Idealize.ShloMosaic.Lib.WholeRead
public import Idealize.ShloMosaic.Lib.Pointwise
@[expose] public section
set_option maxRecDepth 16384
noncomputable section
namespace Cert.KernelIdeal.Up
open Cert.KernelIdeal Cert.KernelIdeal.Gen Idealize.ShloMosaic Idealize.ShloMosaic.TcCoe Idealize.SL.Sem

theorem ix2_of {a b : ℕ} (y : Shape.Idx ⟨2, ![a, b]⟩) (i : Fin a) (j : Fin b) (hi : (y 0).val = i.val) (hj : (y 1).val = j.val) :
    y = ix2 i j := by
  rw [eq_ix2 y, show y 0 = i from Fin.ext hi, show y 1 = j from Fin.ext hj]

theorem ix3_of {a b c : ℕ} (y : Shape.Idx ⟨3, ![a, b, c]⟩) (i : Fin a) (j : Fin b) (k : Fin c) (hi : (y 0).val = i.val)
    (hj : (y 1).val = j.val) (hk : (y 2).val = k.val) : y = ix3 i j k := by
  rw [eq_ix3 y, show y 0 = i from Fin.ext hi, show y 1 = j from Fin.ext hj, show y 2 = k from Fin.ext hk]

/-- Pieces that all agree with one function `G`, over contents that agree with it where no piece lies, read as `G`. -/
theorem read_writes_of_agree {sig : RefSig} {κ : Kind} {sp : Space} {s : Shape} {e : EltTy} {Val : EltTy → Type}
    (v : View sig κ sp s e) (f : v.ty.Contents Val) (G : s.Idx → Val e) :
    ∀ L : List (View.Piece Val s e), (∀ p ∈ L, ∀ x : p.1.shape.Idx, p.2 x = G (p.1.emb x)) →
      ∀ y : s.Idx, (v.read Val f y = G y ∨ ∃ p ∈ L, y ∈ p.1.set) → v.read Val (v.writes Val f L) y = G y
  | [], _, y, h => by
    rcases h with h | ⟨_, hm, _⟩
    · exact h
    · exact absurd hm List.not_mem_nil
  | p :: L, hG, y, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · have hy' : y ∉ Finset.univ.map p.1.emb := by rwa [Rect.map_emb_univ]
      rw [View.writes_cons, View.read_slice_write_of_not_mem p.1 _ _ _ hy']
      refine read_writes_of_agree v f G L (fun p' hp' => hG p' (List.mem_cons_of_mem _ hp')) y ?_
      rcases h with h | ⟨p', hm, hy''⟩
      · exact Or.inl h
      · rcases List.mem_cons.mp hm with rfl | hm
        · exact absurd hy'' hy
        · exact Or.inr ⟨p', hm, hy''⟩

/-- A product of a tile of `h` with a weight block at one row and column. -/
def dotT (x0 : Vec Ideal S1x1024x2048 .bf16) (W : Vec Ideal S2048x512 .bf16) (r : Fin 1024) (q : Fin 512) : EReal :=
  ∑ k : Fin 2048, x0 (ix3 0 r k) * W (ix2 k q)

/-- The scratch rows: the eight rows carried in, then the tile's gate rows. -/
def bufT (x0 : Vec Ideal S1x1024x2048 .bf16) (W : Vec Ideal S2048x512 .bf16) (base : Vec Ideal S1032x512 .f32) :
    Vec Ideal S1032x512 .f32 := fun y =>
  if h : (y 0).val < 8 then base y else dotT x0 W ⟨(y 0).val - 8, by have := (y 0).isLt; change (y 0).val < 1032 at this; omega⟩ (y 1)

/-- The gate rows' stores, the last one first. -/
def gateP (hs : Fin 4 → Vec Ideal S1x256x2048 .bf16) (gw : Fin 2 → Vec Ideal S2048x256 .bf16) :
    List (View.Piece (Elt Ideal) S1032x512 .f32) :=
  [⟨Rect.unit (s := S1032x512) ![776, 256] S256x256.size inb_S1032x512_S256x256_776_256, k0_pay51 (k0_pay30 (k0_pay29 (hs 3)) (gw 1))⟩,
   ⟨Rect.unit (s := S1032x512) ![776, 0] S256x256.size inb_S1032x512_S256x256_776_0, k0_pay48 (k0_pay27 (hs 3) (gw 0))⟩,
   ⟨Rect.unit (s := S1032x512) ![520, 256] S256x256.size inb_S1032x512_S256x256_520_256, k0_pay44 (k0_pay24 (hs 2) (gw 1))⟩,
   ⟨Rect.unit (s := S1032x512) ![520, 0] S256x256.size inb_S1032x512_S256x256_520_0, k0_pay41 (k0_pay21 (hs 2) (gw 0))⟩,
   ⟨Rect.unit (s := S1032x512) ![264, 256] S256x256.size inb_S1032x512_S256x256_264_256, k0_pay39 (k0_pay18 (k0_pay17 (hs 1)) (gw 1))⟩,
   ⟨Rect.unit (s := S1032x512) ![264, 0] S256x256.size inb_S1032x512_S256x256_264_0, k0_pay37 (k0_pay15 (hs 1) (gw 0))⟩,
   ⟨Rect.unit (s := S1032x512) ![8, 256] S256x256.size inb_S1032x512_S256x256_8_256, k0_pay35 (k0_pay12 (hs 0) (gw 1))⟩,
   ⟨Rect.unit (s := S1032x512) ![8, 0] S256x256.size inb_S1032x512_S256x256_8_0, k0_pay32 (k0_pay9 (hs 0) (gw 0))⟩]

/-- The first `n` gate stores over the stores `L` made before them. -/
def gateL (hs : Fin 4 → Vec Ideal S1x256x2048 .bf16) (gw : Fin 2 → Vec Ideal S2048x256 .bf16)
    (L : List (View.Piece (Elt Ideal) S1032x512 .f32)) (n : ℕ) : List (View.Piece (Elt Ideal) S1032x512 .f32) :=
  (gateP hs gw).drop (8 - n) ++ L

/-- The tile's rows in four blocks. -/
def IsRows (x0 : Vec Ideal S1x1024x2048 .bf16) (hs : Fin 4 → Vec Ideal S1x256x2048 .bf16) : Prop :=
  ∀ (r : Fin 4) (a : Fin 256) (k : Fin 2048), hs r (ix3 0 a k) = x0 (ix3 0 ⟨256 * r.val + a.val, by omega⟩ k)

/-- A weight block's columns in two halves. -/
def IsCols (W : Vec Ideal S2048x512 .bf16) (gw : Fin 2 → Vec Ideal S2048x256 .bf16) : Prop :=
  ∀ (g : Fin 2) (k : Fin 2048) (q : Fin 256), gw g (ix2 k q) = W (ix2 k ⟨256 * g.val + q.val, by omega⟩)

/-- A block of rows times half the columns is the product at the whole tile's row and column. -/
theorem dot_block {x0 W hs gw} (hh : IsRows x0 hs) (hg : IsCols W gw) (r : Fin 4) (g : Fin 2) (a q : Fin 256)
    (r' : Fin 1024) (q' : Fin 512) (hr : r'.val = 256 * r.val + a.val) (hq : q'.val = 256 * g.val + q.val) :
    (∑ k : Fin 2048, hs r (ix3 0 a k) * gw g (ix2 k q)) = dotT x0 W r' q' := by
  have e1 : r' = ⟨256 * r.val + a.val, by omega⟩ := Fin.ext hr
  have e2 : q' = ⟨256 * g.val + q.val, by omega⟩ := Fin.ext hq
  rw [e1, e2]
  exact Finset.sum_congr rfl fun k _ => by rw [hh, hg]

theorem bufT_hi (x0 W base) (y : S1032x512.Idx) (r : Fin 1024) (h : (y 0).val = r.val + 8) :
    bufT x0 W base y = dotT x0 W r (y 1) := by
  unfold bufT
  rw [dif_neg (by omega)]
  congr 1
  exact Fin.ext (by show (y 0).val - 8 = _; omega)

/-- A block of rows times half the columns is an entry of the scratch past its carried rows. -/
theorem gate_entry {x0 W hs gw} (base) (hh : IsRows x0 hs) (hg : IsCols W gw) (r : Fin 4) (g : Fin 2) (a q : Fin 256)
    (y : S1032x512.Idx) (hr : (y 0).val = 8 + 256 * r.val + a.val) (hq : (y 1).val = 256 * g.val + q.val) :
    (∑ k : Fin 2048, hs r (ix3 0 a k) * gw g (ix2 k q)) = bufT x0 W base y := by
  rw [bufT_hi _ _ _ _ ⟨256 * r.val + a.val, by omega⟩ (by dsimp; omega)]
  exact dot_block hh hg _ _ _ _ _ _ rfl hq

/-- Every gate store writes the product's rows. -/
theorem gateP_agree {x0 W hs gw} (base) (hh : IsRows x0 hs) (hg : IsCols W gw) :
    ∀ p ∈ gateP hs gw, ∀ x : p.1.shape.Idx, p.2 x = bufT x0 W base (p.1.emb x) := by
  unfold gateP
  simp only [List.forall_mem_cons, List.not_mem_nil, false_implies, implies_true, and_true]
  refine ⟨?_, ?_, ?_, ?_, ?_, ?_, ?_, ?_⟩ <;> intro (x : S256x256.Idx) <;> idx_vars x <;>
      unfold_payloads <;> pointwise <;> exact gate_entry base hh hg _ _ _ _ _ (by dsimp; omega) (by dsimp; omega)

/-- The first `n` gate stores cover whole blocks of rows, and half a block when `n` is odd. -/
theorem gateP_cover (hs gw) (n : Fin 9) (y : S1032x512.Idx) (h0 : 8 ≤ (y 0).val)
    (h1 : (y 0).val < 8 + 256 * (n.val / 2) ∨ (n.val % 2 = 1 ∧ (y 0).val < 264 + 256 * (n.val / 2) ∧ (y 1).val < 256)) :
    ∃ p ∈ (gateP hs gw).drop (8 - n.val), y ∈ p.1.set := by
  have hy0 : (y 0).val < 1032 := (y 0).isLt
  have hy1 : (y 1).val < 512 := (y 1).isLt
  unfold gateP
  obtain ⟨n, hn⟩ := n
  dsimp only at h1 ⊢
  interval_cases n
  · omega
  all_goals
    simp only [Nat.reduceSub, List.drop_succ_cons, List.drop_zero, List.mem_cons, exists_eq_or_imp, List.not_mem_nil, Rect.mem_set_unit, Fin.forall_fin_two]
    dsimp
    omega

/-- A load of the scratch after `n` gate stores reads the carried rows and the product's rows. -/
theorem gateL_load {x0 W hs gw} (base) (hh : IsRows x0 hs) (hg : IsCols W gw) (v : View sig .tc .vmem S1032x512 .f32)
    (f : v.ty.Contents (Elt Ideal)) (L) (hL : ∀ p ∈ L, ∀ x : p.1.shape.Idx, p.2 x = bufT x0 W base (p.1.emb x)) (n : Fin 9)
    (B : LoadRect S1032x512) (x : B.shape.Idx)
    (hlo : (B.idx x 0).val < 8 → v.read (Elt Ideal) f (B.idx x) = bufT x0 W base (B.idx x) ∨ ∃ p ∈ L, B.idx x ∈ p.1.set)
    (hhi : (B.idx x 0).val < 8 + 256 * (n.val / 2) ∨
      (n.val % 2 = 1 ∧ (B.idx x 0).val < 264 + 256 * (n.val / 2) ∧ (B.idx x 1).val < 256)) :
    v.readAt (Elt Ideal) B (v.writes (Elt Ideal) f (gateL hs gw L n.val)) x = bufT x0 W base (B.idx x) := by
  show v.read (Elt Ideal) _ (B.idx x) = _
  refine read_writes_of_agree v f _ _ ?_ _ ?_
  · intro p hp
    rcases List.mem_append.mp hp with hp | hp
    · exact gateP_agree base hh hg p (List.mem_of_mem_drop hp)
    · exact hL p hp
  · rcases Nat.lt_or_ge (B.idx x 0).val 8 with h | h
    · rcases hlo h with h | ⟨p, hp, h⟩
      · exact Or.inl h
      · exact Or.inr ⟨p, List.mem_append_right _ hp, h⟩
    · obtain ⟨p, hp, h⟩ := gateP_cover hs gw n _ h hhi
      exact Or.inr ⟨p, List.mem_append_left _ hp, h⟩

/-- The stores of the activations, the last one first. -/
def outP (hs : Fin 4 → Vec Ideal S1x256x2048 .bf16) (gw uw : Fin 2 → Vec Ideal S2048x256 .bf16)
    (cbs : Fin 2 → Vec Ideal S1x256 .f32) (ws : Fin 3 → Fin 2 → Vec Ideal S1x256 .f32)
    (g1 g0 : Fin 4 → Fin 2 → Vec Ideal S256x256 .f32) : List (View.Piece (Elt Ideal) S1x1024x512 .bf16) :=
  [⟨Rect.unit (s := S1x1024x512) ![0, 768, 256] S1x256x256.size inb_S1x1024x512_S1x256x256_0_768_256, k0_pay1 (k0_pay31 (k0_pay29 (hs 3)) (uw 1)) (k0_pay52 (k0_pay30 (k0_pay29 (hs 3)) (gw 1)) (cbs 1) (ws 2 1) (ws 1 1) (g1 3 1)) (ws 0 1) (g0 3 1)⟩,
   ⟨Rect.unit (s := S1x1024x512) ![0, 768, 0] S1x256x256.size inb_S1x1024x512_S1x256x256_0_768_0, k0_pay50 (k0_pay28 (hs 3) (uw 0)) (k0_pay49 (k0_pay27 (hs 3) (gw 0)) (cbs 0) (ws 2 0)) (ws 1 0) (g1 3 0) (ws 0 0) (g0 3 0)⟩,
   ⟨Rect.unit (s := S1x1024x512) ![0, 512, 256] S1x256x256.size inb_S1x1024x512_S1x256x256_0_512_256, k0_pay47 (k0_pay25 (hs 2) (uw 1)) (k0_pay45 (k0_pay24 (hs 2) (gw 1)) (ws 2 1)) (k0_pay46 (cbs 1)) (ws 1 1) (g1 2 1) (ws 0 1) (g0 2 1)⟩,
   ⟨Rect.unit (s := S1x1024x512) ![0, 512, 0] S1x256x256.size inb_S1x1024x512_S1x256x256_0_512_0, k0_pay43 (k0_pay21 (hs 2) (gw 0)) (k0_pay22 (hs 2) (uw 0)) (k0_pay42 (cbs 0)) (ws 2 0) (ws 1 0) (g1 2 0) (ws 0 0) (g0 2 0)⟩,
   ⟨Rect.unit (s := S1x1024x512) ![0, 256, 256] S1x256x256.size inb_S1x1024x512_S1x256x256_0_256_256, k0_pay40 (k0_pay18 (k0_pay17 (hs 1)) (gw 1)) (k0_pay19 (k0_pay17 (hs 1)) (uw 1)) (cbs 1) (ws 2 1) (ws 1 1) (g1 1 1) (ws 0 1) (g0 1 1)⟩,
   ⟨Rect.unit (s := S1x1024x512) ![0, 256, 0] S1x256x256.size inb_S1x1024x512_S1x256x256_0_256_0, k0_pay38 (k0_pay15 (hs 1) (gw 0)) (k0_pay16 (hs 1) (uw 0)) (cbs 0) (ws 2 0) (ws 1 0) (g1 1 0) (ws 0 0) (g0 1 0)⟩,
   ⟨Rect.unit (s := S1x1024x512) ![0, 0, 256] S1x256x256.size inb_S1x1024x512_S1x256x256_0_0_256, k0_pay36 (k0_pay12 (hs 0) (gw 1)) (k0_pay13 (hs 0) (uw 1)) (cbs 1) (ws 2 1) (ws 1 1) (g1 0 1) (ws 0 1) (g0 0 1)⟩,
   ⟨Rect.unit (s := S1x1024x512) ![0, 0, 0] S1x256x256.size inb_S1x1024x512_S1x256x256_0_0_0, k0_pay34 (k0_pay33 (k0_pay9 (hs 0) (gw 0)) (k0_pay10 (hs 0) (uw 0)) (cbs 0) (ws 2 0) (ws 1 0) (g1 0 0) (ws 0 0) (g0 0 0))⟩]

/-- The convolution of three gate rows and its gated activation. -/
def actv (b w2 w1 w0 a2 a1 a0 u : EReal) : EReal :=
  (b + w2 * a2 + w1 * a1 + w0 * a0) * Ideal.div 1 (1 + Ideal.exp (0 - (b + w2 * a2 + w1 * a1 + w0 * a0))) * u

/-- The tile's activations from its operands and the rows carried in. -/
def actT (x0 : Vec Ideal S1x1024x2048 .bf16) (Wg Wu : Vec Ideal S2048x512 .bf16) (base : Vec Ideal S1032x512 .f32)
    (cw : Vec Ideal S3x512 .f32) (cb : Vec Ideal S1x512 .f32) (r : Fin 1024) (q : Fin 512) : EReal :=
  actv (cb (ix2 0 q)) (cw (ix2 2 q)) (cw (ix2 1 q)) (cw (ix2 0 q)) (bufT x0 Wg base (ix2 ⟨8 + r.val, by omega⟩ q))
    (bufT x0 Wg base (ix2 ⟨7 + r.val, by omega⟩ q)) (bufT x0 Wg base (ix2 ⟨6 + r.val, by omega⟩ q)) (dotT x0 Wu r q)

/-- The row of weights or biases in two halves. -/
def IsBias (cb : Vec Ideal S1x512 .f32) (cbs : Fin 2 → Vec Ideal S1x256 .f32) : Prop :=
  ∀ (g : Fin 2) (q : Fin 256), cbs g (ix2 0 q) = cb (ix2 0 ⟨256 * g.val + q.val, by omega⟩)
/-- The three tap rows in two halves. -/
def IsTaps (cw : Vec Ideal S3x512 .f32) (ws : Fin 3 → Fin 2 → Vec Ideal S1x256 .f32) : Prop :=
  ∀ (j : Fin 3) (g : Fin 2) (q : Fin 256), ws j g (ix2 0 q) = cw (ix2 j ⟨256 * g.val + q.val, by omega⟩)
/-- Blocks of scratch rows from row `o`. -/
def IsBack (o : ℕ) (ho : o ≤ 8) (G : Vec Ideal S1032x512 .f32) (gs : Fin 4 → Fin 2 → Vec Ideal S256x256 .f32) : Prop :=
  ∀ (r : Fin 4) (g : Fin 2) (a q : Fin 256), gs r g (ix2 a q) = G (ix2 ⟨o + 256 * r.val + a.val, by omega⟩ ⟨256 * g.val + q.val, by omega⟩)

/-- One block's activations are the tile's. -/
theorem out_entry {x0 Wg Wu base cw cb hs gw uw cbs ws g1 g0} (hh : IsRows x0 hs) (hg : IsCols Wg gw) (hu : IsCols Wu uw)
    (hb : IsBias cb cbs) (hw : IsTaps cw ws) (h1 : IsBack 7 (by omega) (bufT x0 Wg base) g1) (h0 : IsBack 6 (by omega) (bufT x0 Wg base) g0)
    (r : Fin 4) (g : Fin 2) (a q : Fin 256) (y : S1x1024x512.Idx) (hr : (y 1).val = 256 * r.val + a.val)
    (hq : (y 2).val = 256 * g.val + q.val) :
    actv (cbs g (ix2 0 q)) (ws 2 g (ix2 0 q)) (ws 1 g (ix2 0 q)) (ws 0 g (ix2 0 q))
      (∑ k : Fin 2048, hs r (ix3 0 a k) * gw g (ix2 k q)) (g1 r g (ix2 a q)) (g0 r g (ix2 a q))
      (∑ k : Fin 2048, hs r (ix3 0 a k) * uw g (ix2 k q)) = actT x0 Wg Wu base cw cb (y 1) (y 2) := by
  have e1 : (y 1 : Fin 1024) = ⟨256 * r.val + a.val, by omega⟩ := Fin.ext hr
  have e2 : (y 2 : Fin 512) = ⟨256 * g.val + q.val, by omega⟩ := Fin.ext hq
  unfold actT
  rw [e1, e2, hb, hw, hw, hw, h1, h0, dot_block hh hu r g a q ⟨256 * r.val + a.val, by omega⟩ ⟨256 * g.val + q.val, by omega⟩ rfl rfl,
    gate_entry base hh hg r g a q (ix2 ⟨8 + (256 * r.val + a.val), by omega⟩ ⟨256 * g.val + q.val, by omega⟩) (by dsimp; omega) rfl]
  congr 3 <;> exact Fin.ext (by dsimp; omega)

/-- Every store of the activations writes the tile's. -/
theorem outP_agree {x0 Wg Wu base cw cb hs gw uw cbs ws g1 g0} (hh : IsRows x0 hs) (hg : IsCols Wg gw) (hu : IsCols Wu uw)
    (hb : IsBias cb cbs) (hw : IsTaps cw ws) (h1 : IsBack 7 (by omega) (bufT x0 Wg base) g1) (h0 : IsBack 6 (by omega) (bufT x0 Wg base) g0) :
    ∀ p ∈ outP hs gw uw cbs ws g1 g0, ∀ x : p.1.shape.Idx,
      p.2 x = actT x0 Wg Wu base cw cb (p.1.emb x 1) (p.1.emb x 2) := by
  unfold outP
  simp only [List.forall_mem_cons, List.not_mem_nil, false_implies, implies_true, and_true]
  refine ⟨?_, ?_, ?_, ?_, ?_, ?_, ?_, ?_⟩ <;> intro (x : S1x256x256.Idx) <;> idx_vars x <;>
      unfold_payloads <;> pointwise <;>
      exact out_entry hh hg hu hb hw h1 h0 _ _ _ _ _ (by dsimp; omega) (by dsimp; omega)

end Cert.KernelIdeal.Up
-- ==== Proof.UpCase.lean ====
/- What the gated-convolution kernel's body loads and leaves, case by case, as the tile's plain functions. -/
module
public import proofs.«01_k».proof.Proof.UpCommon
@[expose] public section
set_option maxRecDepth 16384
noncomputable section
namespace Cert.KernelIdeal.Up
open Cert.KernelIdeal Cert.KernelIdeal.Gen Idealize.ShloMosaic Idealize.ShloMosaic.TcCoe Idealize.SL.Sem

/-- The four row blocks the body loads from the tile. -/
def ldH (v : View sig .tc .vmem S1x1024x2048 .bf16) (f : v.ty.Contents (Elt Ideal)) : Fin 4 → Vec Ideal S1x256x2048 .bf16 :=
  ![(v.readAt (Elt Ideal) (Rect.unit (s := S1x1024x2048) ![0, 0, 0] S1x256x2048.size inb_S1x1024x2048_S1x256x2048_0_0_0).toLoadRect f),
    (v.readAt (Elt Ideal) (Rect.unit (s := S1x1024x2048) ![0, 256, 0] S1x256x2048.size inb_S1x1024x2048_S1x256x2048_0_256_0).toLoadRect f),
    (v.readAt (Elt Ideal) (Rect.unit (s := S1x1024x2048) ![0, 512, 0] S1x256x2048.size inb_S1x1024x2048_S1x256x2048_0_512_0).toLoadRect f),
    (v.readAt (Elt Ideal) (Rect.unit (s := S1x1024x2048) ![0, 768, 0] S1x256x2048.size inb_S1x1024x2048_S1x256x2048_0_768_0).toLoadRect f)]

/-- The two column halves the body loads from a weight block. -/
def ldW (v : View sig .tc .vmem S2048x512 .bf16) (f : v.ty.Contents (Elt Ideal)) : Fin 2 → Vec Ideal S2048x256 .bf16 :=
  ![(v.readAt (Elt Ideal) (Rect.unit (s := S2048x512) ![0, 0] S2048x256.size inb_S2048x512_S2048x256_0_0).toLoadRect f),
    (v.readAt (Elt Ideal) (Rect.unit (s := S2048x512) ![0, 256] S2048x256.size inb_S2048x512_S2048x256_0_256).toLoadRect f)]

/-- The two halves of the bias row. -/
def ldC (v : View sig .tc .vmem S1x512 .f32) (f : v.ty.Contents (Elt Ideal)) : Fin 2 → Vec Ideal S1x256 .f32 :=
  ![(v.readAt (Elt Ideal) (Rect.unit (s := S1x512) ![0, 0] S1x256.size inb_S1x512_S1x256_0_0).toLoadRect f),
    (v.readAt (Elt Ideal) (Rect.unit (s := S1x512) ![0, 256] S1x256.size inb_S1x512_S1x256_0_256).toLoadRect f)]

/-- The two halves of each tap row. -/
def ldT (v : View sig .tc .vmem S3x512 .f32) (f : v.ty.Contents (Elt Ideal)) : Fin 3 → Fin 2 → Vec Ideal S1x256 .f32 :=
  ![![(v.readAt (Elt Ideal) (Rect.unit (s := S3x512) ![0, 0] S1x256.size inb_S3x512_S1x256_0_0).toLoadRect f), (v.readAt (Elt Ideal) (Rect.unit (s := S3x512) ![0, 256] S1x256.size inb_S3x512_S1x256_0_256).toLoadRect f)],
    ![(v.readAt (Elt Ideal) (Rect.unit (s := S3x512) ![1, 0] S1x256.size inb_S3x512_S1x256_1_0).toLoadRect f), (v.readAt (Elt Ideal) (Rect.unit (s := S3x512) ![1, 256] S1x256.size inb_S3x512_S1x256_1_256).toLoadRect f)],
    ![(v.readAt (Elt Ideal) (Rect.unit (s := S3x512) ![2, 0] S1x256.size inb_S3x512_S1x256_2_0).toLoadRect f), (v.readAt (Elt Ideal) (Rect.unit (s := S3x512) ![2, 256] S1x256.size inb_S3x512_S1x256_2_256).toLoadRect f)]]

/-- The blocks of scratch rows one row back, each over the contents its load meets. -/
def ldB1 (v : View sig .tc .vmem S1032x512 .f32) (f : Fin 4 → Fin 2 → v.ty.Contents (Elt Ideal)) : Fin 4 → Fin 2 → Vec Ideal S256x256 .f32 :=
  ![![(v.readAt (Elt Ideal) (Rect.unit (s := S1032x512) ![7, 0] S256x256.size inb_S1032x512_S256x256_7_0).toLoadRect (f 0 0)), (v.readAt (Elt Ideal) (Rect.unit (s := S1032x512) ![7, 256] S256x256.size inb_S1032x512_S256x256_7_256).toLoadRect (f 0 1))],
    ![(v.readAt (Elt Ideal) (Rect.unit (s := S1032x512) ![263, 0] S256x256.size inb_S1032x512_S256x256_263_0).toLoadRect (f 1 0)), (v.readAt (Elt Ideal) (Rect.unit (s := S1032x512) ![263, 256] S256x256.size inb_S1032x512_S256x256_263_256).toLoadRect (f 1 1))],
    ![(v.readAt (Elt Ideal) (Rect.unit (s := S1032x512) ![519, 0] S256x256.size inb_S1032x512_S256x256_519_0).toLoadRect (f 2 0)), (v.readAt (Elt Ideal) (Rect.unit (s := S1032x512) ![519, 256] S256x256.size inb_S1032x512_S256x256_519_256).toLoadRect (f 2 1))],
    ![(v.readAt (Elt Ideal) (Rect.unit (s := S1032x512) ![775, 0] S256x256.size inb_S1032x512_S256x256_775_0).toLoadRect (f 3 0)), (v.readAt (Elt Ideal) (Rect.unit (s := S1032x512) ![775, 256] S256x256.size inb_S1032x512_S256x256_775_256).toLoadRect (f 3 1))]]

/-- The blocks of scratch rows two rows back, each over the contents its load meets. -/
def ldB0 (v : View sig .tc .vmem S1032x512 .f32) (f : Fin 4 → Fin 2 → v.ty.Contents (Elt Ideal)) : Fin 4 → Fin 2 → Vec Ideal S256x256 .f32 :=
  ![![(v.readAt (Elt Ideal) (Rect.unit (s := S1032x512) ![6, 0] S256x256.size inb_S1032x512_S256x256_6_0).toLoadRect (f 0 0)), (v.readAt (Elt Ideal) (Rect.unit (s := S1032x512) ![6, 256] S256x256.size inb_S1032x512_S256x256_6_256).toLoadRect (f 0 1))],
    ![(v.readAt (Elt Ideal) (Rect.unit (s := S1032x512) ![262, 0] S256x256.size inb_S1032x512_S256x256_262_0).toLoadRect (f 1 0)), (v.readAt (Elt Ideal) (Rect.unit (s := S1032x512) ![262, 256] S256x256.size inb_S1032x512_S256x256_262_256).toLoadRect (f 1 1))],
    ![(v.readAt (Elt Ideal) (Rect.unit (s := S1032x512) ![518, 0] S256x256.size inb_S1032x512_S256x256_518_0).toLoadRect (f 2 0)), (v.readAt (Elt Ideal) (Rect.unit (s := S1032x512) ![518, 256] S256x256.size inb_S1032x512_S256x256_518_256).toLoadRect (f 2 1))],
    ![(v.readAt (Elt Ideal) (Rect.unit (s := S1032x512) ![774, 0] S256x256.size inb_S1032x512_S256x256_774_0).toLoadRect (f 3 0)), (v.readAt (Elt Ideal) (Rect.unit (s := S1032x512) ![774, 256] S256x256.size inb_S1032x512_S256x256_774_256).toLoadRect (f 3 1))]]

theorem isRows_ldH {v : View sig .tc .vmem S1x1024x2048 .bf16} {f : v.ty.Contents (Elt Ideal)} {x0 : Vec Ideal S1x1024x2048 .bf16}
    (h : v.read (Elt Ideal) f = x0) : IsRows x0 (ldH v f) := by
  subst h
  intro r a k
  fin_cases r <;> exact congrArg (v.read (Elt Ideal) f) (ix3_of _ _ _ _ (by dsimp <;> omega) (by dsimp <;> omega) (by dsimp <;> omega))

theorem isCols_ldW {v : View sig .tc .vmem S2048x512 .bf16} {f : v.ty.Contents (Elt Ideal)} {W : Vec Ideal S2048x512 .bf16}
    (h : v.read (Elt Ideal) f = W) : IsCols W (ldW v f) := by
  subst h
  intro g k q
  fin_cases g <;> exact congrArg (v.read (Elt Ideal) f) (ix2_of _ _ _ (by dsimp <;> omega) (by dsimp <;> omega))

theorem isBias_ldC {v : View sig .tc .vmem S1x512 .f32} {f : v.ty.Contents (Elt Ideal)} {W : Vec Ideal S1x512 .f32}
    (h : v.read (Elt Ideal) f = W) : IsBias W (ldC v f) := by
  subst h
  intro g q
  fin_cases g <;> exact congrArg (v.read (Elt Ideal) f) (ix2_of _ _ _ (by dsimp <;> omega) (by dsimp <;> omega))

theorem isTaps_ldT {v : View sig .tc .vmem S3x512 .f32} {f : v.ty.Contents (Elt Ideal)} {W : Vec Ideal S3x512 .f32}
    (h : v.read (Elt Ideal) f = W) : IsTaps W (ldT v f) := by
  subst h
  intro j g q
  fin_cases j <;> fin_cases g <;> exact congrArg (v.read (Elt Ideal) f) (ix2_of _ _ _ (by dsimp <;> omega) (by dsimp <;> omega))

section
variable {x0 : Vec Ideal S1x1024x2048 .bf16} {W : Vec Ideal S2048x512 .bf16} {base : Vec Ideal S1032x512 .f32}
  {hs : Fin 4 → Vec Ideal S1x256x2048 .bf16} {gw : Fin 2 → Vec Ideal S2048x256 .bf16} {v : View sig .tc .vmem S1032x512 .f32}
  {L : List (View.Piece (Elt Ideal) S1032x512 .f32)}
/-- The contents the loads of the scratch meet: `2 r + g + 1` gate stores over `f r`. -/
def met (v : View sig .tc .vmem S1032x512 .f32) (hs : Fin 4 → Vec Ideal S1x256x2048 .bf16) (gw : Fin 2 → Vec Ideal S2048x256 .bf16)
    (L : List (View.Piece (Elt Ideal) S1032x512 .f32)) (f : Fin 4 → v.ty.Contents (Elt Ideal)) (r : Fin 4) (g : Fin 2) :
    v.ty.Contents (Elt Ideal) := v.writes (Elt Ideal) (f r) (gateL hs gw L (2 * r.val + g.val + 1))

/-- The carried rows: what the contents or the stores before the gate's hold below row eight. -/
def Carried (v : View sig .tc .vmem S1032x512 .f32) (L : List (View.Piece (Elt Ideal) S1032x512 .f32)) (base : Vec Ideal S1032x512 .f32)
    (f : v.ty.Contents (Elt Ideal)) : Prop :=
  ∀ y : S1032x512.Idx, (y 0).val < 8 → v.read (Elt Ideal) f y = base y ∨ ∃ p ∈ L, y ∈ p.1.set

theorem bufT_lo (x0 W base) (y : S1032x512.Idx) (h : (y 0).val < 8) : bufT x0 W base y = base y := dif_pos h

theorem isBack_ldB1 (hh : IsRows x0 hs) (hg : IsCols W gw) (f : Fin 4 → v.ty.Contents (Elt Ideal))
    (hL : ∀ p ∈ L, ∀ x : p.1.shape.Idx, p.2 x = bufT x0 W base (p.1.emb x)) (hf : Carried v L base (f 0)) :
    IsBack 7 (by omega) (bufT x0 W base) (ldB1 v (met v hs gw L f)) := by
  intro r g a q
  have hn : 2 * r.val + g.val + 1 < 9 := by omega
  have key := fun (B : LoadRect S1032x512) (x : B.shape.Idx) h1 h2 =>
    gateL_load base hh hg v (f r) L hL ⟨2 * r.val + g.val + 1, hn⟩ B x h1 h2
  fin_cases r <;> fin_cases g <;>
    refine (key _ _ ?_ ?_).trans (congrArg (bufT x0 W base) (ix2_of _ _ _ (by dsimp <;> omega) (by dsimp <;> omega)))
  all_goals first | (dsimp; omega) | (intro h; exact (bufT_lo x0 W base _ h).symm ▸ hf _ h) | (intro h; dsimp at h; omega)

theorem isBack_ldB0 (hh : IsRows x0 hs) (hg : IsCols W gw) (f : Fin 4 → v.ty.Contents (Elt Ideal))
    (hL : ∀ p ∈ L, ∀ x : p.1.shape.Idx, p.2 x = bufT x0 W base (p.1.emb x)) (hf : Carried v L base (f 0)) :
    IsBack 6 (by omega) (bufT x0 W base) (ldB0 v (met v hs gw L f)) := by
  intro r g a q
  have hn : 2 * r.val + g.val + 1 < 9 := by omega
  have key := fun (B : LoadRect S1032x512) (x : B.shape.Idx) h1 h2 =>
    gateL_load base hh hg v (f r) L hL ⟨2 * r.val + g.val + 1, hn⟩ B x h1 h2
  fin_cases r <;> fin_cases g <;>
    refine (key _ _ ?_ ?_).trans (congrArg (bufT x0 W base) (ix2_of _ _ _ (by dsimp <;> omega) (by dsimp <;> omega)))
  all_goals first | (dsimp; omega) | (intro h; exact (bufT_lo x0 W base _ h).symm ▸ hf _ h) | (intro h; dsimp at h; omega)

end

/-- The stores that copy the two weight blocks into the scratch. -/
def copyG (v : View sig .tc .vmem S1x2048x512 .f32) (f : v.ty.Contents (Elt Ideal)) : List (View.Piece (Elt Ideal) S2048x512 .bf16) :=
  [⟨Rect.unit (s := S2048x512) ![0, 0] S2048x512.size inb_S2048x512_S2048x512_0_0,
    k0_pay4 (v.readAt (Elt Ideal) (Rect.unit (s := S1x2048x512) ![0, 0, 0] S1x2048x512.size inb_S1x2048x512_S1x2048x512_0_0_0).toLoadRect f)⟩]
def copyU (v : View sig .tc .vmem S1x2048x512 .f32) (f : v.ty.Contents (Elt Ideal)) : List (View.Piece (Elt Ideal) S2048x512 .bf16) :=
  [⟨Rect.unit (s := S2048x512) ![0, 0] S2048x512.size inb_S2048x512_S2048x512_0_0,
    k0_pay5 (v.readAt (Elt Ideal) (Rect.unit (s := S1x2048x512) ![0, 0, 0] S1x2048x512.size inb_S1x2048x512_S1x2048x512_0_0_0).toLoadRect f)⟩]

/-- The stores that begin a sequence's carried rows: the two rows before it, and zeros above. -/
def initL (v : View sig .tc .vmem S1x2x512 .f32) (f : v.ty.Contents (Elt Ideal)) : List (View.Piece (Elt Ideal) S1032x512 .f32) :=
  [⟨Rect.unit (s := S1032x512) ![6, 0] S2x512.size inb_S1032x512_S2x512_6_0,
    k0_pay7 (v.readAt (Elt Ideal) (Rect.unit (s := S1x2x512) ![0, 0, 0] S1x2x512.size inb_S1x2x512_S1x2x512_0_0_0).toLoadRect f)⟩,
   ⟨Rect.unit (s := S1032x512) ![0, 0] S6x512.size inb_S1032x512_S6x512_0_0, k0_pay6 (F := Ideal)⟩]

/-- A weight window's block as a matrix. -/
def flatW (x : Vec Ideal S1x2048x512 .f32) : Vec Ideal S2048x512 .bf16 := fun y => x (ix3 0 (y 0) (y 1))

/-- The rows a sequence begins with: the two rows before it in rows six and seven. -/
def first (x5 : Vec Ideal S1x2x512 .f32) : Vec Ideal S1032x512 .f32 := fun y =>
  if h : 6 ≤ (y 0).val ∧ (y 0).val < 8 then x5 (ix3 0 ⟨(y 0).val - 6, by omega⟩ (y 1)) else 0

theorem read_copyG (v : View sig .tc .vmem S2048x512 .bf16) (f : v.ty.Contents (Elt Ideal)) (v4 : View sig .tc .vmem S1x2048x512 .f32)
    (f4 : v4.ty.Contents (Elt Ideal)) (x : Vec Ideal S1x2048x512 .f32) (h : v4.read (Elt Ideal) f4 = x) :
    v.read (Elt Ideal) (v.writes (Elt Ideal) f (copyG v4 f4)) = flatW x := by
  subst h
  funext y
  refine read_writes_of_agree v f _ _ ?_ y (Or.inr ⟨_, List.mem_cons_self, ?_⟩)
  · unfold copyG
    simp only [List.forall_mem_cons, List.not_mem_nil, false_implies, implies_true, and_true]
    intro (x : S2048x512.Idx)
    idx_vars x
    unfold_payloads
    pointwise
    exact congrArg (v4.read (Elt Ideal) f4) (ix3_of _ _ _ _ (by dsimp <;> omega) (by dsimp <;> omega) (by dsimp <;> omega))
  · have h0 : (y 0).val < 2048 := (y 0).isLt
    have h1 : (y 1).val < 512 := (y 1).isLt
    simp only [Rect.mem_set_unit, Fin.forall_fin_two]
    dsimp; omega

theorem read_copyU (v : View sig .tc .vmem S2048x512 .bf16) (f : v.ty.Contents (Elt Ideal)) (v4 : View sig .tc .vmem S1x2048x512 .f32)
    (f4 : v4.ty.Contents (Elt Ideal)) (x : Vec Ideal S1x2048x512 .f32) (h : v4.read (Elt Ideal) f4 = x) :
    v.read (Elt Ideal) (v.writes (Elt Ideal) f (copyU v4 f4)) = flatW x :=
  read_copyG v f v4 f4 x h

theorem initL_agree (x0 : Vec Ideal S1x1024x2048 .bf16) (W : Vec Ideal S2048x512 .bf16) (v : View sig .tc .vmem S1x2x512 .f32)
    (f : v.ty.Contents (Elt Ideal)) (x5 : Vec Ideal S1x2x512 .f32) (h : v.read (Elt Ideal) f = x5) :
    ∀ p ∈ initL v f, ∀ x : p.1.shape.Idx, p.2 x = bufT x0 W (first x5) (p.1.emb x) := by
  subst h
  unfold initL
  simp only [List.forall_mem_cons, List.not_mem_nil, false_implies, implies_true, and_true]
  constructor
  · intro (x : S2x512.Idx)
    idx_vars x
    rw [bufT_lo _ _ _ _ (by dsimp; omega)]
    unfold first
    rw [dif_pos (by dsimp; omega)]
    unfold_payloads
    pointwise
    exact congrArg (v.read (Elt Ideal) f) (ix3_of _ _ _ _ (by dsimp <;> omega) (by dsimp <;> omega) (by dsimp <;> omega))
  · intro (x : S6x512.Idx)
    idx_vars x
    rw [bufT_lo _ _ _ _ (by dsimp; omega)]
    unfold first
    rw [dif_neg (by dsimp; omega)]
    unfold_payloads
    pointwise

theorem initL_carried (v : View sig .tc .vmem S1032x512 .f32) (g : v.ty.Contents (Elt Ideal)) (base : Vec Ideal S1032x512 .f32)
    (v8 : View sig .tc .vmem S1x2x512 .f32) (f : v8.ty.Contents (Elt Ideal)) : Carried v (initL v8 f) base g := by
  intro y h
  have h1 : (y 1).val < 512 := (y 1).isLt
  right
  unfold initL
  simp only [List.mem_cons, exists_eq_or_imp, List.not_mem_nil, Rect.mem_set_unit, Fin.forall_fin_two]
  dsimp
  omega

/-- The last eight scratch rows after all the gate stores are the tile's last eight rows. -/
theorem tail_load {x0 : Vec Ideal S1x1024x2048 .bf16} {W : Vec Ideal S2048x512 .bf16} {base : Vec Ideal S1032x512 .f32}
    {hs : Fin 4 → Vec Ideal S1x256x2048 .bf16} {gw : Fin 2 → Vec Ideal S2048x256 .bf16} {v : View sig .tc .vmem S1032x512 .f32}
    {L : List (View.Piece (Elt Ideal) S1032x512 .f32)} (hh : IsRows x0 hs) (hg : IsCols W gw)
    (hL : ∀ p ∈ L, ∀ x : p.1.shape.Idx, p.2 x = bufT x0 W base (p.1.emb x)) (f : v.ty.Contents (Elt Ideal)) (a : Fin 8) (q : Fin 512) :
    v.readAt (Elt Ideal) (Rect.unit (s := S1032x512) ![1024, 0] S8x512.size inb_S1032x512_S8x512_1024_0).toLoadRect
      (v.writes (Elt Ideal) f (gateL hs gw L 8)) (ix2 a q) = dotT x0 W ⟨1016 + a.val, by omega⟩ q := by
  refine (gateL_load base hh hg v f L hL 8 _ _ (fun h => ?_) (Or.inl ?_)).trans ?_
  · dsimp at h; omega
  · dsimp; omega
  · rw [bufT_hi _ _ _ _ ⟨1016 + a.val, by omega⟩ (by dsimp; omega)]
    exact congrArg (dotT x0 W _) (Fin.ext (by dsimp <;> omega))

/-- The rows kept for the next tile sit in the scratch's first eight rows. -/
theorem read_keep (v : View sig .tc .vmem S1032x512 .f32) (f : v.ty.Contents (Elt Ideal)) (w : Vec Ideal S8x512 .f32)
    (L : List (View.Piece (Elt Ideal) S1032x512 .f32)) (a : Fin 8) (q : Fin 512) :
    v.read (Elt Ideal) (v.writes (Elt Ideal) f (⟨Rect.unit (s := S1032x512) ![0, 0] S8x512.size inb_S1032x512_S8x512_0_0, w⟩ :: L))
      (ix2 ⟨a.val, by omega⟩ q) = w (ix2 a q) := by
  rw [← ix2_of ((Rect.unit (s := S1032x512) ![0, 0] S8x512.size inb_S1032x512_S8x512_0_0).emb (ix2 a q)) ⟨a.val, by omega⟩ q
    (by dsimp <;> omega) (by dsimp <;> omega)]
  exact View.read_writes_cons_emb ..

end Cert.KernelIdeal.Up
-- ==== Proof.UpCases.lean ====
/- What the gated-convolution kernel's body leaves at a tile, in its three cases. -/
module
public import proofs.«01_k».proof.Proof.UpCase
@[expose] public section
set_option maxRecDepth 16384
noncomputable section
namespace Cert.KernelIdeal.Up
open Cert.KernelIdeal Cert.KernelIdeal.Gen Idealize.ShloMosaic Idealize.ShloMosaic.TcCoe Idealize.SL.Sem

section CaseA
/-! A tile that begins a block of columns: the weights are copied first. -/
variable (c : Dev nD) (i : grid0.Coords)
  (arg3 : Memref sig .tc .vmem S1x1024x2048 .bf16) (harg3 : arg3.IsWhole)
  (arg4 : Memref sig .tc .vmem S1x2048x512 .f32) (harg4 : arg4.IsWhole)
  (arg5 : Memref sig .tc .vmem S1x2048x512 .f32) (harg5 : arg5.IsWhole)
  (arg6 : Memref sig .tc .vmem S3x512 .f32) (harg6 : arg6.IsWhole)
  (arg7 : Memref sig .tc .vmem S1x512 .f32) (harg7 : arg7.IsWhole)
  (arg8 : Memref sig .tc .vmem S1x2x512 .f32) (harg8 : arg8.IsWhole)
  (arg9 : Memref sig .tc .vmem S1x1024x512 .bf16) (harg9 : arg9.IsWhole)
  (arg10 : Memref sig .tc .vmem S1x2x512 .f32) (harg10 : arg10.IsWhole)
  (arg11 : Memref sig .tc .vmem S2048x512 .bf16) (harg11 : arg11.IsWhole)
  (arg12 : Memref sig .tc .vmem S2048x512 .bf16) (harg12 : arg12.IsWhole)
  (arg13 : Memref sig .tc .vmem S1032x512 .f32) (harg13 : arg13.IsWhole) (hc0 : cond0_0 i) (hc1 : cond0_1 i)
  (x0 : Vec Ideal S1x1024x2048 .bf16) (x1 x2 : Vec Ideal S1x2048x512 .f32) (x3 : Vec Ideal S3x512 .f32) (x4 : Vec Ideal S1x512 .f32)
  (x5 : Vec Ideal S1x2x512 .f32)

theorem pieces6_A : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).1
    = outP (ldH arg3.view (harg3.unread x0)) (ldW arg11.view (arg11.view.writes (Elt Ideal) arg11.view.junk (copyG arg4.view (harg4.unread x1)))) (ldW arg12.view (arg12.view.writes (Elt Ideal) arg12.view.junk (copyU arg5.view (harg5.unread x2))))
      (ldC arg7.view (harg7.unread x4)) (ldT arg6.view (harg6.unread x3))
      (ldB1 arg13.view (met arg13.view (ldH arg3.view (harg3.unread x0)) (ldW arg11.view (arg11.view.writes (Elt Ideal) arg11.view.junk (copyG arg4.view (harg4.unread x1)))) (initL arg8.view (harg8.unread x5)) (fun _ => arg13.view.junk)))
      (ldB0 arg13.view (met arg13.view (ldH arg3.view (harg3.unread x0)) (ldW arg11.view (arg11.view.writes (Elt Ideal) arg11.view.junk (copyG arg4.view (harg4.unread x1)))) (initL arg8.view (harg8.unread x5)) (fun _ => arg13.view.junk))) := by
  sl_kernel_rfl

theorem pieces7_A : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.1
    = [⟨Rect.unit (s := S1x2x512) ![0, 0, 0] S1x2x512.size inb_S1x2x512_S1x2x512_0_0_0, k0_pay2 (arg13.view.readAt (Elt Ideal) (Rect.unit (s := S1032x512) ![1024, 0] S8x512.size inb_S1032x512_S8x512_1024_0).toLoadRect (arg13.view.writes (Elt Ideal) arg13.view.junk (gateL (ldH arg3.view (harg3.unread x0)) (ldW arg11.view (arg11.view.writes (Elt Ideal) arg11.view.junk (copyG arg4.view (harg4.unread x1)))) (initL arg8.view (harg8.unread x5)) 8)))⟩] := by
  sl_kernel_rfl

theorem pieces2_A : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.2.2.2.1
    = ⟨Rect.unit (s := S1032x512) ![0, 0] S8x512.size inb_S1032x512_S8x512_0_0, k0_pay3 (arg13.view.readAt (Elt Ideal) (Rect.unit (s := S1032x512) ![1024, 0] S8x512.size inb_S1032x512_S8x512_1024_0).toLoadRect (arg13.view.writes (Elt Ideal) arg13.view.junk (gateL (ldH arg3.view (harg3.unread x0)) (ldW arg11.view (arg11.view.writes (Elt Ideal) arg11.view.junk (copyG arg4.view (harg4.unread x1)))) (initL arg8.view (harg8.unread x5)) 8)))⟩ :: gateL (ldH arg3.view (harg3.unread x0)) (ldW arg11.view (arg11.view.writes (Elt Ideal) arg11.view.junk (copyG arg4.view (harg4.unread x1)))) (initL arg8.view (harg8.unread x5)) 8 := by
  sl_kernel_rfl

theorem out6_A (y : S1x1024x512.Idx) : out0_A_6 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 y
    = actT x0 (flatW x1) (flatW x2) (first x5) x3 x4 (y 1) (y 2) := by
  have hh := isRows_ldH (harg3.read_unread x0)
  have hg := isCols_ldW (v := arg11.view) (f := (arg11.view.writes (Elt Ideal) arg11.view.junk (copyG arg4.view (harg4.unread x1)))) (read_copyG _ _ _ _ _ (harg4.read_unread x1))
  have hu := isCols_ldW (v := arg12.view) (f := (arg12.view.writes (Elt Ideal) arg12.view.junk (copyU arg5.view (harg5.unread x2)))) (read_copyU _ _ _ _ _ (harg5.read_unread x2))
  refine read_writes_of_agree VO0_6 _ (fun y => actT x0 (flatW x1) (flatW x2) (first x5) x3 x4 (y 1) (y 2)) _ ?_ y
    (Or.inr (cover0_A_6 c i arg3 harg3 arg4 harg4 arg5 harg5 arg6 harg6 arg7 harg7 arg8 harg8 arg9 harg9 arg10 harg10 arg11 harg11 arg12 harg12 arg13 harg13 hc0 hc1 x0 x1 x2 x3 x4 x5 y))
  rw [pieces6_A]
  exact outP_agree hh hg hu (isBias_ldC (harg7.read_unread x4)) (isTaps_ldT (harg6.read_unread x3))
    (isBack_ldB1 hh hg _ (initL_agree x0 (flatW x1) _ _ x5 (harg8.read_unread x5)) (initL_carried _ _ _ _ _)) (isBack_ldB0 hh hg _ (initL_agree x0 (flatW x1) _ _ x5 (harg8.read_unread x5)) (initL_carried _ _ _ _ _))

theorem out7_A (a : Fin 2) (q : Fin 512) : out0_A_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 (ix3 0 a q)
    = dotT x0 (flatW x1) ⟨1022 + a.val, by omega⟩ q := by
  have hh := isRows_ldH (harg3.read_unread x0)
  have hg := isCols_ldW (v := arg11.view) (f := (arg11.view.writes (Elt Ideal) arg11.view.junk (copyG arg4.view (harg4.unread x1)))) (read_copyG _ _ _ _ _ (harg4.read_unread x1))
  refine read_writes_of_agree VO0_7 _ (fun y => dotT x0 (flatW x1) ⟨1022 + (y 1).val, by have h : (y 1).val < 2 := (y 1).isLt; omega⟩ (y 2)) _ ?_ _
    (Or.inr (cover0_A_7 c i arg3 harg3 arg4 harg4 arg5 harg5 arg6 harg6 arg7 harg7 arg8 harg8 arg9 harg9 arg10 harg10 arg11 harg11 arg12 harg12 arg13 harg13 hc0 hc1 x0 x1 x2 x3 x4 x5 _))
  rw [pieces7_A]
  simp only [List.forall_mem_cons, List.not_mem_nil, false_implies, implies_true, and_true]
  intro (z : S1x2x512.Idx)
  idx_vars z
  unfold_payloads
  pointwise
  refine (tail_load (base := (first x5)) hh hg (initL_agree x0 (flatW x1) _ _ x5 (harg8.read_unread x5)) _ _ _).trans ?_
  exact congrArg₂ (dotT x0 (flatW x1)) (Fin.ext (by dsimp <;> omega)) (Fin.ext (by dsimp <;> omega))

theorem keep_A (a : Fin 8) (q : Fin 512) : sout0_A_2 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 (ix2 ⟨a.val, by omega⟩ q)
    = dotT x0 (flatW x1) ⟨1016 + a.val, by omega⟩ q := by
  have hh := isRows_ldH (harg3.read_unread x0)
  have hg := isCols_ldW (v := arg11.view) (f := (arg11.view.writes (Elt Ideal) arg11.view.junk (copyG arg4.view (harg4.unread x1)))) (read_copyG _ _ _ _ _ (harg4.read_unread x1))
  unfold sout0_A_2
  rw [pieces2_A]
  refine (read_keep _ _ _ _ a q).trans ?_
  unfold_payloads
  pointwise
  exact tail_load (base := (first x5)) hh hg (initL_agree x0 (flatW x1) _ _ x5 (harg8.read_unread x5)) _ _ _

theorem keepG_A : sout0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 = flatW x1 := by
  have h : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.2.1 = copyG arg4.view (harg4.unread x1) := by sl_kernel_rfl
  unfold sout0_A_0
  rw [h, read_copyG _ _ _ _ _ (harg4.read_unread x1)]

theorem keepU_A : sout0_A_1 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 = flatW x2 := by
  have h : (kernelRun0_A (F := Ideal) c i arg3 harg3 arg4 harg4 arg5 harg5 arg6 harg6 arg7 harg7 arg8 harg8 arg9 harg9 arg10 harg10 arg11 harg11 arg12 harg12 arg13 harg13 hc0 hc1 x0 x1 x2 x3 x4 x5).2.2.2.1 = copyU arg5.view (harg5.unread x2) := by sl_kernel_rfl
  unfold sout0_A_1
  rw [h, read_copyU _ _ _ _ _ (harg5.read_unread x2)]
end CaseA

section CaseC
/-! A tile that begins a sequence. -/
variable (c : Dev nD) (i : grid0.Coords)
  (arg3 : Memref sig .tc .vmem S1x1024x2048 .bf16) (harg3 : arg3.IsWhole)
  (arg4 : Memref sig .tc .vmem S1x2048x512 .f32) (harg4 : arg4.IsWhole)
  (arg5 : Memref sig .tc .vmem S1x2048x512 .f32) (harg5 : arg5.IsWhole)
  (arg6 : Memref sig .tc .vmem S3x512 .f32) (harg6 : arg6.IsWhole)
  (arg7 : Memref sig .tc .vmem S1x512 .f32) (harg7 : arg7.IsWhole)
  (arg8 : Memref sig .tc .vmem S1x2x512 .f32) (harg8 : arg8.IsWhole)
  (arg9 : Memref sig .tc .vmem S1x1024x512 .bf16) (harg9 : arg9.IsWhole)
  (arg10 : Memref sig .tc .vmem S1x2x512 .f32) (harg10 : arg10.IsWhole)
  (arg11 : Memref sig .tc .vmem S2048x512 .bf16) (harg11 : arg11.IsWhole)
  (arg12 : Memref sig .tc .vmem S2048x512 .bf16) (harg12 : arg12.IsWhole)
  (arg13 : Memref sig .tc .vmem S1032x512 .f32) (harg13 : arg13.IsWhole) (hc0 : cond0_0 i) (hc1 : ¬cond0_1 i)
  (x0 : Vec Ideal S1x1024x2048 .bf16) (x1 x2 : Vec Ideal S1x2048x512 .f32) (x3 : Vec Ideal S3x512 .f32) (x4 : Vec Ideal S1x512 .f32)
  (x5 : Vec Ideal S1x2x512 .f32)
  (xs0 xs1 : Vec Ideal S2048x512 .bf16)

theorem pieces6_C : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).1
    = outP (ldH arg3.view (harg3.unread x0)) (ldW arg11.view (harg11.unread xs0)) (ldW arg12.view (harg12.unread xs1))
      (ldC arg7.view (harg7.unread x4)) (ldT arg6.view (harg6.unread x3))
      (ldB1 arg13.view (met arg13.view (ldH arg3.view (harg3.unread x0)) (ldW arg11.view (harg11.unread xs0)) (initL arg8.view (harg8.unread x5)) (fun _ => arg13.view.junk)))
      (ldB0 arg13.view (met arg13.view (ldH arg3.view (harg3.unread x0)) (ldW arg11.view (harg11.unread xs0)) (initL arg8.view (harg8.unread x5)) (fun _ => arg13.view.junk))) := by
  sl_kernel_rfl

theorem pieces7_C : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.1
    = [⟨Rect.unit (s := S1x2x512) ![0, 0, 0] S1x2x512.size inb_S1x2x512_S1x2x512_0_0_0, k0_pay2 (arg13.view.readAt (Elt Ideal) (Rect.unit (s := S1032x512) ![1024, 0] S8x512.size inb_S1032x512_S8x512_1024_0).toLoadRect (arg13.view.writes (Elt Ideal) arg13.view.junk (gateL (ldH arg3.view (harg3.unread x0)) (ldW arg11.view (harg11.unread xs0)) (initL arg8.view (harg8.unread x5)) 8)))⟩] := by
  sl_kernel_rfl

theorem pieces2_C : (kernelRun0_C (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1).2.2.2.2.1
    = ⟨Rect.unit (s := S1032x512) ![0, 0] S8x512.size inb_S1032x512_S8x512_0_0, k0_pay3 (arg13.view.readAt (Elt Ideal) (Rect.unit (s := S1032x512) ![1024, 0] S8x512.size inb_S1032x512_S8x512_1024_0).toLoadRect (arg13.view.writes (Elt Ideal) arg13.view.junk (gateL (ldH arg3.view (harg3.unread x0)) (ldW arg11.view (harg11.unread xs0)) (initL arg8.view (harg8.unread x5)) 8)))⟩ :: gateL (ldH arg3.view (harg3.unread x0)) (ldW arg11.view (harg11.unread xs0)) (initL arg8.view (harg8.unread x5)) 8 := by
  sl_kernel_rfl

theorem out6_C (y : S1x1024x512.Idx) : out0_C_6 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 y
    = actT x0 xs0 xs1 (first x5) x3 x4 (y 1) (y 2) := by
  have hh := isRows_ldH (harg3.read_unread x0)
  have hg := isCols_ldW (v := arg11.view) (f := (harg11.unread xs0)) (harg11.read_unread xs0)
  have hu := isCols_ldW (v := arg12.view) (f := (harg12.unread xs1)) (harg12.read_unread xs1)
  refine read_writes_of_agree VO0_6 _ (fun y => actT x0 xs0 xs1 (first x5) x3 x4 (y 1) (y 2)) _ ?_ y
    (Or.inr (cover0_C_6 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 y))
  rw [pieces6_C]
  exact outP_agree hh hg hu (isBias_ldC (harg7.read_unread x4)) (isTaps_ldT (harg6.read_unread x3))
    (isBack_ldB1 hh hg _ (initL_agree x0 xs0 _ _ x5 (harg8.read_unread x5)) (initL_carried _ _ _ _ _)) (isBack_ldB0 hh hg _ (initL_agree x0 xs0 _ _ x5 (harg8.read_unread x5)) (initL_carried _ _ _ _ _))

theorem out7_C (a : Fin 2) (q : Fin 512) : out0_C_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix3 0 a q)
    = dotT x0 xs0 ⟨1022 + a.val, by omega⟩ q := by
  have hh := isRows_ldH (harg3.read_unread x0)
  have hg := isCols_ldW (v := arg11.view) (f := (harg11.unread xs0)) (harg11.read_unread xs0)
  refine read_writes_of_agree VO0_7 _ (fun y => dotT x0 xs0 ⟨1022 + (y 1).val, by have h : (y 1).val < 2 := (y 1).isLt; omega⟩ (y 2)) _ ?_ _
    (Or.inr (cover0_C_7 c i arg3 harg3 arg4 harg4 arg5 harg5 arg6 harg6 arg7 harg7 arg8 harg8 arg9 harg9 arg10 harg10 arg11 harg11 arg12 harg12 arg13 harg13 hc0 hc1 x0 x1 x2 x3 x4 x5 xs0 xs1 _))
  rw [pieces7_C]
  simp only [List.forall_mem_cons, List.not_mem_nil, false_implies, implies_true, and_true]
  intro (z : S1x2x512.Idx)
  idx_vars z
  unfold_payloads
  pointwise
  refine (tail_load (base := (first x5)) hh hg (initL_agree x0 xs0 _ _ x5 (harg8.read_unread x5)) _ _ _).trans ?_
  exact congrArg₂ (dotT x0 xs0) (Fin.ext (by dsimp <;> omega)) (Fin.ext (by dsimp <;> omega))

theorem keep_C (a : Fin 8) (q : Fin 512) : sout0_C_2 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 xs0 xs1 (ix2 ⟨a.val, by omega⟩ q)
    = dotT x0 xs0 ⟨1016 + a.val, by omega⟩ q := by
  have hh := isRows_ldH (harg3.read_unread x0)
  have hg := isCols_ldW (v := arg11.view) (f := (harg11.unread xs0)) (harg11.read_unread xs0)
  unfold sout0_C_2
  rw [pieces2_C]
  refine (read_keep _ _ _ _ a q).trans ?_
  unfold_payloads
  pointwise
  exact tail_load (base := (first x5)) hh hg (initL_agree x0 xs0 _ _ x5 (harg8.read_unread x5)) _ _ _
end CaseC

section CaseB
/-! A tile that carries its rows in. -/
variable (c : Dev nD) (i : grid0.Coords)
  (arg3 : Memref sig .tc .vmem S1x1024x2048 .bf16) (harg3 : arg3.IsWhole)
  (arg4 : Memref sig .tc .vmem S1x2048x512 .f32) (harg4 : arg4.IsWhole)
  (arg5 : Memref sig .tc .vmem S1x2048x512 .f32) (harg5 : arg5.IsWhole)
  (arg6 : Memref sig .tc .vmem S3x512 .f32) (harg6 : arg6.IsWhole)
  (arg7 : Memref sig .tc .vmem S1x512 .f32) (harg7 : arg7.IsWhole)
  (arg8 : Memref sig .tc .vmem S1x2x512 .f32) (harg8 : arg8.IsWhole)
  (arg9 : Memref sig .tc .vmem S1x1024x512 .bf16) (harg9 : arg9.IsWhole)
  (arg10 : Memref sig .tc .vmem S1x2x512 .f32) (harg10 : arg10.IsWhole)
  (arg11 : Memref sig .tc .vmem S2048x512 .bf16) (harg11 : arg11.IsWhole)
  (arg12 : Memref sig .tc .vmem S2048x512 .bf16) (harg12 : arg12.IsWhole)
  (arg13 : Memref sig .tc .vmem S1032x512 .f32) (harg13 : arg13.IsWhole) (hc0 : ¬cond0_0 i)
  (x0 : Vec Ideal S1x1024x2048 .bf16) (x1 x2 : Vec Ideal S1x2048x512 .f32) (x3 : Vec Ideal S3x512 .f32) (x4 : Vec Ideal S1x512 .f32)
  (x5 : Vec Ideal S1x2x512 .f32)
  (xs0 xs1 : Vec Ideal S2048x512 .bf16) (xs2 : Vec Ideal S1032x512 .f32)

theorem pieces6_B : (kernelRun0_B (F := Ideal) c i arg3 harg3 arg4 harg4 arg5 harg5 arg6 harg6 arg7 harg7 arg8 harg8 arg9 harg9 arg10 harg10 arg11 harg11 arg12 harg12 arg13 harg13 hc0 x0 x1 x2 x3 x4 x5 xs0 xs1 xs2).1
    = outP (ldH arg3.view (harg3.unread x0)) (ldW arg11.view (harg11.unread xs0)) (ldW arg12.view (harg12.unread xs1))
      (ldC arg7.view (harg7.unread x4)) (ldT arg6.view (harg6.unread x3))
      (ldB1 arg13.view (met arg13.view (ldH arg3.view (harg3.unread x0)) (ldW arg11.view (harg11.unread xs0)) [] ![harg13.unread xs2, arg13.view.junk, arg13.view.junk, arg13.view.junk]))
      (ldB0 arg13.view (met arg13.view (ldH arg3.view (harg3.unread x0)) (ldW arg11.view (harg11.unread xs0)) [] ![harg13.unread xs2, arg13.view.junk, arg13.view.junk, arg13.view.junk])) := by
  sl_kernel_rfl

theorem pieces7_B : (kernelRun0_B (F := Ideal) c i arg3 harg3 arg4 harg4 arg5 harg5 arg6 harg6 arg7 harg7 arg8 harg8 arg9 harg9 arg10 harg10 arg11 harg11 arg12 harg12 arg13 harg13 hc0 x0 x1 x2 x3 x4 x5 xs0 xs1 xs2).2.1
    = [⟨Rect.unit (s := S1x2x512) ![0, 0, 0] S1x2x512.size inb_S1x2x512_S1x2x512_0_0_0, k0_pay2 (arg13.view.readAt (Elt Ideal) (Rect.unit (s := S1032x512) ![1024, 0] S8x512.size inb_S1032x512_S8x512_1024_0).toLoadRect (arg13.view.writes (Elt Ideal) arg13.view.junk (gateL (ldH arg3.view (harg3.unread x0)) (ldW arg11.view (harg11.unread xs0)) [] 8)))⟩] := by
  sl_kernel_rfl

theorem pieces2_B : (kernelRun0_B (F := Ideal) c i arg3 harg3 arg4 harg4 arg5 harg5 arg6 harg6 arg7 harg7 arg8 harg8 arg9 harg9 arg10 harg10 arg11 harg11 arg12 harg12 arg13 harg13 hc0 x0 x1 x2 x3 x4 x5 xs0 xs1 xs2).2.2.2.2.1
    = ⟨Rect.unit (s := S1032x512) ![0, 0] S8x512.size inb_S1032x512_S8x512_0_0, k0_pay3 (arg13.view.readAt (Elt Ideal) (Rect.unit (s := S1032x512) ![1024, 0] S8x512.size inb_S1032x512_S8x512_1024_0).toLoadRect (arg13.view.writes (Elt Ideal) arg13.view.junk (gateL (ldH arg3.view (harg3.unread x0)) (ldW arg11.view (harg11.unread xs0)) [] 8)))⟩ :: gateL (ldH arg3.view (harg3.unread x0)) (ldW arg11.view (harg11.unread xs0)) [] 8 := by
  sl_kernel_rfl

theorem out6_B (y : S1x1024x512.Idx) : out0_B_6 (F := Ideal) c i arg3 harg3 arg4 harg4 arg5 harg5 arg6 harg6 arg7 harg7 arg8 harg8 arg9 harg9 arg10 harg10 arg11 harg11 arg12 harg12 arg13 harg13 hc0 x0 x1 x2 x3 x4 x5 xs0 xs1 xs2 y
    = actT x0 xs0 xs1 xs2 x3 x4 (y 1) (y 2) := by
  have hh := isRows_ldH (harg3.read_unread x0)
  have hg := isCols_ldW (v := arg11.view) (f := (harg11.unread xs0)) (harg11.read_unread xs0)
  have hu := isCols_ldW (v := arg12.view) (f := (harg12.unread xs1)) (harg12.read_unread xs1)
  refine read_writes_of_agree VO0_6 _ (fun y => actT x0 xs0 xs1 xs2 x3 x4 (y 1) (y 2)) _ ?_ y
    (Or.inr (cover0_B_6 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 y))
  rw [pieces6_B]
  exact outP_agree hh hg hu (isBias_ldC (harg7.read_unread x4)) (isTaps_ldT (harg6.read_unread x3))
    (isBack_ldB1 hh hg _ (fun p hp => absurd hp List.not_mem_nil) (fun y _ => Or.inl (congrFun (harg13.read_unread xs2) y))) (isBack_ldB0 hh hg _ (fun p hp => absurd hp List.not_mem_nil) (fun y _ => Or.inl (congrFun (harg13.read_unread xs2) y)))

theorem out7_B (a : Fin 2) (q : Fin 512) : out0_B_7 (F := Ideal) c i arg3 harg3 arg4 harg4 arg5 harg5 arg6 harg6 arg7 harg7 arg8 harg8 arg9 harg9 arg10 harg10 arg11 harg11 arg12 harg12 arg13 harg13 hc0 x0 x1 x2 x3 x4 x5 xs0 xs1 xs2 (ix3 0 a q)
    = dotT x0 xs0 ⟨1022 + a.val, by omega⟩ q := by
  have hh := isRows_ldH (harg3.read_unread x0)
  have hg := isCols_ldW (v := arg11.view) (f := (harg11.unread xs0)) (harg11.read_unread xs0)
  refine read_writes_of_agree VO0_7 _ (fun y => dotT x0 xs0 ⟨1022 + (y 1).val, by have h : (y 1).val < 2 := (y 1).isLt; omega⟩ (y 2)) _ ?_ _
    (Or.inr (cover0_B_7 c i arg3 harg3 arg4 harg4 arg5 harg5 arg6 harg6 arg7 harg7 arg8 harg8 arg9 harg9 arg10 harg10 arg11 harg11 arg12 harg12 arg13 harg13 hc0 x0 x1 x2 x3 x4 x5 xs0 xs1 xs2 _))
  rw [pieces7_B]
  simp only [List.forall_mem_cons, List.not_mem_nil, false_implies, implies_true, and_true]
  intro (z : S1x2x512.Idx)
  idx_vars z
  unfold_payloads
  pointwise
  refine (tail_load (base := xs2) hh hg (fun p hp => absurd hp List.not_mem_nil) _ _ _).trans ?_
  exact congrArg₂ (dotT x0 xs0) (Fin.ext (by dsimp <;> omega)) (Fin.ext (by dsimp <;> omega))

theorem keep_B (a : Fin 8) (q : Fin 512) : sout0_B_2 (F := Ideal) c i arg3 harg3 arg4 harg4 arg5 harg5 arg6 harg6 arg7 harg7 arg8 harg8 arg9 harg9 arg10 harg10 arg11 harg11 arg12 harg12 arg13 harg13 hc0 x0 x1 x2 x3 x4 x5 xs0 xs1 xs2 (ix2 ⟨a.val, by omega⟩ q)
    = dotT x0 xs0 ⟨1016 + a.val, by omega⟩ q := by
  have hh := isRows_ldH (harg3.read_unread x0)
  have hg := isCols_ldW (v := arg11.view) (f := (harg11.unread xs0)) (harg11.read_unread xs0)
  unfold sout0_B_2
  rw [pieces2_B]
  refine (read_keep _ _ _ _ a q).trans ?_
  unfold_payloads
  pointwise
  exact tail_load (base := xs2) hh hg (fun p hp => absurd hp List.not_mem_nil) _ _ _
end CaseB

end Cert.KernelIdeal.Up
-- ==== Proof.UpPoints.lean ====
/- The gated convolution over its grid: what each point reads, what it carries to the next, and the two result arrays. -/
module
public import proofs.«01_k».proof.Proof.UpCases
public import proofs.«01_k».proof.Proof.Gen.KernelIdeal.Value
@[expose] public section
set_option maxRecDepth 16384
noncomputable section
namespace Cert.KernelIdeal.Up
open Cert.KernelIdeal Cert.KernelIdeal.Gen Cert.KernelIdeal.Value Idealize.ShloMosaic Idealize.ShloMosaic.TcCoe Idealize.SL.Sem

/-! ## The mathematics, over the argument arrays -/

/-- A projection of the layer's input by the layer's slice of a weight. -/
def proj (H : Vec Ideal S2x4096x2048 .f32) (W : Vec Ideal S4x2048x5632 .f32) (b : Fin 2) (s : Fin 4096) (q : Fin 5632) : EReal :=
  ∑ k : Fin 2048, H (ix3 b s k) * W (ix3 1 k q)

/-- The gate projection with the two rows before the sequence in front of it. -/
def seqG (H : Vec Ideal S2x4096x2048 .f32) (W : Vec Ideal S4x2048x5632 .f32) (P : Vec Ideal S2x2x5632 .f32)
    (b : Fin 2) (r : Fin 4098) (q : Fin 5632) : EReal :=
  if h : r.val < 2 then P (ix3 b ⟨r.val, h⟩ q) else proj H W b ⟨r.val - 2, by omega⟩ q

/-- The activation at a place. -/
def resA (H : Vec Ideal S2x4096x2048 .f32) (WG WU : Vec Ideal S4x2048x5632 .f32) (CW : Vec Ideal S3x5632 .f32)
    (CB : Vec Ideal S5632 .f32) (P : Vec Ideal S2x2x5632 .f32) (b : Fin 2) (s : Fin 4096) (q : Fin 5632) : EReal :=
  actv (CB (ix1 q)) (CW (ix2 2 q)) (CW (ix2 1 q)) (CW (ix2 0 q)) (seqG H WG P b ⟨s.val + 2, by omega⟩ q)
    (seqG H WG P b ⟨s.val + 1, by omega⟩ q) (seqG H WG P b ⟨s.val, by omega⟩ q) (proj H WU b s q)

/-- The first result. -/
def G6 (H : Vec Ideal S2x4096x2048 .f32) (WG WU : Vec Ideal S4x2048x5632 .f32) (CW : Vec Ideal S3x5632 .f32)
    (CB : Vec Ideal S5632 .f32) (P : Vec Ideal S2x2x5632 .f32) : Vec Ideal S2x4096x5632 .bf16 :=
  fun y => resA H WG WU CW CB P (y 0) (y 1) (y 2)

/-- The second result: the last two rows. -/
def G7 (H : Vec Ideal S2x4096x2048 .f32) (WG : Vec Ideal S4x2048x5632 .f32) (P : Vec Ideal S2x2x5632 .f32) :
    Vec Ideal S2x2x5632 .f32 :=
  fun y => seqG H WG P (y 0) ⟨4096 + (y 1).val, by have h : (y 1).val < 2 := (y 1).isLt; omega⟩ (y 2)

/-! ## The blocks -/

theorem pt0 : ∀ t : Fin cfg0.N, win0_0.index t (0 : Fin 3) = t.val / 4 % 2 ∧ win0_0.index t (1 : Fin 3) = t.val % 4 ∧ win0_0.index t (2 : Fin 3) = 0 :=
  (by decide +kernel : ∀ t : Fin grid0.N, _)
theorem pt1 : ∀ t : Fin cfg0.N, win0_1.index t (0 : Fin 3) = 1 ∧ win0_1.index t (1 : Fin 3) = 0 ∧ win0_1.index t (2 : Fin 3) = t.val / 8 :=
  (by decide +kernel : ∀ t : Fin grid0.N, _)
theorem pt2 : ∀ t : Fin cfg0.N, win0_2.index t (0 : Fin 3) = 1 ∧ win0_2.index t (1 : Fin 3) = 0 ∧ win0_2.index t (2 : Fin 3) = t.val / 8 :=
  (by decide +kernel : ∀ t : Fin grid0.N, _)
theorem pt3 : ∀ t : Fin cfg0.N, win0_3.index t (0 : Fin 2) = 0 ∧ win0_3.index t (1 : Fin 2) = t.val / 8 :=
  (by decide +kernel : ∀ t : Fin grid0.N, _)
theorem pt4 : ∀ t : Fin cfg0.N, win0_4.index t (0 : Fin 2) = 0 ∧ win0_4.index t (1 : Fin 2) = t.val / 8 :=
  (by decide +kernel : ∀ t : Fin grid0.N, _)
theorem pt5 : ∀ t : Fin cfg0.N, win0_5.index t (0 : Fin 3) = t.val / 4 % 2 ∧ win0_5.index t (1 : Fin 3) = 0 ∧ win0_5.index t (2 : Fin 3) = t.val / 8 :=
  (by decide +kernel : ∀ t : Fin grid0.N, _)
theorem pt6 : ∀ t : Fin cfg0.N, win0_6.index t (0 : Fin 3) = t.val / 4 % 2 ∧ win0_6.index t (1 : Fin 3) = t.val % 4 ∧ win0_6.index t (2 : Fin 3) = t.val / 8 :=
  (by decide +kernel : ∀ t : Fin grid0.N, _)
theorem pt7 : ∀ t : Fin cfg0.N, win0_7.index t (0 : Fin 3) = t.val / 4 % 2 ∧ win0_7.index t (1 : Fin 3) = 0 ∧ win0_7.index t (2 : Fin 3) = t.val / 8 :=
  (by decide +kernel : ∀ t : Fin grid0.N, _)

theorem lt88 (t : Fin cfg0.N) : t.val < 88 := lt_of_lt_of_eq t.isLt (show cfg0.N = 88 from N_0)

/-- The batch of a point, -/
def bOf (t : Fin cfg0.N) : Fin 2 := ⟨t.val / 4 % 2, by omega⟩
/-- a row of its tile -/
def rOf (t : Fin cfg0.N) (r : Fin 1024) : Fin 4096 := ⟨1024 * (t.val % 4) + r.val, by omega⟩
/-- and a column of its block. -/
def qOf (t : Fin cfg0.N) (q : Fin 512) : Fin 5632 := ⟨512 * (t.val / 8) + q.val, by have := lt88 t; omega⟩

theorem emb0 (t : Fin cfg0.N) (r : Fin 1024) (k : Fin 2048) : ((cfg0.win 0).blk t).view.emb (ix3 0 r k) = ix3 (bOf t) (rOf t r) k := by
  obtain ⟨e0, e1, e2⟩ := pt0 t
  funext a; apply Fin.ext
  match a with
  | ⟨0, _⟩ => show win0_0.index t (0 : Fin 3) * 1 + 1 * 0 = t.val / 4 % 2; omega
  | ⟨1, _⟩ => show win0_0.index t (1 : Fin 3) * 1024 + 1 * r.val = 1024 * (t.val % 4) + r.val; omega
  | ⟨2, _⟩ => show win0_0.index t (2 : Fin 3) * 2048 + 1 * k.val = k.val; omega
theorem emb1 (t : Fin cfg0.N) (k : Fin 2048) (q : Fin 512) : ((cfg0.win 1).blk t).view.emb (ix3 0 k q) = ix3 1 k (qOf t q) := by
  obtain ⟨e0, e1, e2⟩ := pt1 t
  funext a; apply Fin.ext
  match a with
  | ⟨0, _⟩ => show win0_1.index t (0 : Fin 3) * 1 + 1 * 0 = 1; omega
  | ⟨1, _⟩ => show win0_1.index t (1 : Fin 3) * 2048 + 1 * k.val = k.val; omega
  | ⟨2, _⟩ => show win0_1.index t (2 : Fin 3) * 512 + 1 * q.val = 512 * (t.val / 8) + q.val; omega
theorem emb2 (t : Fin cfg0.N) (k : Fin 2048) (q : Fin 512) : ((cfg0.win 2).blk t).view.emb (ix3 0 k q) = ix3 1 k (qOf t q) := by
  obtain ⟨e0, e1, e2⟩ := pt2 t
  funext a; apply Fin.ext
  match a with
  | ⟨0, _⟩ => show win0_2.index t (0 : Fin 3) * 1 + 1 * 0 = 1; omega
  | ⟨1, _⟩ => show win0_2.index t (1 : Fin 3) * 2048 + 1 * k.val = k.val; omega
  | ⟨2, _⟩ => show win0_2.index t (2 : Fin 3) * 512 + 1 * q.val = 512 * (t.val / 8) + q.val; omega
theorem emb3 (t : Fin cfg0.N) (j : Fin 3) (q : Fin 512) : ((cfg0.win 3).blk t).view.emb (ix2 j q) = ix2 j (qOf t q) := by
  obtain ⟨e0, e1⟩ := pt3 t
  funext a; apply Fin.ext
  match a with
  | ⟨0, _⟩ => show win0_3.index t (0 : Fin 2) * 3 + 1 * j.val = j.val; omega
  | ⟨1, _⟩ => show win0_3.index t (1 : Fin 2) * 512 + 1 * q.val = 512 * (t.val / 8) + q.val; omega
theorem emb4 (t : Fin cfg0.N) (q : Fin 512) : ((cfg0.win 4).blk t).view.emb (ix2 0 q) = ix2 0 (qOf t q) := by
  obtain ⟨e0, e1⟩ := pt4 t
  funext a; apply Fin.ext
  match a with
  | ⟨0, _⟩ => show win0_4.index t (0 : Fin 2) * 1 + 1 * 0 = 0; omega
  | ⟨1, _⟩ => show win0_4.index t (1 : Fin 2) * 512 + 1 * q.val = 512 * (t.val / 8) + q.val; omega
theorem emb5 (t : Fin cfg0.N) (a : Fin 2) (q : Fin 512) : ((cfg0.win 5).blk t).view.emb (ix3 0 a q) = ix3 (bOf t) a (qOf t q) := by
  obtain ⟨e0, e1, e2⟩ := pt5 t
  funext x; apply Fin.ext
  match x with
  | ⟨0, _⟩ => show win0_5.index t (0 : Fin 3) * 1 + 1 * 0 = t.val / 4 % 2; omega
  | ⟨1, _⟩ => show win0_5.index t (1 : Fin 3) * 2 + 1 * a.val = a.val; omega
  | ⟨2, _⟩ => show win0_5.index t (2 : Fin 3) * 512 + 1 * q.val = 512 * (t.val / 8) + q.val; omega
theorem emb6 (t : Fin cfg0.N) (r : Fin 1024) (q : Fin 512) : ((cfg0.win 6).blk t).view.emb (ix3 0 r q) = ix3 (bOf t) (rOf t r) (qOf t q) := by
  obtain ⟨e0, e1, e2⟩ := pt6 t
  funext x; apply Fin.ext
  match x with
  | ⟨0, _⟩ => show win0_6.index t (0 : Fin 3) * 1 + 1 * 0 = t.val / 4 % 2; omega
  | ⟨1, _⟩ => show win0_6.index t (1 : Fin 3) * 1024 + 1 * r.val = 1024 * (t.val % 4) + r.val; omega
  | ⟨2, _⟩ => show win0_6.index t (2 : Fin 3) * 512 + 1 * q.val = 512 * (t.val / 8) + q.val; omega
theorem emb7 (t : Fin cfg0.N) (a : Fin 2) (q : Fin 512) : ((cfg0.win 7).blk t).view.emb (ix3 0 a q) = ix3 (bOf t) a (qOf t q) := by
  obtain ⟨e0, e1, e2⟩ := pt7 t
  funext x; apply Fin.ext
  match x with
  | ⟨0, _⟩ => show win0_7.index t (0 : Fin 3) * 1 + 1 * 0 = t.val / 4 % 2; omega
  | ⟨1, _⟩ => show win0_7.index t (1 : Fin 3) * 2 + 1 * a.val = a.val; omega
  | ⟨2, _⟩ => show win0_7.index t (2 : Fin 3) * 512 + 1 * q.val = 512 * (t.val / 8) + q.val; omega

section Arrays
variable (m : (ℓ : Loc nD τ sig) → Buf (Elt Ideal) ℓ) (c : Dev nD)

/-- The argument arrays. -/
abbrev aH : Vec Ideal S2x4096x2048 .f32 := m ((c : Thread nD τ).loc main_arg0)
abbrev aG : Vec Ideal S4x2048x5632 .f32 := m ((c : Thread nD τ).loc main_arg1)
abbrev aU : Vec Ideal S4x2048x5632 .f32 := m ((c : Thread nD τ).loc main_arg2)
abbrev aW : Vec Ideal S3x5632 .f32 := m ((c : Thread nD τ).loc main_arg3)
abbrev aB : Vec Ideal S5632 .f32 := m ((c : Thread nD τ).loc main_arg4)
abbrev aP : Vec Ideal S2x2x5632 .f32 := m ((c : Thread nD τ).loc main_arg5)

theorem V_main_v0 : V m c main_v0 = (fun y => aH m c y : Vec Ideal S2x4096x2048 .bf16) := by
  show StableHlo.after hostOps0 _ (Proc.devRef .tc main_v0) = _
  after_results
  rfl
theorem V_main_v1 : V m c main_v1 = (shapeCast S1x5632 (aB m c) shapeCasts_S5632_S1x5632 : Vec Ideal S1x5632 .f32) := by
  show StableHlo.after hostOps0 _ (Proc.devRef .tc main_v1) = _
  after_results
  rfl

theorem blk0 (t : Fin cfg0.N) (r : Fin 1024) (k : Fin 2048) : iblk m c 0 t (ix3 0 r k) = aH m c (ix3 (bOf t) (rOf t r) k) := by
  show V m c main_v0 (((cfg0.win 0).blk t).view.emb (ix3 0 r k)) = _
  rw [emb0, V_main_v0]
theorem blk1 (t : Fin cfg0.N) (k : Fin 2048) (q : Fin 512) : iblk m c 1 t (ix3 0 k q) = aG m c (ix3 1 k (qOf t q)) := by
  show V m c main_arg1 (((cfg0.win 1).blk t).view.emb (ix3 0 k q)) = _
  rw [emb1, V_main_arg1]
theorem blk2 (t : Fin cfg0.N) (k : Fin 2048) (q : Fin 512) : iblk m c 2 t (ix3 0 k q) = aU m c (ix3 1 k (qOf t q)) := by
  show V m c main_arg2 (((cfg0.win 2).blk t).view.emb (ix3 0 k q)) = _
  rw [emb2, V_main_arg2]
theorem blk3 (t : Fin cfg0.N) (j : Fin 3) (q : Fin 512) : iblk m c 3 t (ix2 j q) = aW m c (ix2 j (qOf t q)) := by
  show V m c main_arg3 (((cfg0.win 3).blk t).view.emb (ix2 j q)) = _
  rw [emb3, V_main_arg3]
theorem blk4 (t : Fin cfg0.N) (q : Fin 512) : iblk m c 4 t (ix2 0 q) = aB m c (ix1 (qOf t q)) := by
  show V m c main_v1 (((cfg0.win 4).blk t).view.emb (ix2 0 q)) = _
  rw [emb4, V_main_v1]
  generalize qOf t q = z
  pointwise
theorem blk5 (t : Fin cfg0.N) (a : Fin 2) (q : Fin 512) : iblk m c 5 t (ix3 0 a q) = aP m c (ix3 (bOf t) a (qOf t q)) := by
  show V m c main_arg5 (((cfg0.win 5).blk t).view.emb (ix3 0 a q)) = _
  rw [emb5, V_main_arg5]

/-! ## A tile's products and activations are the arrays' -/

/-- The columns of a weight that a point works with. -/
def cols (W : Vec Ideal S4x2048x5632 .f32) (t : Fin cfg0.N) : Vec Ideal S2048x512 .bf16 := fun y => W (ix3 1 (y 0) (qOf t (y 1)))

theorem flat1 (t : Fin cfg0.N) : flatW (iblk m c 1 t) = cols (aG m c) t := funext fun y => blk1 m c t (y 0) (y 1)
theorem flat2 (t : Fin cfg0.N) : flatW (iblk m c 2 t) = cols (aU m c) t := funext fun y => blk2 m c t (y 0) (y 1)

theorem dot_proj (W : Vec Ideal S4x2048x5632 .f32) (t : Fin cfg0.N) (r : Fin 1024) (q : Fin 512) :
    dotT (iblk m c 0 t) (cols W t) r q = proj (aH m c) W (bOf t) (rOf t r) (qOf t q) :=
  Finset.sum_congr rfl fun k _ => by rw [blk0]; rfl

/-- The two rows before a point's tile. -/
def Before (t : Fin cfg0.N) (base : Vec Ideal S1032x512 .f32) : Prop :=
  ∀ (a : Fin 2) (q : Fin 512), base (ix2 ⟨6 + a.val, by omega⟩ q)
    = seqG (aH m c) (aG m c) (aP m c) (bOf t) ⟨1024 * (t.val % 4) + a.val, by omega⟩ (qOf t q)

theorem buf_seq {t : Fin cfg0.N} {base : Vec Ideal S1032x512 .f32} (hb : Before m c t base) (n : Fin 1032) (s : Fin 4098)
    (q : Fin 512) (hn : 6 ≤ n.val) (hs : s.val + 6 = 1024 * (t.val % 4) + n.val) :
    bufT (iblk m c 0 t) (cols (aG m c) t) base (ix2 n q) = seqG (aH m c) (aG m c) (aP m c) (bOf t) s (qOf t q) := by
  by_cases h : n.val < 8
  · rw [bufT_lo _ _ _ (ix2 n q) h]
    have := hb ⟨n.val - 6, by omega⟩ q
    rw [show (ix2 n q : S1032x512.Idx) = ix2 ⟨6 + (n.val - 6), by omega⟩ q from congrArg (ix2 · q) (Fin.ext (by dsimp; omega)), this]
    exact congrArg (seqG _ _ _ _ · _) (Fin.ext (by dsimp; omega))
  · rw [bufT_hi _ _ _ (ix2 n q) ⟨n.val - 8, by omega⟩ (by dsimp; omega)]
    show dotT _ _ _ q = _
    rw [dot_proj]
    unfold seqG
    rw [dif_neg (by omega)]
    exact congrArg (proj _ _ _ · _) (Fin.ext (by show 1024 * (t.val % 4) + (n.val - 8) = s.val - 2; omega))

theorem act_res {t : Fin cfg0.N} {base : Vec Ideal S1032x512 .f32} (hb : Before m c t base) (r : Fin 1024) (q : Fin 512) :
    actT (iblk m c 0 t) (cols (aG m c) t) (cols (aU m c) t) base (iblk m c 3 t) (iblk m c 4 t) r q
      = resA (aH m c) (aG m c) (aU m c) (aW m c) (aB m c) (aP m c) (bOf t) (rOf t r) (qOf t q) := by
  unfold actT resA
  rw [blk4, blk3, blk3, blk3, dot_proj]
  rw [buf_seq m c hb ⟨8 + r.val, by omega⟩ ⟨(rOf t r).val + 2, by have := (rOf t r).isLt; omega⟩ q (by dsimp; omega) (by dsimp [rOf]; omega)]
  rw [buf_seq m c hb ⟨7 + r.val, by omega⟩ ⟨(rOf t r).val + 1, by have := (rOf t r).isLt; omega⟩ q (by dsimp; omega) (by dsimp [rOf]; omega)]
  rw [buf_seq m c hb ⟨6 + r.val, by omega⟩ ⟨(rOf t r).val, by have := (rOf t r).isLt; omega⟩ q (by dsimp; omega) (by dsimp [rOf]; omega)]

/-! ## What a point leaves -/

/-- What stands in the outputs and in the carried buffers after a point. -/
def Good (t : Fin cfg0.N) (o6 : Vec Ideal S1x1024x512 .bf16) (o7 : Vec Ideal S1x2x512 .f32) (s0 s1 : Vec Ideal S2048x512 .bf16)
    (s2 : Vec Ideal S1032x512 .f32) : Prop :=
  (∀ r q, o6 (ix3 0 r q) = resA (aH m c) (aG m c) (aU m c) (aW m c) (aB m c) (aP m c) (bOf t) (rOf t r) (qOf t q))
  ∧ (∀ (a : Fin 2) q, o7 (ix3 0 a q) = proj (aH m c) (aG m c) (bOf t) (rOf t ⟨1022 + a.val, by omega⟩) (qOf t q))
  ∧ s0 = cols (aG m c) t ∧ s1 = cols (aU m c) t
  ∧ ∀ (a : Fin 8) q, s2 (ix2 ⟨a.val, by omega⟩ q) = proj (aH m c) (aG m c) (bOf t) (rOf t ⟨1016 + a.val, by omega⟩) (qOf t q)

theorem before_first (t : Fin cfg0.N) (h : t.val % 4 = 0) : Before m c t (first (iblk m c 5 t)) := fun a q => by
  unfold first seqG
  rw [dif_pos (show 6 ≤ ((ix2 ⟨6 + a.val, by omega⟩ q : S1032x512.Idx) 0).val ∧ ((ix2 ⟨6 + a.val, by omega⟩ q : S1032x512.Idx) 0).val < 8
    from ⟨by dsimp; omega, by dsimp; omega⟩), dif_pos (by dsimp; omega)]
  refine (blk5 m c t _ _).trans (congrArg (fun z => aP m c (ix3 (bOf t) z (qOf t q))) (Fin.ext ?_))
  dsimp; omega

theorem before_next (t u : Fin cfg0.N) (hu : u.val + 1 = t.val) (h : ¬t.val % 4 = 0) {s2 : Vec Ideal S1032x512 .f32}
    (hs : ∀ (a : Fin 8) q, s2 (ix2 ⟨a.val, by omega⟩ q) = proj (aH m c) (aG m c) (bOf u) (rOf u ⟨1016 + a.val, by omega⟩) (qOf u q)) :
    Before m c t s2 := fun a q => by
  have := hs ⟨6 + a.val, by omega⟩ q
  rw [show (ix2 ⟨6 + a.val, by omega⟩ q : S1032x512.Idx) = ix2 ⟨(⟨6 + a.val, by omega⟩ : Fin 8).val, by dsimp; omega⟩ q from rfl, this]
  unfold seqG
  rw [dif_neg (by dsimp; omega)]
  rw [show bOf u = bOf t from Fin.ext (by dsimp [bOf]; omega), show qOf u q = qOf t q from Fin.ext (by dsimp [qOf]; omega)]
  exact congrArg (proj _ _ _ · _) (Fin.ext (by dsimp [rOf]; omega))

theorem cols_next (W : Vec Ideal S4x2048x5632 .f32) (t u : Fin cfg0.N) (hu : u.val + 1 = t.val) (h : ¬t.val % 8 = 0) : cols W u = cols W t :=
  funext fun y => congrArg (fun z => W (ix3 1 (y 0) z)) (Fin.ext (by dsimp [qOf]; omega))

theorem good (n : ℕ) (hn : n < cfg0.N) : Good m c ⟨n, hn⟩ (outsAt0 m c n hn).1 (outsAt0 m c n hn).2.1 (outsAt0 m c n hn).2.2.1
    (outsAt0 m c n hn).2.2.2.1 (outsAt0 m c n hn).2.2.2.2 := by
  induction n using Nat.strong_induction_on with
  | _ n ih =>
    by_cases h0 : n % 4 = 0
    · by_cases h1 : n / 4 % 2 = 0
      · rw [outsAt0_A m c ⟨n, hn⟩ h0 h1]
        refine ⟨fun r q => ?_, fun a q => ?_, ?_, ?_, fun a q => ?_⟩
        · dsimp only
          rw [out6_A, flat1, flat2]
          exact act_res m c (before_first m c ⟨n, hn⟩ h0) r q
        · dsimp only
          rw [out7_A, flat1]
          exact dot_proj m c _ _ _ _
        · dsimp only
          rw [keepG_A, flat1]
        · dsimp only
          rw [keepU_A, flat2]
        · dsimp only
          rw [keep_A, flat1]
          exact dot_proj m c _ _ _ _
      · obtain ⟨-, -, i0, i1, -⟩ := ih (n - 1) (by omega) (by omega)
        rw [cols_next _ ⟨n, hn⟩ _ (by dsimp; omega) (by dsimp; omega)] at i0 i1
        rw [outsAt0_C m c ⟨n, hn⟩ h0 h1]
        dsimp only
        rw [i0, i1]
        refine ⟨fun r q => ?_, fun a q => ?_, rfl, rfl, fun a q => ?_⟩
        · rw [out6_C]
          exact act_res m c (before_first m c ⟨n, hn⟩ h0) r q
        · rw [out7_C]
          exact dot_proj m c _ _ _ _
        · rw [keep_C]
          exact dot_proj m c _ _ _ _
    · obtain ⟨-, -, i0, i1, i2⟩ := ih (n - 1) (by omega) (by omega)
      have hb := before_next m c ⟨n, hn⟩ _ (by dsimp; omega) h0 i2
      rw [cols_next _ ⟨n, hn⟩ _ (by dsimp; omega) (by dsimp; omega)] at i0 i1
      rw [outsAt0_B m c ⟨n, hn⟩ h0]
      dsimp only
      rw [i0, i1]
      refine ⟨fun r q => ?_, fun a q => ?_, rfl, rfl, fun a q => ?_⟩
      · rw [out6_B]
        exact act_res m c hb r q
      · rw [out7_B]
        exact dot_proj m c _ _ _ _
      · rw [keep_B]
        exact dot_proj m c _ _ _ _

/-! ## The result arrays -/

theorem flushed6_eq (t : Fin cfg0.N) : (dats m 0 c).flushed 6 t
    = ((cfg0.win 6).blk t).view.read (Elt Ideal) (G6 (aH m c) (aG m c) (aU m c) (aW m c) (aB m c) (aP m c)) := by
  rw [flushed6]
  funext j
  obtain ⟨r, q, rfl⟩ : ∃ (r : Fin 1024) (q : Fin 512), j = ix3 0 r q := ⟨j 1, j 2, ix3_of j 0 (j 1) (j 2) (by have : (j 0).val < 1 := (j 0).isLt; dsimp; omega) rfl rfl⟩
  show (outsAt0 m c t.val t.isLt).1 (ix3 0 r q) = G6 _ _ _ _ _ _ (((cfg0.win 6).blk t).view.emb (ix3 0 r q))
  rw [emb6, (good m c t.val t.isLt).1]
  rfl

theorem flushed7_eq (t : Fin cfg0.N) (h : t.val % 4 = 3) : (dats m 0 c).flushed 7 t
    = ((cfg0.win 7).blk t).view.read (Elt Ideal) (G7 (aH m c) (aG m c) (aP m c)) := by
  rw [flushed7]
  funext j
  obtain ⟨a, q, rfl⟩ : ∃ (a : Fin 2) (q : Fin 512), j = ix3 0 a q := ⟨j 1, j 2, ix3_of j 0 (j 1) (j 2) (by have : (j 0).val < 1 := (j 0).isLt; dsimp; omega) rfl rfl⟩
  show (outsAt0 m c t.val t.isLt).2.1 (ix3 0 a q) = G7 _ _ _ (((cfg0.win 7).blk t).view.emb (ix3 0 a q))
  rw [emb7, (good m c t.val t.isLt).2.1]
  unfold G7 seqG
  rw [dif_neg (by dsimp; omega)]
  exact congrArg (proj _ _ _ · _) (Fin.ext (by show 1024 * (t.val % 4) + (1022 + a.val) = 4096 + a.val - 2; omega))

theorem covered6 (i : S2x4096x5632.Idx) : ∃ t : Fin cfg0.N, (cfg0.win 6).flush t = true ∧ i ∈ ((cfg0.win 6).blk t).view.set := by
  have h0 : (i 0).val < 2 := (i 0).isLt
  have h1 : (i 1).val < 4096 := (i 1).isLt
  have h2 : (i 2).val < 5632 := (i 2).isLt
  have hN : cfg0.N = 88 := N_0
  refine ⟨⟨(i 2).val / 512 * 8 + (i 0).val * 4 + (i 1).val / 1024, by omega⟩, flush0_6 _, ?_⟩
  have h := ((cfg0.win 6).blk (⟨(i 2).val / 512 * 8 + (i 0).val * 4 + (i 1).val / 1024, by omega⟩ : Fin cfg0.N)).view.emb_mem_set
    (ix3 0 ⟨(i 1).val % 1024, by omega⟩ ⟨(i 2).val % 512, by omega⟩)
  rw [emb6] at h
  rw [← ix3_of i] at h
  · exact h
  · dsimp [bOf]; omega
  · dsimp [rOf]; omega
  · dsimp [qOf]; omega

theorem covered7 (i : S2x2x5632.Idx) : ∃ t : Fin cfg0.N, (cfg0.win 7).flush t = true ∧ i ∈ ((cfg0.win 7).blk t).view.set := by
  have h0 : (i 0).val < 2 := (i 0).isLt
  have h1 : (i 1).val < 2 := (i 1).isLt
  have h2 : (i 2).val < 5632 := (i 2).isLt
  have hN : cfg0.N = 88 := N_0
  refine ⟨⟨(i 2).val / 512 * 8 + (i 0).val * 4 + 3, by omega⟩, (flush0_7 _).mpr (by dsimp; omega), ?_⟩
  have h := ((cfg0.win 7).blk (⟨(i 2).val / 512 * 8 + (i 0).val * 4 + 3, by omega⟩ : Fin cfg0.N)).view.emb_mem_set
    (ix3 0 ⟨(i 1).val, h1⟩ ⟨(i 2).val % 512, by omega⟩)
  rw [emb7] at h
  rw [← ix3_of i] at h
  · exact h
  · dsimp [bOf]; omega
  · rfl
  · dsimp [qOf]; omega

/-- The first result array after the run. -/
theorem final6 : (dats m 0 c).arrAt 6 cfg0.N = G6 (aH m c) (aG m c) (aU m c) (aW m c) (aB m c) (aP m c) :=
  (dats m 0 c).arrAt_eq_of_cover 6 _ (fun t _ => flushed6_eq m c t) covered6
/-- The second. -/
theorem final7 : (dats m 0 c).arrAt 7 cfg0.N = G7 (aH m c) (aG m c) (aP m c) :=
  (dats m 0 c).arrAt_eq_of_cover 7 _ (fun t h => flushed7_eq m c t ((flush0_7 t).mp h)) covered7

end Arrays
end Cert.KernelIdeal.Up
end
-- ==== Proof.UpRef.lean ====
/- The gated convolution's reference, read at each place of its two results. -/
module
public import proofs.«01_k».proof.Proof.UpPoints
public import proofs.«01_k».proof.Proof.Gen.ReferenceIdeal.Run
public import proofs.«01_k».proof.Proof.Gen.ReferenceIdeal.Read
@[expose] public section
set_option maxRecDepth 16384
noncomputable section
namespace Cert.ReferenceIdeal.Up
open Cert.ReferenceIdeal Cert.ReferenceIdeal.Gen Cert.ReferenceIdeal.Read Cert.KernelIdeal.Up Idealize.ShloMosaic Idealize.ShloMosaic.TcCoe Idealize.SL.Sem

variable (H : Vec Ideal S2x4096x2048 .f32) (WG WU : Vec Ideal S4x2048x5632 .f32) (CW : Vec Ideal S3x5632 .f32)
    (CB : Vec Ideal S5632 .f32) (P : Vec Ideal S2x2x5632 .f32)

theorem gate_apply (b : Fin 2) (s : Fin 4096) (q : Fin 5632) : val_main_v2 (F := Ideal) H WG (ix3 b s q) = proj H WG b s q := by
  rw [val_main_v2_apply]
  refine Finset.sum_congr rfl fun k _ => ?_
  rw [val_main_v1_apply, val_main_v0_apply]
  exact congrArg₂ (· * ·) (congrArg H (ix3_of _ b s k rfl rfl rfl)) (congrArg WG (ix3_of _ 1 k q (by dsimp <;> omega) (by dsimp <;> omega) (by dsimp <;> omega)))

theorem up_apply (b : Fin 2) (s : Fin 4096) (q : Fin 5632) : val_main_v30 (F := Ideal) H WU (ix3 b s q) = proj H WU b s q := by
  rw [val_main_v30_apply]
  refine Finset.sum_congr rfl fun k _ => ?_
  rw [val_main_v29_apply, val_main_v28_apply]
  exact congrArg₂ (· * ·) (congrArg H (ix3_of _ b s k rfl rfl rfl)) (congrArg WU (ix3_of _ 1 k q (by dsimp <;> omega) (by dsimp <;> omega) (by dsimp <;> omega)))

theorem seq_apply (b : Fin 2) (r : Fin 4098) (q : Fin 5632) : val_main_v3 (F := Ideal) H WG P (ix3 b r q) = seqG H WG P b r q := by
  unfold val_main_v3 seqG
  by_cases h : r.val < 2
  · rw [dif_pos h]
    exact concatenate_pair_apply_left (1 : Fin S2x4098x5632.rank) P (val_main_v2 (F := Ideal) H WG) _ (ix3 b r q) rfl (ix3 b ⟨r.val, h⟩ q)
      (fun a => match a with | ⟨0, _⟩ => rfl | ⟨1, _⟩ => rfl | ⟨2, _⟩ => rfl)
  · rw [dif_neg h, ← gate_apply]
    exact concatenate_pair_apply_right (1 : Fin S2x4098x5632.rank) P (val_main_v2 (F := Ideal) H WG) _ (ix3 b r q) rfl rfl (ix3 b ⟨r.val - 2, by omega⟩ q)
      (fun a ha => match a with | ⟨0, _⟩ => rfl | ⟨1, _⟩ => absurd rfl ha | ⟨2, _⟩ => rfl) (by show r.val - 2 + 2 = r.val; omega)

theorem out0_apply (b : Fin 2) (s : Fin 4096) (q : Fin 5632) :
    val_main_v32 (F := Ideal) H WG WU CW CB P (ix3 b s q) = resA H WG WU CW CB P b s q := by
  simp only [val_main_v32_apply, val_main_v31_apply, val_main_v27_apply, val_main_call0_v5_apply, val_main_call0_v3_apply, val_main_call0_v1_apply, val_main_call0_v0_apply, val_main_v26_apply, val_main_v25_apply, val_main_v19_apply, val_main_v18_apply, val_main_v12_apply, val_main_v9_apply, val_main_v11_apply, val_main_v10_apply, val_main_v8_apply, val_main_v7_apply, val_main_v5_apply, val_main_v4_apply, val_main_v17_apply, val_main_v16_apply, val_main_v14_apply, val_main_v13_apply, val_main_v24_apply, val_main_v23_apply, val_main_v21_apply, val_main_v20_apply, val_main_v6_apply, val_main_v15_apply, val_main_v22_apply, val_main_call0_v2_apply, val_main_call0_v4_apply, val_main_call0_cst_apply, val_main_call0_cst_0_apply]
  have e3 : ∀ z (n : Fin 4098), z = ix3 b n q → val_main_v3 (F := Ideal) H WG P z = seqG H WG P b n q := fun z n hz => hz ▸ seq_apply H WG P b n q
  rw [up_apply, e3 (idx_main_v6 (ix3 b s q)) ⟨s.val, by omega⟩ (ix3_of _ _ _ _ rfl (by dsimp <;> omega) rfl),
    e3 (idx_main_v15 (ix3 b s q)) ⟨s.val + 1, by omega⟩ (ix3_of _ _ _ _ rfl (by dsimp <;> omega) rfl),
    e3 (idx_main_v22 (ix3 b s q)) ⟨s.val + 2, by omega⟩ (ix3_of _ _ _ _ rfl (by dsimp <;> omega) rfl),
    ix2_of (idx_main_v4 (idx_main_v5 (idx_main_v7 (idx_main_v8 (ix3 b s q))))) 0 q (by dsimp <;> omega) (by dsimp <;> omega),
    ix2_of (idx_main_v13 (idx_main_v14 (idx_main_v16 (idx_main_v17 (ix3 b s q))))) 1 q (by dsimp <;> omega) (by dsimp <;> omega),
    ix2_of (idx_main_v20 (idx_main_v21 (idx_main_v23 (idx_main_v24 (ix3 b s q))))) 2 q (by dsimp <;> omega) (by dsimp <;> omega),
    show idx_main_v10 (idx_main_v11 (ix3 b s q)) = ix1 q from funext fun a => match a with | ⟨0, _⟩ => rfl]
  unfold resA
  generalize seqG H WG P b ⟨s.val, by omega⟩ q = a0
  generalize seqG H WG P b ⟨s.val + 1, by omega⟩ q = a1
  generalize seqG H WG P b ⟨s.val + 2, by omega⟩ q = a2
  generalize proj H WU b s q = u
  generalize CB (ix1 q) = w
  generalize CW (ix2 0 q) = w0
  generalize CW (ix2 1 q) = w1
  generalize CW (ix2 2 q) = w2
  unfold actv
  have e : w + w2 * a2 + w1 * a1 + w0 * a0 = w + w0 * a0 + w1 * a1 + w2 * a2 := by abel
  rw [e, zero_sub]
  rw [show (FloatOps.ofBits FTy.f32 1065353216#32 : Ideal .f32) = (1 : EReal) from Ideal.ofBits_one_f32]
  rfl

/-- The first result of the reference. -/
theorem out0_eq : val_main_v32 (F := Ideal) H WG WU CW CB P = G6 H WG WU CW CB P := funext fun y => by
  have := out0_apply H WG WU CW CB P (y 0) (y 1) (y 2)
  rwa [← ix3_of y (y 0) (y 1) (y 2) rfl rfl rfl] at this

/-- The second. -/
theorem out1_eq : val_main_v33 (F := Ideal) H WG P = G7 H WG P := funext fun y => by
  rw [val_main_v33_apply]
  have h : (y 1).val < 2 := (y 1).isLt
  exact (congrArg (val_main_v3 (F := Ideal) H WG P)
    (ix3_of (idx_main_v33 y) (y 0) ⟨4096 + (y 1).val, by omega⟩ (y 2) rfl rfl rfl)).trans (seq_apply H WG P _ _ _)

end Cert.ReferenceIdeal.Up
end
-- ==== Proof.Rows.lean ====
/- Rows of the layer: a place of the flattened arrays as a batch and a token, and the norm of a row. -/
module
public import Idealize.ShloMosaic.Lib.Pointwise
public import Idealize.ShloMosaic.Lib.ValueIdx
public import Idealize.ShloMosaic.PureOps.Ideal.Laws
@[expose] public section
noncomputable section
namespace Cert.Rows
open Idealize.ShloMosaic

/-- The divisor of the mean of a row of 2048 entries. -/
def width : EReal := Ideal.ofBits .f32 0x45000000#32
/-- What the norm adds to the mean. -/
def eps : EReal := Ideal.ofBits .f32 0x358637BD#32

/-- An entry of the root-mean-square norm of the row `y`: `cnt` is the row's length and `g` the entry's gain. -/
def rms {n : ℕ} (cnt : EReal) (y : Fin n → EReal) (g : EReal) (j : Fin n) : EReal :=
  y j * Ideal.rsqrt (Ideal.div (∑ k, y k * y k) cnt + eps) * g

/-- The batch of a flattened row -/
def bat (R : Fin 8192) : Fin 2 := ⟨R.val / 4096, by omega⟩
/-- and its token. -/
def tok (R : Fin 8192) : Fin 4096 := ⟨R.val % 4096, by omega⟩

/-- A flattened array's entry. -/
theorem flat_apply {n : ℕ} {e : EltTy} (x : Vec Ideal ⟨3, ![2, 4096, n]⟩ e) (h : Shape.ShapeCasts ⟨3, ![2, 4096, n]⟩ ⟨2, ![8192, n]⟩)
    (R : Fin 8192) (j : Fin n) : shapeCast ⟨2, ![8192, n]⟩ x h (ix2 R j) = x (ix3 (bat R) (tok R) j) :=
  shapeCast_apply x h (ix2 R j) (ix3 (bat R) (tok R) j) (by
    rw [Shape.rowMajor_val_three, Shape.rowMajor_val_two]
    show (R.val / 4096 * 4096 + R.val % 4096) * n + j.val = R.val * n + j.val
    rw [show R.val / 4096 * 4096 + R.val % 4096 = R.val by omega])

end Cert.Rows
end
-- ==== Proof.DownKernel.lean ====
/- The down projection's kernel: what a point leaves, and the two result arrays. -/
module
public import proofs.«01_k».proof.Proof.Rows
public import proofs.«01_k».proof.Proof.UpCommon
public import proofs.«01_k».proof.Proof.Gen.DownIdeal.Value
@[expose] public section
set_option maxRecDepth 16384
noncomputable section
namespace Cert.DownIdeal.Down
open Cert.DownIdeal Cert.DownIdeal.Gen Cert.DownIdeal.Value Cert.Rows Idealize.ShloMosaic Idealize.ShloMosaic.TcCoe Idealize.SL.Sem

/-- A row of a tile's product. -/
def prodT (a : Vec Ideal S256x5632 .bf16) (w : Vec Ideal S1x5632x2048 .bf16) (r : Fin 256) (j : Fin 2048) : EReal :=
  ∑ k : Fin 5632, a (ix2 r k) * w (ix3 0 k j)

/-- A row of a tile's residual sum. -/
def resT (a : Vec Ideal S256x5632 .bf16) (w : Vec Ideal S1x5632x2048 .bf16) (x : Vec Ideal S256x2048 .f32) (g : Vec Ideal S1x2048 .f32)
    (r : Fin 256) (j : Fin 2048) : EReal :=
  x (ix2 r j) + rms width (prodT a w r) (g (ix2 0 j)) j

theorem pay1_apply (a : Vec Ideal S256x5632 .bf16) (w : Vec Ideal S1x5632x2048 .bf16) (x : Vec Ideal S256x2048 .f32) (g : Vec Ideal S1x2048 .f32)
    (r : Fin 256) (j : Fin 2048) : k0_pay1 a w x g (ix2 r j) = resT a w x g r j := by
  unfold_payloads
  pointwise
  rfl

theorem pay2_apply (a : Vec Ideal S256x5632 .bf16) (w : Vec Ideal S1x5632x2048 .bf16) (x : Vec Ideal S256x2048 .f32) (g h : Vec Ideal S1x2048 .f32)
    (r : Fin 256) (j : Fin 2048) : k0_pay2 a w x g h (ix2 r j) = rms width (resT a w x g r) (h (ix2 0 j)) j := by
  have e : k0_pay1 a w x g = fun y => resT a w x g (y 0) (y 1) := funext fun y =>
    (congrArg (k0_pay1 a w x g) (eq_ix2 y)).trans (pay1_apply a w x g _ _)
  unfold k0_pay2
  rw [e]
  pointwise
  rfl

/-! ## The mathematics, over the argument arrays -/

/-- The projection of the activations by the layer's slice of the weight. -/
def proj (A : Vec Ideal S2x4096x5632 .f32) (W : Vec Ideal S4x5632x2048 .f32) (b : Fin 2) (s : Fin 4096) (j : Fin 2048) : EReal :=
  ∑ k : Fin 5632, A (ix3 b s k) * W (ix3 1 k j)

/-- The residual stream after it. -/
def res (A : Vec Ideal S2x4096x5632 .f32) (W : Vec Ideal S4x5632x2048 .f32) (X : Vec Ideal S2x4096x2048 .f32) (GP : Vec Ideal S2048 .f32)
    (b : Fin 2) (s : Fin 4096) (j : Fin 2048) : EReal :=
  X (ix3 b s j) + rms width (proj A W b s) (GP (ix1 j)) j

/-- The first result: the residual stream, -/
def G5 (A : Vec Ideal S2x4096x5632 .f32) (W : Vec Ideal S4x5632x2048 .f32) (X : Vec Ideal S2x4096x2048 .f32) (GP : Vec Ideal S2048 .f32) :
    Vec Ideal S8192x2048 .f32 :=
  fun y => res A W X GP (bat (y 0)) (tok (y 0)) (y 1)

/-- and the second: its norm. -/
def G6 (A : Vec Ideal S2x4096x5632 .f32) (W : Vec Ideal S4x5632x2048 .f32) (X : Vec Ideal S2x4096x2048 .f32) (GP GN : Vec Ideal S2048 .f32) :
    Vec Ideal S8192x2048 .bf16 :=
  fun y => rms width (res A W X GP (bat (y 0)) (tok (y 0))) (GN (ix1 (y 1))) (y 1)

/-! ## The blocks -/

theorem pt0 : ∀ t : Fin cfg0.N, win0_0.index t (0 : Fin 2) = t.val ∧ win0_0.index t (1 : Fin 2) = 0 :=
  (by decide +kernel : ∀ t : Fin grid0.N, _)
theorem pt1 : ∀ t : Fin cfg0.N, win0_1.index t (0 : Fin 3) = 1 ∧ win0_1.index t (1 : Fin 3) = 0 ∧ win0_1.index t (2 : Fin 3) = 0 :=
  (by decide +kernel : ∀ t : Fin grid0.N, _)
theorem pt2 : ∀ t : Fin cfg0.N, win0_2.index t (0 : Fin 2) = t.val ∧ win0_2.index t (1 : Fin 2) = 0 :=
  (by decide +kernel : ∀ t : Fin grid0.N, _)
theorem pt3 : ∀ t : Fin cfg0.N, win0_3.index t (0 : Fin 2) = 0 ∧ win0_3.index t (1 : Fin 2) = 0 :=
  (by decide +kernel : ∀ t : Fin grid0.N, _)
theorem pt4 : ∀ t : Fin cfg0.N, win0_4.index t (0 : Fin 2) = 0 ∧ win0_4.index t (1 : Fin 2) = 0 :=
  (by decide +kernel : ∀ t : Fin grid0.N, _)
theorem pt5 : ∀ t : Fin cfg0.N, win0_5.index t (0 : Fin 2) = t.val ∧ win0_5.index t (1 : Fin 2) = 0 :=
  (by decide +kernel : ∀ t : Fin grid0.N, _)
theorem pt6 : ∀ t : Fin cfg0.N, win0_6.index t (0 : Fin 2) = t.val ∧ win0_6.index t (1 : Fin 2) = 0 :=
  (by decide +kernel : ∀ t : Fin grid0.N, _)

theorem lt32 (t : Fin cfg0.N) : t.val < 32 := lt_of_lt_of_eq t.isLt (show cfg0.N = 32 from N_0)

/-- A row of a point's tile. -/
def rOf (t : Fin cfg0.N) (r : Fin 256) : Fin 8192 := ⟨256 * t.val + r.val, by have := lt32 t; omega⟩

theorem emb0 (t : Fin cfg0.N) (r : Fin 256) (k : Fin 5632) : ((cfg0.win 0).blk t).view.emb (ix2 r k) = ix2 (rOf t r) k := by
  obtain ⟨e0, e1⟩ := pt0 t
  funext a; apply Fin.ext
  match a with
  | ⟨0, _⟩ => show win0_0.index t (0 : Fin 2) * 256 + 1 * r.val = 256 * t.val + r.val; omega
  | ⟨1, _⟩ => show win0_0.index t (1 : Fin 2) * 5632 + 1 * k.val = k.val; omega
theorem emb1 (t : Fin cfg0.N) (k : Fin 5632) (j : Fin 2048) : ((cfg0.win 1).blk t).view.emb (ix3 0 k j) = ix3 1 k j := by
  obtain ⟨e0, e1, e2⟩ := pt1 t
  funext a; apply Fin.ext
  match a with
  | ⟨0, _⟩ => show win0_1.index t (0 : Fin 3) * 1 + 1 * 0 = 1; omega
  | ⟨1, _⟩ => show win0_1.index t (1 : Fin 3) * 5632 + 1 * k.val = k.val; omega
  | ⟨2, _⟩ => show win0_1.index t (2 : Fin 3) * 2048 + 1 * j.val = j.val; omega
theorem emb2 (t : Fin cfg0.N) (r : Fin 256) (j : Fin 2048) : ((cfg0.win 2).blk t).view.emb (ix2 r j) = ix2 (rOf t r) j := by
  obtain ⟨e0, e1⟩ := pt2 t
  funext a; apply Fin.ext
  match a with
  | ⟨0, _⟩ => show win0_2.index t (0 : Fin 2) * 256 + 1 * r.val = 256 * t.val + r.val; omega
  | ⟨1, _⟩ => show win0_2.index t (1 : Fin 2) * 2048 + 1 * j.val = j.val; omega
theorem emb3 (t : Fin cfg0.N) (j : Fin 2048) : ((cfg0.win 3).blk t).view.emb (ix2 0 j) = ix2 0 j := by
  obtain ⟨e0, e1⟩ := pt3 t
  funext a; apply Fin.ext
  match a with
  | ⟨0, _⟩ => show win0_3.index t (0 : Fin 2) * 1 + 1 * 0 = 0; omega
  | ⟨1, _⟩ => show win0_3.index t (1 : Fin 2) * 2048 + 1 * j.val = j.val; omega
theorem emb4 (t : Fin cfg0.N) (j : Fin 2048) : ((cfg0.win 4).blk t).view.emb (ix2 0 j) = ix2 0 j := by
  obtain ⟨e0, e1⟩ := pt4 t
  funext a; apply Fin.ext
  match a with
  | ⟨0, _⟩ => show win0_4.index t (0 : Fin 2) * 1 + 1 * 0 = 0; omega
  | ⟨1, _⟩ => show win0_4.index t (1 : Fin 2) * 2048 + 1 * j.val = j.val; omega
theorem emb5 (t : Fin cfg0.N) (r : Fin 256) (j : Fin 2048) : ((cfg0.win 5).blk t).view.emb (ix2 r j) = ix2 (rOf t r) j := by
  obtain ⟨e0, e1⟩ := pt5 t
  funext a; apply Fin.ext
  match a with
  | ⟨0, _⟩ => show win0_5.index t (0 : Fin 2) * 256 + 1 * r.val = 256 * t.val + r.val; omega
  | ⟨1, _⟩ => show win0_5.index t (1 : Fin 2) * 2048 + 1 * j.val = j.val; omega
theorem emb6 (t : Fin cfg0.N) (r : Fin 256) (j : Fin 2048) : ((cfg0.win 6).blk t).view.emb (ix2 r j) = ix2 (rOf t r) j := by
  obtain ⟨e0, e1⟩ := pt6 t
  funext a; apply Fin.ext
  match a with
  | ⟨0, _⟩ => show win0_6.index t (0 : Fin 2) * 256 + 1 * r.val = 256 * t.val + r.val; omega
  | ⟨1, _⟩ => show win0_6.index t (1 : Fin 2) * 2048 + 1 * j.val = j.val; omega

section Arrays
variable (m : (ℓ : Loc nD τ sig) → Buf (Elt Ideal) ℓ) (c : Dev nD)

/-- The argument arrays. -/
abbrev aA : Vec Ideal S2x4096x5632 .f32 := m ((c : Thread nD τ).loc main_arg0)
abbrev aW : Vec Ideal S4x5632x2048 .f32 := m ((c : Thread nD τ).loc main_arg1)
abbrev aX : Vec Ideal S2x4096x2048 .f32 := m ((c : Thread nD τ).loc main_arg2)
abbrev aGP : Vec Ideal S2048 .f32 := m ((c : Thread nD τ).loc main_arg3)
abbrev aGN : Vec Ideal S2048 .f32 := m ((c : Thread nD τ).loc main_arg4)

theorem V_main_v1 : V m c main_v1 = (fun y => shapeCast S8192x5632 (aA m c) shapeCasts_S2x4096x5632_S8192x5632 y : Vec Ideal S8192x5632 .bf16) := by
  show StableHlo.after hostOps0 _ (Proc.devRef .tc main_v1) = _
  after_results
  rfl
theorem V_main_v2 : V m c main_v2 = (fun y => aW m c y : Vec Ideal S4x5632x2048 .bf16) := by
  show StableHlo.after hostOps0 _ (Proc.devRef .tc main_v2) = _
  after_results
  rfl
theorem V_main_v3 : V m c main_v3 = (shapeCast S8192x2048 (aX m c) shapeCasts_S2x4096x2048_S8192x2048 : Vec Ideal S8192x2048 .f32) := by
  show StableHlo.after hostOps0 _ (Proc.devRef .tc main_v3) = _
  after_results
  rfl
theorem V_main_v4 : V m c main_v4 = (shapeCast S1x2048 (aGP m c) shapeCasts_S2048_S1x2048 : Vec Ideal S1x2048 .f32) := by
  show StableHlo.after hostOps0 _ (Proc.devRef .tc main_v4) = _
  after_results
  rfl
theorem V_main_v5 : V m c main_v5 = (shapeCast S1x2048 (aGN m c) shapeCasts_S2048_S1x2048 : Vec Ideal S1x2048 .f32) := by
  show StableHlo.after hostOps0 _ (Proc.devRef .tc main_v5) = _
  after_results
  rfl

theorem blk0 (t : Fin cfg0.N) (r : Fin 256) (k : Fin 5632) :
    iblk m c 0 t (ix2 r k) = aA m c (ix3 (bat (rOf t r)) (tok (rOf t r)) k) := by
  show V m c main_v1 (((cfg0.win 0).blk t).view.emb (ix2 r k)) = _
  rw [emb0, V_main_v1]
  exact flat_apply _ _ _ _
theorem blk1 (t : Fin cfg0.N) (k : Fin 5632) (j : Fin 2048) : iblk m c 1 t (ix3 0 k j) = aW m c (ix3 1 k j) := by
  show V m c main_v2 (((cfg0.win 1).blk t).view.emb (ix3 0 k j)) = _
  rw [emb1, V_main_v2]
theorem blk2 (t : Fin cfg0.N) (r : Fin 256) (j : Fin 2048) :
    iblk m c 2 t (ix2 r j) = aX m c (ix3 (bat (rOf t r)) (tok (rOf t r)) j) := by
  show V m c main_v3 (((cfg0.win 2).blk t).view.emb (ix2 r j)) = _
  rw [emb2, V_main_v3]
  exact flat_apply _ _ _ _
theorem blk3 (t : Fin cfg0.N) (j : Fin 2048) : iblk m c 3 t (ix2 0 j) = aGP m c (ix1 j) := by
  show V m c main_v4 (((cfg0.win 3).blk t).view.emb (ix2 0 j)) = _
  rw [emb3, V_main_v4]
  pointwise
theorem blk4 (t : Fin cfg0.N) (j : Fin 2048) : iblk m c 4 t (ix2 0 j) = aGN m c (ix1 j) := by
  show V m c main_v5 (((cfg0.win 4).blk t).view.emb (ix2 0 j)) = _
  rw [emb4, V_main_v5]
  pointwise

/-! ## A tile's entries are the arrays' -/

theorem prod_eq (t : Fin cfg0.N) (r : Fin 256) :
    prodT (iblk m c 0 t) (iblk m c 1 t) r = proj (aA m c) (aW m c) (bat (rOf t r)) (tok (rOf t r)) :=
  funext fun j => Finset.sum_congr rfl fun k _ => by rw [blk0, blk1]

theorem res_eq (t : Fin cfg0.N) (r : Fin 256) : resT (iblk m c 0 t) (iblk m c 1 t) (iblk m c 2 t) (iblk m c 3 t) r
    = res (aA m c) (aW m c) (aX m c) (aGP m c) (bat (rOf t r)) (tok (rOf t r)) := funext fun j => by
  unfold resT res
  rw [prod_eq, blk2, blk3]

/-! ## The result arrays -/

theorem z2 : (![0, 0] : Fin 2 → Nat) = fun _ => 0 := by decide
theorem z3 : (![0, 0, 0] : Fin 3 → Nat) = fun _ => 0 := by decide

theorem out5_eq (x0 : Vec Ideal S256x5632 .bf16) (x1 : Vec Ideal S1x5632x2048 .bf16) (x2 : Vec Ideal S256x2048 .f32)
    (x3 x4 : Vec Ideal S1x2048 .f32) : out0_5 x0 x1 x2 x3 x4 = k0_pay1 x0 x1 x2 x3 := by
  refine (View.canon_unit_zero z2 _ _).trans ?_
  rw [View.ld_unit_zero z2, View.ld_unit_zero z3, View.ld_unit_zero z2, View.ld_unit_zero z2]
theorem out6_eq (x0 : Vec Ideal S256x5632 .bf16) (x1 : Vec Ideal S1x5632x2048 .bf16) (x2 : Vec Ideal S256x2048 .f32)
    (x3 x4 : Vec Ideal S1x2048 .f32) : out0_6 x0 x1 x2 x3 x4 = k0_pay2 x0 x1 x2 x3 x4 := by
  refine (View.canon_unit_zero z2 _ _).trans ?_
  rw [View.ld_unit_zero z2, View.ld_unit_zero z3, View.ld_unit_zero z2, View.ld_unit_zero z2, View.ld_unit_zero z2]

theorem flushed5_eq (t : Fin cfg0.N) : (dats m 0 c).flushed 5 t
    = ((cfg0.win 5).blk t).view.read (Elt Ideal) (G5 (aA m c) (aW m c) (aX m c) (aGP m c)) := by
  rw [flushed5]
  funext y
  obtain ⟨r, j, rfl⟩ : ∃ (r : Fin 256) (j : Fin 2048), y = ix2 r j := ⟨y 0, y 1, eq_ix2 y⟩
  show out0_5 (iblk m c 0 t) (iblk m c 1 t) (iblk m c 2 t) (iblk m c 3 t) (iblk m c 4 t) (ix2 r j) = G5 _ _ _ _ (((cfg0.win 5).blk t).view.emb (ix2 r j))
  rw [emb5]
  show _ = res (aA m c) (aW m c) (aX m c) (aGP m c) (bat (rOf t r)) (tok (rOf t r)) j
  rw [← res_eq, ← pay1_apply, out5_eq]

theorem flushed6_eq (t : Fin cfg0.N) : (dats m 0 c).flushed 6 t
    = ((cfg0.win 6).blk t).view.read (Elt Ideal) (G6 (aA m c) (aW m c) (aX m c) (aGP m c) (aGN m c)) := by
  rw [flushed6]
  funext y
  obtain ⟨r, j, rfl⟩ : ∃ (r : Fin 256) (j : Fin 2048), y = ix2 r j := ⟨y 0, y 1, eq_ix2 y⟩
  show out0_6 (iblk m c 0 t) (iblk m c 1 t) (iblk m c 2 t) (iblk m c 3 t) (iblk m c 4 t) (ix2 r j) = G6 _ _ _ _ _ (((cfg0.win 6).blk t).view.emb (ix2 r j))
  rw [emb6]
  show _ = rms width (res (aA m c) (aW m c) (aX m c) (aGP m c) (bat (rOf t r)) (tok (rOf t r))) (aGN m c (ix1 j)) j
  rw [← res_eq, ← blk4 m c t, ← pay2_apply, out6_eq]

theorem covered5 (i : S8192x2048.Idx) : ∃ t : Fin cfg0.N, (cfg0.win 5).flush t = true ∧ i ∈ ((cfg0.win 5).blk t).view.set := by
  have h0 : (i 0).val < 8192 := (i 0).isLt
  have hN : cfg0.N = 32 := N_0
  refine ⟨⟨(i 0).val / 256, by omega⟩, flush0_5 _, ?_⟩
  have h := ((cfg0.win 5).blk (⟨(i 0).val / 256, by omega⟩ : Fin cfg0.N)).view.emb_mem_set (ix2 (⟨(i 0).val % 256, by omega⟩ : Fin 256) (⟨(i 1).val, (i 1).isLt⟩ : Fin 2048))
  erw [emb5] at h
  rw [← Cert.KernelIdeal.Up.ix2_of i] at h
  · exact h
  · dsimp [rOf]; omega
  · rfl

theorem covered6 (i : S8192x2048.Idx) : ∃ t : Fin cfg0.N, (cfg0.win 6).flush t = true ∧ i ∈ ((cfg0.win 6).blk t).view.set := by
  have h0 : (i 0).val < 8192 := (i 0).isLt
  have hN : cfg0.N = 32 := N_0
  refine ⟨⟨(i 0).val / 256, by omega⟩, flush0_6 _, ?_⟩
  have h := ((cfg0.win 6).blk (⟨(i 0).val / 256, by omega⟩ : Fin cfg0.N)).view.emb_mem_set (ix2 (⟨(i 0).val % 256, by omega⟩ : Fin 256) (⟨(i 1).val, (i 1).isLt⟩ : Fin 2048))
  erw [emb6] at h
  rw [← Cert.KernelIdeal.Up.ix2_of i] at h
  · exact h
  · dsimp [rOf]; omega
  · rfl

/-- The first result array after the run. -/
theorem final5 : (dats m 0 c).arrAt 5 cfg0.N = G5 (aA m c) (aW m c) (aX m c) (aGP m c) :=
  (dats m 0 c).arrAt_eq_of_cover 5 _ (fun t _ => flushed5_eq m c t) covered5
/-- The second. -/
theorem final6 : (dats m 0 c).arrAt 6 cfg0.N = G6 (aA m c) (aW m c) (aX m c) (aGP m c) (aGN m c) :=
  (dats m 0 c).arrAt_eq_of_cover 6 _ (fun t _ => flushed6_eq m c t) covered6

end Arrays
end Cert.DownIdeal.Down
end
-- ==== Proof.DownRef.lean ====
/- The down projection's reference, read at each place of its two results. -/
module
public import proofs.«01_k».proof.Proof.DownKernel
public import proofs.«01_k».proof.Proof.Gen.DownRefIdeal.Run
public import proofs.«01_k».proof.Proof.Gen.DownRefIdeal.Read
@[expose] public section
set_option maxRecDepth 16384
noncomputable section
namespace Cert.DownRefIdeal.Down
open Cert.DownRefIdeal Cert.DownRefIdeal.Gen Cert.DownRefIdeal.Read Cert.DownIdeal.Down Cert.KernelIdeal.Up Cert.Rows Idealize.ShloMosaic Idealize.ShloMosaic.TcCoe Idealize.SL.Sem

variable (A : Vec Ideal S2x4096x5632 .f32) (W : Vec Ideal S4x5632x2048 .f32) (X : Vec Ideal S2x4096x2048 .f32) (GP GN : Vec Ideal S2048 .f32)

theorem prod_apply (b : Fin 2) (s : Fin 4096) (j : Fin 2048) : val_main_v2 (F := Ideal) A W (ix3 b s j) = proj A W b s j := by
  rw [val_main_v2_apply]
  refine Finset.sum_congr rfl fun k _ => ?_
  rw [val_main_v1_apply, val_main_v0_apply]
  exact congrArg₂ (· * ·) (congrArg A (ix3_of _ b s k rfl rfl rfl)) (congrArg W (ix3_of _ 1 k j (by dsimp <;> omega) (by dsimp <;> omega) (by dsimp <;> omega)))

theorem sq_apply (b : Fin 2) (s : Fin 4096) : val_main_v4 (F := Ideal) A W (ix2 b s) = ∑ k, proj A W b s k * proj A W b s k := by
  rw [val_main_v4_apply, val_main_cst_apply, show (FloatOps.ofBits FTy.f32 0x00000000#32 : Ideal .f32) = (0 : EReal) from Ideal.ofBits_zero_f32, zero_add]
  refine Finset.sum_congr rfl fun k _ => ?_
  rw [val_main_v3_apply]
  have e : ∀ z, z = ix3 b s k → val_main_v2 (F := Ideal) A W z = proj A W b s k := fun z hz => hz ▸ prod_apply A W b s k
  exact congrArg₂ (· * ·) (e _ (ix3_of _ b s k rfl rfl rfl)) (e _ (ix3_of _ b s k rfl rfl rfl))

theorem res_apply (b : Fin 2) (s : Fin 4096) (j : Fin 2048) : val_main_v16 (F := Ideal) A W X GP (ix3 b s j) = res A W X GP b s j := by
  simp only [val_main_v16_apply, val_main_v15_apply, val_main_v12_apply, val_main_v11_apply, val_main_v10_apply, val_main_v9_apply, val_main_v8_apply, val_main_v7_apply, val_main_v6_apply, val_main_v5_apply, val_main_v14_apply, val_main_v13_apply, val_main_cst_0_apply, val_main_cst_1_apply]
  rw [ix2_of (idx_main_v5 (idx_main_v11 (ix3 b s j))) b s rfl rfl, sq_apply, prod_apply,
    show idx_main_v13 (idx_main_v14 (ix3 b s j)) = ix1 j from funext fun a => match a with | ⟨0, _⟩ => rfl]
  rfl

theorem sq2_apply (b : Fin 2) (s : Fin 4096) :
    val_main_v18 (F := Ideal) A W X GP (ix2 b s) = ∑ k, res A W X GP b s k * res A W X GP b s k := by
  rw [val_main_v18_apply, val_main_cst_2_apply, show (FloatOps.ofBits FTy.f32 0x00000000#32 : Ideal .f32) = (0 : EReal) from Ideal.ofBits_zero_f32, zero_add]
  refine Finset.sum_congr rfl fun k _ => ?_
  rw [val_main_v17_apply]
  have e : ∀ z, z = ix3 b s k → val_main_v16 (F := Ideal) A W X GP z = res A W X GP b s k := fun z hz => hz ▸ res_apply A W X GP b s k
  exact congrArg₂ (· * ·) (e _ (ix3_of _ b s k rfl rfl rfl)) (e _ (ix3_of _ b s k rfl rfl rfl))

theorem norm_apply (b : Fin 2) (s : Fin 4096) (j : Fin 2048) :
    val_main_v29 (F := Ideal) A W X GP GN (ix3 b s j) = rms width (res A W X GP b s) (GN (ix1 j)) j := by
  simp only [val_main_v29_apply, val_main_v26_apply, val_main_v25_apply, val_main_v24_apply, val_main_v23_apply, val_main_v22_apply, val_main_v21_apply, val_main_v20_apply, val_main_v19_apply, val_main_v28_apply, val_main_v27_apply, val_main_cst_3_apply, val_main_cst_4_apply]
  rw [ix2_of (idx_main_v19 (idx_main_v25 (ix3 b s j))) b s rfl rfl, sq2_apply, res_apply,
    show idx_main_v27 (idx_main_v28 (ix3 b s j)) = ix1 j from funext fun a => match a with | ⟨0, _⟩ => rfl]
  rfl

/-- The first result of the reference. -/
theorem out0_eq : val_main_v30 (F := Ideal) A W X GP = G5 A W X GP := funext fun y => by
  have h0 : (y 0).val < 8192 := (y 0).isLt
  have h1 : (y 1).val < 2048 := (y 1).isLt
  rw [val_main_v30_apply]
  exact (congrArg (val_main_v16 (F := Ideal) A W X GP) (ix3_of (idx_main_v30 y) (bat (y 0)) (tok (y 0)) (y 1)
    (by dsimp [bat] <;> omega) (by dsimp [tok] <;> omega) (by dsimp <;> omega))).trans (res_apply A W X GP _ _ _)

/-- The second. -/
theorem out1_eq : val_main_v32 (F := Ideal) A W X GP GN = G6 A W X GP GN := funext fun y => by
  have h0 : (y 0).val < 8192 := (y 0).isLt
  have h1 : (y 1).val < 2048 := (y 1).isLt
  rw [val_main_v32_apply, val_main_v31_apply]
  exact (congrArg (val_main_v29 (F := Ideal) A W X GP GN) (ix3_of (idx_main_v32 y) (bat (y 0)) (tok (y 0)) (y 1)
    (by dsimp [bat] <;> omega) (by dsimp [tok] <;> omega) (by dsimp <;> omega))).trans (norm_apply A W X GP GN _ _ _)

end Cert.DownRefIdeal.Down
end
-- ==== Proof.ProjKernel.lean ====
/- The input projection's matrix product: its blocks and its result array as plain functions of the argument arrays. -/
module
public import proofs.«01_k».proof.Proof.Rows
public import proofs.«01_k».proof.Proof.UpCommon
public import proofs.«01_k».proof.Proof.Gen.ProjIdeal.Value
@[expose] public section
set_option maxRecDepth 16384
noncomputable section
namespace Cert.ProjIdeal.Proj
open Cert.ProjIdeal Cert.ProjIdeal.Gen Cert.ProjIdeal.Value Cert.KernelIdeal.Up Cert.Rows Idealize.ShloMosaic Idealize.ShloMosaic.TcCoe Idealize.SL.Sem

/-! ## A tile -/

/-- The weight tile the scratch keeps: the three column blocks side by side. -/
def wT (x1 x2 x3 : Vec Ideal S1x2048x256 .f32) : Vec Ideal S2048x768 .bf16 := fun y =>
  if h : (y 1).val < 256 then x1 (ix3 0 (y 0) ⟨(y 1).val, h⟩)
  else if h' : (y 1).val < 512 then x2 (ix3 0 (y 0) ⟨(y 1).val - 256, by omega⟩)
  else x3 (ix3 0 (y 0) ⟨(y 1).val - 512, by have e : (y 1).val < 768 := (y 1).isLt; omega⟩)

/-- An entry of the tile's product. -/
def dotT (x : Vec Ideal S1024x2048 .bf16) (w : Vec Ideal S2048x768 .bf16) (r : Fin 1024) (q : Fin 768) : EReal :=
  ∑ k : Fin 2048, x (ix2 r k) * w (ix2 k q)

theorem pay4_apply (x : Vec Ideal S1024x2048 .bf16) (w : Vec Ideal S2048x768 .bf16) (r : Fin 1024) (q : Fin 768) :
    k0_pay4 x w (ix2 r q) = dotT x w r q := by
  unfold_payloads
  pointwise
  rfl

theorem whole2 {sig : RefSig} {a b : ℕ} {e : EltTy} (v : View sig .tc .vmem ⟨2, ![a, b]⟩ e) (f : v.ty.Contents (Elt Ideal))
    (h : ∀ x, (![0, 0] : Fin 2 → Nat) x + (⟨2, ![a, b]⟩ : Shape).size x ≤ (⟨2, ![a, b]⟩ : Shape).size x) :
    v.readAt (Elt Ideal) (Rect.unit (s := ⟨2, ![a, b]⟩) ![0, 0] (⟨2, ![a, b]⟩ : Shape).size h).toLoadRect f = v.read (Elt Ideal) f :=
  funext fun y => congrArg (v.read (Elt Ideal) f) ((ix2_of _ (y 0) (y 1) (by dsimp <;> omega) (by dsimp <;> omega)).trans (eq_ix2 y).symm)

theorem whole3 {sig : RefSig} {a b d : ℕ} {e : EltTy} (v : View sig .tc .vmem ⟨3, ![a, b, d]⟩ e) (f : v.ty.Contents (Elt Ideal))
    (h : ∀ x, (![0, 0, 0] : Fin 3 → Nat) x + (⟨3, ![a, b, d]⟩ : Shape).size x ≤ (⟨3, ![a, b, d]⟩ : Shape).size x) :
    v.readAt (Elt Ideal) (Rect.unit (s := ⟨3, ![a, b, d]⟩) ![0, 0, 0] (⟨3, ![a, b, d]⟩ : Shape).size h).toLoadRect f = v.read (Elt Ideal) f :=
  funext fun y => congrArg (v.read (Elt Ideal) f)
    ((ix3_of _ (y 0) (y 1) (y 2) (by dsimp <;> omega) (by dsimp <;> omega) (by dsimp <;> omega)).trans (eq_ix3 y).symm)

theorem ldX (v : View sig .tc .vmem S1024x2048 .bf16) (f : v.ty.Contents (Elt Ideal)) :
    v.readAt (Elt Ideal) (Rect.unit (s := S1024x2048) ![0, 0] S1024x2048.size inb_S1024x2048_S1024x2048_0_0).toLoadRect f = v.read (Elt Ideal) f :=
  whole2 v f _
theorem ldS (v : View sig .tc .vmem S2048x768 .bf16) (f : v.ty.Contents (Elt Ideal)) :
    v.readAt (Elt Ideal) (Rect.unit (s := S2048x768) ![0, 0] S2048x768.size inb_S2048x768_S2048x768_0_0).toLoadRect f = v.read (Elt Ideal) f :=
  whole2 v f _
theorem ldW (v : View sig .tc .vmem S1x2048x256 .f32) (f : v.ty.Contents (Elt Ideal)) :
    v.readAt (Elt Ideal) (Rect.unit (s := S1x2048x256) ![0, 0, 0] S1x2048x256.size inb_S1x2048x256_S1x2048x256_0_0_0).toLoadRect f = v.read (Elt Ideal) f :=
  whole3 v f _

/-- The one store of the product agrees with the product everywhere. -/
theorem outP_agree (x : Vec Ideal S1024x2048 .bf16) (w : Vec Ideal S2048x768 .bf16) :
    ∀ p ∈ [(⟨Rect.unit (s := S1024x768) ![0, 0] S1024x768.size inb_S1024x768_S1024x768_0_0, k0_pay4 x w⟩ : View.Piece (Elt Ideal) S1024x768 .f32)],
      ∀ z : p.1.shape.Idx, p.2 z = (fun y : S1024x768.Idx => dotT x w (y 0) (y 1)) (p.1.emb z) := by
  simp only [List.forall_mem_cons, List.not_mem_nil, false_implies, implies_true, and_true]
  intro (z : S1024x768.Idx)
  obtain ⟨r, q, rfl⟩ : ∃ (r : Fin 1024) (q : Fin 768), z = ix2 r q := ⟨z 0, z 1, eq_ix2 z⟩
  refine (pay4_apply _ _ r q).trans ?_
  exact congrArg₂ (dotT x w) (Fin.ext (by dsimp <;> omega)) (Fin.ext (by dsimp <;> omega))

/-- The three stores that fill the scratch, last first. -/
def wP (v1 v2 v3 : Vec Ideal S1x2048x256 .f32) : List (View.Piece (Elt Ideal) S2048x768 .bf16) :=
  [⟨Rect.unit (s := S2048x768) ![0, 512] S2048x256.size inb_S2048x768_S2048x256_0_512, k0_pay3 v3⟩,
   ⟨Rect.unit (s := S2048x768) ![0, 256] S2048x256.size inb_S2048x768_S2048x256_0_256, k0_pay2 v2⟩,
   ⟨Rect.unit (s := S2048x768) ![0, 0] S2048x256.size inb_S2048x768_S2048x256_0_0, k0_pay1 v1⟩]

theorem wP_agree (v1 v2 v3 : Vec Ideal S1x2048x256 .f32) : ∀ p ∈ wP v1 v2 v3, ∀ x : p.1.shape.Idx, p.2 x = wT v1 v2 v3 (p.1.emb x) := by
  unfold wP
  simp only [List.forall_mem_cons, List.not_mem_nil, false_implies, implies_true, and_true]
  refine ⟨?_, ?_, ?_⟩ <;> intro (z : S2048x256.Idx) <;>
    obtain ⟨k, q, rfl⟩ : ∃ (k : Fin 2048) (q : Fin 256), z = ix2 k q := ⟨z 0, z 1, eq_ix2 z⟩ <;> unfold_payloads <;> pointwise <;> unfold wT
  · rw [dif_neg (by dsimp; omega), dif_neg (by dsimp; omega)]
    exact congrArg v3 (ix3_of _ _ _ _ rfl (by dsimp <;> omega) (by dsimp <;> omega)).symm
  · rw [dif_neg (by dsimp; omega), dif_pos (by dsimp; omega)]
    exact congrArg v2 (ix3_of _ _ _ _ rfl (by dsimp <;> omega) (by dsimp <;> omega)).symm
  · rw [dif_pos (by dsimp; omega)]
    exact congrArg v1 (ix3_of _ _ _ _ rfl (by dsimp <;> omega) (by dsimp <;> omega)).symm

section CaseA
/-! A point that fills the scratch. -/
variable (c : Dev nD) (i : grid0.Coords)
  (arg2 : Memref sig .tc .vmem S1024x2048 .bf16) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S1024x768 .f32) (harg6 : arg6.IsWhole)
  (arg7 : Memref sig .tc .vmem S2048x768 .bf16) (harg7 : arg7.IsWhole) (hc0 : cond0_0 i)
  (x0 : Vec Ideal S1024x2048 .bf16) (x1 x2 x3 : Vec Ideal S1x2048x256 .f32)

theorem pieces7_A : (kernelRun0_A (F := Ideal) c i arg2 harg2 arg3 harg3 arg4 harg4 arg5 harg5 arg6 harg6 arg7 harg7 hc0 x0 x1 x2 x3).2.1
    = wP (arg3.view.readAt (Elt Ideal) (Rect.unit (s := S1x2048x256) ![0, 0, 0] S1x2048x256.size inb_S1x2048x256_S1x2048x256_0_0_0).toLoadRect (harg3.unread x1))
      (arg4.view.readAt (Elt Ideal) (Rect.unit (s := S1x2048x256) ![0, 0, 0] S1x2048x256.size inb_S1x2048x256_S1x2048x256_0_0_0).toLoadRect (harg4.unread x2))
      (arg5.view.readAt (Elt Ideal) (Rect.unit (s := S1x2048x256) ![0, 0, 0] S1x2048x256.size inb_S1x2048x256_S1x2048x256_0_0_0).toLoadRect (harg5.unread x3)) := by
  sl_kernel_rfl

theorem pieces6_A : (kernelRun0_A (F := Ideal) c i arg2 harg2 arg3 harg3 arg4 harg4 arg5 harg5 arg6 harg6 arg7 harg7 hc0 x0 x1 x2 x3).1
    = [⟨Rect.unit (s := S1024x768) ![0, 0] S1024x768.size inb_S1024x768_S1024x768_0_0, k0_pay4 (arg2.view.readAt (Elt Ideal) (Rect.unit (s := S1024x2048) ![0, 0] S1024x2048.size inb_S1024x2048_S1024x2048_0_0).toLoadRect (harg2.unread x0))
        (arg7.view.readAt (Elt Ideal) (Rect.unit (s := S2048x768) ![0, 0] S2048x768.size inb_S2048x768_S2048x768_0_0).toLoadRect (arg7.view.writes (Elt Ideal) arg7.view.junk (kernelRun0_A (F := Ideal) c i arg2 harg2 arg3 harg3 arg4 harg4 arg5 harg5 arg6 harg6 arg7 harg7 hc0 x0 x1 x2 x3).2.1))⟩] := by
  sl_kernel_rfl

theorem fill_A (v : View sig .tc .vmem S2048x768 .bf16) (f : v.ty.Contents (Elt Ideal)) :
    v.read (Elt Ideal) (v.writes (Elt Ideal) f (kernelRun0_A (F := Ideal) c i arg2 harg2 arg3 harg3 arg4 harg4 arg5 harg5 arg6 harg6 arg7 harg7 hc0 x0 x1 x2 x3).2.1) = wT x1 x2 x3 := by
  funext y
  refine read_writes_of_agree v _ (wT x1 x2 x3) _ ?_ y (Or.inr (scover0_A_0 c i arg2 harg2 arg3 harg3 arg4 harg4 arg5 harg5 arg6 harg6 arg7 harg7 hc0 x0 x1 x2 x3 y))
  rw [pieces7_A]
  rw [ldW, ldW, ldW, harg3.read_unread, harg4.read_unread, harg5.read_unread]
  exact wP_agree x1 x2 x3

theorem keep_A : sout0_A_0 (F := Ideal) c i arg2 harg2 arg3 harg3 arg4 harg4 arg5 harg5 arg6 harg6 arg7 harg7 hc0 x0 x1 x2 x3 = wT x1 x2 x3 := fill_A c i arg2 harg2 arg3 harg3 arg4 harg4 arg5 harg5 arg6 harg6 arg7 harg7 hc0 x0 x1 x2 x3 _ _

theorem out_A : out0_A_4 (F := Ideal) c i arg2 harg2 arg3 harg3 arg4 harg4 arg5 harg5 arg6 harg6 arg7 harg7 hc0 x0 x1 x2 x3 = fun y => dotT x0 (wT x1 x2 x3) (y 0) (y 1) := by
  funext y
  refine read_writes_of_agree VO0_4 _ (fun y => dotT x0 (wT x1 x2 x3) (y 0) (y 1)) _ ?_ y (Or.inr (cover0_A_4 c i arg2 harg2 arg3 harg3 arg4 harg4 arg5 harg5 arg6 harg6 arg7 harg7 hc0 x0 x1 x2 x3 y))
  rw [pieces6_A, ldX, ldS, fill_A, harg2.read_unread]
  exact outP_agree _ _
end CaseA

section CaseB
/-! A point that finds it filled. -/
variable (c : Dev nD) (i : grid0.Coords)
  (arg2 : Memref sig .tc .vmem S1024x2048 .bf16) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S1024x768 .f32) (harg6 : arg6.IsWhole)
  (arg7 : Memref sig .tc .vmem S2048x768 .bf16) (harg7 : arg7.IsWhole) (hc0 : ¬cond0_0 i)
  (x0 : Vec Ideal S1024x2048 .bf16) (x1 x2 x3 : Vec Ideal S1x2048x256 .f32) (xs0 : Vec Ideal S2048x768 .bf16)

theorem pieces6_B : (kernelRun0_B (F := Ideal) c i arg2 harg2 arg3 harg3 arg4 harg4 arg5 harg5 arg6 harg6 arg7 harg7 hc0 x0 x1 x2 x3 xs0).1
    = [⟨Rect.unit (s := S1024x768) ![0, 0] S1024x768.size inb_S1024x768_S1024x768_0_0, k0_pay4 (arg2.view.readAt (Elt Ideal) (Rect.unit (s := S1024x2048) ![0, 0] S1024x2048.size inb_S1024x2048_S1024x2048_0_0).toLoadRect (harg2.unread x0))
        (arg7.view.readAt (Elt Ideal) (Rect.unit (s := S2048x768) ![0, 0] S2048x768.size inb_S2048x768_S2048x768_0_0).toLoadRect (harg7.unread xs0))⟩] := by
  sl_kernel_rfl

theorem out_B : out0_B_4 (F := Ideal) c i arg2 harg2 arg3 harg3 arg4 harg4 arg5 harg5 arg6 harg6 arg7 harg7 hc0 x0 x1 x2 x3 xs0 = fun y => dotT x0 xs0 (y 0) (y 1) := by
  funext y
  refine read_writes_of_agree VO0_4 _ (fun y => dotT x0 xs0 (y 0) (y 1)) _ ?_ y (Or.inr (cover0_B_4 c i arg2 harg2 arg3 harg3 arg4 harg4 arg5 harg5 arg6 harg6 arg7 harg7 hc0 x0 x1 x2 x3 xs0 y))
  rw [pieces6_B, ldX, ldS, harg7.read_unread, harg2.read_unread]
  exact outP_agree _ _
end CaseB

/-! ## The mathematics, over the argument arrays -/

/-- The projection by the layer's slice of the weight. -/
def proj (H : Vec Ideal S2x4096x2048 .f32) (W : Vec Ideal S4x2048x5888 .f32) (b : Fin 2) (s : Fin 4096) (q : Fin 5888) : EReal :=
  ∑ k : Fin 2048, H (ix3 b s k) * W (ix3 1 k q)

/-- A column of the part this call computes. -/
def cOf (q : Fin 5376) : Fin 5888 := ⟨512 + q.val, by omega⟩

/-- The result. -/
def G4 (H : Vec Ideal S2x4096x2048 .f32) (W : Vec Ideal S4x2048x5888 .f32) : Vec Ideal S8192x5376 .f32 :=
  fun y => proj H W (bat (y 0)) (tok (y 0)) (cOf (y 1))

/-! ## The blocks -/

theorem pt0 : ∀ t : Fin cfg0.N, win0_0.index t (0 : Fin 2) = t.val % 8 ∧ win0_0.index t (1 : Fin 2) = 0 :=
  (by decide +kernel : ∀ t : Fin grid0.N, _)
theorem pt1 : ∀ t : Fin cfg0.N, win0_1.index t (0 : Fin 3) = 1 ∧ win0_1.index t (1 : Fin 3) = 0 ∧ win0_1.index t (2 : Fin 3) = 2 + 3 * (t.val / 8) :=
  (by decide +kernel : ∀ t : Fin grid0.N, _)
theorem pt2 : ∀ t : Fin cfg0.N, win0_2.index t (0 : Fin 3) = 1 ∧ win0_2.index t (1 : Fin 3) = 0 ∧ win0_2.index t (2 : Fin 3) = 2 + 3 * (t.val / 8) + 1 :=
  (by decide +kernel : ∀ t : Fin grid0.N, _)
theorem pt3 : ∀ t : Fin cfg0.N, win0_3.index t (0 : Fin 3) = 1 ∧ win0_3.index t (1 : Fin 3) = 0 ∧ win0_3.index t (2 : Fin 3) = 2 + 3 * (t.val / 8) + 2 :=
  (by decide +kernel : ∀ t : Fin grid0.N, _)
theorem pt4 : ∀ t : Fin cfg0.N, win0_4.index t (0 : Fin 2) = t.val % 8 ∧ win0_4.index t (1 : Fin 2) = t.val / 8 :=
  (by decide +kernel : ∀ t : Fin grid0.N, _)

theorem lt56 (t : Fin cfg0.N) : t.val < 56 := lt_of_lt_of_eq t.isLt (show cfg0.N = 56 from N_0)

/-- A row of a point's tile, -/
def rOf (t : Fin cfg0.N) (r : Fin 1024) : Fin 8192 := ⟨1024 * (t.val % 8) + r.val, by omega⟩
/-- a column of its tile of the result, -/
def qOf (t : Fin cfg0.N) (q : Fin 768) : Fin 5376 := ⟨768 * (t.val / 8) + q.val, by have := lt56 t; omega⟩
/-- and of its tile of the weight. -/
def wOf (t : Fin cfg0.N) (q : Fin 768) : Fin 5888 := ⟨512 + 768 * (t.val / 8) + q.val, by have := lt56 t; omega⟩

theorem emb0 (t : Fin cfg0.N) (r : Fin 1024) (k : Fin 2048) : ((cfg0.win 0).blk t).view.emb (ix2 r k) = ix2 (rOf t r) k := by
  obtain ⟨e0, e1⟩ := pt0 t
  funext a; apply Fin.ext
  match a with
  | ⟨0, _⟩ => show win0_0.index t (0 : Fin 2) * 1024 + 1 * r.val = 1024 * (t.val % 8) + r.val; omega
  | ⟨1, _⟩ => show win0_0.index t (1 : Fin 2) * 2048 + 1 * k.val = k.val; omega
theorem emb1 (t : Fin cfg0.N) (k : Fin 2048) (q : Fin 256) :
    ((cfg0.win 1).blk t).view.emb (ix3 0 k q) = ix3 1 k (wOf t ⟨0 + q.val, by omega⟩) := by
  obtain ⟨e0, e1, e2⟩ := pt1 t
  funext a; apply Fin.ext
  match a with
  | ⟨0, _⟩ => show win0_1.index t (0 : Fin 3) * 1 + 1 * 0 = 1; omega
  | ⟨1, _⟩ => show win0_1.index t (1 : Fin 3) * 2048 + 1 * k.val = k.val; omega
  | ⟨2, _⟩ => show win0_1.index t (2 : Fin 3) * 256 + 1 * q.val = 512 + 768 * (t.val / 8) + (0 + q.val); omega
theorem emb2 (t : Fin cfg0.N) (k : Fin 2048) (q : Fin 256) :
    ((cfg0.win 2).blk t).view.emb (ix3 0 k q) = ix3 1 k (wOf t ⟨256 + q.val, by omega⟩) := by
  obtain ⟨e0, e1, e2⟩ := pt2 t
  funext a; apply Fin.ext
  match a with
  | ⟨0, _⟩ => show win0_2.index t (0 : Fin 3) * 1 + 1 * 0 = 1; omega
  | ⟨1, _⟩ => show win0_2.index t (1 : Fin 3) * 2048 + 1 * k.val = k.val; omega
  | ⟨2, _⟩ => show win0_2.index t (2 : Fin 3) * 256 + 1 * q.val = 512 + 768 * (t.val / 8) + (256 + q.val); omega
theorem emb3 (t : Fin cfg0.N) (k : Fin 2048) (q : Fin 256) :
    ((cfg0.win 3).blk t).view.emb (ix3 0 k q) = ix3 1 k (wOf t ⟨512 + q.val, by omega⟩) := by
  obtain ⟨e0, e1, e2⟩ := pt3 t
  funext a; apply Fin.ext
  match a with
  | ⟨0, _⟩ => show win0_3.index t (0 : Fin 3) * 1 + 1 * 0 = 1; omega
  | ⟨1, _⟩ => show win0_3.index t (1 : Fin 3) * 2048 + 1 * k.val = k.val; omega
  | ⟨2, _⟩ => show win0_3.index t (2 : Fin 3) * 256 + 1 * q.val = 512 + 768 * (t.val / 8) + (512 + q.val); omega
theorem emb4 (t : Fin cfg0.N) (r : Fin 1024) (q : Fin 768) : ((cfg0.win 4).blk t).view.emb (ix2 r q) = ix2 (rOf t r) (qOf t q) := by
  obtain ⟨e0, e1⟩ := pt4 t
  funext a; apply Fin.ext
  match a with
  | ⟨0, _⟩ => show win0_4.index t (0 : Fin 2) * 1024 + 1 * r.val = 1024 * (t.val % 8) + r.val; omega
  | ⟨1, _⟩ => show win0_4.index t (1 : Fin 2) * 768 + 1 * q.val = 768 * (t.val / 8) + q.val; omega

section Arrays
variable (m : (ℓ : Loc nD τ sig) → Buf (Elt Ideal) ℓ) (c : Dev nD)

/-- The argument arrays. -/
abbrev aH : Vec Ideal S2x4096x2048 .f32 := m ((c : Thread nD τ).loc main_arg0)
abbrev aW : Vec Ideal S4x2048x5888 .f32 := m ((c : Thread nD τ).loc main_arg1)

theorem V_main_v1 : V m c main_v1 = (fun y => shapeCast S8192x2048 (aH m c) shapeCasts_S2x4096x2048_S8192x2048 y : Vec Ideal S8192x2048 .bf16) := by
  show StableHlo.after hostOps0 _ (Proc.devRef .tc main_v1) = _
  after_results
  rfl

theorem blk0 (t : Fin cfg0.N) (r : Fin 1024) (k : Fin 2048) :
    iblk m c 0 t (ix2 r k) = aH m c (ix3 (bat (rOf t r)) (tok (rOf t r)) k) := by
  show V m c main_v1 (((cfg0.win 0).blk t).view.emb (ix2 r k)) = _
  rw [emb0, V_main_v1]
  exact flat_apply _ _ _ _
theorem blk1 (t : Fin cfg0.N) (k : Fin 2048) (q : Fin 256) :
    iblk m c 1 t (ix3 0 k q) = aW m c (ix3 1 k (wOf t ⟨0 + q.val, by omega⟩)) := by
  show V m c main_arg1 (((cfg0.win 1).blk t).view.emb (ix3 0 k q)) = _
  rw [emb1, V_main_arg1]
theorem blk2 (t : Fin cfg0.N) (k : Fin 2048) (q : Fin 256) :
    iblk m c 2 t (ix3 0 k q) = aW m c (ix3 1 k (wOf t ⟨256 + q.val, by omega⟩)) := by
  show V m c main_arg1 (((cfg0.win 2).blk t).view.emb (ix3 0 k q)) = _
  rw [emb2, V_main_arg1]
theorem blk3 (t : Fin cfg0.N) (k : Fin 2048) (q : Fin 256) :
    iblk m c 3 t (ix3 0 k q) = aW m c (ix3 1 k (wOf t ⟨512 + q.val, by omega⟩)) := by
  show V m c main_arg1 (((cfg0.win 3).blk t).view.emb (ix3 0 k q)) = _
  rw [emb3, V_main_arg1]

/-- The weight tile of a point. -/
def wAt (t : Fin cfg0.N) : Vec Ideal S2048x768 .bf16 := fun y => aW m c (ix3 1 (y 0) (wOf t (y 1)))

theorem wT_blk (t : Fin cfg0.N) : wT (iblk m c 1 t) (iblk m c 2 t) (iblk m c 3 t) = wAt m c t := by
  funext y
  have h1 : (y 1).val < 768 := (y 1).isLt
  unfold wT wAt
  split
  · refine (blk1 m c t _ _).trans ?_
    exact congrArg (fun q => aW m c (ix3 1 (y 0) (wOf t q))) (Fin.ext (by dsimp <;> omega))
  · split
    · refine (blk2 m c t _ _).trans ?_
      exact congrArg (fun q => aW m c (ix3 1 (y 0) (wOf t q))) (Fin.ext (by dsimp <;> omega))
    · refine (blk3 m c t _ _).trans ?_
      exact congrArg (fun q => aW m c (ix3 1 (y 0) (wOf t q))) (Fin.ext (by dsimp <;> omega))

theorem wAt_prev (t t' : Fin cfg0.N) (h : t'.val = t.val - 1) (h0 : ¬t.val % 8 = 0) : wAt m c t' = wAt m c t := by
  funext y
  exact congrArg (fun q => aW m c (ix3 1 (y 0) q)) (Fin.ext (by dsimp [wOf]; omega))

/-- After every point: its tile of the product in the result's buffer, its weight tile in the scratch. -/
theorem good (n : ℕ) (hn : n < cfg0.N) :
    outsAt0 m c n hn = (fun y => dotT (iblk m c 0 ⟨n, hn⟩) (wAt m c ⟨n, hn⟩) (y 0) (y 1), wAt m c ⟨n, hn⟩) := by
  induction n using Nat.strong_induction_on with
  | _ n ih =>
    by_cases h0 : n % 8 = 0
    · rw [outsAt0_A m c ⟨n, hn⟩ h0, out_A, keep_A, wT_blk]
    · have e := ih (n - 1) (by omega) (by omega)
      rw [outsAt0_B m c ⟨n, hn⟩ h0, out_B]
      have e2 : (outsAt0 m c (n - 1) (by omega)).2 = wAt m c ⟨n, hn⟩ := by
        rw [e]
        exact wAt_prev m c ⟨n, hn⟩ _ rfl h0
      exact congrArg (fun w => ((fun y => dotT (iblk m c 0 ⟨n, hn⟩) w (y 0) (y 1) : Vec Ideal S1024x768 .f32), (w : Vec Ideal S2048x768 .bf16))) e2

theorem flushed_eq (t : Fin cfg0.N) : (dats m 0 c).flushed 4 t
    = ((cfg0.win 4).blk t).view.read (Elt Ideal) (G4 (aH m c) (aW m c)) := by
  rw [flushed4]
  funext y
  obtain ⟨r, q, rfl⟩ : ∃ (r : Fin 1024) (q : Fin 768), y = ix2 r q := ⟨y 0, y 1, eq_ix2 y⟩
  show (outsAt0 m c t.val t.isLt).1 (ix2 r q) = G4 _ _ (((cfg0.win 4).blk t).view.emb (ix2 r q))
  rw [emb4, good]
  show dotT (iblk m c 0 t) (wAt m c t) r q = proj (aH m c) (aW m c) (bat (rOf t r)) (tok (rOf t r)) (cOf (qOf t q))
  refine Finset.sum_congr rfl fun k _ => ?_
  rw [blk0]
  exact congrArg (fun z => _ * aW m c (ix3 1 k z)) (Fin.ext (by dsimp [wOf, cOf, qOf]; omega))

theorem covered (i : S8192x5376.Idx) : ∃ t : Fin cfg0.N, (cfg0.win 4).flush t = true ∧ i ∈ ((cfg0.win 4).blk t).view.set := by
  have h0 : (i 0).val < 8192 := (i 0).isLt
  have h1 : (i 1).val < 5376 := (i 1).isLt
  have hN : cfg0.N = 56 := N_0
  refine ⟨⟨(i 1).val / 768 * 8 + (i 0).val / 1024, by omega⟩, flush0_4 _, ?_⟩
  have h := ((cfg0.win 4).blk (⟨(i 1).val / 768 * 8 + (i 0).val / 1024, by omega⟩ : Fin cfg0.N)).view.emb_mem_set
    (ix2 ⟨(i 0).val % 1024, by omega⟩ ⟨(i 1).val % 768, by omega⟩)
  rw [emb4] at h
  rw [← ix2_of i] at h
  · exact h
  · dsimp [rOf]; omega
  · dsimp [qOf]; omega

/-- The result array after the run. -/
theorem final : (dats m 0 c).arrAt 4 cfg0.N = G4 (aH m c) (aW m c) :=
  (dats m 0 c).arrAt_eq_of_cover 4 _ (fun t _ => flushed_eq m c t) covered

end Arrays
end Cert.ProjIdeal.Proj
end
-- ==== Proof.ProjRef.lean ====
/- The input projection's reference, read at each place of its result. -/
module
public import proofs.«01_k».proof.Proof.ProjKernel
public import proofs.«01_k».proof.Proof.Gen.ProjRefIdeal.Run
public import proofs.«01_k».proof.Proof.Gen.ProjRefIdeal.Read
@[expose] public section
set_option maxRecDepth 16384
noncomputable section
namespace Cert.ProjRefIdeal.Proj
open Cert.ProjRefIdeal Cert.ProjRefIdeal.Gen Cert.ProjRefIdeal.Read Cert.ProjIdeal.Proj Cert.KernelIdeal.Up Cert.Rows Idealize.ShloMosaic Idealize.ShloMosaic.TcCoe Idealize.SL.Sem

variable (H : Vec Ideal S2x4096x2048 .f32) (W : Vec Ideal S4x2048x5888 .f32)

theorem prod_apply (b : Fin 2) (s : Fin 4096) (q : Fin 5888) : val_main_v2 (F := Ideal) H W (ix3 b s q) = proj H W b s q := by
  rw [val_main_v2_apply]
  refine Finset.sum_congr rfl fun k _ => ?_
  rw [val_main_v1_apply, val_main_v0_apply]
  exact congrArg₂ (· * ·) (congrArg H (ix3_of _ b s k rfl rfl rfl)) (congrArg W (ix3_of _ 1 k q (by dsimp <;> omega) (by dsimp <;> omega) (by dsimp <;> omega)))

/-- The result of the reference. -/
theorem out_eq : val_main_v4 (F := Ideal) H W = G4 H W := funext fun y => by
  have h0 : (y 0).val < 8192 := (y 0).isLt
  have h1 : (y 1).val < 5376 := (y 1).isLt
  rw [val_main_v4_apply, val_main_v3_apply]
  exact (congrArg (val_main_v2 (F := Ideal) H W) (ix3_of (idx_main_v3 (idx_main_v4 y)) (bat (y 0)) (tok (y 0)) (cOf (y 1))
    (by dsimp [bat] <;> omega) (by dsimp [tok] <;> omega) (by dsimp [cOf] <;> omega))).trans (prod_apply H W _ _ _)

end Cert.ProjRefIdeal.Proj
end
-- ==== Proof.OutpKernel.lean ====
/- The output projection's kernel: what a point leaves, and the two result arrays. -/
module
public import proofs.«01_k».proof.Proof.Rows
public import proofs.«01_k».proof.Proof.UpCommon
public import proofs.«01_k».proof.Proof.Gen.OutpIdeal.Value
@[expose] public section
set_option maxRecDepth 16384
noncomputable section
namespace Cert.OutpIdeal.Outp
open Cert.OutpIdeal Cert.OutpIdeal.Gen Cert.OutpIdeal.Value Cert.KernelIdeal.Up Cert.Rows Idealize.ShloMosaic Idealize.ShloMosaic.TcCoe Idealize.SL.Sem

/-! ## A row group of 256 rows -/

/-- The product's entry, from the three parts' rows and the weight's three row blocks. -/
def dots (a : Vec Ideal S256x512 .bf16) (wa : Vec Ideal S1x512x2048 .bf16) (b : Vec Ideal S256x768 .bf16) (wb : Vec Ideal S1x768x2048 .bf16)
    (c : Vec Ideal S256x768 .bf16) (wc : Vec Ideal S1x768x2048 .bf16) (r : Fin 256) (j : Fin 2048) : EReal :=
  ∑ k : Fin 512, a (ix2 r k) * wa (ix3 0 k j) + ∑ k : Fin 768, b (ix2 r k) * wb (ix3 0 k j) + ∑ k : Fin 768, c (ix2 r k) * wc (ix3 0 k j)

theorem pay3_apply (a : Vec Ideal S256x512 .bf16) (wa : Vec Ideal S1x512x2048 .bf16) (b : Vec Ideal S256x768 .bf16) (wb : Vec Ideal S1x768x2048 .bf16)
    (c : Vec Ideal S256x768 .bf16) (wc : Vec Ideal S1x768x2048 .bf16) (r : Fin 256) (j : Fin 2048) :
    k0_pay3 a wa b wb c wc (ix2 r j) = dots a wa b wb c wc r j := by
  unfold_payloads
  pointwise
  rfl
theorem pay5_apply (a : Vec Ideal S256x512 .bf16) (wa : Vec Ideal S1x512x2048 .bf16) (b : Vec Ideal S256x768 .bf16) (wb : Vec Ideal S1x768x2048 .bf16)
    (c : Vec Ideal S256x768 .bf16) (wc : Vec Ideal S1x768x2048 .bf16) (r : Fin 256) (j : Fin 2048) :
    k0_pay5 (k0_pay4 a wa b wb) c wc (ix2 r j) = dots a wa b wb c wc r j := by
  unfold_payloads
  pointwise
  rfl

/-- The residual sum's entry, from the product. -/
def add (e : Vec Ideal S256x2048 .f32) (x : Vec Ideal S256x2048 .f32) (g : Vec Ideal S1x2048 .f32) (r : Fin 256) (j : Fin 2048) : EReal :=
  x (ix2 r j) + rms width (fun k => e (ix2 r k)) (g (ix2 0 j)) j

section
variable (e x : Vec Ideal S256x2048 .f32) (g h : Vec Ideal S1x2048 .f32) (r : Fin 256) (j : Fin 2048)
theorem pay6_apply : k0_pay6 e x g (ix2 r j) = add e x g r j := by
  unfold_payloads
  pointwise
  rfl
theorem pay1_apply : k0_pay1 e x g (ix2 r j) = add e x g r j := by
  unfold_payloads
  pointwise
  rfl
theorem pay7_apply : k0_pay7 e x g h (ix2 r j) = rms width (add e x g r) (h (ix2 0 j)) j := by
  have q : k0_pay6 e x g = fun y => add e x g (y 0) (y 1) := funext fun y =>
    (congrArg (k0_pay6 e x g) (eq_ix2 y)).trans (pay6_apply e x g _ _)
  unfold k0_pay7
  rw [q]
  pointwise
  rfl
theorem pay2_apply : k0_pay2 e x g h (ix2 r j) = rms width (add e x g r) (h (ix2 0 j)) j := by
  have q : k0_pay1 e x g = fun y => add e x g (y 0) (y 1) := funext fun y =>
    (congrArg (k0_pay1 e x g) (eq_ix2 y)).trans (pay1_apply e x g _ _)
  unfold k0_pay2
  rw [q]
  pointwise
  rfl
end

/-! ## A tile of two groups -/

section
variable (x0 : Vec Ideal S512x512 .bf16) (x1 x2 : Vec Ideal S512x768 .bf16) (x3 : Vec Ideal S1x2048x2048 .bf16) (x4 : Vec Ideal S512x2048 .f32)
  (x5 x6 : Vec Ideal S1x2048 .f32)

/-- A row of the tile's product. -/
def prodT (r : Fin 512) (j : Fin 2048) : EReal :=
  ∑ k : Fin 512, x0 (ix2 r k) * x3 (ix3 0 ⟨k.val, by omega⟩ j) + ∑ k : Fin 768, x1 (ix2 r k) * x3 (ix3 0 ⟨512 + k.val, by omega⟩ j)
    + ∑ k : Fin 768, x2 (ix2 r k) * x3 (ix3 0 ⟨1280 + k.val, by omega⟩ j)

/-- A row of the tile's residual sum. -/
def resT (r : Fin 512) (j : Fin 2048) : EReal := x4 (ix2 r j) + rms width (prodT x0 x1 x2 x3 r) (x5 (ix2 0 j)) j

/-- A row of group `g`. -/
def row (g : Fin 2) (r : Fin 256) : Fin 512 := ⟨256 * g.val + r.val, by omega⟩

theorem lo_eq (r : Fin 256) (j : Fin 2048) : k0_pay8 x0 x1 x2 x3 x4 x5 x6 (ix2 r j) = prodT x0 x1 x2 x3 (row 0 r) j := by
  refine (pay3_apply _ _ _ _ _ _ r j).trans ?_
  refine congrArg₂ (· + ·) (congrArg₂ (· + ·) ?_ ?_) ?_ <;> refine Finset.sum_congr rfl fun k _ => congrArg₂ (· * ·) ?_ ?_
  · exact congrArg x0 (ix2_of _ _ _ (by dsimp [row] <;> omega) (by dsimp <;> omega))
  · exact congrArg x3 (ix3_of _ _ _ _ (by dsimp <;> omega) (by dsimp <;> omega) (by dsimp <;> omega))
  · exact congrArg x1 (ix2_of _ _ _ (by dsimp [row] <;> omega) (by dsimp <;> omega))
  · exact congrArg x3 (ix3_of _ _ _ _ (by dsimp <;> omega) (by dsimp <;> omega) (by dsimp <;> omega))
  · exact congrArg x2 (ix2_of _ _ _ (by dsimp [row] <;> omega) (by dsimp <;> omega))
  · exact congrArg x3 (ix3_of _ _ _ _ (by dsimp <;> omega) (by dsimp <;> omega) (by dsimp <;> omega))

theorem hi_eq (r : Fin 256) (j : Fin 2048) : k0_pay9 x0 x1 x2 x3 x4 x5 x6 (ix2 r j) = prodT x0 x1 x2 x3 (row 1 r) j := by
  refine (pay5_apply _ _ _ _ _ _ r j).trans ?_
  refine congrArg₂ (· + ·) (congrArg₂ (· + ·) ?_ ?_) ?_ <;> refine Finset.sum_congr rfl fun k _ => congrArg₂ (· * ·) ?_ ?_
  · exact congrArg x0 (ix2_of _ _ _ (by dsimp [row] <;> omega) (by dsimp <;> omega))
  · exact congrArg x3 (ix3_of _ _ _ _ (by dsimp <;> omega) (by dsimp <;> omega) (by dsimp <;> omega))
  · exact congrArg x1 (ix2_of _ _ _ (by dsimp [row] <;> omega) (by dsimp <;> omega))
  · exact congrArg x3 (ix3_of _ _ _ _ (by dsimp <;> omega) (by dsimp <;> omega) (by dsimp <;> omega))
  · exact congrArg x2 (ix2_of _ _ _ (by dsimp [row] <;> omega) (by dsimp <;> omega))
  · exact congrArg x3 (ix3_of _ _ _ _ (by dsimp <;> omega) (by dsimp <;> omega) (by dsimp <;> omega))

theorem add_lo (r : Fin 256) : add (k0_pay8 x0 x1 x2 x3 x4 x5 x6) (View.ld x4 r0_7) (View.ld x5 r0_8) r = resT x0 x1 x2 x3 x4 x5 (row 0 r) := by
  funext j
  unfold add resT
  rw [show (fun k => k0_pay8 x0 x1 x2 x3 x4 x5 x6 (ix2 r k)) = prodT x0 x1 x2 x3 (row 0 r) from funext fun k => lo_eq x0 x1 x2 x3 x4 x5 x6 r k]
  refine congrArg₂ (· + ·) (congrArg x4 (ix2_of _ _ _ (by dsimp [row] <;> omega) (by dsimp <;> omega)))
    (congrArg (fun z => rms width _ z j) (congrArg x5 (ix2_of _ _ _ (by dsimp <;> omega) (by dsimp <;> omega))))

theorem add_hi (r : Fin 256) : add (k0_pay9 x0 x1 x2 x3 x4 x5 x6) (View.ld x4 r0_9) (View.ld x5 r0_8) r = resT x0 x1 x2 x3 x4 x5 (row 1 r) := by
  funext j
  unfold add resT
  rw [show (fun k => k0_pay9 x0 x1 x2 x3 x4 x5 x6 (ix2 r k)) = prodT x0 x1 x2 x3 (row 1 r) from funext fun k => hi_eq x0 x1 x2 x3 x4 x5 x6 r k]
  refine congrArg₂ (· + ·) (congrArg x4 (ix2_of _ _ _ (by dsimp [row] <;> omega) (by dsimp <;> omega)))
    (congrArg (fun z => rms width _ z j) (congrArg x5 (ix2_of _ _ _ (by dsimp <;> omega) (by dsimp <;> omega))))

theorem ld6 (j : Fin 2048) : View.ld x6 r0_8 (ix2 0 j) = x6 (ix2 0 j) := congrArg x6 (ix2_of _ _ _ (by dsimp <;> omega) (by dsimp <;> omega))

theorem out7_apply (y : S512x2048.Idx) : out0_7 x0 x1 x2 x3 x4 x5 x6 y = resT x0 x1 x2 x3 x4 x5 (y 0) (y 1) := by
  refine View.canon_apply_of_pieces (Val := Elt Ideal) (e := .f32) (fun y : S512x2048.Idx => resT x0 x1 x2 x3 x4 x5 (y 0) (y 1)) _ ?_ y (cover0_7 _ _ y)
  simp only [List.forall_mem_cons, List.not_mem_nil, false_implies, implies_true, and_true]
  refine ⟨?_, ?_⟩ <;> intro (z : S256x2048.Idx) <;> obtain ⟨r, j, rfl⟩ : ∃ (r : Fin 256) (j : Fin 2048), z = ix2 r j := ⟨z 0, z 1, eq_ix2 z⟩
  · refine (pay1_apply _ _ _ r j).trans ((congrFun (add_hi x0 x1 x2 x3 x4 x5 x6 r) j).trans ?_)
    exact congrArg₂ (resT x0 x1 x2 x3 x4 x5) (Fin.ext (by dsimp [row] <;> omega)) (Fin.ext (by dsimp <;> omega))
  · refine (pay6_apply _ _ _ r j).trans ((congrFun (add_lo x0 x1 x2 x3 x4 x5 x6 r) j).trans ?_)
    exact congrArg₂ (resT x0 x1 x2 x3 x4 x5) (Fin.ext (by dsimp [row] <;> omega)) (Fin.ext (by dsimp <;> omega))

theorem out8_apply (y : S512x2048.Idx) : out0_8 x0 x1 x2 x3 x4 x5 x6 y = rms width (resT x0 x1 x2 x3 x4 x5 (y 0)) (x6 (ix2 0 (y 1))) (y 1) := by
  refine View.canon_apply_of_pieces (Val := Elt Ideal) (e := .bf16) (fun y : S512x2048.Idx => rms width (resT x0 x1 x2 x3 x4 x5 (y 0)) (x6 (ix2 0 (y 1))) (y 1)) _ ?_ y (cover0_8 _ _ y)
  simp only [List.forall_mem_cons, List.not_mem_nil, false_implies, implies_true, and_true]
  refine ⟨?_, ?_⟩ <;> intro (z : S256x2048.Idx) <;> obtain ⟨r, j, rfl⟩ : ∃ (r : Fin 256) (j : Fin 2048), z = ix2 r j := ⟨z 0, z 1, eq_ix2 z⟩
  · refine (pay2_apply _ _ _ _ r j).trans ?_
    rw [add_hi, ld6]
    exact congrArg₂ (fun a b => rms width (resT x0 x1 x2 x3 x4 x5 a) (x6 (ix2 0 b)) b) (Fin.ext (by dsimp [row] <;> omega)) (Fin.ext (by dsimp <;> omega))
  · refine (pay7_apply _ _ _ _ r j).trans ?_
    rw [add_lo, ld6]
    exact congrArg₂ (fun a b => rms width (resT x0 x1 x2 x3 x4 x5 a) (x6 (ix2 0 b)) b) (Fin.ext (by dsimp [row] <;> omega)) (Fin.ext (by dsimp <;> omega))
end

/-! ## The mathematics, over the argument arrays -/

section
variable (A : Vec Ideal S2x4096x512 .f32) (B C : Vec Ideal S2x4096x768 .f32) (W : Vec Ideal S4x2048x2048 .f32) (X : Vec Ideal S2x4096x2048 .f32)
  (GP GN : Vec Ideal S2048 .f32)

/-- The projection of the three parts, side by side, by the layer's slice of the weight. -/
def proj (b : Fin 2) (s : Fin 4096) (j : Fin 2048) : EReal :=
  ∑ k : Fin 512, A (ix3 b s k) * W (ix3 1 ⟨k.val, by omega⟩ j) + ∑ k : Fin 768, B (ix3 b s k) * W (ix3 1 ⟨512 + k.val, by omega⟩ j)
    + ∑ k : Fin 768, C (ix3 b s k) * W (ix3 1 ⟨1280 + k.val, by omega⟩ j)

/-- The residual stream after it. -/
def res (b : Fin 2) (s : Fin 4096) (j : Fin 2048) : EReal := X (ix3 b s j) + rms width (proj A B C W b s) (GP (ix1 j)) j

/-- The first result: the residual stream, -/
def G7 : Vec Ideal S8192x2048 .f32 := fun y => res A B C W X GP (bat (y 0)) (tok (y 0)) (y 1)

/-- and the second: its norm. -/
def G8 : Vec Ideal S8192x2048 .bf16 := fun y => rms width (res A B C W X GP (bat (y 0)) (tok (y 0))) (GN (ix1 (y 1))) (y 1)
end

/-! ## The blocks -/

theorem pt0 : ∀ t : Fin cfg0.N, win0_0.index t (0 : Fin 2) = t.val ∧ win0_0.index t (1 : Fin 2) = 0 :=
  (by decide +kernel : ∀ t : Fin grid0.N, _)
theorem pt1 : ∀ t : Fin cfg0.N, win0_1.index t (0 : Fin 2) = t.val ∧ win0_1.index t (1 : Fin 2) = 0 :=
  (by decide +kernel : ∀ t : Fin grid0.N, _)
theorem pt2 : ∀ t : Fin cfg0.N, win0_2.index t (0 : Fin 2) = t.val ∧ win0_2.index t (1 : Fin 2) = 0 :=
  (by decide +kernel : ∀ t : Fin grid0.N, _)
theorem pt3 : ∀ t : Fin cfg0.N, win0_3.index t (0 : Fin 3) = 1 ∧ win0_3.index t (1 : Fin 3) = 0 ∧ win0_3.index t (2 : Fin 3) = 0 :=
  (by decide +kernel : ∀ t : Fin grid0.N, _)
theorem pt4 : ∀ t : Fin cfg0.N, win0_4.index t (0 : Fin 2) = t.val ∧ win0_4.index t (1 : Fin 2) = 0 :=
  (by decide +kernel : ∀ t : Fin grid0.N, _)
theorem pt5 : ∀ t : Fin cfg0.N, win0_5.index t (0 : Fin 2) = 0 ∧ win0_5.index t (1 : Fin 2) = 0 :=
  (by decide +kernel : ∀ t : Fin grid0.N, _)
theorem pt6 : ∀ t : Fin cfg0.N, win0_6.index t (0 : Fin 2) = 0 ∧ win0_6.index t (1 : Fin 2) = 0 :=
  (by decide +kernel : ∀ t : Fin grid0.N, _)
theorem pt7 : ∀ t : Fin cfg0.N, win0_7.index t (0 : Fin 2) = t.val ∧ win0_7.index t (1 : Fin 2) = 0 :=
  (by decide +kernel : ∀ t : Fin grid0.N, _)
theorem pt8 : ∀ t : Fin cfg0.N, win0_8.index t (0 : Fin 2) = t.val ∧ win0_8.index t (1 : Fin 2) = 0 :=
  (by decide +kernel : ∀ t : Fin grid0.N, _)

theorem lt16 (t : Fin cfg0.N) : t.val < 16 := lt_of_lt_of_eq t.isLt (show cfg0.N = 16 from N_0)

/-- A row of a point's tile. -/
def rOf (t : Fin cfg0.N) (r : Fin 512) : Fin 8192 := ⟨512 * t.val + r.val, by have := lt16 t; omega⟩

theorem emb0 (t : Fin cfg0.N) (r : Fin 512) (k : Fin 512) : ((cfg0.win 0).blk t).view.emb (ix2 r k) = ix2 (rOf t r) k := by
  obtain ⟨e0, e1⟩ := pt0 t
  funext a; apply Fin.ext
  match a with
  | ⟨0, _⟩ => show win0_0.index t (0 : Fin 2) * 512 + 1 * r.val = 512 * t.val + r.val; omega
  | ⟨1, _⟩ => show win0_0.index t (1 : Fin 2) * 512 + 1 * k.val = k.val; omega
theorem emb1 (t : Fin cfg0.N) (r : Fin 512) (k : Fin 768) : ((cfg0.win 1).blk t).view.emb (ix2 r k) = ix2 (rOf t r) k := by
  obtain ⟨e0, e1⟩ := pt1 t
  funext a; apply Fin.ext
  match a with
  | ⟨0, _⟩ => show win0_1.index t (0 : Fin 2) * 512 + 1 * r.val = 512 * t.val + r.val; omega
  | ⟨1, _⟩ => show win0_1.index t (1 : Fin 2) * 768 + 1 * k.val = k.val; omega
theorem emb2 (t : Fin cfg0.N) (r : Fin 512) (k : Fin 768) : ((cfg0.win 2).blk t).view.emb (ix2 r k) = ix2 (rOf t r) k := by
  obtain ⟨e0, e1⟩ := pt2 t
  funext a; apply Fin.ext
  match a with
  | ⟨0, _⟩ => show win0_2.index t (0 : Fin 2) * 512 + 1 * r.val = 512 * t.val + r.val; omega
  | ⟨1, _⟩ => show win0_2.index t (1 : Fin 2) * 768 + 1 * k.val = k.val; omega
theorem emb3 (t : Fin cfg0.N) (k : Fin 2048) (j : Fin 2048) : ((cfg0.win 3).blk t).view.emb (ix3 0 k j) = ix3 1 k j := by
  obtain ⟨e0, e1, e2⟩ := pt3 t
  funext a; apply Fin.ext
  match a with
  | ⟨0, _⟩ => show win0_3.index t (0 : Fin 3) * 1 + 1 * 0 = 1; omega
  | ⟨1, _⟩ => show win0_3.index t (1 : Fin 3) * 2048 + 1 * k.val = k.val; omega
  | ⟨2, _⟩ => show win0_3.index t (2 : Fin 3) * 2048 + 1 * j.val = j.val; omega
theorem emb4 (t : Fin cfg0.N) (r : Fin 512) (k : Fin 2048) : ((cfg0.win 4).blk t).view.emb (ix2 r k) = ix2 (rOf t r) k := by
  obtain ⟨e0, e1⟩ := pt4 t
  funext a; apply Fin.ext
  match a with
  | ⟨0, _⟩ => show win0_4.index t (0 : Fin 2) * 512 + 1 * r.val = 512 * t.val + r.val; omega
  | ⟨1, _⟩ => show win0_4.index t (1 : Fin 2) * 2048 + 1 * k.val = k.val; omega
theorem emb5 (t : Fin cfg0.N) (j : Fin 2048) : ((cfg0.win 5).blk t).view.emb (ix2 0 j) = ix2 0 j := by
  obtain ⟨e0, e1⟩ := pt5 t
  funext a; apply Fin.ext
  match a with
  | ⟨0, _⟩ => show win0_5.index t (0 : Fin 2) * 1 + 1 * 0 = 0; omega
  | ⟨1, _⟩ => show win0_5.index t (1 : Fin 2) * 2048 + 1 * j.val = j.val; omega
theorem emb6 (t : Fin cfg0.N) (j : Fin 2048) : ((cfg0.win 6).blk t).view.emb (ix2 0 j) = ix2 0 j := by
  obtain ⟨e0, e1⟩ := pt6 t
  funext a; apply Fin.ext
  match a with
  | ⟨0, _⟩ => show win0_6.index t (0 : Fin 2) * 1 + 1 * 0 = 0; omega
  | ⟨1, _⟩ => show win0_6.index t (1 : Fin 2) * 2048 + 1 * j.val = j.val; omega
theorem emb7 (t : Fin cfg0.N) (r : Fin 512) (k : Fin 2048) : ((cfg0.win 7).blk t).view.emb (ix2 r k) = ix2 (rOf t r) k := by
  obtain ⟨e0, e1⟩ := pt7 t
  funext a; apply Fin.ext
  match a with
  | ⟨0, _⟩ => show win0_7.index t (0 : Fin 2) * 512 + 1 * r.val = 512 * t.val + r.val; omega
  | ⟨1, _⟩ => show win0_7.index t (1 : Fin 2) * 2048 + 1 * k.val = k.val; omega
theorem emb8 (t : Fin cfg0.N) (r : Fin 512) (k : Fin 2048) : ((cfg0.win 8).blk t).view.emb (ix2 r k) = ix2 (rOf t r) k := by
  obtain ⟨e0, e1⟩ := pt8 t
  funext a; apply Fin.ext
  match a with
  | ⟨0, _⟩ => show win0_8.index t (0 : Fin 2) * 512 + 1 * r.val = 512 * t.val + r.val; omega
  | ⟨1, _⟩ => show win0_8.index t (1 : Fin 2) * 2048 + 1 * k.val = k.val; omega

section Arrays
variable (m : (ℓ : Loc nD τ sig) → Buf (Elt Ideal) ℓ) (c : Dev nD)

/-- The argument arrays. -/
abbrev aA : Vec Ideal S2x4096x512 .f32 := m ((c : Thread nD τ).loc main_arg0)
abbrev aB : Vec Ideal S2x4096x768 .f32 := m ((c : Thread nD τ).loc main_arg1)
abbrev aC : Vec Ideal S2x4096x768 .f32 := m ((c : Thread nD τ).loc main_arg2)
abbrev aW : Vec Ideal S4x2048x2048 .f32 := m ((c : Thread nD τ).loc main_arg3)
abbrev aX : Vec Ideal S2x4096x2048 .f32 := m ((c : Thread nD τ).loc main_arg4)
abbrev aGP : Vec Ideal S2048 .f32 := m ((c : Thread nD τ).loc main_arg5)
abbrev aGN : Vec Ideal S2048 .f32 := m ((c : Thread nD τ).loc main_arg6)

theorem V_main_v1 : V m c main_v1 = (fun y => shapeCast S8192x512 (aA m c) shapeCasts_S2x4096x512_S8192x512 y : Vec Ideal S8192x512 .bf16) := by
  show StableHlo.after hostOps0 _ (Proc.devRef .tc main_v1) = _
  after_results
  rfl
theorem V_main_v3 : V m c main_v3 = (fun y => shapeCast S8192x768 (aB m c) shapeCasts_S2x4096x768_S8192x768 y : Vec Ideal S8192x768 .bf16) := by
  show StableHlo.after hostOps0 _ (Proc.devRef .tc main_v3) = _
  after_results
  rfl
theorem V_main_v5 : V m c main_v5 = (fun y => shapeCast S8192x768 (aC m c) shapeCasts_S2x4096x768_S8192x768 y : Vec Ideal S8192x768 .bf16) := by
  show StableHlo.after hostOps0 _ (Proc.devRef .tc main_v5) = _
  after_results
  rfl
theorem V_main_v6 : V m c main_v6 = (fun y => aW m c y : Vec Ideal S4x2048x2048 .bf16) := by
  show StableHlo.after hostOps0 _ (Proc.devRef .tc main_v6) = _
  after_results
  rfl
theorem V_main_v7 : V m c main_v7 = (shapeCast S8192x2048 (aX m c) shapeCasts_S2x4096x2048_S8192x2048 : Vec Ideal S8192x2048 .f32) := by
  show StableHlo.after hostOps0 _ (Proc.devRef .tc main_v7) = _
  after_results
  rfl
theorem V_main_v8 : V m c main_v8 = (shapeCast S1x2048 (aGP m c) shapeCasts_S2048_S1x2048 : Vec Ideal S1x2048 .f32) := by
  show StableHlo.after hostOps0 _ (Proc.devRef .tc main_v8) = _
  after_results
  rfl
theorem V_main_v9 : V m c main_v9 = (shapeCast S1x2048 (aGN m c) shapeCasts_S2048_S1x2048 : Vec Ideal S1x2048 .f32) := by
  show StableHlo.after hostOps0 _ (Proc.devRef .tc main_v9) = _
  after_results
  rfl

theorem blk0 (t : Fin cfg0.N) (r : Fin 512) (k : Fin 512) :
    iblk m c 0 t (ix2 r k) = aA m c (ix3 (bat (rOf t r)) (tok (rOf t r)) k) := by
  show V m c main_v1 (((cfg0.win 0).blk t).view.emb (ix2 r k)) = _
  rw [emb0, V_main_v1]
  exact flat_apply _ _ _ _
theorem blk1 (t : Fin cfg0.N) (r : Fin 512) (k : Fin 768) :
    iblk m c 1 t (ix2 r k) = aB m c (ix3 (bat (rOf t r)) (tok (rOf t r)) k) := by
  show V m c main_v3 (((cfg0.win 1).blk t).view.emb (ix2 r k)) = _
  rw [emb1, V_main_v3]
  exact flat_apply _ _ _ _
theorem blk2 (t : Fin cfg0.N) (r : Fin 512) (k : Fin 768) :
    iblk m c 2 t (ix2 r k) = aC m c (ix3 (bat (rOf t r)) (tok (rOf t r)) k) := by
  show V m c main_v5 (((cfg0.win 2).blk t).view.emb (ix2 r k)) = _
  rw [emb2, V_main_v5]
  exact flat_apply _ _ _ _
theorem blk3 (t : Fin cfg0.N) (k j : Fin 2048) : iblk m c 3 t (ix3 0 k j) = aW m c (ix3 1 k j) := by
  show V m c main_v6 (((cfg0.win 3).blk t).view.emb (ix3 0 k j)) = _
  rw [emb3, V_main_v6]
theorem blk4 (t : Fin cfg0.N) (r : Fin 512) (k : Fin 2048) :
    iblk m c 4 t (ix2 r k) = aX m c (ix3 (bat (rOf t r)) (tok (rOf t r)) k) := by
  show V m c main_v7 (((cfg0.win 4).blk t).view.emb (ix2 r k)) = _
  rw [emb4, V_main_v7]
  exact flat_apply _ _ _ _
theorem blk5 (t : Fin cfg0.N) (j : Fin 2048) : iblk m c 5 t (ix2 0 j) = aGP m c (ix1 j) := by
  show V m c main_v8 (((cfg0.win 5).blk t).view.emb (ix2 0 j)) = _
  rw [emb5, V_main_v8]
  pointwise
theorem blk6 (t : Fin cfg0.N) (j : Fin 2048) : iblk m c 6 t (ix2 0 j) = aGN m c (ix1 j) := by
  show V m c main_v9 (((cfg0.win 6).blk t).view.emb (ix2 0 j)) = _
  rw [emb6, V_main_v9]
  pointwise

/-! ## A tile's entries are the arrays' -/

theorem prod_eq (t : Fin cfg0.N) (r : Fin 512) : prodT (iblk m c 0 t) (iblk m c 1 t) (iblk m c 2 t) (iblk m c 3 t) r
    = proj (aA m c) (aB m c) (aC m c) (aW m c) (bat (rOf t r)) (tok (rOf t r)) := funext fun j => by
  refine congrArg₂ (· + ·) (congrArg₂ (· + ·) ?_ ?_) ?_ <;> refine Finset.sum_congr rfl fun k _ => ?_
  · rw [blk0, blk3]
  · rw [blk1, blk3]
  · rw [blk2, blk3]

theorem res_eq (t : Fin cfg0.N) (r : Fin 512) :
    resT (iblk m c 0 t) (iblk m c 1 t) (iblk m c 2 t) (iblk m c 3 t) (iblk m c 4 t) (iblk m c 5 t) r
    = res (aA m c) (aB m c) (aC m c) (aW m c) (aX m c) (aGP m c) (bat (rOf t r)) (tok (rOf t r)) := funext fun j => by
  unfold resT res
  rw [prod_eq, blk4, blk5]

/-! ## The result arrays -/

theorem flushed7_eq (t : Fin cfg0.N) : (dats m 0 c).flushed 7 t
    = ((cfg0.win 7).blk t).view.read (Elt Ideal) (G7 (aA m c) (aB m c) (aC m c) (aW m c) (aX m c) (aGP m c)) := by
  rw [flushed7]
  funext y
  obtain ⟨r, j, rfl⟩ : ∃ (r : Fin 512) (j : Fin 2048), y = ix2 r j := ⟨y 0, y 1, eq_ix2 y⟩
  show out0_7 _ _ _ _ _ _ _ (ix2 r j) = G7 _ _ _ _ _ _ (((cfg0.win 7).blk t).view.emb (ix2 r j))
  rw [emb7, out7_apply]
  exact congrFun (res_eq m c t r) j

theorem flushed8_eq (t : Fin cfg0.N) : (dats m 0 c).flushed 8 t
    = ((cfg0.win 8).blk t).view.read (Elt Ideal) (G8 (aA m c) (aB m c) (aC m c) (aW m c) (aX m c) (aGP m c) (aGN m c)) := by
  rw [flushed8]
  funext y
  obtain ⟨r, j, rfl⟩ : ∃ (r : Fin 512) (j : Fin 2048), y = ix2 r j := ⟨y 0, y 1, eq_ix2 y⟩
  show out0_8 _ _ _ _ _ _ _ (ix2 r j) = G8 _ _ _ _ _ _ _ (((cfg0.win 8).blk t).view.emb (ix2 r j))
  rw [emb8, out8_apply]
  exact congrArg₂ (fun f g => rms width f g j) (res_eq m c t r) (blk6 m c t j)

theorem covered7 (i : S8192x2048.Idx) : ∃ t : Fin cfg0.N, (cfg0.win 7).flush t = true ∧ i ∈ ((cfg0.win 7).blk t).view.set := by
  have h0 : (i 0).val < 8192 := (i 0).isLt
  have hN : cfg0.N = 16 := N_0
  refine ⟨⟨(i 0).val / 512, by omega⟩, flush0_7 _, ?_⟩
  have h := ((cfg0.win 7).blk (⟨(i 0).val / 512, by omega⟩ : Fin cfg0.N)).view.emb_mem_set (ix2 (⟨(i 0).val % 512, by omega⟩ : Fin 512) (⟨(i 1).val, (i 1).isLt⟩ : Fin 2048))
  erw [emb7] at h
  rw [← ix2_of i] at h
  · exact h
  · dsimp [rOf]; omega
  · rfl

theorem covered8 (i : S8192x2048.Idx) : ∃ t : Fin cfg0.N, (cfg0.win 8).flush t = true ∧ i ∈ ((cfg0.win 8).blk t).view.set := by
  have h0 : (i 0).val < 8192 := (i 0).isLt
  have hN : cfg0.N = 16 := N_0
  refine ⟨⟨(i 0).val / 512, by omega⟩, flush0_8 _, ?_⟩
  have h := ((cfg0.win 8).blk (⟨(i 0).val / 512, by omega⟩ : Fin cfg0.N)).view.emb_mem_set (ix2 (⟨(i 0).val % 512, by omega⟩ : Fin 512) (⟨(i 1).val, (i 1).isLt⟩ : Fin 2048))
  erw [emb8] at h
  rw [← ix2_of i] at h
  · exact h
  · dsimp [rOf]; omega
  · rfl

/-- The first result array after the run. -/
theorem final7 : (dats m 0 c).arrAt 7 cfg0.N = G7 (aA m c) (aB m c) (aC m c) (aW m c) (aX m c) (aGP m c) :=
  (dats m 0 c).arrAt_eq_of_cover 7 _ (fun t _ => flushed7_eq m c t) covered7
/-- The second. -/
theorem final8 : (dats m 0 c).arrAt 8 cfg0.N = G8 (aA m c) (aB m c) (aC m c) (aW m c) (aX m c) (aGP m c) (aGN m c) :=
  (dats m 0 c).arrAt_eq_of_cover 8 _ (fun t _ => flushed8_eq m c t) covered8

end Arrays
end Cert.OutpIdeal.Outp
end
-- ==== Proof.OutpRef.lean ====
/- The output projection's reference, read at each place of its two results. -/
module
public import proofs.«01_k».proof.Proof.OutpKernel
public import proofs.«01_k».proof.Proof.Gen.OutpRefIdeal.Run
public import proofs.«01_k».proof.Proof.Gen.OutpRefIdeal.Read
@[expose] public section
set_option maxRecDepth 16384
noncomputable section
namespace Cert.OutpRefIdeal.Outp
open Cert.OutpRefIdeal Cert.OutpRefIdeal.Gen Cert.OutpRefIdeal.Read Cert.OutpIdeal.Outp Cert.KernelIdeal.Up Cert.Rows Idealize.ShloMosaic Idealize.ShloMosaic.TcCoe Idealize.SL.Sem

variable (A : Vec Ideal S2x4096x512 .f32) (B C : Vec Ideal S2x4096x768 .f32) (W : Vec Ideal S4x2048x2048 .f32) (X : Vec Ideal S2x4096x2048 .f32) (GP GN : Vec Ideal S2048 .f32)

theorem mix_a (b : Fin 2) (s : Fin 4096) (k : Fin 512) : val_main_v0 (F := Ideal) A B C (ix3 b s ⟨k.val, by omega⟩) = A (ix3 b s k) := by
  unfold val_main_v0
  pointwise
theorem mix_b (b : Fin 2) (s : Fin 4096) (k : Fin 768) : val_main_v0 (F := Ideal) A B C (ix3 b s ⟨512 + k.val, by omega⟩) = B (ix3 b s k) := by
  unfold val_main_v0
  pointwise
theorem mix_c (b : Fin 2) (s : Fin 4096) (k : Fin 768) : val_main_v0 (F := Ideal) A B C (ix3 b s ⟨1280 + k.val, by omega⟩) = C (ix3 b s k) := by
  unfold val_main_v0
  pointwise
  rw [dif_neg (by omega), dif_neg (by omega)]
  exact congrArg C (ix3_of _ b s k rfl rfl (by dsimp; omega))

theorem weight_apply (k j : Fin 2048) : val_main_v2 (F := Ideal) W (ix2 k j) = W (ix3 1 k j) := by
  rw [val_main_v2_apply, val_main_v1_apply]
  exact congrArg W (ix3_of _ 1 k j (by dsimp <;> omega) (by dsimp <;> omega) (by dsimp <;> omega))

theorem prod_apply (b : Fin 2) (s : Fin 4096) (j : Fin 2048) : val_main_v3 (F := Ideal) A B C W (ix3 b s j) = proj A B C W b s j := by
  rw [val_main_v3_apply]
  have e : ∀ k : Fin 2048, val_main_v0 (F := Ideal) A B C (lidx_main_v3 (ix3 b s j) k) * val_main_v2 (F := Ideal) W (ridx_main_v3 (ix3 b s j) k)
      = val_main_v0 (F := Ideal) A B C (ix3 b s k) * W (ix3 1 k j) := fun k =>
    congrArg₂ (· * ·) (congrArg (val_main_v0 (F := Ideal) A B C) (ix3_of _ b s k rfl rfl rfl))
      ((congrArg (val_main_v2 (F := Ideal) W) (ix2_of _ k j rfl rfl)).trans (weight_apply W k j))
  rw [Finset.sum_congr rfl fun k _ => e k]
  refine (Fin.sum_univ_add (a := 512 + 768) (b := 768) (fun k : Fin (512 + 768 + 768) => val_main_v0 (F := Ideal) A B C (ix3 b s (k : Fin 2048)) * W (ix3 1 (k : Fin 2048) j))).trans ?_
  refine congrArg₂ (· + ·) ((Fin.sum_univ_add (a := 512) (b := 768) _).trans (congrArg₂ (· + ·) ?_ ?_)) ?_ <;>
    refine Finset.sum_congr rfl fun k _ => ?_
  · exact congrArg (· * _) (mix_a A B C b s k)
  · exact congrArg (· * _) (mix_b A B C b s k)
  · exact congrArg (· * _) (mix_c A B C b s k)

theorem sq_apply (b : Fin 2) (s : Fin 4096) : val_main_v5 (F := Ideal) A B C W (ix2 b s) = ∑ k, proj A B C W b s k * proj A B C W b s k := by
  rw [val_main_v5_apply, val_main_cst_apply, show (FloatOps.ofBits FTy.f32 0x00000000#32 : Ideal .f32) = (0 : EReal) from Ideal.ofBits_zero_f32, zero_add]
  refine Finset.sum_congr rfl fun k _ => ?_
  rw [val_main_v4_apply]
  have e : ∀ z, z = ix3 b s k → val_main_v3 (F := Ideal) A B C W z = proj A B C W b s k := fun z hz => hz ▸ prod_apply A B C W b s k
  exact congrArg₂ (· * ·) (e _ (ix3_of _ b s k rfl rfl rfl)) (e _ (ix3_of _ b s k rfl rfl rfl))

theorem res_apply (b : Fin 2) (s : Fin 4096) (j : Fin 2048) : val_main_v17 (F := Ideal) A B C W X GP (ix3 b s j) = res A B C W X GP b s j := by
  simp only [val_main_v17_apply, val_main_v16_apply, val_main_v13_apply, val_main_v12_apply, val_main_v11_apply, val_main_v10_apply, val_main_v9_apply, val_main_v8_apply, val_main_v7_apply, val_main_v6_apply, val_main_v15_apply, val_main_v14_apply, val_main_cst_0_apply, val_main_cst_1_apply]
  rw [ix2_of (idx_main_v6 (idx_main_v12 (ix3 b s j))) b s rfl rfl, sq_apply, prod_apply,
    show idx_main_v14 (idx_main_v15 (ix3 b s j)) = ix1 j from funext fun a => match a with | ⟨0, _⟩ => rfl]
  rfl

theorem sq2_apply (b : Fin 2) (s : Fin 4096) :
    val_main_v19 (F := Ideal) A B C W X GP (ix2 b s) = ∑ k, res A B C W X GP b s k * res A B C W X GP b s k := by
  rw [val_main_v19_apply, val_main_cst_2_apply, show (FloatOps.ofBits FTy.f32 0x00000000#32 : Ideal .f32) = (0 : EReal) from Ideal.ofBits_zero_f32, zero_add]
  refine Finset.sum_congr rfl fun k _ => ?_
  rw [val_main_v18_apply]
  have e : ∀ z, z = ix3 b s k → val_main_v17 (F := Ideal) A B C W X GP z = res A B C W X GP b s k := fun z hz => hz ▸ res_apply A B C W X GP b s k
  exact congrArg₂ (· * ·) (e _ (ix3_of _ b s k rfl rfl rfl)) (e _ (ix3_of _ b s k rfl rfl rfl))

theorem norm_apply (b : Fin 2) (s : Fin 4096) (j : Fin 2048) :
    val_main_v30 (F := Ideal) A B C W X GP GN (ix3 b s j) = rms width (res A B C W X GP b s) (GN (ix1 j)) j := by
  simp only [val_main_v30_apply, val_main_v27_apply, val_main_v26_apply, val_main_v25_apply, val_main_v24_apply, val_main_v23_apply, val_main_v22_apply, val_main_v21_apply, val_main_v20_apply, val_main_v29_apply, val_main_v28_apply, val_main_cst_3_apply, val_main_cst_4_apply]
  rw [ix2_of (idx_main_v20 (idx_main_v26 (ix3 b s j))) b s rfl rfl, sq2_apply, res_apply,
    show idx_main_v28 (idx_main_v29 (ix3 b s j)) = ix1 j from funext fun a => match a with | ⟨0, _⟩ => rfl]
  rfl

/-- The first result of the reference. -/
theorem out0_eq : val_main_v31 (F := Ideal) A B C W X GP = G7 A B C W X GP := funext fun y => by
  have h0 : (y 0).val < 8192 := (y 0).isLt
  have h1 : (y 1).val < 2048 := (y 1).isLt
  rw [val_main_v31_apply]
  exact (congrArg (val_main_v17 (F := Ideal) A B C W X GP) (ix3_of (idx_main_v31 y) (bat (y 0)) (tok (y 0)) (y 1)
    (by dsimp [bat] <;> omega) (by dsimp [tok] <;> omega) (by dsimp <;> omega))).trans (res_apply A B C W X GP _ _ _)

/-- The second. -/
theorem out1_eq : val_main_v33 (F := Ideal) A B C W X GP GN = G8 A B C W X GP GN := funext fun y => by
  have h0 : (y 0).val < 8192 := (y 0).isLt
  have h1 : (y 1).val < 2048 := (y 1).isLt
  rw [val_main_v33_apply, val_main_v32_apply]
  exact (congrArg (val_main_v30 (F := Ideal) A B C W X GP GN) (ix3_of (idx_main_v33 y) (bat (y 0)) (tok (y 0)) (y 1)
    (by dsimp [bat] <;> omega) (by dsimp [tok] <;> omega) (by dsimp <;> omega))).trans (norm_apply A B C W X GP GN _ _ _)

end Cert.OutpRefIdeal.Outp
end
-- ==== Proof.HgrnMath.lean ====
/- The recurrence's decay, as a real number: what the kernel's rational form and the reference's logarithmic form both compute. -/
module
public import proofs.«01_k».proof.Proof.Rows
@[expose] public section
set_option maxRecDepth 16384
noncomputable section
namespace Cert.Hg
open Idealize.ShloMosaic

/-- The least decay. -/
def flr : EReal := Ideal.ofBits .f32 0x0DA24260#32
theorem flr_real : ∃ r : ℝ, 0 < r ∧ flr = (r : EReal) := by
  unfold flr
  simp only [Ideal.ofBits, Ideal.ieee]
  refine ⟨_, ?_, rfl⟩
  norm_num
  rw [if_neg (by decide)]
  positivity
def fl : ℝ := flr.toReal
theorem flr_eq : flr = (fl : EReal) := by
  obtain ⟨r, _, h⟩ := flr_real
  unfold fl
  rw [h]; rfl
theorem fl_pos : 0 < fl := by
  obtain ⟨r, hr, h⟩ := flr_real
  unfold fl
  rw [h]; exact hr

/-- The logistic value of a gate. -/
def sg (z : EReal) : ℝ := (Ideal.logistic z).toReal
theorem sg_bot : sg ⊥ = 0 := by simp [sg]
theorem sg_top : sg ⊤ = 1 := by simp [sg]
theorem sg_coe (r : ℝ) : sg r = (1 + Real.exp (-r))⁻¹ := by simp [sg]
theorem sg_nonneg (z : EReal) : 0 ≤ sg z := by
  induction z with
  | bot => rw [sg_bot]
  | top => rw [sg_top]; norm_num
  | coe r => rw [sg_coe]; positivity

/-- The decay of a lower bound and a gate. -/
def fR (l : ℝ) (z : EReal) : ℝ := max l fl + (1 - l) * sg z
theorem fR_pos {l : ℝ} (hl : l ≤ 1) (z : EReal) : 0 < fR l z := by
  have h1 : fl ≤ max l fl := le_max_right _ _
  have h2 := fl_pos
  have h3 : 0 ≤ (1 - l) * sg z := mul_nonneg (by linarith) (sg_nonneg z)
  unfold fR
  linarith

/-! ## The kernel's form -/

def sgE (y : EReal) : EReal := Ideal.exp (0 - max y (-y))
def sgR (y : EReal) : EReal := Ideal.div 1 (1 + sgE y)

theorem cmax (a b : ℝ) : ((max a b : ℝ) : EReal) = max (a : EReal) (b : EReal) := EReal.coe_strictMono.monotone.map_max
theorem div_coe {a b : ℝ} (hb : b ≠ 0) : Ideal.div (a : EReal) (b : EReal) = ((a * b⁻¹ : ℝ) : EReal) := by
  unfold Ideal.div
  rw [if_neg (by exact_mod_cast hb), ← EReal.coe_inv, EReal.coe_mul]
theorem sgE_coe (r : ℝ) : sgE r = ((Real.exp (-|r|) : ℝ) : EReal) := by
  unfold sgE
  rw [zero_sub, ← EReal.coe_neg, ← cmax, ← EReal.coe_neg]
  rw [show max r (-r) = |r| from rfl, Ideal.exp_coe]
theorem sgR_coe (r : ℝ) : sgR r = (((1 + Real.exp (-|r|))⁻¹ : ℝ) : EReal) := by
  unfold sgR
  rw [sgE_coe, ← EReal.coe_one, ← EReal.coe_add, div_coe (by positivity), one_mul]
theorem sgE_bot : sgE ⊥ = 0 := by simp [sgE]
theorem sgE_top : sgE ⊤ = 0 := by simp [sgE]
theorem sgR_of {y : EReal} (h : sgE y = 0) : sgR y = 1 := by
  unfold sgR
  rw [h, add_zero, ← EReal.coe_one, div_coe one_ne_zero]; norm_num

theorem sg_up (z : EReal) : (if 0 ≤ z then sgR z else sgE z * sgR z) = (sg z : EReal) := by
  induction z with
  | bot => rw [if_neg (by simp), sgE_bot, zero_mul, sg_bot]; rfl
  | top => rw [if_pos le_top, sgR_of sgE_top, sg_top]; rfl
  | coe r =>
    rw [sgE_coe, sgR_coe, sg_coe, ← EReal.coe_mul]
    by_cases h : 0 ≤ r
    · rw [if_pos (by exact_mod_cast h), abs_of_nonneg h]
    · rw [if_neg (by exact_mod_cast h), abs_of_neg (not_le.mp h), neg_neg]
      congr 1
      rw [Real.exp_neg]
      have := Real.exp_pos r
      field_simp
      try ring
theorem sg_dn (z : EReal) : (if 0 ≤ z then sgE z * sgR z else sgR z) = ((1 - sg z : ℝ) : EReal) := by
  induction z with
  | bot => rw [if_neg (by simp), sgR_of sgE_bot, sg_bot]; norm_num
  | top => rw [if_pos le_top, sgE_top, zero_mul, sg_top]; norm_num
  | coe r =>
    rw [sgE_coe, sgR_coe, sg_coe, ← EReal.coe_mul]
    by_cases h : 0 ≤ r
    · rw [if_pos (by exact_mod_cast h), abs_of_nonneg h]
      congr 1
      have := Real.exp_pos (-r)
      field_simp
      try ring
    · rw [if_neg (by exact_mod_cast h), abs_of_neg (not_le.mp h), neg_neg]
      congr 1
      rw [Real.exp_neg]
      have := Real.exp_pos r
      field_simp
      try ring

theorem kernF (l : ℝ) (z : EReal) : max (l : EReal) flr + (1 - (l : EReal)) * (if 0 ≤ z then sgR z else sgE z * sgR z) = (fR l z : EReal) := by
  rw [sg_up, flr_eq, ← cmax, ← EReal.coe_one, ← EReal.coe_sub, ← EReal.coe_mul, ← EReal.coe_add]
  rfl
theorem kernK (l : ℝ) (z : EReal) : (1 - (l : EReal)) * (if 0 ≤ z then sgE z * sgR z else sgR z) - (max (l : EReal) flr - l) = ((1 - fR l z : ℝ) : EReal) := by
  rw [sg_dn, flr_eq, ← cmax, ← EReal.coe_one, ← EReal.coe_sub, ← EReal.coe_mul, ← EReal.coe_sub, ← EReal.coe_sub]
  congr 1
  unfold fR
  ring

/-! ## The reference's form -/

theorem log_pos {x : ℝ} (hx : 0 < x) : Ideal.log (x : EReal) = (Real.log x : ℝ) := by
  rw [Ideal.log_coe, if_neg (not_le.mpr hx)]
theorem log_zero' : Ideal.log ((0 : ℝ) : EReal) = ⊥ := by
  rw [Ideal.log_coe, if_pos le_rfl]
theorem log_one' : Ideal.log 1 = 0 := by
  rw [← EReal.coe_one, log_pos one_pos, Real.log_one]; rfl
/-- The larger plus the logarithm of one plus the exponential of the gap. -/
def lse (a b : EReal) : EReal := max a b + Ideal.log (1 + Ideal.exp (-(max (a - b) (-(a - b)))))
theorem lse_coe (x y : ℝ) (hx : 0 < x) (hy : 0 < y) : lse (Real.log x : ℝ) (Real.log y : ℝ) = (Real.log (x + y) : ℝ) := by
  unfold lse
  rw [← EReal.coe_sub, ← EReal.coe_neg, ← cmax, ← cmax, ← EReal.coe_neg, Ideal.exp_coe, ← EReal.coe_one, ← EReal.coe_add, Ideal.log_coe,
    if_neg (not_le.mpr (by positivity)), ← EReal.coe_add]
  congr 1
  rw [show max (Real.log x - Real.log y) (-(Real.log x - Real.log y)) = |Real.log x - Real.log y| from rfl]
  rcases le_total y x with h | h
  · have h' := Real.log_le_log hy h
    rw [max_eq_left h', abs_of_nonneg (by linarith), neg_sub, ← Real.log_div hy.ne' hx.ne', Real.exp_log (by positivity), ← Real.log_mul hx.ne' (by positivity)]
    congr 1
    field_simp
  · have h' := Real.log_le_log hx h
    rw [max_eq_right h', abs_of_nonpos (by linarith), neg_neg, ← Real.log_div hx.ne' hy.ne', Real.exp_log (by positivity), ← Real.log_mul hy.ne' (by positivity)]
    congr 1
    field_simp
    ring
theorem lse_bot (x : ℝ) : lse x ⊥ = x := by
  unfold lse
  simp [log_one']
theorem lse_log {x y : ℝ} (hx : 0 < x) (hy : 0 ≤ y) : lse (Ideal.log x) (Ideal.log y) = (Real.log (x + y) : ℝ) := by
  rw [log_pos hx]
  rcases hy.eq_or_lt with h | h
  · rw [← h, log_zero', lse_bot, add_zero]
  · rw [log_pos h, lse_coe x y hx h]
theorem log_mul' {x y : ℝ} (hx : 0 ≤ x) (hy : 0 ≤ y) : Ideal.log x + Ideal.log y = Ideal.log ((x * y : ℝ) : EReal) := by
  rcases hx.eq_or_lt with h | h
  · rw [← h, zero_mul, log_zero', EReal.bot_add]
  · rcases hy.eq_or_lt with h' | h'
    · rw [← h', mul_zero, log_zero', EReal.add_bot]
    · rw [log_pos h, log_pos h', log_pos (mul_pos h h'), Real.log_mul h.ne' h'.ne', EReal.coe_add]
/-- The logarithm of the logistic value, as the reference takes it. -/
theorem logsig (z : EReal) : -(lse (-z) 0) = Ideal.log (sg z : EReal) := by
  induction z with
  | bot => rw [sg_bot, log_zero']; simp [lse, log_one']
  | top => rw [sg_top, EReal.coe_one, log_one']; simp [lse, log_one']
  | coe r =>
    rw [sg_coe, log_pos (by positivity), ← EReal.coe_neg]
    have h : ((0 : ℝ) : EReal) = ((Real.log 1 : ℝ) : EReal) := by rw [Real.log_one]
    rw [show (0 : EReal) = ((Real.log 1 : ℝ) : EReal) from by rw [Real.log_one]; rfl, show ((-r : ℝ) : EReal) = ((Real.log (Real.exp (-r)) : ℝ) : EReal) from by rw [Real.log_exp],
      lse_coe _ _ (Real.exp_pos _) one_pos, ← EReal.coe_neg]
    congr 1
    rw [Real.log_inv, add_comm]
theorem refF {l : ℝ} (hl : l ≤ 1) (z : EReal) : lse (Ideal.log (max (l : EReal) flr)) (Ideal.log (1 + -(l : EReal)) + -(lse (-z) 0)) = (Real.log (fR l z) : ℝ) := by
  rw [logsig, flr_eq, ← cmax, ← EReal.coe_one, ← EReal.coe_neg, ← EReal.coe_add, ← sub_eq_add_neg, log_mul' (by linarith) (sg_nonneg z),
    lse_log (lt_max_of_lt_right fl_pos) (mul_nonneg (by linarith) (sg_nonneg z))]
  rfl
theorem refK {l : ℝ} (hl : l ≤ 1) (z : EReal) : -(Ideal.exp ((Real.log (fR l z) : ℝ) : EReal) - 1) = ((1 - fR l z : ℝ) : EReal) := by
  rw [Ideal.exp_coe, Real.exp_log (fR_pos hl z), ← EReal.coe_one, ← EReal.coe_sub, ← EReal.coe_neg, neg_sub]

/-! ## One head's four rows -/

/-- The divisor of the mean over a head's row. -/
def cnt : EReal := Ideal.ofBits .f32 0x43000000#32

section
variable (q z v gt : Fin 4 → Fin 128 → EReal) (lb gn : Fin 128 → EReal) (S : Fin 128 → Fin 128 → EReal)
/-- The logarithm of a row's decay, -/
def lg (s : Fin 4) (k : Fin 128) : ℝ := Real.log (fR (lb k).toReal (z s k))
/-- summed up to a row, -/
def bb (t : Fin 4) (k : Fin 128) : ℝ := ∑ s : Fin 4, if s ≤ t then lg z lb s k else 0
/-- and the weight of its input. -/
def kk (s : Fin 4) (k : Fin 128) : ℝ := 1 - fR (lb k).toReal (z s k)
/-- What row `s` adds to row `t`. -/
def aS (t s : Fin 4) (j : Fin 128) : EReal := (∑ k : Fin 128, if s ≤ t then q t k * (kk z lb s k : ℝ) * (Real.exp (bb z lb t k - bb z lb s k) : ℝ) else 0) * v s j
/-- A row's output before the norm: what the state gives, and the rows. -/
def oS (t : Fin 4) (j : Fin 128) : EReal := ∑ k : Fin 128, q t k * (Real.exp (bb z lb t k) : ℝ) * S k j + ∑ s : Fin 4, aS q z v lb t s j
/-- The state after the four rows. -/
def sS (k j : Fin 128) : EReal := S k j * (Real.exp (bb z lb 3 k) : ℝ) + ∑ s : Fin 4, v s j * ((kk z lb s k : ℝ) * (Real.exp (bb z lb 3 k - bb z lb s k) : ℝ))
/-- A row's output: the norm by the gate. -/
def outS (t : Fin 4) (j : Fin 128) : EReal := Rows.rms cnt (oS q z v lb S t) (gn j) j * Ideal.div (gt t j) (1 + Ideal.exp (0 - gt t j))
end
/-- Four rows of a tile of eight, the others zero. -/
def pad4 (X : Fin 4 → Fin 128 → EReal) (r : Fin 8) (k : Fin 128) : EReal := if h : r.val < 4 then X ⟨r.val, h⟩ k else 0
end Cert.Hg
end
-- ==== Proof.HgrnHead.lean ====
/- What the recurrence kernel's body computes for one head, as plain functions of the head's operands. -/
module
public import proofs.«01_k».proof.Proof.HgrnMath
public import proofs.«01_k».proof.Proof.UpCommon
public import proofs.«01_k».proof.Proof.Gen.HgrnIdeal.Value
@[expose] public section
set_option maxRecDepth 16384
noncomputable section
namespace Cert.HgrnIdeal.Hg
open Cert.HgrnIdeal Cert.HgrnIdeal.Gen Cert.HgrnIdeal.Value Cert.KernelIdeal.Up Cert.Rows Cert.Hg Idealize.ShloMosaic Idealize.ShloMosaic.TcCoe Idealize.SL.Sem

/-- The row of each place of a tile. -/
def rows : IVec S8x128 32 := iota Kind.tc S8x128 32 [0] iota_S8x128_d0_w32

/-- The row `d` before a row, around the tile. -/
def bk (r : Fin 8) (d : ℕ) : Fin 8 := ⟨(r.val + 8 - d) % 8, Nat.mod_lt _ (by omega)⟩

section
variable (q z v gt : Vec Ideal S1x8x128 .f32) (lb gn : Vec Ideal S1x128 .f32) (S : Vec Ideal S1x128x128 .f32)
/-- The decay of each row, -/
def aF : FVec Ideal S8x128 .f32 := k0_pay26 rows 0#32 (k0_pay16 lb) (k0_pay22 z) (k0_pay24 lb)
/-- the input's weight, -/
def aK : FVec Ideal S8x128 .f32 := k0_pay27 rows 0#32 (k0_pay15 lb) (k0_pay16 lb) (k0_pay17 lb) (k0_pay23 z)
/-- the summed logarithms of the decays, -/
def aB : FVec Ideal S8x128 .f32 := k0_pay28 rows 0#32 (k0_pay16 lb) (k0_pay22 z) (k0_pay24 lb)
/-- and what the state gives. -/
def aI : FVec Ideal S8x128 .f32 := k0_pay30 rows 0#32 (k0_pay11 q) (k0_pay16 lb) (k0_pay22 z) (k0_pay24 lb) S

theorem rows_eq (r : Fin 8) (k : Fin 128) : rows (ix2 r k) = BitVec.ofNat 32 r.val := by
  unfold rows
  pointwise
theorem sel_ge {α : Type} (r : Fin 8) (k : Fin 128) (n : Fin 8) (a b : α) :
    Scalar.select (IntOp.cmpi CmpIPredicate.sge (rows (ix2 r k)) (BitVec.ofNat 32 n.val)) a b = if n ≤ r then a else b := by
  rw [rows_eq]
  have h : ∀ r n : Fin 8, IntOp.cmpi CmpIPredicate.sge (BitVec.ofNat 32 r.val) (BitVec.ofNat 32 n.val) = if n ≤ r then 1#1 else 0#1 := by decide
  rw [h]
  by_cases c : n ≤ r
  · rw [if_pos c, if_pos c]; rfl
  · rw [if_neg c, if_neg c]; rfl
theorem and_rows (r : Fin 8) (k : Fin 128) : IntOp.andi (rows (ix2 r k)) 7#32 = rows (ix2 r k) := by
  rw [rows_eq]
  revert r
  decide
theorem sel_lt {α : Type} (r : Fin 8) (k : Fin 128) (a b : α) :
    Scalar.select (IntOp.cmpi CmpIPredicate.slt (IntOp.addi (0#32) (rows (ix2 r k))) 4#32) a b = if r.val < 4 then a else b := by
  rw [rows_eq]
  fin_cases r <;> rfl

theorem aF_apply (r : Fin 8) (k : Fin 128) : aF z lb (ix2 r k) = if r.val < 4 then
    max (lb (ix2 0 k)) flr + (1 - lb (ix2 0 k)) * (if 0 ≤ z (ix3 0 r k) then sgR (z (ix3 0 r k)) else sgE (z (ix3 0 r k)) * sgR (z (ix3 0 r k))) else 1 := by
  rw [← sel_lt r k]
  unfold aF
  unfold_payloads
  pointwise
  rfl
theorem aK_apply (r : Fin 8) (k : Fin 128) : aK z lb (ix2 r k) = if r.val < 4 then
    (1 - lb (ix2 0 k)) * (if 0 ≤ z (ix3 0 r k) then sgE (z (ix3 0 r k)) * sgR (z (ix3 0 r k)) else sgR (z (ix3 0 r k))) - (max (lb (ix2 0 k)) flr - lb (ix2 0 k)) else 0 := by
  rw [← sel_lt r k]
  unfold aK
  unfold_payloads
  pointwise
  rfl
theorem aI_apply (r : Fin 8) (j : Fin 128) : aI q z lb S (ix2 r j) = ∑ k : Fin 128, q (ix3 0 r k) * Ideal.exp (aB z lb (ix2 r k)) * S (ix3 0 j k) := by
  unfold aI k0_pay30
  rw [show k0_pay28 rows 0#32 (k0_pay16 lb) (k0_pay22 z) (k0_pay24 lb) = aB z lb from rfl]
  generalize aB z lb = B
  unfold_payloads
  pointwise

/-- The summed logarithms at a row, from the logarithms of the rows. -/
def cum (L : Fin 8 → EReal) (r : Fin 8) : EReal :=
  L r + (if 1 ≤ r then L (bk r 1) else 0) + (if 2 ≤ r then L (bk r 2) + (if 1 ≤ bk r 2 then L (bk (bk r 2) 1) else 0) else 0)
    + (if 4 ≤ r then L (bk r 4) + (if 1 ≤ bk r 4 then L (bk (bk r 4) 1) else 0)
        + (if 2 ≤ bk r 4 then L (bk (bk r 4) 2) + (if 1 ≤ bk (bk r 4) 2 then L (bk (bk (bk r 4) 2) 1) else 0) else 0) else 0)
theorem aB_apply (r : Fin 8) (k : Fin 128) : aB z lb (ix2 r k) = cum (fun s => Ideal.log (aF z lb (ix2 s k))) r := by
  unfold cum
  simp only [← sel_ge _ k]
  unfold aB k0_pay28
  pointwise
  rfl
theorem st_apply (V K B : FVec Ideal S8x128 .f32) (S : FVec Ideal S128x128 .f32) (r : Fin 128) (k : Fin 128) : k0_pay46 V K B S (ix3 0 r k)
    = S (ix2 r k) * Ideal.exp (B (ix2 7 k)) + ∑ x : Fin 8, V (ix2 x r) * (K (ix2 x k) * Ideal.exp (B (ix2 7 k) - B (ix2 x k))) := by
  unfold_payloads
  pointwise
end

section
variable (Q V F K : FVec Ideal S8x128 .f32) (O : FVec Ideal S8x128 .f32)
/-- The body's products of decays over two rows, -/
def b1 : FVec Ideal S8x128 .f32 := k0_pay33 F
/-- over four -/
def b4 : FVec Ideal S8x128 .f32 := k0_pay39 F (b1 F) (k0_pay35 F)
/-- and over seven. -/
def b7 : FVec Ideal S8x128 .f32 := k0_pay44 F (b4 F)
/-- The output of a row before the row seven before it. -/
def mid : FVec Ideal S8x128 .f32 :=
  k0_pay43 Q V F K (k0_pay32 rows k0_pay31) (k0_pay38 Q V F K (k0_pay32 rows k0_pay31) (b1 F) (k0_pay34 rows Q V F K O k0_pay31) (k0_pay35 F)) (b4 F)
    (k0_pay40 (k0_pay32 rows k0_pay31)) (k0_pay41 K)
/-- A row's product of decays over `d` rows. -/
def dec (r : Fin 8) (k : Fin 128) : ℕ → EReal
  | 0 => F (ix2 r k)
  | d + 1 => dec r k d * F (ix2 (bk r (d + 1)) k)
/-- What the row `d` before a row adds to its output. -/
def trm (d : ℕ) (n : Fin 8) (r : Fin 8) (j : Fin 128) : EReal :=
  (∑ k : Fin 128, if n ≤ r then Q (ix2 r k) * K (ix2 (bk r (d + 1)) k) * dec F r k d else 0) * V (ix2 (bk r (d + 1)) j)
theorem mid_apply (r : Fin 8) (j : Fin 128) : mid Q V F K O (ix2 r j)
    = O (ix2 r j) + (∑ k : Fin 128, Q (ix2 r k) * K (ix2 r k)) * V (ix2 r j)
      + trm Q V F K 0 1 r j + trm Q V F K 1 2 r j + trm Q V F K 2 3 r j + trm Q V F K 3 4 r j + trm Q V F K 4 5 r j + trm Q V F K 5 6 r j := by
  have e : ∀ d n, trm Q V F K d n r j = (∑ k : Fin 128, Scalar.select (IntOp.cmpi CmpIPredicate.sge (rows (ix2 r k)) (BitVec.ofNat 32 n.val))
      (Q (ix2 r k) * K (ix2 (bk r (d + 1)) k) * dec F r k d) 0) * V (ix2 (bk r (d + 1)) j) := fun d n =>
    congrArg (· * V (ix2 (bk r (d + 1)) j)) (Finset.sum_congr rfl fun k _ => (sel_ge r k n _ _).symm)
  simp only [e]
  unfold mid b4 b1
  unfold_payloads
  pointwise
  simp only [and_rows]
  rfl
/-- A row's output before the norm. -/
def tot (r : Fin 8) (j : Fin 128) : EReal := mid Q V F K O (ix2 r j) + trm Q V F K 6 7 r j
/-- The stored output. -/
def outA (G : FVec Ideal S8x128 .f32) (gn : Vec Ideal S1x128 .f32) : FVec Ideal S1x8x128 .bf16 :=
  k0_pay49 (k0_pay47 Q V (mid Q V F K O) (b7 F) (k0_pay45 K (k0_pay32 rows k0_pay31)) gn) (k0_pay48 G)
theorem b7_apply (r : Fin 8) (k : Fin 128) : b7 F (ix2 r k) = dec F r k 6 := by
  unfold b7 b4 b1
  unfold_payloads
  pointwise
  rfl
theorem k45_apply (r : Fin 8) (k : Fin 128) : k0_pay45 K (k0_pay32 rows k0_pay31) (ix2 r k) = if (7 : Fin 8) ≤ r then K (ix2 (bk r 7) k) else 0 := by
  rw [← sel_ge r k]
  unfold_payloads
  pointwise
  simp only [and_rows]
  rfl
theorem outA_apply (G : FVec Ideal S8x128 .f32) (gn : Vec Ideal S1x128 .f32) (r : Fin 8) (j : Fin 128) :
    outA Q V F K O G gn (ix3 0 r j) = rms cnt (tot Q V F K O r) (gn (ix2 0 j)) j * Ideal.div (G (ix2 r j)) (1 + Ideal.exp (0 - G (ix2 r j))) := by
  have e : tot Q V F K O = fun r j => mid Q V F K O (ix2 r j) + (∑ k : Fin 128, Q (ix2 r k) * k0_pay45 K (k0_pay32 rows k0_pay31) (ix2 r k) * b7 F (ix2 r k)) * V (ix2 (bk r 7) j) :=
    funext fun r => funext fun j => congrArg (mid Q V F K O (ix2 r j) + ·) (congrArg (· * V (ix2 (bk r 7) j)) (Finset.sum_congr rfl fun k _ => by
      rw [b7_apply, k45_apply]
      by_cases c : (7 : Fin 8) ≤ r
      · rw [if_pos c, if_pos c]
      · rw [if_neg c, if_neg c, mul_zero, zero_mul]))
  rw [e]
  unfold outA
  generalize mid Q V F K O = M
  generalize b7 F = E
  generalize k0_pay45 K (k0_pay32 rows k0_pay31) = H
  unfold_payloads
  pointwise
  rfl
end

section
variable (q z v gt : Vec Ideal S1x8x128 .f32) (lb gn : Vec Ideal S1x128 .f32) (S : Vec Ideal S1x128x128 .f32)
/-- One head's stored output, -/
def oHead : FVec Ideal S1x8x128 .bf16 := outA (k0_pay11 q) (k0_pay13 v) (aF z lb) (aK z lb) (aI q z lb S) (k0_pay14 gt) gn
/-- and its new state, transposed. -/
def sHead : FVec Ideal S1x128x128 .f32 := k0_pay46 (k0_pay13 v) (aK z lb) (aB z lb) (k0_pay29 S)
end
end Cert.HgrnIdeal.Hg
end
-- ==== Proof.HgrnRun.lean ====
/- What one grid point of the recurrence kernel stores: six heads' outputs and their new states. -/
module
public import proofs.«01_k».proof.Proof.HgrnHead
public import Idealize.ShloMosaic.Lib.Pipeline.ReadBack
@[expose] public section
set_option maxRecDepth 16384
noncomputable section
namespace Cert.HgrnIdeal.Hg
open Cert.HgrnIdeal Cert.HgrnIdeal.Gen Cert.HgrnIdeal.Value Cert.KernelIdeal.Up Cert.Rows Idealize.ShloMosaic Idealize.ShloMosaic.TcCoe Idealize.SL.Sem

/-- A head's columns of a tile, as they are loaded, -/
def ld3 (v : View sig .tc .vmem S1x8x768 .f32) (f : v.ty.Contents (Elt Ideal)) (o : ℕ) (h : ∀ a, (![0, 0, o] : Fin 3 → ℕ) a + S1x8x128.size a ≤ S1x8x768.size a) : Vec Ideal S1x8x128 .f32 :=
  v.readAt (Elt Ideal) (Rect.unit (s := S1x8x768) ![0, 0, o] S1x8x128.size h).toLoadRect f
/-- and of a row. -/
def ld2 (v : View sig .tc .vmem S1x768 .f32) (f : v.ty.Contents (Elt Ideal)) (o : ℕ) (h : ∀ a, (![0, o] : Fin 2 → ℕ) a + S1x128.size a ≤ S1x768.size a) : Vec Ideal S1x128 .f32 :=
  v.readAt (Elt Ideal) (Rect.unit (s := S1x768) ![0, o] S1x128.size h).toLoadRect f

section
variable (c : Dev nD) (i : grid0.Coords)
  (arg3 : Memref sig .tc .vmem S1x8x768 .f32) (harg3 : arg3.IsWhole)
  (arg4 : Memref sig .tc .vmem S1x8x768 .f32) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x6x128x128 .f32) (harg7 : arg7.IsWhole)
  (arg8 : Memref sig .tc .vmem S1x768 .f32) (harg8 : arg8.IsWhole)
  (arg9 : Memref sig .tc .vmem S1x768 .f32) (harg9 : arg9.IsWhole)
  (arg10 : Memref sig .tc .vmem S1x8x768 .bf16) (harg10 : arg10.IsWhole)
  (arg11 : Memref sig .tc .vmem S1x6x128x128 .f32) (harg11 : arg11.IsWhole)
  (arg12 : Memref sig .tc .vmem S6x128x128 .f32) (harg12 : arg12.IsWhole) (hc0 : cond0_0 i) (hc1 : cond0_1 i)
  (x0 x1 x2 x3 : Vec Ideal S1x8x768 .f32) (x4 : Vec Ideal S1x6x128x128 .f32) (x5 x6 : Vec Ideal S1x768 .f32)

/-- A head's stored output over its loads and its loaded state, -/
def oL (o : ℕ) (h : ∀ a, (![0, 0, o] : Fin 3 → ℕ) a + S1x8x128.size a ≤ S1x8x768.size a) (h' : ∀ a, (![0, o] : Fin 2 → ℕ) a + S1x128.size a ≤ S1x768.size a)
    (S : Vec Ideal S1x128x128 .f32) : FVec Ideal S1x8x128 .bf16 :=
  oHead (ld3 arg3.view (harg3.unread x0) o h) (ld3 arg4.view (harg4.unread x1) o h) (ld3 arg5.view (harg5.unread x2) o h) (ld3 arg6.view (harg6.unread x3) o h)
    (ld2 arg8.view (harg8.unread x5) o h') (ld2 arg9.view (harg9.unread x6) o h') S
/-- and its stored state. -/
def sL (o : ℕ) (h : ∀ a, (![0, 0, o] : Fin 3 → ℕ) a + S1x8x128.size a ≤ S1x8x768.size a) (h' : ∀ a, (![0, o] : Fin 2 → ℕ) a + S1x128.size a ≤ S1x768.size a)
    (S : Vec Ideal S1x128x128 .f32) : FVec Ideal S1x128x128 .f32 :=
  sHead (ld3 arg4.view (harg4.unread x1) o h) (ld3 arg5.view (harg5.unread x2) o h) (ld2 arg8.view (harg8.unread x5) o h') S

theorem piecesO : (kernelRun0_A (F := Ideal) c i arg3 harg3 arg4 harg4 arg5 harg5 arg6 harg6 arg7 harg7 arg8 harg8 arg9 harg9 arg10 harg10 arg11 harg11 arg12 harg12 hc0 hc1 x0 x1 x2 x3 x4 x5 x6).1
    = [⟨Rect.unit (s := S1x8x768) ![0, 0, 640] S1x8x128.size inb_S1x8x768_S1x8x128_0_0_640, oL arg3 harg3 arg4 harg4 arg5 harg5 arg6 harg6 arg8 harg8 arg9 harg9 x0 x1 x2 x3 x5 x6 640 inb_S1x8x768_S1x8x128_0_0_640 inb_S1x768_S1x128_0_640 (kernelRun0_A.sl.v1407 c arg4 harg4 arg5 harg5 arg7 harg7 arg8 harg8 arg12 x1 x2 x4 x5)⟩,
      ⟨Rect.unit (s := S1x8x768) ![0, 0, 512] S1x8x128.size inb_S1x8x768_S1x8x128_0_0_512, oL arg3 harg3 arg4 harg4 arg5 harg5 arg6 harg6 arg8 harg8 arg9 harg9 x0 x1 x2 x3 x5 x6 512 inb_S1x8x768_S1x8x128_0_0_512 inb_S1x768_S1x128_0_512 (kernelRun0_A.sl.v1140 c arg4 harg4 arg5 harg5 arg7 harg7 arg8 harg8 arg12 x1 x2 x4 x5)⟩,
      ⟨Rect.unit (s := S1x8x768) ![0, 0, 384] S1x8x128.size inb_S1x8x768_S1x8x128_0_0_384, oL arg3 harg3 arg4 harg4 arg5 harg5 arg6 harg6 arg8 harg8 arg9 harg9 x0 x1 x2 x3 x5 x6 384 inb_S1x8x768_S1x8x128_0_0_384 inb_S1x768_S1x128_0_384 (kernelRun0_A.sl.v873 c arg4 harg4 arg5 harg5 arg7 harg7 arg8 harg8 arg12 x1 x2 x4 x5)⟩,
      ⟨Rect.unit (s := S1x8x768) ![0, 0, 256] S1x8x128.size inb_S1x8x768_S1x8x128_0_0_256, oL arg3 harg3 arg4 harg4 arg5 harg5 arg6 harg6 arg8 harg8 arg9 harg9 x0 x1 x2 x3 x5 x6 256 inb_S1x8x768_S1x8x128_0_0_256 inb_S1x768_S1x128_0_256 (kernelRun0_A.sl.v606 c arg4 harg4 arg5 harg5 arg7 harg7 arg8 harg8 arg12 x1 x2 x4 x5)⟩,
      ⟨Rect.unit (s := S1x8x768) ![0, 0, 128] S1x8x128.size inb_S1x8x768_S1x8x128_0_0_128, oL arg3 harg3 arg4 harg4 arg5 harg5 arg6 harg6 arg8 harg8 arg9 harg9 x0 x1 x2 x3 x5 x6 128 inb_S1x8x768_S1x8x128_0_0_128 inb_S1x768_S1x128_0_128 (kernelRun0_A.sl.v339 c arg4 harg4 arg5 harg5 arg7 harg7 arg8 harg8 arg12 x1 x2 x4 x5)⟩,
      ⟨Rect.unit (s := S1x8x768) ![0, 0, 0] S1x8x128.size inb_S1x8x768_S1x8x128_0_0_0, oL arg3 harg3 arg4 harg4 arg5 harg5 arg6 harg6 arg8 harg8 arg9 harg9 x0 x1 x2 x3 x5 x6 0 inb_S1x8x768_S1x8x128_0_0_0 inb_S1x768_S1x128_0_0 (kernelRun0_A.sl.v72 c arg7 harg7 arg12 x4)⟩] := by
  sl_kernel_rfl

/-- A head's given state, transposed. -/
def tS (o : ℕ) (h : ∀ a, (![0, o, 0, 0] : Fin 4 → ℕ) a + S1x1x128x128.size a ≤ S1x6x128x128.size a) : Vec Ideal S1x128x128 .f32 :=
  shapeCast S1x128x128 (transpose S128x128 [1, 0] (shapeCast S128x128 (arg7.view.readAt (Elt Ideal) (Rect.unit (s := S1x6x128x128) ![0, o, 0, 0] S1x1x128x128.size h).toLoadRect (harg7.unread x4)) k0_part1._proof_3) k0_part1._proof_4) k0_part1._proof_8

/-- The scratch as the last loads meet it. -/
theorem pieces12 : kernelRun0_A.sl.HS0_12 c arg4 harg4 arg5 harg5 arg7 harg7 arg8 harg8 arg12 x1 x2 x4 x5
    = ⟨Rect.unit (s := S6x128x128) ![5, 0, 0] S1x128x128.size inb_S6x128x128_S1x128x128_5_0_0, sL arg4 harg4 arg5 harg5 arg8 harg8 x1 x2 x5 640 inb_S1x8x768_S1x8x128_0_0_640 inb_S1x768_S1x128_0_640 (kernelRun0_A.sl.v1407 c arg4 harg4 arg5 harg5 arg7 harg7 arg8 harg8 arg12 x1 x2 x4 x5)⟩
      :: ⟨Rect.unit (s := S6x128x128) ![4, 0, 0] S1x128x128.size inb_S6x128x128_S1x128x128_4_0_0, sL arg4 harg4 arg5 harg5 arg8 harg8 x1 x2 x5 512 inb_S1x8x768_S1x8x128_0_0_512 inb_S1x768_S1x128_0_512 (kernelRun0_A.sl.v1140 c arg4 harg4 arg5 harg5 arg7 harg7 arg8 harg8 arg12 x1 x2 x4 x5)⟩
      :: ⟨Rect.unit (s := S6x128x128) ![3, 0, 0] S1x128x128.size inb_S6x128x128_S1x128x128_3_0_0, sL arg4 harg4 arg5 harg5 arg8 harg8 x1 x2 x5 384 inb_S1x8x768_S1x8x128_0_0_384 inb_S1x768_S1x128_0_384 (kernelRun0_A.sl.v873 c arg4 harg4 arg5 harg5 arg7 harg7 arg8 harg8 arg12 x1 x2 x4 x5)⟩
      :: ⟨Rect.unit (s := S6x128x128) ![2, 0, 0] S1x128x128.size inb_S6x128x128_S1x128x128_2_0_0, sL arg4 harg4 arg5 harg5 arg8 harg8 x1 x2 x5 256 inb_S1x8x768_S1x8x128_0_0_256 inb_S1x768_S1x128_0_256 (kernelRun0_A.sl.v606 c arg4 harg4 arg5 harg5 arg7 harg7 arg8 harg8 arg12 x1 x2 x4 x5)⟩
      :: ⟨Rect.unit (s := S6x128x128) ![1, 0, 0] S1x128x128.size inb_S6x128x128_S1x128x128_1_0_0, sL arg4 harg4 arg5 harg5 arg8 harg8 x1 x2 x5 128 inb_S1x8x768_S1x8x128_0_0_128 inb_S1x768_S1x128_0_128 (kernelRun0_A.sl.v339 c arg4 harg4 arg5 harg5 arg7 harg7 arg8 harg8 arg12 x1 x2 x4 x5)⟩
      :: ⟨Rect.unit (s := S6x128x128) ![0, 0, 0] S1x128x128.size inb_S6x128x128_S1x128x128_0_0_0, sL arg4 harg4 arg5 harg5 arg8 harg8 x1 x2 x5 0 inb_S1x8x768_S1x8x128_0_0_0 inb_S1x768_S1x128_0_0 (kernelRun0_A.sl.v72 c arg7 harg7 arg12 x4)⟩
      :: kernelRun0_A.sl.HS0_6 c arg7 harg7 x4 := by
  sl_kernel_rfl

theorem pieces6 : kernelRun0_A.sl.HS0_6 c arg7 harg7 x4
    = [⟨Rect.unit (s := S6x128x128) ![5, 0, 0] S1x128x128.size inb_S6x128x128_S1x128x128_5_0_0, tS arg7 harg7 x4 5 inb_S1x6x128x128_S1x1x128x128_0_5_0_0⟩,
      ⟨Rect.unit (s := S6x128x128) ![4, 0, 0] S1x128x128.size inb_S6x128x128_S1x128x128_4_0_0, tS arg7 harg7 x4 4 inb_S1x6x128x128_S1x1x128x128_0_4_0_0⟩,
      ⟨Rect.unit (s := S6x128x128) ![3, 0, 0] S1x128x128.size inb_S6x128x128_S1x128x128_3_0_0, tS arg7 harg7 x4 3 k0_part1._proof_23⟩,
      ⟨Rect.unit (s := S6x128x128) ![2, 0, 0] S1x128x128.size inb_S6x128x128_S1x128x128_2_0_0, tS arg7 harg7 x4 2 k0_part1._proof_17⟩,
      ⟨Rect.unit (s := S6x128x128) ![1, 0, 0] S1x128x128.size inb_S6x128x128_S1x128x128_1_0_0, tS arg7 harg7 x4 1 k0_part1._proof_11⟩,
      ⟨Rect.unit (s := S6x128x128) ![0, 0, 0] S1x128x128.size inb_S6x128x128_S1x128x128_0_0_0, tS arg7 harg7 x4 0 k0_part1._proof_1⟩] := by
  sl_kernel_rfl
/-! ## The scratch's loads -/

theorem st0 : kernelRun0_A.sl.v72 c arg7 harg7 arg12 x4 = tS arg7 harg7 x4 0 k0_part1._proof_1 := by
  unfold kernelRun0_A.sl.v72
  rw [pieces6, View.readCov_skip _ _ _ _ _ rfl, View.readCov_skip _ _ _ _ _ rfl, View.readCov_skip _ _ _ _ _ rfl, View.readCov_skip _ _ _ _ _ rfl, View.readCov_skip _ _ _ _ _ rfl]
  exact View.readCov_cons_toLoadRect _ _ _ _
theorem st1 : kernelRun0_A.sl.v339 c arg4 harg4 arg5 harg5 arg7 harg7 arg8 harg8 arg12 x1 x2 x4 x5 = tS arg7 harg7 x4 1 k0_part1._proof_11 := by
  unfold kernelRun0_A.sl.v339 kernelRun0_A.sl.HS0_7
  rw [pieces6, View.readCov_skip _ _ _ _ _ rfl, View.readCov_skip _ _ _ _ _ rfl, View.readCov_skip _ _ _ _ _ rfl, View.readCov_skip _ _ _ _ _ rfl, View.readCov_skip _ _ _ _ _ rfl]
  exact View.readCov_cons_toLoadRect _ _ _ _
theorem st2 : kernelRun0_A.sl.v606 c arg4 harg4 arg5 harg5 arg7 harg7 arg8 harg8 arg12 x1 x2 x4 x5 = tS arg7 harg7 x4 2 k0_part1._proof_17 := by
  unfold kernelRun0_A.sl.v606 kernelRun0_A.sl.HS0_8 kernelRun0_A.sl.HS0_7
  rw [pieces6, View.readCov_skip _ _ _ _ _ rfl, View.readCov_skip _ _ _ _ _ rfl, View.readCov_skip _ _ _ _ _ rfl, View.readCov_skip _ _ _ _ _ rfl, View.readCov_skip _ _ _ _ _ rfl]
  exact View.readCov_cons_toLoadRect _ _ _ _
theorem st3 : kernelRun0_A.sl.v873 c arg4 harg4 arg5 harg5 arg7 harg7 arg8 harg8 arg12 x1 x2 x4 x5 = tS arg7 harg7 x4 3 k0_part1._proof_23 := by
  unfold kernelRun0_A.sl.v873 kernelRun0_A.sl.HS0_9 kernelRun0_A.sl.HS0_8 kernelRun0_A.sl.HS0_7
  rw [pieces6, View.readCov_skip _ _ _ _ _ rfl, View.readCov_skip _ _ _ _ _ rfl, View.readCov_skip _ _ _ _ _ rfl, View.readCov_skip _ _ _ _ _ rfl, View.readCov_skip _ _ _ _ _ rfl]
  exact View.readCov_cons_toLoadRect _ _ _ _
theorem st4 : kernelRun0_A.sl.v1140 c arg4 harg4 arg5 harg5 arg7 harg7 arg8 harg8 arg12 x1 x2 x4 x5 = tS arg7 harg7 x4 4 inb_S1x6x128x128_S1x1x128x128_0_4_0_0 := by
  unfold kernelRun0_A.sl.v1140 kernelRun0_A.sl.HS0_10 kernelRun0_A.sl.HS0_9 kernelRun0_A.sl.HS0_8 kernelRun0_A.sl.HS0_7
  rw [pieces6, View.readCov_skip _ _ _ _ _ rfl, View.readCov_skip _ _ _ _ _ rfl, View.readCov_skip _ _ _ _ _ rfl, View.readCov_skip _ _ _ _ _ rfl, View.readCov_skip _ _ _ _ _ rfl]
  exact View.readCov_cons_toLoadRect _ _ _ _
theorem st5 : kernelRun0_A.sl.v1407 c arg4 harg4 arg5 harg5 arg7 harg7 arg8 harg8 arg12 x1 x2 x4 x5 = tS arg7 harg7 x4 5 inb_S1x6x128x128_S1x1x128x128_0_5_0_0 := by
  unfold kernelRun0_A.sl.v1407 kernelRun0_A.sl.HS0_11 kernelRun0_A.sl.HS0_10 kernelRun0_A.sl.HS0_9 kernelRun0_A.sl.HS0_8 kernelRun0_A.sl.HS0_7
  rw [pieces6, View.readCov_skip _ _ _ _ _ rfl, View.readCov_skip _ _ _ _ _ rfl, View.readCov_skip _ _ _ _ _ rfl, View.readCov_skip _ _ _ _ _ rfl, View.readCov_skip _ _ _ _ _ rfl]
  exact View.readCov_cons_toLoadRect _ _ _ _

/-- A head's new state as it is stored, transposed back. -/
def tB (X : Vec Ideal S1x128x128 .f32) : Vec Ideal S1x1x128x128 .f32 :=
  shapeCast S1x1x128x128 (transpose S128x128 [1, 0] (shapeCast S128x128 X k0_part1._proof_7) k0_part1._proof_4) k0_part2._proof_1

theorem fs0 : kernelRun0_A.sl.v1610 c arg4 harg4 arg5 harg5 arg7 harg7 arg8 harg8 arg12 x1 x2 x4 x5 = sL arg4 harg4 arg5 harg5 arg8 harg8 x1 x2 x5 0 inb_S1x8x768_S1x8x128_0_0_0 inb_S1x768_S1x128_0_0 (tS arg7 harg7 x4 0 k0_part1._proof_1) := by
  unfold kernelRun0_A.sl.v1610
  rw [pieces12, st0, View.readCov_skip _ _ _ _ _ rfl, View.readCov_skip _ _ _ _ _ rfl, View.readCov_skip _ _ _ _ _ rfl, View.readCov_skip _ _ _ _ _ rfl, View.readCov_skip _ _ _ _ _ rfl]
  exact View.readCov_cons_toLoadRect _ _ _ _
theorem fs1 : kernelRun0_A.sl.v1616 c arg4 harg4 arg5 harg5 arg7 harg7 arg8 harg8 arg12 x1 x2 x4 x5 = sL arg4 harg4 arg5 harg5 arg8 harg8 x1 x2 x5 128 inb_S1x8x768_S1x8x128_0_0_128 inb_S1x768_S1x128_0_128 (tS arg7 harg7 x4 1 k0_part1._proof_11) := by
  unfold kernelRun0_A.sl.v1616
  rw [pieces12, st1, View.readCov_skip _ _ _ _ _ rfl, View.readCov_skip _ _ _ _ _ rfl, View.readCov_skip _ _ _ _ _ rfl, View.readCov_skip _ _ _ _ _ rfl]
  exact View.readCov_cons_toLoadRect _ _ _ _
theorem fs2 : kernelRun0_A.sl.v1622 c arg4 harg4 arg5 harg5 arg7 harg7 arg8 harg8 arg12 x1 x2 x4 x5 = sL arg4 harg4 arg5 harg5 arg8 harg8 x1 x2 x5 256 inb_S1x8x768_S1x8x128_0_0_256 inb_S1x768_S1x128_0_256 (tS arg7 harg7 x4 2 k0_part1._proof_17) := by
  unfold kernelRun0_A.sl.v1622
  rw [pieces12, st2, View.readCov_skip _ _ _ _ _ rfl, View.readCov_skip _ _ _ _ _ rfl, View.readCov_skip _ _ _ _ _ rfl]
  exact View.readCov_cons_toLoadRect _ _ _ _
theorem fs3 : kernelRun0_A.sl.v1628 c arg4 harg4 arg5 harg5 arg7 harg7 arg8 harg8 arg12 x1 x2 x4 x5 = sL arg4 harg4 arg5 harg5 arg8 harg8 x1 x2 x5 384 inb_S1x8x768_S1x8x128_0_0_384 inb_S1x768_S1x128_0_384 (tS arg7 harg7 x4 3 k0_part1._proof_23) := by
  unfold kernelRun0_A.sl.v1628
  rw [pieces12, st3, View.readCov_skip _ _ _ _ _ rfl, View.readCov_skip _ _ _ _ _ rfl]
  exact View.readCov_cons_toLoadRect _ _ _ _
theorem fs4 : kernelRun0_A.sl.v c arg4 harg4 arg5 harg5 arg7 harg7 arg8 harg8 arg12 x1 x2 x4 x5 = sL arg4 harg4 arg5 harg5 arg8 harg8 x1 x2 x5 512 inb_S1x8x768_S1x8x128_0_0_512 inb_S1x768_S1x128_0_512 (tS arg7 harg7 x4 4 inb_S1x6x128x128_S1x1x128x128_0_4_0_0) := by
  unfold kernelRun0_A.sl.v
  rw [pieces12, st4, View.readCov_skip _ _ _ _ _ rfl]
  exact View.readCov_cons_toLoadRect _ _ _ _
theorem fs5 : kernelRun0_A.sl.v1640 c arg4 harg4 arg5 harg5 arg7 harg7 arg8 harg8 arg12 x1 x2 x4 x5 = sL arg4 harg4 arg5 harg5 arg8 harg8 x1 x2 x5 640 inb_S1x8x768_S1x8x128_0_0_640 inb_S1x768_S1x128_0_640 (tS arg7 harg7 x4 5 inb_S1x6x128x128_S1x1x128x128_0_5_0_0) := by
  unfold kernelRun0_A.sl.v1640
  rw [pieces12, st5]
  exact View.readCov_cons_toLoadRect _ _ _ _

theorem piecesS : (kernelRun0_A (F := Ideal) c i arg3 harg3 arg4 harg4 arg5 harg5 arg6 harg6 arg7 harg7 arg8 harg8 arg9 harg9 arg10 harg10 arg11 harg11 arg12 harg12 hc0 hc1 x0 x1 x2 x3 x4 x5 x6).2.1
    = [⟨Rect.unit (s := S1x6x128x128) ![0, 5, 0, 0] S1x1x128x128.size inb_S1x6x128x128_S1x1x128x128_0_5_0_0, tB (kernelRun0_A.sl.v1640 c arg4 harg4 arg5 harg5 arg7 harg7 arg8 harg8 arg12 x1 x2 x4 x5)⟩,
      ⟨Rect.unit (s := S1x6x128x128) ![0, 4, 0, 0] S1x1x128x128.size inb_S1x6x128x128_S1x1x128x128_0_4_0_0, tB (kernelRun0_A.sl.v c arg4 harg4 arg5 harg5 arg7 harg7 arg8 harg8 arg12 x1 x2 x4 x5)⟩,
      ⟨Rect.unit (s := S1x6x128x128) ![0, 3, 0, 0] S1x1x128x128.size k0_part1._proof_23, tB (kernelRun0_A.sl.v1628 c arg4 harg4 arg5 harg5 arg7 harg7 arg8 harg8 arg12 x1 x2 x4 x5)⟩,
      ⟨Rect.unit (s := S1x6x128x128) ![0, 2, 0, 0] S1x1x128x128.size k0_part1._proof_17, tB (kernelRun0_A.sl.v1622 c arg4 harg4 arg5 harg5 arg7 harg7 arg8 harg8 arg12 x1 x2 x4 x5)⟩,
      ⟨Rect.unit (s := S1x6x128x128) ![0, 1, 0, 0] S1x1x128x128.size k0_part1._proof_11, tB (kernelRun0_A.sl.v1616 c arg4 harg4 arg5 harg5 arg7 harg7 arg8 harg8 arg12 x1 x2 x4 x5)⟩,
      ⟨Rect.unit (s := S1x6x128x128) ![0, 0, 0, 0] S1x1x128x128.size k0_part1._proof_1, tB (kernelRun0_A.sl.v1610 c arg4 harg4 arg5 harg5 arg7 harg7 arg8 harg8 arg12 x1 x2 x4 x5)⟩] := by
  sl_kernel_rfl

/-! ## In terms of the tiles -/

/-- A head's columns of a tile, -/
def hd (x : Vec Ideal S1x8x768 .f32) (h : Fin 6) : Vec Ideal S1x8x128 .f32 := fun y => x (ix3 0 (y 1) ⟨128 * h.val + (y 2).val, by have := h.isLt; have : (y 2).val < 128 := (y 2).isLt; omega⟩)
/-- of a row, -/
def hr (x : Vec Ideal S1x768 .f32) (h : Fin 6) : Vec Ideal S1x128 .f32 := fun y => x (ix2 0 ⟨128 * h.val + (y 1).val, by have := h.isLt; have : (y 1).val < 128 := (y 1).isLt; omega⟩)
/-- and its state, transposed. -/
def hs (x : Vec Ideal S1x6x128x128 .f32) (h : Fin 6) : Vec Ideal S1x128x128 .f32 := fun y => x (ix4 0 h (y 2) (y 1))

theorem ld3_eq (a : Memref sig .tc .vmem S1x8x768 .f32) (ha : a.IsWhole) (x : Vec Ideal S1x8x768 .f32) (h : Fin 6) (o : ℕ) (p) (e : o = 128 * h.val) :
    ld3 a.view (ha.unread x) o p = hd x h := by
  funext y
  show a.view.read (Elt Ideal) (ha.unread x) _ = _
  rw [ha.read_unread]
  exact congrArg x (ix3_of _ _ _ _ (by have : (y 0).val < 1 := (y 0).isLt; dsimp <;> omega) (by dsimp <;> omega) (by dsimp <;> omega))
theorem ld2_eq (a : Memref sig .tc .vmem S1x768 .f32) (ha : a.IsWhole) (x : Vec Ideal S1x768 .f32) (h : Fin 6) (o : ℕ) (p) (e : o = 128 * h.val) :
    ld2 a.view (ha.unread x) o p = hr x h := by
  funext y
  show a.view.read (Elt Ideal) (ha.unread x) _ = _
  rw [ha.read_unread]
  exact congrArg x (ix2_of _ _ _ (by have : (y 0).val < 1 := (y 0).isLt; dsimp <;> omega) (by dsimp <;> omega))
theorem ix4_of {a b c d : ℕ} (y : Shape.Idx ⟨4, ![a, b, c, d]⟩) (i : Fin a) (j : Fin b) (k : Fin c) (l : Fin d) (hi : (y 0).val = i.val)
    (hj : (y 1).val = j.val) (hk : (y 2).val = k.val) (hl : (y 3).val = l.val) : y = ix4 i j k l := by
  rw [eq_ix4 y, show y 0 = i from Fin.ext hi, show y 1 = j from Fin.ext hj, show y 2 = k from Fin.ext hk, show y 3 = l from Fin.ext hl]
theorem tA_apply (X : Vec Ideal S1x1x128x128 .f32) (j k : Fin 128) :
    (shapeCast S1x128x128 (transpose S128x128 [1, 0] (shapeCast S128x128 X k0_part1._proof_3) k0_part1._proof_4) k0_part1._proof_8 : Vec Ideal S1x128x128 .f32) (ix3 0 j k) = X (ix4 0 0 k j) := by
  pointwise
theorem tS_eq (h : Fin 6) (o : ℕ) (p) (e : o = h.val) : tS arg7 harg7 x4 o p = hs x4 h := by
  funext y
  obtain ⟨a, j, k, rfl⟩ : ∃ (a : Fin 1) (j k : Fin 128), y = ix3 a j k := ⟨y 0, y 1, y 2, eq_ix3 y⟩
  obtain rfl : a = 0 := Subsingleton.elim _ _
  refine (tA_apply _ j k).trans ?_
  show arg7.view.read (Elt Ideal) (harg7.unread x4) _ = _
  rw [harg7.read_unread]
  exact congrArg x4 (ix4_of _ _ _ _ _ (by dsimp <;> omega) (by dsimp <;> omega) (by dsimp <;> omega) (by dsimp <;> omega))
theorem tB_apply (X : Vec Ideal S1x128x128 .f32) (k j : Fin 128) : tB X (ix4 0 0 k j) = X (ix3 0 j k) := by
  unfold tB
  pointwise

/-- A point's output -/
def O7 (y : S1x8x768.Idx) : EReal :=
  oHead (hd x0 ⟨(y 2).val / 128, by have : (y 2).val < 768 := (y 2).isLt; omega⟩) (hd x1 ⟨(y 2).val / 128, by have : (y 2).val < 768 := (y 2).isLt; omega⟩)
    (hd x2 ⟨(y 2).val / 128, by have : (y 2).val < 768 := (y 2).isLt; omega⟩) (hd x3 ⟨(y 2).val / 128, by have : (y 2).val < 768 := (y 2).isLt; omega⟩)
    (hr x5 ⟨(y 2).val / 128, by have : (y 2).val < 768 := (y 2).isLt; omega⟩) (hr x6 ⟨(y 2).val / 128, by have : (y 2).val < 768 := (y 2).isLt; omega⟩)
    (hs x4 ⟨(y 2).val / 128, by have : (y 2).val < 768 := (y 2).isLt; omega⟩) (ix3 0 (y 1) ⟨(y 2).val % 128, Nat.mod_lt _ (by omega)⟩)
/-- and its state. -/
def O8 (y : S1x6x128x128.Idx) : EReal := sHead (hd x1 (y 1)) (hd x2 (y 1)) (hr x5 (y 1)) (hs x4 (y 1)) (ix3 0 (y 3) (y 2))

theorem oL_agree (h : Fin 6) (o o' : ℕ) (p p' q) (e : o = 128 * h.val) (e' : o' = h.val) (z : S1x8x128.Idx) :
    oL arg3 harg3 arg4 harg4 arg5 harg5 arg6 harg6 arg8 harg8 arg9 harg9 x0 x1 x2 x3 x5 x6 o p p' (tS arg7 harg7 x4 o' q) z
      = O7 x0 x1 x2 x3 x4 x5 x6 ((Rect.unit (s := S1x8x768) ![0, 0, o] S1x8x128.size p).emb z) := by
  obtain ⟨a, r, j, rfl⟩ : ∃ (a : Fin 1) (r : Fin 8) (j : Fin 128), z = ix3 a r j := ⟨z 0, z 1, z 2, eq_ix3 z⟩
  obtain rfl : a = 0 := Subsingleton.elim _ _
  unfold oL O7
  rw [ld3_eq arg3 harg3 x0 h o p e, ld3_eq arg4 harg4 x1 h o p e, ld3_eq arg5 harg5 x2 h o p e, ld3_eq arg6 harg6 x3 h o p e, ld2_eq arg8 harg8 x5 h o p' e, ld2_eq arg9 harg9 x6 h o p' e, tS_eq arg7 harg7 x4 h o' q e']
  have e1 : (((Rect.unit (s := S1x8x768) ![0, 0, o] S1x8x128.size p).emb (ix3 0 r j)) 2).val = 128 * h.val + j.val := by dsimp; omega
  have e2 : ((Rect.unit (s := S1x8x768) ![0, 0, o] S1x8x128.size p).emb (ix3 0 r j)) 1 = r := Fin.ext (by dsimp <;> omega)
  have e3 : ∀ w, (⟨(((Rect.unit (s := S1x8x768) ![0, 0, o] S1x8x128.size p).emb (ix3 0 r j)) 2).val / 128, w⟩ : Fin 6) = h := fun w => Fin.ext (by have := j.isLt; show _ / 128 = h.val; omega)
  have e4 : ∀ w, (⟨(((Rect.unit (s := S1x8x768) ![0, 0, o] S1x8x128.size p).emb (ix3 0 r j)) 2).val % 128, w⟩ : Fin 128) = j := fun w => Fin.ext (by have := j.isLt; show _ % 128 = j.val; omega)
  rw [e3, e4]
  exact congrArg (fun r => oHead _ _ _ _ _ _ _ (ix3 0 r j)) e2.symm
theorem sL_agree (h : Fin 6) (o o' : ℕ) (p p' q) (e : o = 128 * h.val) (e' : o' = h.val) (z : S1x1x128x128.Idx) :
    tB (sL arg4 harg4 arg5 harg5 arg8 harg8 x1 x2 x5 o p p' (tS arg7 harg7 x4 o' q)) z
      = O8 x1 x2 x4 x5 ((Rect.unit (s := S1x6x128x128) ![0, o', 0, 0] S1x1x128x128.size q).emb z) := by
  obtain ⟨a, b, k, j, rfl⟩ : ∃ (a b : Fin 1) (k j : Fin 128), z = ix4 a b k j := ⟨z 0, z 1, z 2, z 3, eq_ix4 z⟩
  obtain rfl : a = 0 := Subsingleton.elim _ _
  obtain rfl : b = 0 := Subsingleton.elim _ _
  rw [tB_apply]
  unfold sL O8
  rw [ld3_eq arg4 harg4 x1 h o p e, ld3_eq arg5 harg5 x2 h o p e, ld2_eq arg8 harg8 x5 h o p' e, tS_eq arg7 harg7 x4 h o' q e']
  have e1 : ((Rect.unit (s := S1x6x128x128) ![0, o', 0, 0] S1x1x128x128.size q).emb (ix4 0 0 k j)) = ix4 0 h k j :=
    ix4_of _ _ _ _ _ (by dsimp <;> omega) (by dsimp <;> omega) (by dsimp <;> omega) (by dsimp <;> omega)
  rw [e1]
  rfl

theorem out7_apply (y : S1x8x768.Idx) : out0_A_7 (F := Ideal) c i arg3 harg3 arg4 harg4 arg5 harg5 arg6 harg6 arg7 harg7 arg8 harg8 arg9 harg9 arg10 harg10 arg11 harg11 arg12 harg12 hc0 hc1 x0 x1 x2 x3 x4 x5 x6 y = O7 x0 x1 x2 x3 x4 x5 x6 y := by
  refine read_writes_of_agree VO0_7 _ (O7 x0 x1 x2 x3 x4 x5 x6) _ ?_ y (Or.inr (cover0_A_7 c i arg3 harg3 arg4 harg4 arg5 harg5 arg6 harg6 arg7 harg7 arg8 harg8 arg9 harg9 arg10 harg10 arg11 harg11 arg12 harg12 hc0 hc1 x0 x1 x2 x3 x4 x5 x6 y))
  rw [piecesO, st0, st1, st2, st3, st4, st5]
  simp only [List.forall_mem_cons, List.not_mem_nil, false_implies, implies_true, and_true]
  exact ⟨fun z => oL_agree _ _ _ _ _ _ _ _ _ _ _ _ _ _ _ _ _ _ _ _ _ 5 _ _ _ _ _ rfl rfl z, fun z => oL_agree _ _ _ _ _ _ _ _ _ _ _ _ _ _ _ _ _ _ _ _ _ 4 _ _ _ _ _ rfl rfl z,
    fun z => oL_agree _ _ _ _ _ _ _ _ _ _ _ _ _ _ _ _ _ _ _ _ _ 3 _ _ _ _ _ rfl rfl z, fun z => oL_agree _ _ _ _ _ _ _ _ _ _ _ _ _ _ _ _ _ _ _ _ _ 2 _ _ _ _ _ rfl rfl z,
    fun z => oL_agree _ _ _ _ _ _ _ _ _ _ _ _ _ _ _ _ _ _ _ _ _ 1 _ _ _ _ _ rfl rfl z, fun z => oL_agree _ _ _ _ _ _ _ _ _ _ _ _ _ _ _ _ _ _ _ _ _ 0 _ _ _ _ _ rfl rfl z⟩

theorem out8_apply (y : S1x6x128x128.Idx) : out0_A_8 (F := Ideal) c i arg3 harg3 arg4 harg4 arg5 harg5 arg6 harg6 arg7 harg7 arg8 harg8 arg9 harg9 arg10 harg10 arg11 harg11 arg12 harg12 hc0 hc1 x0 x1 x2 x3 x4 x5 x6 y = O8 x1 x2 x4 x5 y := by
  refine read_writes_of_agree VO0_8 _ (O8 x1 x2 x4 x5) _ ?_ y (Or.inr (cover0_A_8 c i arg3 harg3 arg4 harg4 arg5 harg5 arg6 harg6 arg7 harg7 arg8 harg8 arg9 harg9 arg10 harg10 arg11 harg11 arg12 harg12 hc0 hc1 x0 x1 x2 x3 x4 x5 x6 y))
  rw [piecesS, fs0, fs1, fs2, fs3, fs4, fs5]
  simp only [List.forall_mem_cons, List.not_mem_nil, false_implies, implies_true, and_true]
  exact ⟨fun z => sL_agree _ _ _ _ _ _ _ _ _ _ _ _ 5 _ _ _ _ _ rfl rfl z, fun z => sL_agree _ _ _ _ _ _ _ _ _ _ _ _ 4 _ _ _ _ _ rfl rfl z,
    fun z => sL_agree _ _ _ _ _ _ _ _ _ _ _ _ 3 _ _ _ _ _ rfl rfl z, fun z => sL_agree _ _ _ _ _ _ _ _ _ _ _ _ 2 _ _ _ _ _ rfl rfl z,
    fun z => sL_agree _ _ _ _ _ _ _ _ _ _ _ _ 1 _ _ _ _ _ rfl rfl z, fun z => sL_agree _ _ _ _ _ _ _ _ _ _ _ _ 0 _ _ _ _ _ rfl rfl z⟩
end
end Cert.HgrnIdeal.Hg
end
-- ==== Proof.HgrnTile.lean ====
/- One head's stored tiles are the recurrence's rows, given that the loads are. -/
module
public import proofs.«01_k».proof.Proof.HgrnHead
@[expose] public section
set_option maxRecDepth 16384
noncomputable section
namespace Cert.HgrnIdeal.Hg
open Cert.HgrnIdeal Cert.HgrnIdeal.Gen Cert.HgrnIdeal.Value Cert.KernelIdeal.Up Cert.Rows Cert.Hg Idealize.ShloMosaic Idealize.ShloMosaic.TcCoe Idealize.SL.Sem

/-- A row of four among the tile's eight. -/
def up (t : Fin 4) : Fin 8 := ⟨t.val, by omega⟩

theorem cum_coe (L : Fin 8 → ℝ) (r : Fin 8) : cum (fun s => (L s : EReal)) r = ((∑ s : Fin 8, if s ≤ r then L s else 0 : ℝ) : EReal) := by
  have e : cum (fun s => (L s : EReal)) r = ((L r + (if 1 ≤ r then L (bk r 1) else 0) + (if 2 ≤ r then L (bk r 2) + (if 1 ≤ bk r 2 then L (bk (bk r 2) 1) else 0) else 0)
    + (if 4 ≤ r then L (bk r 4) + (if 1 ≤ bk r 4 then L (bk (bk r 4) 1) else 0)
        + (if 2 ≤ bk r 4 then L (bk (bk r 4) 2) + (if 1 ≤ bk (bk r 4) 2 then L (bk (bk (bk r 4) 2) 1) else 0) else 0) else 0) : ℝ) : EReal) := by
    unfold cum
    push_cast [apply_ite (fun x : ℝ => (x : EReal))]
    rfl
  rw [e]
  congr 1
  fin_cases r <;> simp [bk, Fin.sum_univ_eight] <;> ring

section
variable (q z v gt : Fin 4 → Fin 128 → EReal) (lb gn : Fin 128 → EReal) (S : Fin 128 → Fin 128 → EReal)

/-- The logarithm of the decay of each row of the tile. -/
def g8 (r : Fin 8) (k : Fin 128) : ℝ := if h : r.val < 4 then lg z lb ⟨r.val, h⟩ k else 0
theorem b8_up (t : Fin 4) (k : Fin 128) : (∑ s : Fin 8, if s ≤ up t then g8 z lb s k else 0) = bb z lb t k := by
  unfold bb up
  fin_cases t <;> simp [Fin.sum_univ_eight, Fin.sum_univ_four, g8]
theorem b8_last (k : Fin 128) : (∑ s : Fin 8, if s ≤ 7 then g8 z lb s k else 0) = bb z lb 3 k := by
  unfold bb
  simp [Fin.sum_univ_eight, Fin.sum_univ_four, g8]

variable {q z v gt lb gn S}
variable {xq xz xv xg : Vec Ideal S1x8x128 .f32} {xl xn : Vec Ideal S1x128 .f32} {xS : Vec Ideal S1x128x128 .f32}

theorem aF_exp (hl : ∀ k, ∃ l : ℝ, lb k = l ∧ l ≤ 1) (hz : ∀ r k, xz (ix3 0 r k) = pad4 z r k) (hb : ∀ k, xl (ix2 0 k) = lb k) (r : Fin 8) (k : Fin 128) :
    aF xz xl (ix2 r k) = ((Real.exp (g8 z lb r k) : ℝ) : EReal) := by
  obtain ⟨l, e, h1⟩ := hl k
  rw [aF_apply, hz, hb]
  unfold g8 pad4
  by_cases h : r.val < 4
  · rw [if_pos h, dif_pos h, dif_pos h]
    unfold lg
    rw [e, kernF, EReal.toReal_coe, Real.exp_log (fR_pos h1 _)]
  · rw [if_neg h, dif_neg h, Real.exp_zero]; rfl
theorem aK_exp (hl : ∀ k, ∃ l : ℝ, lb k = l ∧ l ≤ 1) (hz : ∀ r k, xz (ix3 0 r k) = pad4 z r k) (hb : ∀ k, xl (ix2 0 k) = lb k) (r : Fin 8) (k : Fin 128) :
    aK xz xl (ix2 r k) = ((if h : r.val < 4 then kk z lb ⟨r.val, h⟩ k else 0 : ℝ) : EReal) := by
  obtain ⟨l, e, h1⟩ := hl k
  rw [aK_apply, hz, hb]
  unfold pad4
  by_cases h : r.val < 4
  · rw [if_pos h, dif_pos h, dif_pos h]
    unfold kk
    rw [e, kernK, EReal.toReal_coe]
  · rw [if_neg h, dif_neg h]; rfl
theorem aB_sum (hl : ∀ k, ∃ l : ℝ, lb k = l ∧ l ≤ 1) (hz : ∀ r k, xz (ix3 0 r k) = pad4 z r k) (hb : ∀ k, xl (ix2 0 k) = lb k) (r : Fin 8) (k : Fin 128) :
    aB xz xl (ix2 r k) = ((∑ s : Fin 8, if s ≤ r then g8 z lb s k else 0 : ℝ) : EReal) := by
  rw [aB_apply, show (fun s => Ideal.log (aF xz xl (ix2 s k))) = fun s => ((g8 z lb s k : ℝ) : EReal) from funext fun s => by
    rw [aF_exp hl hz hb, log_pos (Real.exp_pos _), Real.log_exp], cum_coe]

/-- The summed logarithms over `d` rows back. -/
def gs (g : Fin 8 → Fin 128 → ℝ) (r : Fin 8) (k : Fin 128) : ℕ → ℝ
  | 0 => g r k
  | d + 1 => gs g r k d + g (bk r (d + 1)) k
theorem dec_exp {F : FVec Ideal S8x128 .f32} {g : Fin 8 → Fin 128 → ℝ} (hF : ∀ r k, F (ix2 r k) = ((Real.exp (g r k) : ℝ) : EReal)) (r : Fin 8) (k : Fin 128) (d : ℕ) :
    dec F r k d = ((Real.exp (gs g r k d) : ℝ) : EReal) := by
  induction d with
  | zero => exact hF r k
  | succ d ih =>
    show dec F r k d * F (ix2 (bk r (d + 1)) k) = _
    rw [ih, hF, ← EReal.coe_mul, ← Real.exp_add]
    rfl
theorem trm_zero (Q V F K : FVec Ideal S8x128 .f32) (d : ℕ) (n r : Fin 8) (j : Fin 128) (h : ¬ n ≤ r) : trm Q V F K d n r j = 0 := by
  unfold trm
  simp only [if_neg h, Finset.sum_const_zero, zero_mul]
theorem aS_zero (t s : Fin 4) (j : Fin 128) (h : ¬ s ≤ t) : aS q z v lb t s j = 0 := by
  unfold aS
  simp only [if_neg h, Finset.sum_const_zero, zero_mul]

section
variable {Q V F K : FVec Ideal S8x128 .f32} (hQ : ∀ t k, Q (ix2 (up t) k) = q t k) (hV : ∀ t k, V (ix2 (up t) k) = v t k)
  (hF : ∀ r k, F (ix2 r k) = ((Real.exp (g8 z lb r k) : ℝ) : EReal)) (hK : ∀ t k, K (ix2 (up t) k) = (kk z lb t k : EReal))
include hQ hV hK
theorem self_eq (t : Fin 4) (j : Fin 128) : (∑ k : Fin 128, Q (ix2 (up t) k) * K (ix2 (up t) k)) * V (ix2 (up t) j) = aS q z v lb t t j := by
  unfold aS
  refine congrArg₂ (· * ·) (Finset.sum_congr rfl fun k _ => ?_) (hV t j)
  rw [if_pos le_rfl, sub_self, Real.exp_zero, EReal.coe_one, mul_one, hQ, hK]
include hF
theorem trm_eq (d : ℕ) (n : Fin 8) (t s : Fin 4) (j : Fin 128) (h : n ≤ up t) (hs : bk (up t) (d + 1) = up s) (h' : s ≤ t)
    (e : ∀ k, gs (g8 z lb) (up t) k d = bb z lb t k - bb z lb s k) : trm Q V F K d n (up t) j = aS q z v lb t s j := by
  unfold trm aS
  rw [hs]
  refine congrArg₂ (· * ·) (Finset.sum_congr rfl fun k _ => ?_) (hV s j)
  rw [if_pos h, if_pos h', dec_exp hF, hQ, hK, e]

theorem tot_eq (O : FVec Ideal S8x128 .f32) (t : Fin 4) (j : Fin 128) : tot Q V F K O (up t) j = O (ix2 (up t) j) + ∑ s : Fin 4, aS q z v lb t s j := by
  unfold tot
  rw [mid_apply, self_eq hQ hV hK, Fin.sum_univ_four]
  match t with
  | 0 =>
    rw [trm_zero _ _ _ _ 0 1 _ _ (by decide), trm_zero _ _ _ _ 1 2 _ _ (by decide), trm_zero _ _ _ _ 2 3 _ _ (by decide), trm_zero _ _ _ _ 3 4 _ _ (by decide), trm_zero _ _ _ _ 4 5 _ _ (by decide),
      trm_zero _ _ _ _ 5 6 _ _ (by decide), trm_zero _ _ _ _ 6 7 _ _ (by decide), aS_zero 0 1 j (by decide), aS_zero 0 2 j (by decide), aS_zero 0 3 j (by decide)]
    abel
  | 1 =>
    rw [trm_eq hQ hV hF hK 0 1 1 0 j (by decide) (by decide) (by decide) (fun k => by simp [gs, g8, bb, up, bk, Fin.sum_univ_four]),
      trm_zero _ _ _ _ 1 2 _ _ (by decide), trm_zero _ _ _ _ 2 3 _ _ (by decide), trm_zero _ _ _ _ 3 4 _ _ (by decide), trm_zero _ _ _ _ 4 5 _ _ (by decide),
      trm_zero _ _ _ _ 5 6 _ _ (by decide), trm_zero _ _ _ _ 6 7 _ _ (by decide), aS_zero 1 2 j (by decide), aS_zero 1 3 j (by decide)]
    abel
  | 2 =>
    rw [trm_eq hQ hV hF hK 0 1 2 1 j (by decide) (by decide) (by decide) (fun k => by simp [gs, g8, bb, up, bk, Fin.sum_univ_four]),
      trm_eq hQ hV hF hK 1 2 2 0 j (by decide) (by decide) (by decide) (fun k => by simp [gs, g8, bb, up, bk, Fin.sum_univ_four]; ring),
      trm_zero _ _ _ _ 2 3 _ _ (by decide), trm_zero _ _ _ _ 3 4 _ _ (by decide), trm_zero _ _ _ _ 4 5 _ _ (by decide),
      trm_zero _ _ _ _ 5 6 _ _ (by decide), trm_zero _ _ _ _ 6 7 _ _ (by decide), aS_zero 2 3 j (by decide)]
    abel
  | 3 =>
    rw [trm_eq hQ hV hF hK 0 1 3 2 j (by decide) (by decide) (by decide) (fun k => by simp [gs, g8, bb, up, bk, Fin.sum_univ_four]),
      trm_eq hQ hV hF hK 1 2 3 1 j (by decide) (by decide) (by decide) (fun k => by simp [gs, g8, bb, up, bk, Fin.sum_univ_four]; ring),
      trm_eq hQ hV hF hK 2 3 3 0 j (by decide) (by decide) (by decide) (fun k => by simp [gs, g8, bb, up, bk, Fin.sum_univ_four]; ring),
      trm_zero _ _ _ _ 3 4 _ _ (by decide), trm_zero _ _ _ _ 4 5 _ _ (by decide),
      trm_zero _ _ _ _ 5 6 _ _ (by decide), trm_zero _ _ _ _ 6 7 _ _ (by decide)]
    abel
end

theorem pay11_apply (x : Vec Ideal S1x8x128 .f32) (r : Fin 8) (k : Fin 128) : k0_pay11 x (ix2 r k) = x (ix3 0 r k) := by
  unfold_payloads
  pointwise
theorem pay13_apply (x : Vec Ideal S1x8x128 .f32) (r : Fin 8) (k : Fin 128) : k0_pay13 x (ix2 r k) = x (ix3 0 r k) := by
  unfold_payloads
  pointwise
theorem pay14_apply (x : Vec Ideal S1x8x128 .f32) (r : Fin 8) (k : Fin 128) : k0_pay14 x (ix2 r k) = x (ix3 0 r k) := by
  unfold_payloads
  pointwise
theorem pay29_apply (x : Vec Ideal S1x128x128 .f32) (r k : Fin 128) : k0_pay29 x (ix2 r k) = x (ix3 0 r k) := by
  unfold_payloads
  pointwise
theorem pad4_up (X : Fin 4 → Fin 128 → EReal) (t : Fin 4) (k : Fin 128) : pad4 X (up t) k = X t k := dif_pos t.isLt
theorem gate_zero : Ideal.div 0 (1 + Ideal.exp (0 - 0)) = 0 := by
  rw [sub_zero, ← EReal.coe_zero, Ideal.exp_coe, ← EReal.coe_one, ← EReal.coe_add, div_coe (by positivity), zero_mul]

theorem oHead_eq (hl : ∀ k, ∃ l : ℝ, lb k = l ∧ l ≤ 1) (hq : ∀ r k, xq (ix3 0 r k) = pad4 q r k) (hz : ∀ r k, xz (ix3 0 r k) = pad4 z r k) (hv : ∀ r k, xv (ix3 0 r k) = pad4 v r k)
    (hg : ∀ r k, xg (ix3 0 r k) = pad4 gt r k) (hb : ∀ k, xl (ix2 0 k) = lb k) (hn : ∀ k, xn (ix2 0 k) = gn k) (hS : ∀ j k, xS (ix3 0 j k) = S k j) (r : Fin 8) (j : Fin 128) :
    oHead xq xz xv xg xl xn xS (ix3 0 r j) = pad4 (outS q z v gt lb gn S) r j := by
  unfold oHead
  rw [outA_apply, pay14_apply, hg, hn]
  by_cases h : r.val < 4
  · obtain ⟨t, rfl⟩ : ∃ t : Fin 4, r = up t := ⟨⟨r.val, h⟩, rfl⟩
    rw [pad4_up, pad4_up]
    unfold outS
    refine congrArg (fun f => rms cnt f (gn j) j * _) (funext fun j => ?_)
    rw [tot_eq (q := q) (v := v) (z := z) (lb := lb) (fun t k => (pay11_apply _ _ _).trans ((hq _ _).trans (pad4_up _ _ _)))
      (fun t k => (pay13_apply _ _ _).trans ((hv _ _).trans (pad4_up _ _ _))) (aF_exp hl hz hb) (fun t k => (aK_exp hl hz hb _ _).trans (congrArg _ (dif_pos t.isLt)))]
    unfold oS
    refine congrArg₂ (· + ·) ((aI_apply _ _ _ _ _ _).trans (Finset.sum_congr rfl fun k _ => ?_)) rfl
    rw [hq, pad4_up, hS, aB_sum hl hz hb, b8_up, Ideal.exp_coe]
  · unfold pad4
    rw [dif_neg h, dif_neg h, gate_zero, mul_zero]

theorem sHead_eq (hl : ∀ k, ∃ l : ℝ, lb k = l ∧ l ≤ 1) (hz : ∀ r k, xz (ix3 0 r k) = pad4 z r k) (hv : ∀ r k, xv (ix3 0 r k) = pad4 v r k)
    (hb : ∀ k, xl (ix2 0 k) = lb k) (hS : ∀ j k, xS (ix3 0 j k) = S k j) (j k : Fin 128) :
    sHead xz xv xl xS (ix3 0 j k) = sS z v lb S k j := by
  unfold sHead sS
  rw [st_apply, pay29_apply, hS]
  simp only [aB_sum hl hz hb, aK_exp hl hz hb, pay13_apply, hv]
  rw [b8_last, Ideal.exp_coe]
  refine congrArg₂ (· + ·) rfl ?_
  rw [Fin.sum_univ_eight, Fin.sum_univ_four]
  have w : ∀ t : Fin 4, ((∑ s : Fin 8, if s ≤ up t then g8 z lb s k else 0 : ℝ) : EReal) = (bb z lb t k : ℝ) := fun t => congrArg _ (b8_up z lb t k)
  have p : ∀ t : Fin 4, pad4 v (up t) j * (((if h : (up t).val < 4 then kk z lb ⟨(up t).val, h⟩ k else 0 : ℝ) : EReal)
      * Ideal.exp ((bb z lb 3 k : ℝ) - ((∑ s : Fin 8, if s ≤ up t then g8 z lb s k else 0 : ℝ) : EReal)))
      = v t j * ((kk z lb t k : ℝ) * (Real.exp (bb z lb 3 k - bb z lb t k) : ℝ)) := fun t => by
    rw [w, ← EReal.coe_sub, Ideal.exp_coe, pad4_up, dif_pos (show (up t).val < 4 from t.isLt)]
    rfl
  refine (congrArg₂ (· + ·) (congrArg₂ (· + ·) (congrArg₂ (· + ·) (congrArg₂ (· + ·) (congrArg₂ (· + ·) (congrArg₂ (· + ·) (congrArg₂ (· + ·) (p 0) (p 1)) (p 2)) (p 3)) ?_) ?_) ?_) ?_).trans (b := _ + 0 + 0 + 0 + 0) ?_
  · rw [show pad4 v 4 j = 0 from rfl, zero_mul]
  · rw [show pad4 v 5 j = 0 from rfl, zero_mul]
  · rw [show pad4 v 6 j = 0 from rfl, zero_mul]
  · rw [show pad4 v 7 j = 0 from rfl, zero_mul]
  · rw [add_zero, add_zero, add_zero, add_zero]
end
end Cert.HgrnIdeal.Hg
end
-- ==== Proof.HgrnKernel.lean ====
/- The gated recurrence's kernel: the two result arrays after the run. -/
module
public import proofs.«01_k».proof.Proof.HgrnRun
public import proofs.«01_k».proof.Proof.HgrnTile
public import proofs.«01_k».proof.Proof.UpCommon
public import Idealize.ShloMosaic.Lib.KernelVsHost
@[expose] public section
set_option maxRecDepth 16384
noncomputable section
namespace Cert.HgrnIdeal.Hg
open Cert.HgrnIdeal Cert.HgrnIdeal.Gen Cert.HgrnIdeal.Value Cert.KernelIdeal.Up Cert.Rows Cert.Hg Idealize.ShloMosaic Idealize.ShloMosaic.TcCoe Idealize.SL.Sem

/-! ## The mathematics, over the argument arrays -/

section
variable (M : Vec Ideal S8x4x5376 .f32) (S : Vec Ideal S8x6x128x128 .f32) (L G : Vec Ideal S768 .f32)

/-- A head's column block of the projections: `p` is 0 for the query, 1 for the decay, 2 for the input, 3 for the gate. -/
def part (p : Fin 4) (b : Fin 8) (h : Fin 6) (t : Fin 4) (k : Fin 128) : EReal := M (ix3 b t ⟨768 * p.val + (128 * h.val + k.val), by omega⟩)
/-- A head's part of a vector, -/
def vec (X : Vec Ideal S768 .f32) (h : Fin 6) (k : Fin 128) : EReal := X (ix1 ⟨128 * h.val + k.val, by omega⟩)
/-- and its state. -/
def sta (b : Fin 8) (h : Fin 6) (k j : Fin 128) : EReal := S (ix4 b h k j)
/-- The head of a column -/
def hOf (c : Fin 768) : Fin 6 := ⟨c.val / 128, by omega⟩
/-- and the column's place in it. -/
def cOf (c : Fin 768) : Fin 128 := ⟨c.val % 128, by omega⟩
/-- A head's output rows. -/
def headO (b : Fin 8) (h : Fin 6) : Fin 4 → Fin 128 → EReal :=
  outS (part M 0 b h) (part M 1 b h) (part M 2 b h) (part M 3 b h) (vec L h) (vec G h) (sta S b h)
/-- The outputs, the rows beyond the fourth zero, -/
def G7 : Vec Ideal S8x8x768 .bf16 := fun y => pad4 (headO M S L G (y 0) (hOf (y 2))) (y 1) (cOf (y 2))
/-- and the states. -/
def G8 : Vec Ideal S8x6x128x128 .f32 := fun y => sS (part M 1 (y 0) (y 1)) (part M 2 (y 0) (y 1)) (vec L (y 1)) (sta S (y 0) (y 1)) (y 2) (y 3)
end

/-! ## The blocks -/

theorem pt0 : ∀ t : Fin cfg0.N, win0_0.index t (0 : Fin 3) = t.val ∧ win0_0.index t (1 : Fin 3) = 0 ∧ win0_0.index t (2 : Fin 3) = 0 :=
  (by decide +kernel : ∀ t : Fin grid0.N, _)
theorem pt1 : ∀ t : Fin cfg0.N, win0_1.index t (0 : Fin 3) = t.val ∧ win0_1.index t (1 : Fin 3) = 0 ∧ win0_1.index t (2 : Fin 3) = 1 :=
  (by decide +kernel : ∀ t : Fin grid0.N, _)
theorem pt2 : ∀ t : Fin cfg0.N, win0_2.index t (0 : Fin 3) = t.val ∧ win0_2.index t (1 : Fin 3) = 0 ∧ win0_2.index t (2 : Fin 3) = 2 :=
  (by decide +kernel : ∀ t : Fin grid0.N, _)
theorem pt3 : ∀ t : Fin cfg0.N, win0_3.index t (0 : Fin 3) = t.val ∧ win0_3.index t (1 : Fin 3) = 0 ∧ win0_3.index t (2 : Fin 3) = 3 :=
  (by decide +kernel : ∀ t : Fin grid0.N, _)
theorem pt4 : ∀ t : Fin cfg0.N, win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)
theorem pt5 : ∀ t : Fin cfg0.N, win0_5.index t (0 : Fin 2) = 0 ∧ win0_5.index t (1 : Fin 2) = 0 :=
  (by decide +kernel : ∀ t : Fin grid0.N, _)
theorem pt6 : ∀ t : Fin cfg0.N, win0_6.index t (0 : Fin 2) = 0 ∧ win0_6.index t (1 : Fin 2) = 0 :=
  (by decide +kernel : ∀ t : Fin grid0.N, _)
theorem pt7 : ∀ t : Fin cfg0.N, win0_7.index t (0 : Fin 3) = t.val ∧ win0_7.index t (1 : Fin 3) = 0 ∧ win0_7.index t (2 : Fin 3) = 0 :=
  (by decide +kernel : ∀ t : Fin grid0.N, _)
theorem pt8 : ∀ t : Fin cfg0.N, win0_8.index t (0 : Fin 4) = t.val ∧ win0_8.index t (1 : Fin 4) = 0 ∧ win0_8.index t (2 : Fin 4) = 0 ∧ win0_8.index t (3 : Fin 4) = 0 :=
  (by decide +kernel : ∀ t : Fin grid0.N, _)

/-- The batch of a point. -/
def bOf (t : Fin cfg0.N) : Fin 8 := ⟨t.val, lt_of_lt_of_eq t.isLt (show cfg0.N = 8 from N_0)⟩

theorem emb0 (t : Fin cfg0.N) (r : Fin 8) (c : Fin 768) : ((cfg0.win 0).blk t).view.emb (ix3 0 r c) = ix3 (bOf t) r ⟨768 * 0 + c.val, by omega⟩ := by
  obtain ⟨e0, e1, e2⟩ := pt0 t
  funext a; apply Fin.ext
  match a with
  | ⟨0, _⟩ => show win0_0.index t (0 : Fin 3) * 1 + 1 * 0 = t.val; omega
  | ⟨1, _⟩ => show win0_0.index t (1 : Fin 3) * 8 + 1 * r.val = r.val; omega
  | ⟨2, _⟩ => show win0_0.index t (2 : Fin 3) * 768 + 1 * c.val = 768 * 0 + c.val; omega
theorem emb1 (t : Fin cfg0.N) (r : Fin 8) (c : Fin 768) : ((cfg0.win 1).blk t).view.emb (ix3 0 r c) = ix3 (bOf t) r ⟨768 * 1 + c.val, by omega⟩ := by
  obtain ⟨e0, e1, e2⟩ := pt1 t
  funext a; apply Fin.ext
  match a with
  | ⟨0, _⟩ => show win0_1.index t (0 : Fin 3) * 1 + 1 * 0 = t.val; omega
  | ⟨1, _⟩ => show win0_1.index t (1 : Fin 3) * 8 + 1 * r.val = r.val; omega
  | ⟨2, _⟩ => show win0_1.index t (2 : Fin 3) * 768 + 1 * c.val = 768 * 1 + c.val; omega
theorem emb2 (t : Fin cfg0.N) (r : Fin 8) (c : Fin 768) : ((cfg0.win 2).blk t).view.emb (ix3 0 r c) = ix3 (bOf t) r ⟨768 * 2 + c.val, by omega⟩ := by
  obtain ⟨e0, e1, e2⟩ := pt2 t
  funext a; apply Fin.ext
  match a with
  | ⟨0, _⟩ => show win0_2.index t (0 : Fin 3) * 1 + 1 * 0 = t.val; omega
  | ⟨1, _⟩ => show win0_2.index t (1 : Fin 3) * 8 + 1 * r.val = r.val; omega
  | ⟨2, _⟩ => show win0_2.index t (2 : Fin 3) * 768 + 1 * c.val = 768 * 2 + c.val; omega
theorem emb3 (t : Fin cfg0.N) (r : Fin 8) (c : Fin 768) : ((cfg0.win 3).blk t).view.emb (ix3 0 r c) = ix3 (bOf t) r ⟨768 * 3 + c.val, by omega⟩ := by
  obtain ⟨e0, e1, e2⟩ := pt3 t
  funext a; apply Fin.ext
  match a with
  | ⟨0, _⟩ => show win0_3.index t (0 : Fin 3) * 1 + 1 * 0 = t.val; omega
  | ⟨1, _⟩ => show win0_3.index t (1 : Fin 3) * 8 + 1 * r.val = r.val; omega
  | ⟨2, _⟩ => show win0_3.index t (2 : Fin 3) * 768 + 1 * c.val = 768 * 3 + c.val; omega
theorem emb4 (t : Fin cfg0.N) (h : Fin 6) (k j : Fin 128) : ((cfg0.win 4).blk t).view.emb (ix4 0 h k j) = ix4 (bOf t) h k j := by
  obtain ⟨e0, e1, e2, e3⟩ := pt4 t
  funext a; apply Fin.ext
  match a with
  | ⟨0, _⟩ => show win0_4.index t (0 : Fin 4) * 1 + 1 * 0 = t.val; omega
  | ⟨1, _⟩ => show win0_4.index t (1 : Fin 4) * 6 + 1 * h.val = h.val; omega
  | ⟨2, _⟩ => show win0_4.index t (2 : Fin 4) * 128 + 1 * k.val = k.val; omega
  | ⟨3, _⟩ => show win0_4.index t (3 : Fin 4) * 128 + 1 * j.val = j.val; omega
theorem emb5 (t : Fin cfg0.N) (c : Fin 768) : ((cfg0.win 5).blk t).view.emb (ix2 0 c) = ix2 0 c := by
  obtain ⟨e0, e1⟩ := pt5 t
  funext a; apply Fin.ext
  match a with
  | ⟨0, _⟩ => show win0_5.index t (0 : Fin 2) * 1 + 1 * 0 = 0; omega
  | ⟨1, _⟩ => show win0_5.index t (1 : Fin 2) * 768 + 1 * c.val = c.val; omega
theorem emb6 (t : Fin cfg0.N) (c : Fin 768) : ((cfg0.win 6).blk t).view.emb (ix2 0 c) = ix2 0 c := by
  obtain ⟨e0, e1⟩ := pt6 t
  funext a; apply Fin.ext
  match a with
  | ⟨0, _⟩ => show win0_6.index t (0 : Fin 2) * 1 + 1 * 0 = 0; omega
  | ⟨1, _⟩ => show win0_6.index t (1 : Fin 2) * 768 + 1 * c.val = c.val; omega
theorem emb7 (t : Fin cfg0.N) (r : Fin 8) (c : Fin 768) : ((cfg0.win 7).blk t).view.emb (ix3 0 r c) = ix3 (bOf t) r c := by
  obtain ⟨e0, e1, e2⟩ := pt7 t
  funext a; apply Fin.ext
  match a with
  | ⟨0, _⟩ => show win0_7.index t (0 : Fin 3) * 1 + 1 * 0 = t.val; omega
  | ⟨1, _⟩ => show win0_7.index t (1 : Fin 3) * 8 + 1 * r.val = r.val; omega
  | ⟨2, _⟩ => show win0_7.index t (2 : Fin 3) * 768 + 1 * c.val = c.val; omega
theorem emb8 (t : Fin cfg0.N) (h : Fin 6) (k j : Fin 128) : ((cfg0.win 8).blk t).view.emb (ix4 0 h k j) = ix4 (bOf t) h k j := by
  obtain ⟨e0, e1, e2, e3⟩ := pt8 t
  funext a; apply Fin.ext
  match a with
  | ⟨0, _⟩ => show win0_8.index t (0 : Fin 4) * 1 + 1 * 0 = t.val; omega
  | ⟨1, _⟩ => show win0_8.index t (1 : Fin 4) * 6 + 1 * h.val = h.val; omega
  | ⟨2, _⟩ => show win0_8.index t (2 : Fin 4) * 128 + 1 * k.val = k.val; omega
  | ⟨3, _⟩ => show win0_8.index t (3 : Fin 4) * 128 + 1 * j.val = j.val; omega

section Arrays
variable (m : (ℓ : Loc nD τ sig) → Buf (Elt Ideal) ℓ) (c : Dev nD)

/-- The argument arrays. -/
abbrev aM : Vec Ideal S8x4x5376 .f32 := m ((c : Thread nD τ).loc main_arg0)
abbrev aS0 : Vec Ideal S8x6x128x128 .f32 := m ((c : Thread nD τ).loc main_arg1)
abbrev aL : Vec Ideal S768 .f32 := m ((c : Thread nD τ).loc main_arg2)
abbrev aG : Vec Ideal S768 .f32 := m ((c : Thread nD τ).loc main_arg3)

theorem V_main_v0 : V m c main_v0 = (pad S8x8x5376 ![0, 0, 0] ![0, 4, 0] ![0, 0, 0] (aM m c) (sitofp (F := Ideal) .f32 (constantI S_ 32 0#32)) pads_S8x4x5376_S8x8x5376_000_040_000 h_S_ : Vec Ideal S8x8x5376 .f32) := by
  show StableHlo.after (hostOps0 ++ (hostOps0_1 ++ (hostOps0_2 ++ []))) _ (Proc.devRef .tc main_v0) = _
  simp only [List.cons_append, List.nil_append, List.append_nil]
  after_results
  rfl
theorem V_main_arg1 : V m c main_arg1 = aS0 m c := by
  show StableHlo.after (hostOps0 ++ (hostOps0_1 ++ (hostOps0_2 ++ []))) _ (Proc.devRef .tc main_arg1) = _
  simp only [List.cons_append, List.nil_append, List.append_nil]
  after_results
theorem V_main_v1 : V m c main_v1 = (shapeCast S1x768 (aL m c) shapeCasts_S768_S1x768 : Vec Ideal S1x768 .f32) := by
  show StableHlo.after (hostOps0 ++ (hostOps0_1 ++ (hostOps0_2 ++ []))) _ (Proc.devRef .tc main_v1) = _
  simp only [List.cons_append, List.nil_append, List.append_nil]
  after_results
  rfl
theorem V_main_v2 : V m c main_v2 = (shapeCast S1x768 (aG m c) shapeCasts_S768_S1x768 : Vec Ideal S1x768 .f32) := by
  show StableHlo.after (hostOps0 ++ (hostOps0_1 ++ (hostOps0_2 ++ []))) _ (Proc.devRef .tc main_v2) = _
  simp only [List.cons_append, List.nil_append, List.append_nil]
  after_results
  rfl

theorem padM (X : Vec Ideal S8x4x5376 .f32) (b r : Fin 8) (j : Fin 5376) :
    pad S8x8x5376 ![0, 0, 0] ![0, 4, 0] ![0, 0, 0] X (sitofp (F := Ideal) .f32 (constantI S_ 32 0#32)) pads_S8x4x5376_S8x8x5376_000_040_000 h_S_ (ix3 b r j)
      = if h : r.val < 4 then X (ix3 b ⟨r.val, h⟩ j) else 0 := by
  by_cases h : r.val < 4
  · rw [dif_pos h]
    refine pad_apply_of_inside _ _ _ _ _ _ _ _ _ (fun a => ?_)
    match a with
    | ⟨0, _⟩ => show b.val = 0 + b.val * (0 + 1); omega
    | ⟨1, _⟩ => show r.val = 0 + r.val * (0 + 1); omega
    | ⟨2, _⟩ => show j.val = 0 + j.val * (0 + 1); omega
  · rw [dif_neg h]
    refine (pad_apply_of_not_inside _ _ _ _ _ _ _ _ (1 : Fin 3) ?_).trans ?_
    · show ¬ (0 ≤ r.val ∧ (r.val - 0) % (0 + 1) = 0 ∧ (r.val - 0) / (0 + 1) < 4)
      omega
    · show (((0#32 : BitVec 32).toInt : ℝ) : EReal) = 0
      simp

theorem blk0 (t : Fin cfg0.N) (h : Fin 6) (r : Fin 8) (k : Fin 128) : hd (iblk m c 0 t) h (ix3 0 r k) = pad4 (part (aM m c) 0 (bOf t) h) r k := by
  show V m c main_v0 (((cfg0.win 0).blk t).view.emb (ix3 0 r ⟨128 * h.val + k.val, _⟩)) = _
  rw [emb0, V_main_v0, padM]
  rfl
theorem blk1 (t : Fin cfg0.N) (h : Fin 6) (r : Fin 8) (k : Fin 128) : hd (iblk m c 1 t) h (ix3 0 r k) = pad4 (part (aM m c) 1 (bOf t) h) r k := by
  show V m c main_v0 (((cfg0.win 1).blk t).view.emb (ix3 0 r ⟨128 * h.val + k.val, _⟩)) = _
  rw [emb1, V_main_v0, padM]
  rfl
theorem blk2 (t : Fin cfg0.N) (h : Fin 6) (r : Fin 8) (k : Fin 128) : hd (iblk m c 2 t) h (ix3 0 r k) = pad4 (part (aM m c) 2 (bOf t) h) r k := by
  show V m c main_v0 (((cfg0.win 2).blk t).view.emb (ix3 0 r ⟨128 * h.val + k.val, _⟩)) = _
  rw [emb2, V_main_v0, padM]
  rfl
theorem blk3 (t : Fin cfg0.N) (h : Fin 6) (r : Fin 8) (k : Fin 128) : hd (iblk m c 3 t) h (ix3 0 r k) = pad4 (part (aM m c) 3 (bOf t) h) r k := by
  show V m c main_v0 (((cfg0.win 3).blk t).view.emb (ix3 0 r ⟨128 * h.val + k.val, _⟩)) = _
  rw [emb3, V_main_v0, padM]
  rfl
theorem blk4 (t : Fin cfg0.N) (h : Fin 6) (j k : Fin 128) : hs (iblk m c 4 t) h (ix3 0 j k) = sta (aS0 m c) (bOf t) h k j := by
  show V m c main_arg1 (((cfg0.win 4).blk t).view.emb (ix4 0 h k j)) = _
  rw [emb4, V_main_arg1]
  rfl
theorem blk5 (t : Fin cfg0.N) (h : Fin 6) (k : Fin 128) : hr (iblk m c 5 t) h (ix2 0 k) = vec (aL m c) h k := by
  show V m c main_v1 (((cfg0.win 5).blk t).view.emb (ix2 0 ⟨128 * h.val + k.val, _⟩)) = _
  rw [emb5, V_main_v1]
  unfold vec
  pointwise
theorem blk6 (t : Fin cfg0.N) (h : Fin 6) (k : Fin 128) : hr (iblk m c 6 t) h (ix2 0 k) = vec (aG m c) h k := by
  show V m c main_v2 (((cfg0.win 6).blk t).view.emb (ix2 0 ⟨128 * h.val + k.val, _⟩)) = _
  rw [emb6, V_main_v2]
  unfold vec
  pointwise

/-! ## The result arrays -/

variable (hL : ∀ i : Fin 768, ∃ l : ℝ, aL m c (ix1 i) = l ∧ l ≤ 1)
include hL

theorem flushed7_eq (t : Fin cfg0.N) : (dats m 0 c).flushed 7 t
    = ((cfg0.win 7).blk t).view.read (Elt Ideal) (G7 (aM m c) (aS0 m c) (aL m c) (aG m c)) := by
  rw [flushed7_A]
  funext y
  obtain ⟨r, j, rfl⟩ : ∃ (r : Fin 8) (j : Fin 768), y = ix3 0 r j := ⟨y 1, y 2, (eq_ix3 y).trans (congrArg (fun a => ix3 a _ _) (Subsingleton.elim (α := Fin 1) _ _))⟩
  show out0_A_7 _ _ _ _ _ _ _ _ _ _ _ _ _ _ _ _ _ _ _ _ _ _ _ _ _ _ _ _ _ _ _ (ix3 0 r j) = G7 _ _ _ _ (((cfg0.win 7).blk t).view.emb (ix3 0 r j))
  rw [emb7, out7_apply]
  exact oHead_eq (fun k => hL _) (blk0 m c t (hOf j)) (blk1 m c t (hOf j)) (blk2 m c t (hOf j)) (blk3 m c t (hOf j)) (blk5 m c t (hOf j)) (blk6 m c t (hOf j)) (blk4 m c t (hOf j)) r (cOf j)

theorem flushed8_eq (t : Fin cfg0.N) : (dats m 0 c).flushed 8 t
    = ((cfg0.win 8).blk t).view.read (Elt Ideal) (G8 (aM m c) (aS0 m c) (aL m c)) := by
  rw [flushed8_A]
  funext y
  obtain ⟨h, k, j, rfl⟩ : ∃ (h : Fin 6) (k j : Fin 128), y = ix4 0 h k j := ⟨y 1, y 2, y 3, (eq_ix4 y).trans (congrArg (fun a => ix4 a _ _ _) (Subsingleton.elim (α := Fin 1) _ _))⟩
  show out0_A_8 _ _ _ _ _ _ _ _ _ _ _ _ _ _ _ _ _ _ _ _ _ _ _ _ _ _ _ _ _ _ _ (ix4 0 h k j) = G8 _ _ _ (((cfg0.win 8).blk t).view.emb (ix4 0 h k j))
  rw [emb8, out8_apply]
  exact sHead_eq (fun k => hL _) (blk1 m c t h) (blk2 m c t h) (blk5 m c t h) (blk4 m c t h) j k

omit hL in
theorem covered7 (i : S8x8x768.Idx) : ∃ t : Fin cfg0.N, (cfg0.win 7).flush t = true ∧ i ∈ ((cfg0.win 7).blk t).view.set := by
  have h0 : (i 0).val < 8 := (i 0).isLt
  have hN : cfg0.N = 8 := N_0
  refine ⟨⟨(i 0).val, by omega⟩, flush0_7 _, ?_⟩
  have h := ((cfg0.win 7).blk (⟨(i 0).val, by omega⟩ : Fin cfg0.N)).view.emb_mem_set (ix3 (0 : Fin 1) (⟨(i 1).val, (i 1).isLt⟩ : Fin 8) (⟨(i 2).val, (i 2).isLt⟩ : Fin 768))
  erw [emb7] at h
  rw [← ix3_of i] at h
  · exact h
  · rfl
  · rfl
  · rfl
omit hL in
theorem covered8 (i : S8x6x128x128.Idx) : ∃ t : Fin cfg0.N, (cfg0.win 8).flush t = true ∧ i ∈ ((cfg0.win 8).blk t).view.set := by
  have h0 : (i 0).val < 8 := (i 0).isLt
  have hN : cfg0.N = 8 := N_0
  refine ⟨⟨(i 0).val, by omega⟩, flush0_8 _, ?_⟩
  have h := ((cfg0.win 8).blk (⟨(i 0).val, by omega⟩ : Fin cfg0.N)).view.emb_mem_set
    (ix4 (0 : Fin 1) (⟨(i 1).val, (i 1).isLt⟩ : Fin 6) (⟨(i 2).val, (i 2).isLt⟩ : Fin 128) (⟨(i 3).val, (i 3).isLt⟩ : Fin 128))
  erw [emb8] at h
  rw [← ix4_of i] at h
  · exact h
  · rfl
  · rfl
  · rfl
  · rfl

/-- The outputs after the run. -/
theorem final7 : (dats m 0 c).arrAt 7 cfg0.N = G7 (aM m c) (aS0 m c) (aL m c) (aG m c) :=
  (dats m 0 c).arrAt_eq_of_cover 7 _ (fun t _ => flushed7_eq m c hL t) covered7
/-- The states. -/
theorem final8 : (dats m 0 c).arrAt 8 cfg0.N = G8 (aM m c) (aS0 m c) (aL m c) :=
  (dats m 0 c).arrAt_eq_of_cover 8 _ (fun t _ => flushed8_eq m c hL t) covered8

end Arrays
end Cert.HgrnIdeal.Hg
end
-- ==== Proof.HgrnRef.lean ====
/- The gated recurrence's reference, read at each place of its two results. -/
module
public import proofs.«01_k».proof.Proof.HgrnKernel
public import proofs.«01_k».proof.Proof.Gen.HgrnRefIdeal.Run
public import proofs.«01_k».proof.Proof.Gen.HgrnRefIdeal.Read
@[expose] public section
set_option maxRecDepth 16384
noncomputable section
namespace Cert.HgrnRefIdeal.Hg
open Cert.HgrnRefIdeal Cert.HgrnRefIdeal.Gen Cert.HgrnRefIdeal.Read Cert.HgrnIdeal.Hg Cert.KernelIdeal.Up Cert.Rows Cert.Hg Idealize.ShloMosaic Idealize.ShloMosaic.TcCoe Idealize.SL.Sem

/-! ## Operations of the reference at an index -/

/-- No value differs from itself. -/
theorem une_self (x : Ideal .f32) : FloatOps.cmpf .une x x = 0#1 := by
  show BitVec.ofBool (decide (x ≠ x)) = 0#1
  rw [decide_eq_false (fun h => h rfl)]
  rfl

/-- The gate: a value by its logistic. -/
theorem silu (g : EReal) : g * Ideal.div 1 (1 + Ideal.exp (-g)) = Ideal.div g (1 + Ideal.exp (0 - g)) := by
  have h : (0 : EReal) ≤ Ideal.exp (-g) := by
    generalize -g = x
    induction x with
    | bot => exact le_rfl
    | top => exact le_top
    | coe r => exact EReal.coe_nonneg.mpr (Real.exp_pos r).le
  have h1 : (1 : EReal) + Ideal.exp (-g) ≠ 0 := ne_of_gt (lt_of_lt_of_le zero_lt_one (le_add_of_nonneg_right h))
  rw [zero_sub]
  unfold Ideal.div
  rw [if_neg h1, if_neg h1, one_mul]

/-- What a window ending at `t` holds at its place `n`, -/
def win (x : Vec Ideal S8x4x6x128 .f32) (b : Fin 8) (h : Fin 6) (k : Fin 128) (t n : Fin 4) : EReal :=
  if e : 3 ≤ t.val + n.val then x (ix4 b ⟨t.val + n.val - 3, by have := t.isLt; have := n.isLt; omega⟩ h k) else 0
/-- and the sum of one. -/
theorem win_sum (x : Vec Ideal S8x4x6x128 .f32) (b : Fin 8) (h : Fin 6) (k : Fin 128) (t : Fin 4) :
    0 + win x b h k t 0 + win x b h k t 1 + win x b h k t 2 + win x b h k t 3 = ∑ s : Fin 4, if s ≤ t then x (ix4 b s h k) else (0 : EReal) := by
  rw [Fin.sum_univ_four]
  match t with
  | 0 => simp [win]
  | 1 => simp [win]
  | 2 => simp [win]
  | 3 => simp [win]

/-- The running sum down the second axis, as the reference's windows give it. -/
theorem runsum (x : Vec Ideal S8x4x6x128 .f32) (init : Vec Ideal S_ .f32) (h0 : init (Shape.Idx.first h_S_) = (0 : EReal)) (b : Fin 8) (t : Fin 4) (h : Fin 6) (k : Fin 128) :
    (Host.reduceWindowAdd (F := Ideal) (φ := .f32) ![1, 4, 1, 1] ![1, 1, 1, 1] ![0, 3, 0, 0] ![0, 0, 0, 0] x init reduceWindows_S8x4x6x128_S8x4x6x128_w1s1p0_0_w4s1p3_0_w1s1p0_0_w1s1p0_0 h_S_ : Vec Ideal S8x4x6x128 .f32) (ix4 b t h k)
      = ∑ s : Fin 4, if s ≤ t then x (ix4 b s h k) else (0 : EReal) := by
  have w : ∀ n : Fin (Shape.numel ⟨4, ![1, 4, 1, 1]⟩), ((Shape.rowMajor ⟨4, ![1, 4, 1, 1]⟩).symm n 0).val = 0 ∧ ((Shape.rowMajor ⟨4, ![1, 4, 1, 1]⟩).symm n 1).val = n.val
      ∧ ((Shape.rowMajor ⟨4, ![1, 4, 1, 1]⟩).symm n 2).val = 0 ∧ ((Shape.rowMajor ⟨4, ![1, 4, 1, 1]⟩).symm n 3).val = 0 := by decide +kernel
  have hb := b.isLt
  have ht := t.isLt
  have hh := h.isLt
  have hk := k.isLt
  have e : (Host.reduceWindowAdd (F := Ideal) (φ := .f32) ![1, 4, 1, 1] ![1, 1, 1, 1] ![0, 3, 0, 0] ![0, 0, 0, 0] x init reduceWindows_S8x4x6x128_S8x4x6x128_w1s1p0_0_w4s1p3_0_w1s1p0_0_w1s1p0_0 h_S_ : Vec Ideal S8x4x6x128 .f32) (ix4 b t h k)
      = (List.finRange 4).foldl (fun r n => r + win x b h k t n) (0 : EReal) := by
    rw [← h0]
    simp only [Host.reduceWindowAdd, Ideal.hostReduceWindowAdd_def, Ideal.hostReduceWindowAdd, Host.reduceWindow]
    refine congrArg (fun f : EReal → Fin 4 → EReal => List.foldl f (init (Shape.Idx.first h_S_) : EReal) (List.finRange 4)) (funext fun r => funext fun n => ?_)
    obtain ⟨w0, w1, w2, w3⟩ := w n
    have hn : n.val < 4 := n.isLt
    refine congrArg (r + ·) ?_
    by_cases c : 3 ≤ t.val + n.val
    · have hw : win x b h k t n = x (ix4 b ⟨t.val + n.val - 3, by omega⟩ h k) := dif_pos c
      rw [hw]
      refine (dif_pos (fun a => ?_)).trans (congrArg x (funext fun a => Fin.ext ?_))
      · match a with
        | ⟨0, _⟩ =>
          show 0 ≤ b.val * 1 + ((Shape.rowMajor ⟨4, ![1, 4, 1, 1]⟩).symm n 0).val ∧ b.val * 1 + ((Shape.rowMajor ⟨4, ![1, 4, 1, 1]⟩).symm n 0).val - 0 < 8
          omega
        | ⟨1, _⟩ =>
          show 3 ≤ t.val * 1 + ((Shape.rowMajor ⟨4, ![1, 4, 1, 1]⟩).symm n 1).val ∧ t.val * 1 + ((Shape.rowMajor ⟨4, ![1, 4, 1, 1]⟩).symm n 1).val - 3 < 4
          omega
        | ⟨2, _⟩ =>
          show 0 ≤ h.val * 1 + ((Shape.rowMajor ⟨4, ![1, 4, 1, 1]⟩).symm n 2).val ∧ h.val * 1 + ((Shape.rowMajor ⟨4, ![1, 4, 1, 1]⟩).symm n 2).val - 0 < 6
          omega
        | ⟨3, _⟩ =>
          show 0 ≤ k.val * 1 + ((Shape.rowMajor ⟨4, ![1, 4, 1, 1]⟩).symm n 3).val ∧ k.val * 1 + ((Shape.rowMajor ⟨4, ![1, 4, 1, 1]⟩).symm n 3).val - 0 < 128
          omega
      · match a with
        | ⟨0, _⟩ => show b.val * 1 + ((Shape.rowMajor ⟨4, ![1, 4, 1, 1]⟩).symm n 0).val - 0 = b.val; omega
        | ⟨1, _⟩ => show t.val * 1 + ((Shape.rowMajor ⟨4, ![1, 4, 1, 1]⟩).symm n 1).val - 3 = t.val + n.val - 3; omega
        | ⟨2, _⟩ => show h.val * 1 + ((Shape.rowMajor ⟨4, ![1, 4, 1, 1]⟩).symm n 2).val - 0 = h.val; omega
        | ⟨3, _⟩ => show k.val * 1 + ((Shape.rowMajor ⟨4, ![1, 4, 1, 1]⟩).symm n 3).val - 0 = k.val; omega
    · have hw : win x b h k t n = 0 := dif_neg c
      rw [hw]
      refine (dif_neg (fun a => c ?_)).trans h0
      have a1 : 3 ≤ t.val * 1 + ((Shape.rowMajor ⟨4, ![1, 4, 1, 1]⟩).symm n 1).val := (a (1 : Fin 4)).1
      omega
  rw [e]
  exact win_sum x b h k t

section
variable (M : Vec Ideal S8x4x5376 .f32) (S : Vec Ideal S8x6x128x128 .f32) (L G : Vec Ideal S768 .f32)

theorem mask (t s : Fin 4) : val_main_v34 (F := Ideal) (ix2 t s) = if s ≤ t then 1#1 else 0#1 := by
  simp only [val_main_v34_apply, val_main_call1_v4_apply, val_main_call1_v2_apply, val_main_call1_v0_apply, val_main_call1_v1_apply, val_main_call1_c_apply, val_main_call1_v3_apply, val_main_v33_apply, val_main_c_apply, val_main_call1_v5_apply, val_main_call1_c_0_apply]
  show Scalar.select (IntOp.cmpi .sge (IntOp.addi (BitVec.ofNat 32 t.val) 0#32) (BitVec.ofNat 32 s.val)) 1#1 0#1 = _
  revert t s
  decide

/-! ## The parts -/

theorem part0 (b : Fin 8) (t : Fin 4) (h : Fin 6) (k : Fin 128) : val_main_v31 (F := Ideal) M (ix4 b t h k) = part M 0 b h t k := by
  rw [val_main_v31_apply, val_main_v0_apply]
  exact congrArg M (ix3_of _ b t _ (by dsimp <;> omega) (by dsimp <;> omega) (by dsimp <;> omega))
theorem part1 (b : Fin 8) (t : Fin 4) (h : Fin 6) (k : Fin 128) : val_main_v5 (F := Ideal) M (ix4 b t h k) = part M 1 b h t k := by
  rw [val_main_v5_apply, val_main_v1_apply]
  exact congrArg M (ix3_of _ b t _ (by dsimp <;> omega) (by dsimp <;> omega) (by dsimp <;> omega))
theorem part2 (b : Fin 8) (t : Fin 4) (h : Fin 6) (k : Fin 128) : val_main_v32 (F := Ideal) M (ix4 b t h k) = part M 2 b h t k := by
  rw [val_main_v32_apply, val_main_v2_apply]
  exact congrArg M (ix3_of _ b t _ (by dsimp <;> omega) (by dsimp <;> omega) (by dsimp <;> omega))
theorem part3 (b : Fin 8) (t : Fin 4) (h : Fin 6) (k : Fin 128) : val_main_v83 (F := Ideal) M (ix4 b t h k) = part M 3 b h t k := by
  rw [val_main_v83_apply, val_main_v3_apply]
  exact congrArg M (ix3_of _ b t _ (by dsimp <;> omega) (by dsimp <;> omega) (by dsimp <;> omega))
theorem vecL (h : Fin 6) (k : Fin 128) : val_main_v4 (F := Ideal) L (ix2 h k) = vec L h k := by
  rw [val_main_v4_apply]
  exact congrArg L (funext fun a => match a with | ⟨0, _⟩ => Fin.ext (by dsimp <;> omega))
theorem vecG (h : Fin 6) (k : Fin 128) : val_main_v69 (F := Ideal) G (ix2 h k) = vec G h k := by
  rw [val_main_v69_apply]
  exact congrArg G (funext fun a => match a with | ⟨0, _⟩ => Fin.ext (by dsimp <;> omega))

/-! ## The decay -/

theorem soft_apply (b : Fin 8) (t : Fin 4) (h : Fin 6) (k : Fin 128) : val_main_v11 (F := Ideal) M (ix4 b t h k) = -(lse (-(part M 1 b h t k)) 0) := by
  simp only [val_main_v11_apply, val_main_call0_v1_apply, val_main_call0_call0_v4_apply, val_main_call0_call0_v11_apply, val_main_call0_call0_v10_apply, val_main_call0_call0_v9_apply, val_main_call0_call0_v8_apply,
    val_main_call0_call0_v7_apply, val_main_call0_call0_v3_apply, val_main_call0_call0_v2_apply, val_main_call0_call0_v1_apply, val_main_call0_call0_v0_apply, val_main_call0_call0_cst_apply, val_main_call0_v0_apply, part1]
  rw [une_self]
  show -(lse (-(part M 1 b h t k)) (Ideal.ofBits .f32 0x00000000#32)) = _
  rw [Ideal.ofBits_zero_f32]

theorem floor_apply (b : Fin 8) (t : Fin 4) (h : Fin 6) (k : Fin 128) : val_main_v15 (F := Ideal) L (idx_main_v16 (ix4 b t h k)) = Ideal.log (max (vec L h k) flr) := by
  rw [val_main_v15_apply, ix2_of (idx_main_v15 (idx_main_v16 (ix4 b t h k))) h k rfl rfl]
  simp only [val_main_v8_apply, val_main_v7_apply, val_main_v6_apply, val_main_cst_apply, vecL]
  rfl

theorem room_apply (b : Fin 8) (t : Fin 4) (h : Fin 6) (k : Fin 128) : val_main_v13 (F := Ideal) L (ix4 b t h k) = Ideal.log (1 + -(vec L h k)) := by
  rw [val_main_v13_apply, val_main_v12_apply, ix2_of (idx_main_v12 (idx_main_v13 (ix4 b t h k))) h k rfl rfl]
  simp only [val_main_v10_apply, val_main_v9_apply, vecL]
  rfl

variable (hL : ∀ i : Fin 768, ∃ l : ℝ, L (ix1 i) = l ∧ l ≤ 1)
include hL

theorem log_apply (b : Fin 8) (t : Fin 4) (h : Fin 6) (k : Fin 128) : val_main_v28 (F := Ideal) M L (ix4 b t h k) = (lg (part M 1 b h) (vec L h) t k : ℝ) := by
  obtain ⟨l, e, h1⟩ : ∃ l : ℝ, vec L h k = l ∧ l ≤ 1 := hL _
  simp only [val_main_v28_apply, val_main_v20_apply, val_main_v27_apply, val_main_v26_apply, val_main_v25_apply, val_main_v24_apply, val_main_v23_apply, val_main_v19_apply, val_main_v18_apply,
    val_main_v17_apply, val_main_v16_apply, val_main_v14_apply]
  rw [une_self, soft_apply, room_apply, floor_apply]
  show lse (Ideal.log (max (vec L h k) flr)) (Ideal.log (1 + -(vec L h k)) + -(lse (-(part M 1 b h t k)) 0)) = _
  rw [e, refF h1]
  unfold lg
  rw [e, EReal.toReal_coe]

theorem kk_apply (b : Fin 8) (t : Fin 4) (h : Fin 6) (k : Fin 128) : val_main_v30 (F := Ideal) M L (ix4 b t h k) = (kk (part M 1 b h) (vec L h) t k : ℝ) := by
  obtain ⟨l, e, h1⟩ : ∃ l : ℝ, vec L h k = l ∧ l ≤ 1 := hL _
  rw [val_main_v30_apply, val_main_v29_apply, log_apply M L hL]
  unfold lg kk
  rw [e, EReal.toReal_coe]
  exact refK h1 _

theorem sum_apply (b : Fin 8) (t : Fin 4) (h : Fin 6) (k : Fin 128) : val_main_v36 (F := Ideal) M L (ix4 b t h k) = (bb (part M 1 b h) (vec L h) t k : ℝ) := by
  refine (runsum _ _ Ideal.ofBits_zero_f32 b t h k).trans ?_
  simp only [log_apply M L hL]
  unfold bb
  rw [Fin.sum_univ_four, Fin.sum_univ_four]
  push_cast [apply_ite (fun x : ℝ => (x : EReal))]
  rfl

theorem sum_at (b : Fin 8) (t : Fin 4) (h : Fin 6) (k : Fin 128) (i : S8x4x6x128.Idx) (e0 : (i 0).val = b.val) (e1 : (i 1).val = t.val) (e2 : (i 2).val = h.val) (e3 : (i 3).val = k.val) :
    val_main_v36 (F := Ideal) M L i = (bb (part M 1 b h) (vec L h) t k : ℝ) := by
  rw [ix4_of i b t h k e0 e1 e2 e3, sum_apply M L hL]

/-! ## The outputs before the norm -/

theorem old_apply (b : Fin 8) (t : Fin 4) (h : Fin 6) (j : Fin 128) : val_main_v40 (F := Ideal) M S L (ix4 b t h j)
    = ∑ k : Fin 128, part M 0 b h t k * (Real.exp (bb (part M 1 b h) (vec L h) t k) : ℝ) * sta S b h k j := by
  rw [val_main_v40_apply, val_main_v39_apply]
  refine Finset.sum_congr rfl fun k _ => ?_
  rw [ix4_of (lidx_main_v39 (idx_main_v40 (ix4 b t h j)) k) b h k j rfl rfl rfl rfl, ix4_of (ridx_main_v39 (idx_main_v40 (ix4 b t h j)) k) b t h k rfl rfl rfl rfl,
    val_main_v38_apply, val_main_v37_apply, sum_apply M L hL, part0]
  exact mul_comm _ _

theorem dec_apply (b : Fin 8) (t s : Fin 4) (h : Fin 6) (k : Fin 128) (i : S8x4x4x6x128.Idx) (e0 : (i 0).val = b.val) (e1 : (i 1).val = t.val) (e2 : (i 2).val = s.val)
    (e3 : (i 3).val = h.val) (e4 : (i 4).val = k.val) :
    val_main_v48 (F := Ideal) M L i = if s ≤ t then ((Real.exp (bb (part M 1 b h) (vec L h) t k - bb (part M 1 b h) (vec L h) s k) : ℝ) : EReal) else 0 := by
  simp only [val_main_v48_apply, val_main_v47_apply, val_main_v46_apply, val_main_v45_apply, val_main_v44_apply, val_main_v43_apply, val_main_v42_apply, val_main_v41_apply, val_main_call4_v1_apply, val_main_call3_v1_apply, val_main_v35_apply,
    val_main_call4_v2_apply, val_main_call4_v0_apply, val_main_cst_1_apply]
  rw [ix2_of (idx_main_v35 (idx_main_call4_v1 i)) t s e1 e2, mask,
    sum_at M L hL b t h k (idx_main_v41 (idx_main_v43 i)) e0 e1 e3 e4, sum_at M L hL b s h k (idx_main_v42 (idx_main_v44 i)) e0 e2 e3 e4]
  by_cases c : s ≤ t
  · rw [if_pos c, if_pos c]
    show Ideal.exp ((bb (part M 1 b h) (vec L h) t k : ℝ) - (bb (part M 1 b h) (vec L h) s k : ℝ)) = _
    rw [← EReal.coe_sub, Ideal.exp_coe]
  · rw [if_neg c, if_neg c]
    exact Ideal.ofBits_zero_f32

theorem att_apply (b : Fin 8) (h : Fin 6) (t s : Fin 4) (i : S8x6x4x4.Idx) (e0 : (i 0).val = b.val) (e1 : (i 1).val = h.val) (e2 : (i 2).val = t.val) (e3 : (i 3).val = s.val) :
    val_main_v52 (F := Ideal) M L i = ∑ k : Fin 128, if s ≤ t then part M 0 b h t k * (kk (part M 1 b h) (vec L h) s k : ℝ)
      * (Real.exp (bb (part M 1 b h) (vec L h) t k - bb (part M 1 b h) (vec L h) s k) : ℝ) else 0 := by
  rw [val_main_v52_apply]
  refine Finset.sum_congr rfl fun k _ => ?_
  rw [ix4_of (lidx_main_v52 i k) b t h k e0 e2 e1 rfl, part0, val_main_v51_apply, dec_apply M L hL b t s h k (ridx_main_v52 i k) e0 e2 e3 e1 rfl, val_main_v50_apply, val_main_v49_apply,
    ix4_of (idx_main_v49 (idx_main_v50 (ridx_main_v52 i k))) b s h k e0 e3 e1 rfl, kk_apply M L hL]
  by_cases c : s ≤ t
  · rw [if_pos c, if_pos c, mul_assoc]
    rfl
  · rw [if_neg c, if_neg c]
    show part M 0 b h t k * ((kk (part M 1 b h) (vec L h) s k : ℝ) * (0 : EReal)) = 0
    rw [mul_zero, mul_zero]

theorem new_apply (b : Fin 8) (t : Fin 4) (h : Fin 6) (j : Fin 128) : val_main_v54 (F := Ideal) M L (ix4 b t h j)
    = ∑ s : Fin 4, aS (part M 0 b h) (part M 1 b h) (part M 2 b h) (vec L h) t s j := by
  rw [val_main_v54_apply, val_main_v53_apply]
  refine Finset.sum_congr rfl fun s _ => ?_
  rw [ix4_of (lidx_main_v53 (idx_main_v54 (ix4 b t h j)) s) b s h j rfl rfl rfl rfl, part2,
    att_apply M L hL b h t s (ridx_main_v53 (idx_main_v54 (ix4 b t h j)) s) rfl rfl rfl rfl, mul_comm]
  rfl

theorem row_apply (b : Fin 8) (t : Fin 4) (h : Fin 6) (j : Fin 128) : val_main_v68 (F := Ideal) M S L (ix4 b t h j)
    = oS (part M 0 b h) (part M 1 b h) (part M 2 b h) (vec L h) (sta S b h) t j := by
  rw [val_main_v68_apply, old_apply M S L hL, new_apply M L hL]
  rfl

theorem sq_apply (b : Fin 8) (t : Fin 4) (h : Fin 6) (i : S8x4x6.Idx) (e0 : (i 0).val = b.val) (e1 : (i 1).val = t.val) (e2 : (i 2).val = h.val) : val_main_v71 (F := Ideal) M S L i
    = ∑ k : Fin 128, oS (part M 0 b h) (part M 1 b h) (part M 2 b h) (vec L h) (sta S b h) t k * oS (part M 0 b h) (part M 1 b h) (part M 2 b h) (vec L h) (sta S b h) t k := by
  rw [val_main_v71_apply, val_main_cst_2_apply, show (FloatOps.ofBits FTy.f32 0x00000000#32 : Ideal .f32) = (0 : EReal) from Ideal.ofBits_zero_f32, zero_add]
  refine Finset.sum_congr rfl fun k _ => ?_
  rw [val_main_v70_apply, ix4_of (idx_main_v71 i k) b t h k e0 e1 e2 rfl, row_apply M S L hL]
  rfl

theorem head_apply (b : Fin 8) (t : Fin 4) (h : Fin 6) (j : Fin 128) : val_main_v85 (F := Ideal) M S L G (ix4 b t h j) = headO M S L G b h t j := by
  simp only [val_main_v85_apply, val_main_v84_apply, val_main_call5_v5_apply, val_main_call5_v4_apply, val_main_call5_cst_0_apply, val_main_call5_v3_apply, val_main_call5_v2_apply, val_main_call5_cst_apply, val_main_call5_v1_apply, val_main_call5_v0_apply,
    val_main_v82_apply, val_main_v81_apply, val_main_v80_apply, val_main_v79_apply, val_main_v78_apply, val_main_v77_apply, val_main_v76_apply, val_main_v75_apply, val_main_cst_4_apply, val_main_v74_apply, val_main_v73_apply, val_main_cst_3_apply, val_main_v72_apply, part3]
  rw [sq_apply M S L hL b t h (idx_main_v72 (idx_main_v78 (ix4 b t h j))) rfl rfl rfl, row_apply M S L hL, ix2_of (idx_main_v80 (idx_main_v81 (ix4 b t h j))) h j rfl rfl, vecG,
    show (FloatOps.ofBits FTy.f32 0x3F800000#32 : Ideal .f32) = (1 : EReal) from Ideal.ofBits_one_f32]
  exact congrArg (rms cnt (oS (part M 0 b h) (part M 1 b h) (part M 2 b h) (vec L h) (sta S b h) t) (vec G h j) j * ·) (silu (part M 3 b h t j))

/-- The first result of the reference, -/
theorem out0_eq : val_main_v88 (F := Ideal) M S L G = G7 M S L G := funext fun y => by
  obtain ⟨b, r, c, rfl⟩ : ∃ (b r : Fin 8) (c : Fin 768), y = ix3 b r c := ⟨y 0, y 1, y 2, eq_ix3 y⟩
  rw [val_main_v88_apply]
  show val_main_v87 (F := Ideal) M S L G (ix3 b r c) = pad4 (headO M S L G b (hOf c)) r (cOf c)
  unfold pad4 val_main_v87
  by_cases h : r.val < 4
  · rw [dif_pos h]
    refine (pad_apply_of_inside _ _ _ _ _ _ _ _ (ix3 b (⟨r.val, h⟩ : Fin 4) c) (fun a => ?_)).trans ?_
    · match a with
      | ⟨0, _⟩ => show b.val = 0 + b.val * (0 + 1); omega
      | ⟨1, _⟩ => show r.val = 0 + r.val * (0 + 1); omega
      | ⟨2, _⟩ => show c.val = 0 + c.val * (0 + 1); omega
    · rw [val_main_v86_apply, ix4_of (idx_main_v86 (ix3 b (⟨r.val, h⟩ : Fin 4) c)) b ⟨r.val, h⟩ (hOf c) (cOf c)
        (by dsimp <;> omega) (by dsimp <;> omega) (by dsimp [hOf] <;> omega) (by dsimp [cOf] <;> omega), head_apply M S L G hL]
  · rw [dif_neg h]
    refine (pad_apply_of_not_inside _ _ _ _ _ _ _ _ (1 : Fin 3) ?_).trans ?_
    · show ¬ (0 ≤ r.val ∧ (r.val - 0) % (0 + 1) = 0 ∧ (r.val - 0) / (0 + 1) < 4)
      omega
    · show (((0#32 : BitVec 32).toInt : ℝ) : EReal) = 0
      simp

/-- and the second. -/
theorem out1_eq : val_main_v67 (F := Ideal) M S L = G8 M S L := funext fun y => by
  obtain ⟨b, h, k, j, rfl⟩ : ∃ (b : Fin 8) (h : Fin 6) (k j : Fin 128), y = ix4 b h k j := ⟨y 0, y 1, y 2, y 3, eq_ix4 y⟩
  rw [val_main_v67_apply, val_main_v65_apply, val_main_v64_apply, val_main_v63_apply, val_main_v62_apply, val_main_v56_apply, val_main_v55_apply, val_main_v66_apply,
    sum_at M L hL b 3 h k _ (by dsimp <;> omega) (by dsimp <;> omega) (by dsimp <;> omega) (by dsimp <;> omega)]
  show _ = sS (part M 1 b h) (part M 2 b h) (vec L h) (sta S b h) k j
  refine congrArg₂ (· + ·) (mul_comm _ _) (Finset.sum_congr rfl fun s _ => ?_)
  rw [ix4_of (lidx_main_v66 (ix4 b h k j) s) b s h k rfl rfl rfl rfl, ix4_of (ridx_main_v66 (ix4 b h k j) s) b s h j rfl rfl rfl rfl, part2, val_main_v61_apply, kk_apply M L hL,
    val_main_v60_apply, val_main_v59_apply, sum_apply M L hL, val_main_v58_apply, val_main_v57_apply, val_main_v56_apply, val_main_v55_apply,
    sum_at M L hL b 3 h k _ (by dsimp <;> omega) (by dsimp <;> omega) (by dsimp <;> omega) (by dsimp <;> omega)]
  show ((kk (part M 1 b h) (vec L h) s k : ℝ) : EReal) * Ideal.exp ((bb (part M 1 b h) (vec L h) 3 k : ℝ) - (bb (part M 1 b h) (vec L h) s k : ℝ)) * part M 2 b h s j = _
  rw [← EReal.coe_sub, Ideal.exp_coe]
  exact mul_comm _ _
end
end Cert.HgrnRefIdeal.Hg
end
-- ==== Proof.ShortKernel.lean ====
/- The samples' gated convolution: what a point leaves, and the two result arrays. -/
module
public import proofs.«01_k».proof.Proof.HgrnMath
public import proofs.«01_k».proof.Proof.UpCommon
public import proofs.«01_k».proof.Proof.Gen.ShortIdeal.Value
public import Idealize.ShloMosaic.Lib.Routing.OpsSet
@[expose] public section
set_option maxRecDepth 16384
noncomputable section
namespace Cert.ShortIdeal.Short
open Cert.ShortIdeal Cert.ShortIdeal.Gen Cert.ShortIdeal.Value Idealize.ShloMosaic Idealize.ShloMosaic.TcCoe Idealize.SL.Sem

/-- A row of a tile's product. -/
def prodT (h : Vec Ideal S32x2048 .bf16) (w : Vec Ideal S1x2048x512 .f32) (r : Fin 32) (q : Fin 512) : EReal :=
  ∑ k : Fin 2048, h (ix2 r k) * w (ix3 0 k q)

section
variable (h : Vec Ideal S32x2048 .bf16) (w : Vec Ideal S1x2048x512 .f32)

theorem pay3_apply (r : Fin 32) (q : Fin 512) : k0_pay3 h w (ix2 r q) = prodT h w r q := by
  unfold_payloads
  pointwise
  rfl
theorem pay4_apply (r : Fin 32) (q : Fin 512) : k0_pay4 h w (ix2 r q) = prodT h w r q := by
  unfold_payloads
  pointwise
  rfl
theorem pay3_eq : k0_pay3 h w = fun y => prodT h w (y 0) (y 1) := funext fun y =>
  (congrArg (k0_pay3 h w) (eq_ix2 y)).trans (pay3_apply h w _ _)

/-- A row's place in its sequence, compared with a small number. -/
theorem ge1 : ∀ r : Fin 32, IntOp.cmpi .sge (IntOp.andi (BitVec.ofNat 32 r.val) 3#32) 1#32 = BitVec.ofBool (decide (1 ≤ r.val % 4)) := by decide
theorem ge2 : ∀ r : Fin 32, IntOp.cmpi .sge (IntOp.andi (BitVec.ofNat 32 r.val) 3#32) 2#32 = BitVec.ofBool (decide (2 ≤ r.val % 4)) := by decide

theorem pay6_apply (p : Vec Ideal S32x512 .f32) (r : Fin 32) (q : Fin 512) :
    k0_pay6 h w p (ix2 r q) = if e : 1 ≤ r.val % 4 then prodT h w ⟨r.val - 1, by omega⟩ q else p (ix2 r q) := by
  unfold k0_pay6 k0_pay5
  rw [pay3_eq]
  pointwise
  rw [ge1]
  by_cases e : 1 ≤ r.val % 4
  · rw [dif_pos e, decide_eq_true e]
    exact congrArg (prodT h w · q) (Fin.ext (by show (r.val + 32 - 1) % 32 = r.val - 1; omega))
  · rw [dif_neg e, decide_eq_false e]
    rfl
theorem pay7_apply (p : Vec Ideal S32x512 .f32) (r : Fin 32) (q : Fin 512) :
    k0_pay7 h w p (ix2 r q) = if e : 2 ≤ r.val % 4 then prodT h w ⟨r.val - 2, by omega⟩ q else p (ix2 r q) := by
  unfold k0_pay7 k0_pay5
  rw [pay3_eq]
  pointwise
  rw [ge2]
  by_cases e : 2 ≤ r.val % 4
  · rw [dif_pos e, decide_eq_true e]
    exact congrArg (prodT h w · q) (Fin.ext (by show (r.val + 32 - 2) % 32 = r.val - 2; omega))
  · rw [dif_neg e, decide_eq_false e]
    rfl
theorem pay8_apply (b c : Vec Ideal S1x512 .f32) (r : Fin 32) (q : Fin 512) :
    k0_pay8 h w b c (ix2 r q) = b (ix2 0 q) + c (ix2 0 q) * prodT h w r q := by
  unfold k0_pay8
  rw [pay3_eq]
  pointwise
end

/-- The activation from the sum, by its logistic. -/
def act (c u : EReal) : EReal := c * (Hg.sg c : EReal) * u

theorem pay1_apply (u a1 a0 c2 : Vec Ideal S32x512 .f32) (w1 w0 : Vec Ideal S1x512 .f32) (r : Fin 32) (q : Fin 512) :
    k0_pay1 u a1 a0 c2 w1 w0 (ix2 r q) = act (c2 (ix2 r q) + w1 (ix2 0 q) * a1 (ix2 r q) + w0 (ix2 0 q) * a0 (ix2 r q)) (u (ix2 r q)) := by
  unfold act
  rw [← Hg.sg_up]
  unfold_payloads
  pointwise
  rfl

/-! ## The scatter -/

theorem lands (i : IVec S1 32) (t : Fin 4) (hi : (i (ix1 0)).toInt = (t.val : Int)) (k : S8x5632.Idx) (b : Fin 8) (s : Fin 4) (q : Fin 5632) :
    scatter_S8x4x5632_S1_S8x5632_01_1_1_0.resultIdx? k i = some (ix3 b s q) ↔ k = ix2 b q ∧ s = t := by
  have s0 : scatter_S8x4x5632_S1_S8x5632_01_1_1_0.start k i 0 = 0 := rfl
  have s2 : scatter_S8x4x5632_S1_S8x5632_01_1_1_0.start k i 2 = 0 := rfl
  have w0 : scatter_S8x4x5632_S1_S8x5632_01_1_1_0.window k 0 = (k 0).val := rfl
  have w1 : scatter_S8x4x5632_S1_S8x5632_01_1_1_0.window k 1 = 0 := rfl
  have w2 : scatter_S8x4x5632_S1_S8x5632_01_1_1_0.window k 2 = (k 1).val := rfl
  have s1 : scatter_S8x4x5632_S1_S8x5632_01_1_1_0.start k i 1 = (t.val : Int) := by
    rw [← hi]
    exact congrArg (fun z => (i z).toInt) (funext fun a => match a with | ⟨0, _⟩ => Subsingleton.elim (α := Fin 1) _ _)
  rw [Routing.resultIdx?_eq_some]
  constructor
  · intro g
    have g0 := g 0
    have g1 := g 1
    have g2 := g 2
    rw [s0, w0] at g0
    rw [s1, w1] at g1
    rw [s2, w2] at g2
    change _ = (b.val : Int) at g0
    change _ = (s.val : Int) at g1
    change _ = (q.val : Int) at g2
    exact ⟨Cert.KernelIdeal.Up.ix2_of k b q (by omega) (by omega), Fin.ext (by omega)⟩
  · rintro ⟨rfl, rfl⟩ a
    match a with
    | ⟨0, _⟩ => show _ + ((scatter_S8x4x5632_S1_S8x5632_01_1_1_0.window (ix2 b q) 0 : ℕ) : Int) = (b.val : Int); rw [w0]; exact (congrArg (· + _) s0).trans (zero_add _)
    | ⟨1, _⟩ => show _ + ((scatter_S8x4x5632_S1_S8x5632_01_1_1_0.window (ix2 b q) 1 : ℕ) : Int) = (s.val : Int); rw [w1]; exact (congrArg (· + _) s1).trans (add_zero _)
    | ⟨2, _⟩ => show _ + ((scatter_S8x4x5632_S1_S8x5632_01_1_1_0.window (ix2 b q) 2 : ℕ) : Int) = (q.val : Int); rw [w2]; exact (congrArg (· + _) s2).trans (zero_add _)

/-- Setting row `t` of each sequence. -/
theorem set_apply (x : Vec Ideal S8x4x5632 .f32) (i : IVec S1 32) (v : Vec Ideal S8x5632 .f32) (t : Fin 4) (hi : (i (ix1 0)).toInt = (t.val : Int))
    (b : Fin 8) (s : Fin 4) (q : Fin 5632) :
    Host.scatter scatter_S8x4x5632_S1_S8x5632_01_1_1_0 (fun _ b => b) x i v (ix3 b s q) = if s = t then v (ix2 b q) else x (ix3 b s q) := by
  by_cases e : s = t
  · rw [if_pos e]
    exact Routing.scatter_set_hit _ _ _ _ _ _ (fun k hk => congrArg v ((lands i t hi k b s q).1 hk).1) (ix2 b q) ((lands i t hi _ b s q).2 ⟨rfl, e⟩)
  · rw [if_neg e]
    exact Routing.scatter_set_miss _ _ _ _ _ fun k hk => e ((lands i t hi k b s q).1 hk).2

/-! ## The mathematics, over the argument arrays -/

/-- The sequence of a row, -/
def bat (R : Fin 32) : Fin 8 := ⟨R.val / 4, by omega⟩
/-- and its place there. -/
def tok (R : Fin 32) : Fin 4 := ⟨R.val % 4, by omega⟩

section
variable (H : Vec Ideal S8x4x2048 .f32) (WG WU : Vec Ideal S4x2048x5632 .f32) (CW : Vec Ideal S3x5632 .f32)
  (CB : Vec Ideal S5632 .f32) (P : Vec Ideal S8x2x5632 .f32)

/-- A projection by the layer's slice of the weight. -/
def proj (b : Fin 8) (t : Fin 4) (q : Fin 5632) : EReal := ∑ k : Fin 2048, H (ix3 b t k) * WG (ix3 1 k q)

/-- The gate projection behind the two rows before the sequence. -/
def seq (b : Fin 8) (n : Fin 6) (q : Fin 5632) : EReal :=
  if h : n.val < 2 then P (ix3 b ⟨n.val, h⟩ q) else proj H WG b ⟨n.val - 2, by omega⟩ q

theorem seq_lo (b : Fin 8) (n : Fin 6) (q : Fin 5632) (h : n.val < 2) : seq H WG P b n q = P (ix3 b ⟨n.val, h⟩ q) := dif_pos h

/-- The activation at a place. -/
def resA (b : Fin 8) (t : Fin 4) (q : Fin 5632) : EReal :=
  act (CB (ix1 q) + CW (ix2 2 q) * seq H WG P b ⟨t.val + 2, by omega⟩ q + CW (ix2 1 q) * seq H WG P b ⟨t.val + 1, by omega⟩ q
    + CW (ix2 0 q) * seq H WG P b ⟨t.val, by omega⟩ q) (proj H WU b t q)

/-- The first result: the activations, -/
def G7 : Vec Ideal S32x5632 .bf16 := fun y => resA H WG WU CW CB P (bat (y 0)) (tok (y 0)) (y 1)
/-- and the second: the gate projection. -/
def G8 : Vec Ideal S32x5632 .f32 := fun y => proj H WG (bat (y 0)) (tok (y 0)) (y 1)
end

/-- The rows of eight sequences of four, one below another. -/
theorem flat_apply {n : ℕ} {e : EltTy} (x : Vec Ideal ⟨3, ![8, 4, n]⟩ e) (h : Shape.ShapeCasts ⟨3, ![8, 4, n]⟩ ⟨2, ![32, n]⟩)
    (R : Fin 32) (j : Fin n) : shapeCast ⟨2, ![32, n]⟩ x h (ix2 R j) = x (ix3 (bat R) (tok R) j) :=
  shapeCast_apply x h (ix2 R j) (ix3 (bat R) (tok R) j) (by
    rw [Shape.rowMajor_val_three, Shape.rowMajor_val_two]
    show (R.val / 4 * 4 + R.val % 4) * n + j.val = R.val * n + j.val
    rw [show R.val / 4 * 4 + R.val % 4 = R.val by omega])

/-! ## The rows the convolution takes from before the sequence -/

def zr : Vec Ideal S8x4x5632 .f32 := broadcastInDim S8x4x5632 ![] bcast_S_S8x4x5632 (constant (F := Ideal) S_ .f32 0x00000000#32)
def at0 : IVec S1 32 := broadcastInDim S1 ![] bcast_S_S1 (constantI S_ 32 0#32)
def at1 : IVec S1 32 := broadcastInDim S1 ![] bcast_S_S1 (constantI S_ 32 1#32)
/-- The earlier of the two rows, -/
def row0 (P : Vec Ideal S8x2x5632 .f32) : Vec Ideal S8x5632 .f32 :=
  shapeCast S8x5632 (extractStridedSlice S8x1x5632 ![0, 0, 0] P slices_S8x2x5632_S8x1x5632_0_0_0) shapeCasts_S8x1x5632_S8x5632
/-- and the later. -/
def row1 (P : Vec Ideal S8x2x5632 .f32) : Vec Ideal S8x5632 .f32 :=
  shapeCast S8x5632 (extractStridedSlice S8x1x5632 ![0, 1, 0] P slices_S8x2x5632_S8x1x5632_0_1_0) shapeCasts_S8x1x5632_S8x5632
theorem row0_apply (P : Vec Ideal S8x2x5632 .f32) (b : Fin 8) (q : Fin 5632) : row0 P (ix2 b q) = P (ix3 b 0 q) := by
  unfold row0
  pointwise
theorem row1_apply (P : Vec Ideal S8x2x5632 .f32) (b : Fin 8) (q : Fin 5632) : row1 P (ix2 b q) = P (ix3 b 1 q) := by
  unfold row1
  pointwise

/-- What the rows at distance one take from before, -/
def pre1 (P : Vec Ideal S8x2x5632 .f32) : Vec Ideal S8x4x5632 .f32 :=
  Host.scatter scatter_S8x4x5632_S1_S8x5632_01_1_1_0 (fun _ b => b) zr at0 (row1 P)
/-- and those at distance two. -/
def pre2 (P : Vec Ideal S8x2x5632 .f32) : Vec Ideal S8x4x5632 .f32 :=
  Host.scatter scatter_S8x4x5632_S1_S8x5632_01_1_1_0 (fun _ b => b)
    (Host.scatter scatter_S8x4x5632_S1_S8x5632_01_1_1_0 (fun _ b => b) zr at0 (row0 P)) at1 (row1 P)
theorem pre1_apply (P : Vec Ideal S8x2x5632 .f32) (b : Fin 8) (s : Fin 4) (q : Fin 5632) (h : s.val < 1) : pre1 P (ix3 b s q) = P (ix3 b 1 q) := by
  refine (set_apply zr at0 (row1 P) 0 rfl b s q).trans ?_
  rw [if_pos (Fin.ext (by show s.val = 0; omega)), row1_apply]
theorem pre2_apply (P : Vec Ideal S8x2x5632 .f32) (b : Fin 8) (s : Fin 4) (q : Fin 5632) (h : s.val < 2) :
    pre2 P (ix3 b s q) = P (ix3 b ⟨s.val, h⟩ q) := by
  refine (set_apply _ at1 (row1 P) 1 rfl b s q).trans ?_
  by_cases e : s = 1
  · subst e
    rw [if_pos rfl, row1_apply]
    rfl
  · rw [if_neg e]
    have e0 : s = 0 := Fin.ext (by have : s.val ≠ 1 := fun g => e (Fin.ext g); show s.val = 0; omega)
    subst e0
    refine (set_apply zr at0 (row0 P) 0 rfl b 0 q).trans ?_
    rw [if_pos rfl, row0_apply]
    rfl

/-! ## The blocks -/

theorem lt11 (t : Fin cfg0.N) : t.val < 11 := lt_of_lt_of_eq t.isLt (show cfg0.N = 11 from N_0)

/-- A column of a point's tile. -/
def qOf (t : Fin cfg0.N) (q : Fin 512) : Fin 5632 := ⟨512 * t.val + q.val, by have := lt11 t; omega⟩

theorem pt0 : ∀ t : Fin cfg0.N, win0_0.index t (0 : Fin 2) = 0 ∧ win0_0.index t (1 : Fin 2) = 0 :=
  (by decide +kernel : ∀ t : Fin grid0.N, _)
theorem emb0 (t : Fin cfg0.N) (r : Fin 32) (k : Fin 2048) : ((cfg0.win 0).blk t).view.emb (ix2 r k) = ix2 r k := by
  obtain ⟨e0, e1⟩ := pt0 t
  funext a; apply Fin.ext
  match a with
  | ⟨0, _⟩ => show win0_0.index t (0 : Fin 2) * 32 + 1 * r.val = r.val; omega
  | ⟨1, _⟩ => show win0_0.index t (1 : Fin 2) * 2048 + 1 * k.val = k.val; omega
theorem pt1 : ∀ t : Fin cfg0.N, win0_1.index t (0 : Fin 3) = 1 ∧ win0_1.index t (1 : Fin 3) = 0 ∧ win0_1.index t (2 : Fin 3) = t.val :=
  (by decide +kernel : ∀ t : Fin grid0.N, _)
theorem emb1 (t : Fin cfg0.N) (k : Fin 2048) (q : Fin 512) : ((cfg0.win 1).blk t).view.emb (ix3 0 k q) = ix3 1 k (qOf t q) := by
  obtain ⟨e0, e1, e2⟩ := pt1 t
  funext a; apply Fin.ext
  match a with
  | ⟨0, _⟩ => show win0_1.index t (0 : Fin 3) * 1 + 1 * 0 = 1; omega
  | ⟨1, _⟩ => show win0_1.index t (1 : Fin 3) * 2048 + 1 * k.val = k.val; omega
  | ⟨2, _⟩ => show win0_1.index t (2 : Fin 3) * 512 + 1 * q.val = 512 * t.val + q.val; omega
theorem pt2 : ∀ t : Fin cfg0.N, win0_2.index t (0 : Fin 3) = 1 ∧ win0_2.index t (1 : Fin 3) = 0 ∧ win0_2.index t (2 : Fin 3) = t.val :=
  (by decide +kernel : ∀ t : Fin grid0.N, _)
theorem emb2 (t : Fin cfg0.N) (k : Fin 2048) (q : Fin 512) : ((cfg0.win 2).blk t).view.emb (ix3 0 k q) = ix3 1 k (qOf t q) := by
  obtain ⟨e0, e1, e2⟩ := pt2 t
  funext a; apply Fin.ext
  match a with
  | ⟨0, _⟩ => show win0_2.index t (0 : Fin 3) * 1 + 1 * 0 = 1; omega
  | ⟨1, _⟩ => show win0_2.index t (1 : Fin 3) * 2048 + 1 * k.val = k.val; omega
  | ⟨2, _⟩ => show win0_2.index t (2 : Fin 3) * 512 + 1 * q.val = 512 * t.val + q.val; omega
theorem pt3 : ∀ t : Fin cfg0.N, win0_3.index t (0 : Fin 2) = 0 ∧ win0_3.index t (1 : Fin 2) = t.val :=
  (by decide +kernel : ∀ t : Fin grid0.N, _)
theorem emb3 (t : Fin cfg0.N) (r : Fin 3) (q : Fin 512) : ((cfg0.win 3).blk t).view.emb (ix2 r q) = ix2 r (qOf t q) := by
  obtain ⟨e0, e1⟩ := pt3 t
  funext a; apply Fin.ext
  match a with
  | ⟨0, _⟩ => show win0_3.index t (0 : Fin 2) * 3 + 1 * r.val = r.val; omega
  | ⟨1, _⟩ => show win0_3.index t (1 : Fin 2) * 512 + 1 * q.val = 512 * t.val + q.val; omega
theorem pt4 : ∀ t : Fin cfg0.N, win0_4.index t (0 : Fin 2) = 0 ∧ win0_4.index t (1 : Fin 2) = t.val :=
  (by decide +kernel : ∀ t : Fin grid0.N, _)
theorem emb4 (t : Fin cfg0.N) (r : Fin 1) (q : Fin 512) : ((cfg0.win 4).blk t).view.emb (ix2 r q) = ix2 r (qOf t q) := by
  obtain ⟨e0, e1⟩ := pt4 t
  funext a; apply Fin.ext
  match a with
  | ⟨0, _⟩ => show win0_4.index t (0 : Fin 2) * 1 + 1 * r.val = r.val; omega
  | ⟨1, _⟩ => show win0_4.index t (1 : Fin 2) * 512 + 1 * q.val = 512 * t.val + q.val; omega
theorem pt5 : ∀ t : Fin cfg0.N, win0_5.index t (0 : Fin 2) = 0 ∧ win0_5.index t (1 : Fin 2) = t.val :=
  (by decide +kernel : ∀ t : Fin grid0.N, _)
theorem emb5 (t : Fin cfg0.N) (r : Fin 32) (q : Fin 512) : ((cfg0.win 5).blk t).view.emb (ix2 r q) = ix2 r (qOf t q) := by
  obtain ⟨e0, e1⟩ := pt5 t
  funext a; apply Fin.ext
  match a with
  | ⟨0, _⟩ => show win0_5.index t (0 : Fin 2) * 32 + 1 * r.val = r.val; omega
  | ⟨1, _⟩ => show win0_5.index t (1 : Fin 2) * 512 + 1 * q.val = 512 * t.val + q.val; omega
theorem pt6 : ∀ t : Fin cfg0.N, win0_6.index t (0 : Fin 2) = 0 ∧ win0_6.index t (1 : Fin 2) = t.val :=
  (by decide +kernel : ∀ t : Fin grid0.N, _)
theorem emb6 (t : Fin cfg0.N) (r : Fin 32) (q : Fin 512) : ((cfg0.win 6).blk t).view.emb (ix2 r q) = ix2 r (qOf t q) := by
  obtain ⟨e0, e1⟩ := pt6 t
  funext a; apply Fin.ext
  match a with
  | ⟨0, _⟩ => show win0_6.index t (0 : Fin 2) * 32 + 1 * r.val = r.val; omega
  | ⟨1, _⟩ => show win0_6.index t (1 : Fin 2) * 512 + 1 * q.val = 512 * t.val + q.val; omega
theorem pt7 : ∀ t : Fin cfg0.N, win0_7.index t (0 : Fin 2) = 0 ∧ win0_7.index t (1 : Fin 2) = t.val :=
  (by decide +kernel : ∀ t : Fin grid0.N, _)
theorem emb7 (t : Fin cfg0.N) (r : Fin 32) (q : Fin 512) : ((cfg0.win 7).blk t).view.emb (ix2 r q) = ix2 r (qOf t q) := by
  obtain ⟨e0, e1⟩ := pt7 t
  funext a; apply Fin.ext
  match a with
  | ⟨0, _⟩ => show win0_7.index t (0 : Fin 2) * 32 + 1 * r.val = r.val; omega
  | ⟨1, _⟩ => show win0_7.index t (1 : Fin 2) * 512 + 1 * q.val = 512 * t.val + q.val; omega
theorem pt8 : ∀ t : Fin cfg0.N, win0_8.index t (0 : Fin 2) = 0 ∧ win0_8.index t (1 : Fin 2) = t.val :=
  (by decide +kernel : ∀ t : Fin grid0.N, _)
theorem emb8 (t : Fin cfg0.N) (r : Fin 32) (q : Fin 512) : ((cfg0.win 8).blk t).view.emb (ix2 r q) = ix2 r (qOf t q) := by
  obtain ⟨e0, e1⟩ := pt8 t
  funext a; apply Fin.ext
  match a with
  | ⟨0, _⟩ => show win0_8.index t (0 : Fin 2) * 32 + 1 * r.val = r.val; omega
  | ⟨1, _⟩ => show win0_8.index t (1 : Fin 2) * 512 + 1 * q.val = 512 * t.val + q.val; omega

section Arrays
variable (m : (ℓ : Loc nD τ sig) → Buf (Elt Ideal) ℓ) (c : Dev nD)

/-- The argument arrays. -/
abbrev aH : Vec Ideal S8x4x2048 .f32 := m ((c : Thread nD τ).loc main_arg0)
abbrev aWG : Vec Ideal S4x2048x5632 .f32 := m ((c : Thread nD τ).loc main_arg1)
abbrev aWU : Vec Ideal S4x2048x5632 .f32 := m ((c : Thread nD τ).loc main_arg2)
abbrev aCW : Vec Ideal S3x5632 .f32 := m ((c : Thread nD τ).loc main_arg3)
abbrev aCB : Vec Ideal S5632 .f32 := m ((c : Thread nD τ).loc main_arg4)
abbrev aP : Vec Ideal S8x2x5632 .f32 := m ((c : Thread nD τ).loc main_arg5)

theorem V_main_v5 : V m c main_v5 = (shapeCast S32x5632 (pre1 (aP m c)) shapeCasts_S8x4x5632_S32x5632 : Vec Ideal S32x5632 .f32) := by
  show StableHlo.after hostOps0 _ (Proc.devRef .tc main_v5) = _
  after_results
  rfl
theorem V_main_v14 : V m c main_v14 = (shapeCast S32x5632 (pre2 (aP m c)) shapeCasts_S8x4x5632_S32x5632 : Vec Ideal S32x5632 .f32) := by
  show StableHlo.after hostOps0 _ (Proc.devRef .tc main_v14) = _
  after_results
  rfl
theorem V_main_v16 : V m c main_v16 = (fun y => shapeCast S32x2048 (aH m c) shapeCasts_S8x4x2048_S32x2048 y : Vec Ideal S32x2048 .bf16) := by
  show StableHlo.after hostOps0 _ (Proc.devRef .tc main_v16) = _
  after_results
  rfl
theorem V_main_v17 : V m c main_v17 = (shapeCast S1x5632 (aCB m c) shapeCasts_S5632_S1x5632 : Vec Ideal S1x5632 .f32) := by
  show StableHlo.after hostOps0 _ (Proc.devRef .tc main_v17) = _
  after_results
  rfl

theorem blk0 (t : Fin cfg0.N) (r : Fin 32) (k : Fin 2048) : iblk m c 0 t (ix2 r k) = aH m c (ix3 (bat r) (tok r) k) := by
  show V m c main_v16 (((cfg0.win 0).blk t).view.emb (ix2 r k)) = _
  rw [emb0, V_main_v16]
  exact flat_apply _ _ _ _
theorem blk1 (t : Fin cfg0.N) (k : Fin 2048) (q : Fin 512) : iblk m c 1 t (ix3 0 k q) = aWG m c (ix3 1 k (qOf t q)) := by
  show V m c main_arg1 (((cfg0.win 1).blk t).view.emb (ix3 0 k q)) = _
  rw [emb1, V_main_arg1]
theorem blk2 (t : Fin cfg0.N) (k : Fin 2048) (q : Fin 512) : iblk m c 2 t (ix3 0 k q) = aWU m c (ix3 1 k (qOf t q)) := by
  show V m c main_arg2 (((cfg0.win 2).blk t).view.emb (ix3 0 k q)) = _
  rw [emb2, V_main_arg2]
theorem blk3 (t : Fin cfg0.N) (n : Fin 3) (q : Fin 512) : iblk m c 3 t (ix2 n q) = aCW m c (ix2 n (qOf t q)) := by
  show V m c main_arg3 (((cfg0.win 3).blk t).view.emb (ix2 n q)) = _
  rw [emb3, V_main_arg3]
theorem blk4 (t : Fin cfg0.N) (q : Fin 512) : iblk m c 4 t (ix2 0 q) = aCB m c (ix1 (qOf t q)) := by
  show V m c main_v17 (((cfg0.win 4).blk t).view.emb (ix2 0 q)) = _
  rw [emb4, V_main_v17]
  pointwise
theorem blk5 (t : Fin cfg0.N) (r : Fin 32) (q : Fin 512) : iblk m c 5 t (ix2 r q) = pre1 (aP m c) (ix3 (bat r) (tok r) (qOf t q)) := by
  show V m c main_v5 (((cfg0.win 5).blk t).view.emb (ix2 r q)) = _
  rw [emb5, V_main_v5]
  exact flat_apply _ _ _ _
theorem blk6 (t : Fin cfg0.N) (r : Fin 32) (q : Fin 512) : iblk m c 6 t (ix2 r q) = pre2 (aP m c) (ix3 (bat r) (tok r) (qOf t q)) := by
  show V m c main_v14 (((cfg0.win 6).blk t).view.emb (ix2 r q)) = _
  rw [emb6, V_main_v14]
  exact flat_apply _ _ _ _

/-! ## A tile's entries are the arrays' -/

theorem gate_eq (t : Fin cfg0.N) (r : Fin 32) (q : Fin 512) :
    prodT (iblk m c 0 t) (iblk m c 1 t) r q = proj (aH m c) (aWG m c) (bat r) (tok r) (qOf t q) :=
  Finset.sum_congr rfl fun k _ => by rw [blk0, blk1]
theorem up_eq (t : Fin cfg0.N) (r : Fin 32) (q : Fin 512) :
    prodT (iblk m c 0 t) (iblk m c 2 t) r q = proj (aH m c) (aWU m c) (bat r) (tok r) (qOf t q) :=
  Finset.sum_congr rfl fun k _ => by rw [blk0, blk2]

/-- The convolution's three rows. -/
theorem back0 (t : Fin cfg0.N) (r : Fin 32) (q : Fin 512) : prodT (iblk m c 0 t) (iblk m c 1 t) r q
    = seq (aH m c) (aWG m c) (aP m c) (bat r) ⟨(tok r).val + 2, by omega⟩ (qOf t q) := by
  rw [gate_eq]
  unfold seq
  rw [dif_neg (by show ¬ (tok r).val + 2 < 2; omega)]
  rfl
theorem back1 (t : Fin cfg0.N) (r : Fin 32) (q : Fin 512) : k0_pay6 (iblk m c 0 t) (iblk m c 1 t) (iblk m c 5 t) (ix2 r q)
    = seq (aH m c) (aWG m c) (aP m c) (bat r) ⟨(tok r).val + 1, by omega⟩ (qOf t q) := by
  rw [pay6_apply]
  unfold seq
  by_cases e : 1 ≤ r.val % 4
  · rw [dif_pos e, dif_neg (by show ¬ r.val % 4 + 1 < 2; omega), gate_eq]
    exact congrArg₂ (proj (aH m c) (aWG m c) · · _) (Fin.ext (by show (r.val - 1) / 4 = r.val / 4; omega))
      (Fin.ext (by show (r.val - 1) % 4 = r.val % 4 + 1 - 2; omega))
  · rw [dif_neg e, dif_pos (by show r.val % 4 + 1 < 2; omega), blk5, pre1_apply _ _ _ _ (by show r.val % 4 < 1; omega)]
    exact congrArg (fun z => aP m c (ix3 _ z _)) (Fin.ext (by show 1 = r.val % 4 + 1; omega))
theorem back2 (t : Fin cfg0.N) (r : Fin 32) (q : Fin 512) : k0_pay7 (iblk m c 0 t) (iblk m c 1 t) (iblk m c 6 t) (ix2 r q)
    = seq (aH m c) (aWG m c) (aP m c) (bat r) ⟨(tok r).val, by omega⟩ (qOf t q) := by
  rw [pay7_apply]
  by_cases e : 2 ≤ r.val % 4
  · unfold seq
    rw [dif_pos e, dif_neg (by show ¬ r.val % 4 < 2; omega), gate_eq]
    exact congrArg₂ (proj (aH m c) (aWG m c) · · _) (Fin.ext (by show (r.val - 2) / 4 = r.val / 4; omega))
      (Fin.ext (by show (r.val - 2) % 4 = r.val % 4 - 2; omega))
  · have g : r.val % 4 < 2 := by omega
    rw [dif_neg e, blk6, pre2_apply _ _ _ _ g]
    exact (seq_lo (aH m c) (aWG m c) (aP m c) (bat r) ⟨(tok r).val, by omega⟩ (qOf t q) g).symm

/-! ## The result arrays -/

theorem z2 : (![0, 0] : Fin 2 → Nat) = fun _ => 0 := by decide
theorem z3 : (![0, 0, 0] : Fin 3 → Nat) = fun _ => 0 := by decide

theorem cw_ld (x : Vec Ideal S3x512 .f32) (q : Fin 512) : View.ld x r0_4 (ix2 0 q) = x (ix2 2 q) ∧ View.ld x r0_5 (ix2 0 q) = x (ix2 1 q)
    ∧ View.ld x r0_6 (ix2 0 q) = x (ix2 0 q) :=
  ⟨congrArg x (Cert.KernelIdeal.Up.ix2_of _ _ _ (by dsimp <;> omega) (by dsimp <;> omega)),
    congrArg x (Cert.KernelIdeal.Up.ix2_of _ _ _ (by dsimp <;> omega) (by dsimp <;> omega)),
    congrArg x (Cert.KernelIdeal.Up.ix2_of _ _ _ (by dsimp <;> omega) (by dsimp <;> omega))⟩

theorem out7_eq (t : Fin cfg0.N) (r : Fin 32) (q : Fin 512) :
    out0_7 (iblk m c 0 t) (iblk m c 1 t) (iblk m c 2 t) (iblk m c 3 t) (iblk m c 4 t) (iblk m c 5 t) (iblk m c 6 t) (ix2 r q)
      = resA (aH m c) (aWG m c) (aWU m c) (aCW m c) (aCB m c) (aP m c) (bat r) (tok r) (qOf t q) := by
  refine (congrFun (View.canon_unit_zero z2 _ _) (ix2 r q)).trans ?_
  rw [View.ld_unit_zero z2, View.ld_unit_zero z3, View.ld_unit_zero z3, View.ld_unit_zero z2, View.ld_unit_zero z2, View.ld_unit_zero z2,
    pay1_apply, pay4_apply, pay8_apply, (cw_ld _ q).1, (cw_ld _ q).2.1, (cw_ld _ q).2.2, back0, back1, back2, up_eq, blk3, blk3, blk3, blk4]
  rfl

theorem out8_eq (t : Fin cfg0.N) (r : Fin 32) (q : Fin 512) :
    out0_8 (iblk m c 0 t) (iblk m c 1 t) (iblk m c 2 t) (iblk m c 3 t) (iblk m c 4 t) (iblk m c 5 t) (iblk m c 6 t) (ix2 r q)
      = proj (aH m c) (aWG m c) (bat r) (tok r) (qOf t q) := by
  refine (congrFun (View.canon_unit_zero z2 _ _) (ix2 r q)).trans ?_
  rw [View.ld_unit_zero z2, View.ld_unit_zero z3, pay3_apply, gate_eq]

theorem flushed7_eq (t : Fin cfg0.N) : (dats m 0 c).flushed 7 t
    = ((cfg0.win 7).blk t).view.read (Elt Ideal) (G7 (aH m c) (aWG m c) (aWU m c) (aCW m c) (aCB m c) (aP m c)) := by
  rw [flushed7]
  funext y
  obtain ⟨r, q, rfl⟩ : ∃ (r : Fin 32) (q : Fin 512), y = ix2 r q := ⟨y 0, y 1, eq_ix2 y⟩
  show out0_7 _ _ _ _ _ _ _ (ix2 r q) = G7 _ _ _ _ _ _ (((cfg0.win 7).blk t).view.emb (ix2 r q))
  rw [emb7]
  exact out7_eq m c t r q
theorem flushed8_eq (t : Fin cfg0.N) : (dats m 0 c).flushed 8 t
    = ((cfg0.win 8).blk t).view.read (Elt Ideal) (G8 (aH m c) (aWG m c)) := by
  rw [flushed8]
  funext y
  obtain ⟨r, q, rfl⟩ : ∃ (r : Fin 32) (q : Fin 512), y = ix2 r q := ⟨y 0, y 1, eq_ix2 y⟩
  show out0_8 _ _ _ _ _ _ _ (ix2 r q) = G8 _ _ (((cfg0.win 8).blk t).view.emb (ix2 r q))
  rw [emb8]
  exact out8_eq m c t r q

theorem covered7 (i : S32x5632.Idx) : ∃ t : Fin cfg0.N, (cfg0.win 7).flush t = true ∧ i ∈ ((cfg0.win 7).blk t).view.set := by
  have h1 : (i 1).val < 5632 := (i 1).isLt
  have hN : cfg0.N = 11 := N_0
  refine ⟨⟨(i 1).val / 512, by omega⟩, flush0_7 _, ?_⟩
  have h := ((cfg0.win 7).blk (⟨(i 1).val / 512, by omega⟩ : Fin cfg0.N)).view.emb_mem_set (ix2 (⟨(i 0).val, (i 0).isLt⟩ : Fin 32) (⟨(i 1).val % 512, by omega⟩ : Fin 512))
  erw [emb7] at h
  rw [← Cert.KernelIdeal.Up.ix2_of i] at h
  · exact h
  · rfl
  · dsimp [qOf]; omega

theorem covered8 (i : S32x5632.Idx) : ∃ t : Fin cfg0.N, (cfg0.win 8).flush t = true ∧ i ∈ ((cfg0.win 8).blk t).view.set := by
  have h1 : (i 1).val < 5632 := (i 1).isLt
  have hN : cfg0.N = 11 := N_0
  refine ⟨⟨(i 1).val / 512, by omega⟩, flush0_8 _, ?_⟩
  have h := ((cfg0.win 8).blk (⟨(i 1).val / 512, by omega⟩ : Fin cfg0.N)).view.emb_mem_set (ix2 (⟨(i 0).val, (i 0).isLt⟩ : Fin 32) (⟨(i 1).val % 512, by omega⟩ : Fin 512))
  erw [emb8] at h
  rw [← Cert.KernelIdeal.Up.ix2_of i] at h
  · exact h
  · rfl
  · dsimp [qOf]; omega

/-- The first result array after the run. -/
theorem final7 : (dats m 0 c).arrAt 7 cfg0.N = G7 (aH m c) (aWG m c) (aWU m c) (aCW m c) (aCB m c) (aP m c) :=
  (dats m 0 c).arrAt_eq_of_cover 7 _ (fun t _ => flushed7_eq m c t) covered7
/-- The second. -/
theorem final8 : (dats m 0 c).arrAt 8 cfg0.N = G8 (aH m c) (aWG m c) :=
  (dats m 0 c).arrAt_eq_of_cover 8 _ (fun t _ => flushed8_eq m c t) covered8

end Arrays

end Cert.ShortIdeal.Short
end
-- ==== Proof.ShortRef.lean ====
/- The samples' gated convolution: its reference, read at each place of its two results. -/
module
public import proofs.«01_k».proof.Proof.ShortKernel
public import proofs.«01_k».proof.Proof.Gen.ShortRefIdeal.Run
public import proofs.«01_k».proof.Proof.Gen.ShortRefIdeal.Read
@[expose] public section
set_option maxRecDepth 16384
noncomputable section
namespace Cert.ShortRefIdeal.Short
open Cert.ShortRefIdeal Cert.ShortRefIdeal.Gen Cert.ShortRefIdeal.Read Cert.ShortIdeal.Short Cert.KernelIdeal.Up Idealize.ShloMosaic Idealize.ShloMosaic.TcCoe Idealize.SL.Sem

/-- The logistic value, by its definition. -/
theorem sg_div (c : EReal) : Ideal.div 1 (1 + Ideal.exp (-c)) = (Hg.sg c : EReal) := by
  induction c with
  | bot =>
    rw [Hg.sg_bot, EReal.neg_bot, show Ideal.exp ⊤ = ⊤ from rfl, show (1 : EReal) + ⊤ = ⊤ from EReal.coe_add_top 1]
    simp [Ideal.div]
  | top => rw [Hg.sg_top]; simp [Ideal.div]
  | coe r => rw [Hg.sg_coe, ← EReal.coe_neg, Ideal.exp_coe, ← EReal.coe_one, ← EReal.coe_add, Hg.div_coe (by positivity), one_mul]

variable (H : Vec Ideal S8x4x2048 .f32) (WG WU : Vec Ideal S4x2048x5632 .f32) (CW : Vec Ideal S3x5632 .f32)
    (CB : Vec Ideal S5632 .f32) (P : Vec Ideal S8x2x5632 .f32)

theorem gate_apply (b : Fin 8) (s : Fin 4) (q : Fin 5632) : val_main_v2 (F := Ideal) H WG (ix3 b s q) = Cert.ShortIdeal.Short.proj H WG b s q := by
  rw [val_main_v2_apply]
  refine Finset.sum_congr rfl fun k _ => ?_
  rw [val_main_v1_apply, val_main_v0_apply]
  exact congrArg₂ (· * ·) (congrArg H (ix3_of _ b s k rfl rfl rfl)) (congrArg WG (ix3_of _ 1 k q (by dsimp <;> omega) (by dsimp <;> omega) (by dsimp <;> omega)))

theorem up_apply (b : Fin 8) (s : Fin 4) (q : Fin 5632) : val_main_v30 (F := Ideal) H WU (ix3 b s q) = Cert.ShortIdeal.Short.proj H WU b s q := by
  rw [val_main_v30_apply]
  refine Finset.sum_congr rfl fun k _ => ?_
  rw [val_main_v29_apply, val_main_v28_apply]
  exact congrArg₂ (· * ·) (congrArg H (ix3_of _ b s k rfl rfl rfl)) (congrArg WU (ix3_of _ 1 k q (by dsimp <;> omega) (by dsimp <;> omega) (by dsimp <;> omega)))

theorem seq_apply (b : Fin 8) (n : Fin 6) (q : Fin 5632) : val_main_v3 (F := Ideal) H WG P (ix3 b n q) = seq H WG P b n q := by
  unfold val_main_v3 seq
  by_cases h : n.val < 2
  · rw [dif_pos h]
    exact concatenate_pair_apply_left (1 : Fin S8x6x5632.rank) P (val_main_v2 (F := Ideal) H WG) _ (ix3 b n q) rfl (ix3 b ⟨n.val, h⟩ q)
      (fun a => match a with | ⟨0, _⟩ => rfl | ⟨1, _⟩ => rfl | ⟨2, _⟩ => rfl)
  · rw [dif_neg h, ← gate_apply]
    exact concatenate_pair_apply_right (1 : Fin S8x6x5632.rank) P (val_main_v2 (F := Ideal) H WG) _ (ix3 b n q) rfl rfl (ix3 b ⟨n.val - 2, by omega⟩ q)
      (fun a ha => match a with | ⟨0, _⟩ => rfl | ⟨1, _⟩ => absurd rfl ha | ⟨2, _⟩ => rfl) (by show n.val - 2 + 2 = n.val; omega)

theorem out0_apply (b : Fin 8) (s : Fin 4) (q : Fin 5632) :
    val_main_v32 (F := Ideal) H WG WU CW CB P (ix3 b s q) = Cert.ShortIdeal.Short.resA H WG WU CW CB P b s q := by
  simp only [val_main_v32_apply, val_main_v31_apply, val_main_v27_apply, val_main_call0_v5_apply, val_main_call0_v3_apply, val_main_call0_v1_apply, val_main_call0_v0_apply, val_main_v26_apply, val_main_v25_apply, val_main_v19_apply, val_main_v18_apply, val_main_v12_apply, val_main_v9_apply, val_main_v11_apply, val_main_v10_apply, val_main_v8_apply, val_main_v7_apply, val_main_v5_apply, val_main_v4_apply, val_main_v17_apply, val_main_v16_apply, val_main_v14_apply, val_main_v13_apply, val_main_v24_apply, val_main_v23_apply, val_main_v21_apply, val_main_v20_apply, val_main_v6_apply, val_main_v15_apply, val_main_v22_apply, val_main_call0_v2_apply, val_main_call0_v4_apply, val_main_call0_cst_apply, val_main_call0_cst_0_apply]
  have e3 : ∀ z (n : Fin 6), z = ix3 b n q → val_main_v3 (F := Ideal) H WG P z = seq H WG P b n q := fun z n hz => hz ▸ seq_apply H WG P b n q
  rw [up_apply, e3 (idx_main_v6 (ix3 b s q)) ⟨s.val, by omega⟩ (ix3_of _ _ _ _ rfl (by dsimp <;> omega) rfl),
    e3 (idx_main_v15 (ix3 b s q)) ⟨s.val + 1, by omega⟩ (ix3_of _ _ _ _ rfl (by dsimp <;> omega) rfl),
    e3 (idx_main_v22 (ix3 b s q)) ⟨s.val + 2, by omega⟩ (ix3_of _ _ _ _ rfl (by dsimp <;> omega) rfl),
    ix2_of (idx_main_v4 (idx_main_v5 (idx_main_v7 (idx_main_v8 (ix3 b s q))))) 0 q (by dsimp <;> omega) (by dsimp <;> omega),
    ix2_of (idx_main_v13 (idx_main_v14 (idx_main_v16 (idx_main_v17 (ix3 b s q))))) 1 q (by dsimp <;> omega) (by dsimp <;> omega),
    ix2_of (idx_main_v20 (idx_main_v21 (idx_main_v23 (idx_main_v24 (ix3 b s q))))) 2 q (by dsimp <;> omega) (by dsimp <;> omega),
    show idx_main_v10 (idx_main_v11 (ix3 b s q)) = ix1 q from funext fun a => match a with | ⟨0, _⟩ => rfl]
  unfold Cert.ShortIdeal.Short.resA act
  generalize seq H WG P b ⟨s.val, by omega⟩ q = a0
  generalize seq H WG P b ⟨s.val + 1, by omega⟩ q = a1
  generalize seq H WG P b ⟨s.val + 2, by omega⟩ q = a2
  generalize CB (ix1 q) = w
  generalize CW (ix2 0 q) = w0
  generalize CW (ix2 1 q) = w1
  generalize CW (ix2 2 q) = w2
  have e : w + w2 * a2 + w1 * a1 + w0 * a0 = w + w0 * a0 + w1 * a1 + w2 * a2 := by abel
  rw [e, ← sg_div]
  rw [show (FloatOps.ofBits FTy.f32 1065353216#32 : Ideal .f32) = (1 : EReal) from Ideal.ofBits_one_f32]
  rfl

/-- The first result of the reference. -/
theorem out0_eq : val_main_v33 (F := Ideal) H WG WU CW CB P = Cert.ShortIdeal.Short.G7 H WG WU CW CB P := funext fun y => by
  obtain ⟨r, q, rfl⟩ : ∃ (r : Fin 32) (q : Fin 5632), y = ix2 r q := ⟨y 0, y 1, eq_ix2 y⟩
  unfold val_main_v33
  exact (flat_apply _ _ r q).trans (out0_apply H WG WU CW CB P _ _ _)

/-- The second. -/
theorem out1_eq : val_main_v34 (F := Ideal) H WG = G8 H WG := funext fun y => by
  obtain ⟨r, q, rfl⟩ : ∃ (r : Fin 32) (q : Fin 5632), y = ix2 r q := ⟨y 0, y 1, eq_ix2 y⟩
  unfold val_main_v34
  exact (flat_apply _ _ r q).trans (gate_apply H WG _ _ _)

end Cert.ShortRefIdeal.Short
end
-- ==== Proof.DownSKernel.lean ====
/- The down projection on the samples: its one point's tile is all thirty-two rows, and the two result arrays. -/
module
public import proofs.«01_k».proof.Proof.Rows
public import proofs.«01_k».proof.Proof.ShortKernel
public import proofs.«01_k».proof.Proof.Gen.DownSIdeal.Value
@[expose] public section
set_option maxRecDepth 16384
noncomputable section
namespace Cert.DownSIdeal.DownS
open Cert.DownSIdeal Cert.DownSIdeal.Gen Cert.DownSIdeal.Value Cert.KernelIdeal.Up Idealize.ShloMosaic Idealize.ShloMosaic.TcCoe Idealize.SL.Sem
open Cert.Rows (rms width)
open Cert.ShortIdeal.Short (bat tok flat_apply)

section
variable (a : Vec Ideal S32x5632 .bf16) (w : Vec Ideal S1x5632x2048 .bf16) (x : Vec Ideal S32x2048 .f32) (g h : Vec Ideal S1x2048 .f32)

/-- A row of the tile's product. -/
def prodT (r : Fin 32) (j : Fin 2048) : EReal := ∑ k : Fin 5632, a (ix2 r k) * w (ix3 0 k j)

/-- A row of the tile's residual sum. -/
def resT (r : Fin 32) (j : Fin 2048) : EReal := x (ix2 r j) + rms width (prodT a w r) (g (ix2 0 j)) j

theorem pay1_eq : k0_pay1 a w x g = fun y => resT a w x g (y 0) (y 1) := funext fun y => by
  obtain ⟨r, j, rfl⟩ : ∃ (r : Fin 32) (j : Fin 2048), y = ix2 r j := ⟨y 0, y 1, eq_ix2 y⟩
  unfold_payloads
  pointwise
  rfl

theorem pay2_apply (r : Fin 32) (j : Fin 2048) : k0_pay2 a w x g h (ix2 r j) = rms width (resT a w x g r) (h (ix2 0 j)) j := by
  unfold k0_pay2
  rw [pay1_eq]
  pointwise
  rfl

theorem z2 : (![0, 0] : Fin 2 → Nat) = fun _ => 0 := by decide
theorem z3 : (![0, 0, 0] : Fin 3 → Nat) = fun _ => 0 := by decide

theorem out5_apply (r : Fin 32) (j : Fin 2048) : out0_5 a w x g h (ix2 r j) = resT a w x g r j := by
  refine (congrFun (View.canon_unit_zero z2 _ _) _).trans ?_
  rw [View.ld_unit_zero z2, View.ld_unit_zero z3, View.ld_unit_zero z2, View.ld_unit_zero z2, pay1_eq]
  rfl
theorem out6_apply (r : Fin 32) (j : Fin 2048) : out0_6 a w x g h (ix2 r j) = rms width (resT a w x g r) (h (ix2 0 j)) j := by
  refine (congrFun (View.canon_unit_zero z2 _ _) _).trans ?_
  rw [View.ld_unit_zero z2, View.ld_unit_zero z3, View.ld_unit_zero z2, View.ld_unit_zero z2, View.ld_unit_zero z2]
  exact pay2_apply a w x g h r j
end

/-! ## The mathematics, over the argument arrays -/

section
variable (A : Vec Ideal S8x4x5632 .f32) (W : Vec Ideal S4x5632x2048 .f32) (X : Vec Ideal S8x4x2048 .f32) (GP GN : Vec Ideal S2048 .f32)

/-- The projection of the activations by the layer's slice of the weight. -/
def proj (b : Fin 8) (s : Fin 4) (j : Fin 2048) : EReal := ∑ k : Fin 5632, A (ix3 b s k) * W (ix3 1 k j)

/-- The residual stream after it. -/
def res (b : Fin 8) (s : Fin 4) (j : Fin 2048) : EReal := X (ix3 b s j) + rms width (proj A W b s) (GP (ix1 j)) j

/-- The first result: the residual stream, -/
def G5 : Vec Ideal S32x2048 .f32 := fun y => res A W X GP (bat (y 0)) (tok (y 0)) (y 1)

/-- and the second: its norm. -/
def G6 : Vec Ideal S32x2048 .bf16 := fun y => rms width (res A W X GP (bat (y 0)) (tok (y 0))) (GN (ix1 (y 1))) (y 1)
end

/-! ## The windows: each is its whole array, but the weight's, which is the layer's slice -/

theorem only (t : Fin cfg0.N) : t = ⟨0, by decide⟩ := Fin.ext (by have := lt_of_lt_of_eq t.isLt (show cfg0.N = 1 from N_0); show t.val = 0; omega)

theorem emb0 (t : Fin cfg0.N) (r : Fin 32) (k : Fin 5632) : ((cfg0.win 0).blk t).view.emb (ix2 r k) = ix2 r k := by
  rw [only t]
  exact ix2_of _ _ _ (show 0 * 32 + 1 * r.val = r.val by omega) (show 0 * 5632 + 1 * k.val = k.val by omega)
theorem emb1 (t : Fin cfg0.N) (k : Fin 5632) (j : Fin 2048) : ((cfg0.win 1).blk t).view.emb (ix3 0 k j) = ix3 1 k j := by
  rw [only t]
  exact ix3_of _ _ _ _ (show 1 * 1 + 1 * 0 = 1 by omega) (show 0 * 5632 + 1 * k.val = k.val by omega) (show 0 * 2048 + 1 * j.val = j.val by omega)
theorem emb2 (t : Fin cfg0.N) (r : Fin 32) (j : Fin 2048) : ((cfg0.win 2).blk t).view.emb (ix2 r j) = ix2 r j := by
  rw [only t]
  exact ix2_of _ _ _ (show 0 * 32 + 1 * r.val = r.val by omega) (show 0 * 2048 + 1 * j.val = j.val by omega)
theorem emb3 (t : Fin cfg0.N) (j : Fin 2048) : ((cfg0.win 3).blk t).view.emb (ix2 0 j) = ix2 0 j := by
  rw [only t]
  exact ix2_of _ _ _ (show 0 * 1 + 1 * 0 = 0 by omega) (show 0 * 2048 + 1 * j.val = j.val by omega)
theorem emb4 (t : Fin cfg0.N) (j : Fin 2048) : ((cfg0.win 4).blk t).view.emb (ix2 0 j) = ix2 0 j := by
  rw [only t]
  exact ix2_of _ _ _ (show 0 * 1 + 1 * 0 = 0 by omega) (show 0 * 2048 + 1 * j.val = j.val by omega)
theorem emb5 (t : Fin cfg0.N) (r : Fin 32) (j : Fin 2048) : ((cfg0.win 5).blk t).view.emb (ix2 r j) = ix2 r j := by
  rw [only t]
  exact ix2_of _ _ _ (show 0 * 32 + 1 * r.val = r.val by omega) (show 0 * 2048 + 1 * j.val = j.val by omega)
theorem emb6 (t : Fin cfg0.N) (r : Fin 32) (j : Fin 2048) : ((cfg0.win 6).blk t).view.emb (ix2 r j) = ix2 r j := by
  rw [only t]
  exact ix2_of _ _ _ (show 0 * 32 + 1 * r.val = r.val by omega) (show 0 * 2048 + 1 * j.val = j.val by omega)

section Arrays
variable (m : (ℓ : Loc nD τ sig) → Buf (Elt Ideal) ℓ) (c : Dev nD)

/-- The argument arrays. -/
abbrev aA : Vec Ideal S8x4x5632 .f32 := m ((c : Thread nD τ).loc main_arg0)
abbrev aW : Vec Ideal S4x5632x2048 .f32 := m ((c : Thread nD τ).loc main_arg1)
abbrev aX : Vec Ideal S8x4x2048 .f32 := m ((c : Thread nD τ).loc main_arg2)
abbrev aGP : Vec Ideal S2048 .f32 := m ((c : Thread nD τ).loc main_arg3)
abbrev aGN : Vec Ideal S2048 .f32 := m ((c : Thread nD τ).loc main_arg4)

theorem V_main_v1 : V m c main_v1 = (fun y => shapeCast S32x5632 (aA m c) shapeCasts_S8x4x5632_S32x5632 y : Vec Ideal S32x5632 .bf16) := by
  show StableHlo.after hostOps0 _ (Proc.devRef .tc main_v1) = _
  after_results
  rfl
theorem V_main_v2 : V m c main_v2 = (fun y => aW m c y : Vec Ideal S4x5632x2048 .bf16) := by
  show StableHlo.after hostOps0 _ (Proc.devRef .tc main_v2) = _
  after_results
  rfl
theorem V_main_v3 : V m c main_v3 = (shapeCast S32x2048 (aX m c) shapeCasts_S8x4x2048_S32x2048 : Vec Ideal S32x2048 .f32) := by
  show StableHlo.after hostOps0 _ (Proc.devRef .tc main_v3) = _
  after_results
  rfl
theorem V_main_v4 : V m c main_v4 = (shapeCast S1x2048 (aGP m c) shapeCasts_S2048_S1x2048 : Vec Ideal S1x2048 .f32) := by
  show StableHlo.after hostOps0 _ (Proc.devRef .tc main_v4) = _
  after_results
  rfl
theorem V_main_v5 : V m c main_v5 = (shapeCast S1x2048 (aGN m c) shapeCasts_S2048_S1x2048 : Vec Ideal S1x2048 .f32) := by
  show StableHlo.after hostOps0 _ (Proc.devRef .tc main_v5) = _
  after_results
  rfl

theorem blk0 (t : Fin cfg0.N) (r : Fin 32) (k : Fin 5632) : iblk m c 0 t (ix2 r k) = aA m c (ix3 (bat r) (tok r) k) := by
  show V m c main_v1 (((cfg0.win 0).blk t).view.emb (ix2 r k)) = _
  rw [emb0, V_main_v1]
  exact flat_apply _ _ _ _
theorem blk1 (t : Fin cfg0.N) (k : Fin 5632) (j : Fin 2048) : iblk m c 1 t (ix3 0 k j) = aW m c (ix3 1 k j) := by
  show V m c main_v2 (((cfg0.win 1).blk t).view.emb (ix3 0 k j)) = _
  rw [emb1, V_main_v2]
theorem blk2 (t : Fin cfg0.N) (r : Fin 32) (j : Fin 2048) : iblk m c 2 t (ix2 r j) = aX m c (ix3 (bat r) (tok r) j) := by
  show V m c main_v3 (((cfg0.win 2).blk t).view.emb (ix2 r j)) = _
  rw [emb2, V_main_v3]
  exact flat_apply _ _ _ _
theorem blk3 (t : Fin cfg0.N) (j : Fin 2048) : iblk m c 3 t (ix2 0 j) = aGP m c (ix1 j) := by
  show V m c main_v4 (((cfg0.win 3).blk t).view.emb (ix2 0 j)) = _
  rw [emb3, V_main_v4]
  pointwise
theorem blk4 (t : Fin cfg0.N) (j : Fin 2048) : iblk m c 4 t (ix2 0 j) = aGN m c (ix1 j) := by
  show V m c main_v5 (((cfg0.win 4).blk t).view.emb (ix2 0 j)) = _
  rw [emb4, V_main_v5]
  pointwise

theorem res_eq (t : Fin cfg0.N) (r : Fin 32) : resT (iblk m c 0 t) (iblk m c 1 t) (iblk m c 2 t) (iblk m c 3 t) r
    = res (aA m c) (aW m c) (aX m c) (aGP m c) (bat r) (tok r) := funext fun j => by
  have e : prodT (iblk m c 0 t) (iblk m c 1 t) r = proj (aA m c) (aW m c) (bat r) (tok r) :=
    funext fun j => Finset.sum_congr rfl fun k _ => by rw [blk0, blk1]
  unfold resT res
  rw [e, blk2, blk3]

/-! ## The result arrays -/

theorem flushed5_eq (t : Fin cfg0.N) : (dats m 0 c).flushed 5 t
    = ((cfg0.win 5).blk t).view.read (Elt Ideal) (G5 (aA m c) (aW m c) (aX m c) (aGP m c)) := by
  rw [flushed5]
  funext y
  obtain ⟨r, j, rfl⟩ : ∃ (r : Fin 32) (j : Fin 2048), y = ix2 r j := ⟨y 0, y 1, eq_ix2 y⟩
  show out0_5 (iblk m c 0 t) (iblk m c 1 t) (iblk m c 2 t) (iblk m c 3 t) (iblk m c 4 t) (ix2 r j) = G5 _ _ _ _ (((cfg0.win 5).blk t).view.emb (ix2 r j))
  rw [emb5, out5_apply, res_eq]
  rfl
theorem flushed6_eq (t : Fin cfg0.N) : (dats m 0 c).flushed 6 t
    = ((cfg0.win 6).blk t).view.read (Elt Ideal) (G6 (aA m c) (aW m c) (aX m c) (aGP m c) (aGN m c)) := by
  rw [flushed6]
  funext y
  obtain ⟨r, j, rfl⟩ : ∃ (r : Fin 32) (j : Fin 2048), y = ix2 r j := ⟨y 0, y 1, eq_ix2 y⟩
  show out0_6 (iblk m c 0 t) (iblk m c 1 t) (iblk m c 2 t) (iblk m c 3 t) (iblk m c 4 t) (ix2 r j) = G6 _ _ _ _ _ (((cfg0.win 6).blk t).view.emb (ix2 r j))
  rw [emb6, out6_apply, res_eq, blk4]
  rfl

theorem covered5 (i : S32x2048.Idx) : ∃ t : Fin cfg0.N, (cfg0.win 5).flush t = true ∧ i ∈ ((cfg0.win 5).blk t).view.set := by
  refine ⟨⟨0, by decide⟩, flush0_5 _, ?_⟩
  have h := ((cfg0.win 5).blk (⟨0, by decide⟩ : Fin cfg0.N)).view.emb_mem_set (ix2 (i 0 : Fin 32) (i 1 : Fin 2048))
  erw [emb5] at h
  rw [eq_ix2 i]
  exact h
theorem covered6 (i : S32x2048.Idx) : ∃ t : Fin cfg0.N, (cfg0.win 6).flush t = true ∧ i ∈ ((cfg0.win 6).blk t).view.set := by
  refine ⟨⟨0, by decide⟩, flush0_6 _, ?_⟩
  have h := ((cfg0.win 6).blk (⟨0, by decide⟩ : Fin cfg0.N)).view.emb_mem_set (ix2 (i 0 : Fin 32) (i 1 : Fin 2048))
  erw [emb6] at h
  rw [eq_ix2 i]
  exact h

/-- The first result array after the run. -/
theorem final5 : (dats m 0 c).arrAt 5 cfg0.N = G5 (aA m c) (aW m c) (aX m c) (aGP m c) :=
  (dats m 0 c).arrAt_eq_of_cover 5 _ (fun t _ => flushed5_eq m c t) covered5
/-- The second. -/
theorem final6 : (dats m 0 c).arrAt 6 cfg0.N = G6 (aA m c) (aW m c) (aX m c) (aGP m c) (aGN m c) :=
  (dats m 0 c).arrAt_eq_of_cover 6 _ (fun t _ => flushed6_eq m c t) covered6

end Arrays
end Cert.DownSIdeal.DownS
end
-- ==== Proof.DownSRef.lean ====
/- The reference of the down projection on the samples, read at each place of its two results. -/
module
public import proofs.«01_k».proof.Proof.DownSKernel
public import proofs.«01_k».proof.Proof.Gen.DownSRefIdeal.Run
public import proofs.«01_k».proof.Proof.Gen.DownSRefIdeal.Read
@[expose] public section
set_option maxRecDepth 16384
noncomputable section
namespace Cert.DownSRefIdeal.DownS
open Cert.DownSRefIdeal Cert.DownSRefIdeal.Gen Cert.DownSRefIdeal.Read Cert.DownSIdeal.DownS Cert.KernelIdeal.Up Idealize.ShloMosaic Idealize.ShloMosaic.TcCoe Idealize.SL.Sem
open Cert.Rows (rms width)
open Cert.ShortIdeal.Short (bat tok flat_apply)

variable (A : Vec Ideal S8x4x5632 .f32) (W : Vec Ideal S4x5632x2048 .f32) (X : Vec Ideal S8x4x2048 .f32) (GP GN : Vec Ideal S2048 .f32)
  (b : Fin 8) (s : Fin 4) (j : Fin 2048)

theorem prod_apply : val_main_v2 (F := Ideal) A W (ix3 b s j) = proj A W b s j := by
  rw [val_main_v2_apply]
  refine Finset.sum_congr rfl fun k _ => ?_
  rw [val_main_v1_apply, val_main_v0_apply]
  exact congrArg₂ (· * ·) (congrArg A (ix3_of _ b s k rfl rfl rfl)) (congrArg W (ix3_of _ 1 k j (by dsimp <;> omega) (by dsimp <;> omega) (by dsimp <;> omega)))

theorem sq_apply : val_main_v4 (F := Ideal) A W (ix2 b s) = ∑ k, proj A W b s k * proj A W b s k := by
  rw [val_main_v4_apply, val_main_cst_apply, show (FloatOps.ofBits FTy.f32 0x00000000#32 : Ideal .f32) = (0 : EReal) from Ideal.ofBits_zero_f32, zero_add]
  refine Finset.sum_congr rfl fun k _ => ?_
  have e : ∀ z, z = ix3 b s k → val_main_v2 (F := Ideal) A W z = proj A W b s k := fun z hz => hz ▸ prod_apply A W b s k
  rw [val_main_v3_apply]
  exact congrArg₂ (· * ·) (e _ (ix3_of _ b s k rfl rfl rfl)) (e _ (ix3_of _ b s k rfl rfl rfl))

theorem res_apply : val_main_v16 (F := Ideal) A W X GP (ix3 b s j) = res A W X GP b s j := by
  simp only [val_main_v16_apply, val_main_v15_apply, val_main_v12_apply, val_main_v11_apply, val_main_v10_apply, val_main_v9_apply, val_main_v8_apply, val_main_v7_apply, val_main_v6_apply, val_main_v5_apply, val_main_v14_apply, val_main_v13_apply, val_main_cst_0_apply, val_main_cst_1_apply]
  rw [ix2_of (idx_main_v5 (idx_main_v11 (ix3 b s j))) b s rfl rfl, sq_apply, prod_apply,
    show idx_main_v13 (idx_main_v14 (ix3 b s j)) = ix1 j from funext fun a => match a with | ⟨0, _⟩ => rfl]
  rfl

theorem sq2_apply : val_main_v18 (F := Ideal) A W X GP (ix2 b s) = ∑ k, res A W X GP b s k * res A W X GP b s k := by
  rw [val_main_v18_apply, val_main_cst_2_apply, show (FloatOps.ofBits FTy.f32 0x00000000#32 : Ideal .f32) = (0 : EReal) from Ideal.ofBits_zero_f32, zero_add]
  refine Finset.sum_congr rfl fun k _ => ?_
  have e : ∀ z, z = ix3 b s k → val_main_v16 (F := Ideal) A W X GP z = res A W X GP b s k := fun z hz => hz ▸ res_apply A W X GP b s k
  rw [val_main_v17_apply]
  exact congrArg₂ (· * ·) (e _ (ix3_of _ b s k rfl rfl rfl)) (e _ (ix3_of _ b s k rfl rfl rfl))

theorem norm_apply : val_main_v29 (F := Ideal) A W X GP GN (ix3 b s j) = rms width (res A W X GP b s) (GN (ix1 j)) j := by
  simp only [val_main_v29_apply, val_main_v26_apply, val_main_v25_apply, val_main_v24_apply, val_main_v23_apply, val_main_v22_apply, val_main_v21_apply, val_main_v20_apply, val_main_v19_apply, val_main_v28_apply, val_main_v27_apply, val_main_cst_3_apply, val_main_cst_4_apply]
  rw [ix2_of (idx_main_v19 (idx_main_v25 (ix3 b s j))) b s rfl rfl, sq2_apply, res_apply,
    show idx_main_v27 (idx_main_v28 (ix3 b s j)) = ix1 j from funext fun a => match a with | ⟨0, _⟩ => rfl]
  rfl

omit b s j

/-- The first result of the reference. -/
theorem out0_eq : val_main_v30 (F := Ideal) A W X GP = G5 A W X GP := funext fun y => by
  have h0 : (y 0).val < 32 := (y 0).isLt
  have h1 : (y 1).val < 2048 := (y 1).isLt
  rw [val_main_v30_apply]
  exact (congrArg (val_main_v16 (F := Ideal) A W X GP) (ix3_of (idx_main_v30 y) (bat (y 0)) (tok (y 0)) (y 1)
    (by dsimp [bat] <;> omega) (by dsimp [tok] <;> omega) (by dsimp <;> omega))).trans (res_apply A W X GP _ _ _)

/-- The second. -/
theorem out1_eq : val_main_v32 (F := Ideal) A W X GP GN = G6 A W X GP GN := funext fun y => by
  have h0 : (y 0).val < 32 := (y 0).isLt
  have h1 : (y 1).val < 2048 := (y 1).isLt
  rw [val_main_v32_apply, val_main_v31_apply]
  exact (congrArg (val_main_v29 (F := Ideal) A W X GP GN) (ix3_of (idx_main_v32 y) (bat (y 0)) (tok (y 0)) (y 1)
    (by dsimp [bat] <;> omega) (by dsimp [tok] <;> omega) (by dsimp <;> omega))).trans (norm_apply A W X GP GN _ _ _)

end Cert.DownSRefIdeal.DownS
end
-- ==== Proof.ProjSKernel.lean ====
/- The input projection on the samples: every point fills the weight scratch anew, and its one tile of rows is all thirty-two. -/
module
public import proofs.«01_k».proof.Proof.ProjKernel
public import proofs.«01_k».proof.Proof.ShortKernel
public import proofs.«01_k».proof.Proof.Gen.ProjSIdeal.Value
@[expose] public section
set_option maxRecDepth 16384
noncomputable section
namespace Cert.ProjSIdeal.ProjS
open Cert.ProjSIdeal Cert.ProjSIdeal.Gen Cert.ProjSIdeal.Value Cert.KernelIdeal.Up Idealize.ShloMosaic Idealize.ShloMosaic.TcCoe Idealize.SL.Sem
open Cert.ProjIdeal.Proj (wT wP wP_agree whole2 whole3 cOf)
open Cert.ShortIdeal.Short (bat tok flat_apply)

/-! ## A tile -/

/-- An entry of the tile's product. -/
def dotT (x : Vec Ideal S32x2048 .bf16) (w : Vec Ideal S2048x768 .bf16) (r : Fin 32) (q : Fin 768) : EReal :=
  ∑ k : Fin 2048, x (ix2 r k) * w (ix2 k q)

theorem pay4_apply (x : Vec Ideal S32x2048 .bf16) (w : Vec Ideal S2048x768 .bf16) (r : Fin 32) (q : Fin 768) :
    k0_pay4 x w (ix2 r q) = dotT x w r q := by
  unfold_payloads
  pointwise
  rfl

theorem ldX (v : View sig .tc .vmem S32x2048 .bf16) (f : v.ty.Contents (Elt Ideal)) :
    v.readAt (Elt Ideal) (Rect.unit (s := S32x2048) ![0, 0] S32x2048.size inb_S32x2048_S32x2048_0_0).toLoadRect f = v.read (Elt Ideal) f :=
  whole2 v f _
theorem ldS (v : View sig .tc .vmem S2048x768 .bf16) (f : v.ty.Contents (Elt Ideal)) :
    v.readAt (Elt Ideal) (Rect.unit (s := S2048x768) ![0, 0] S2048x768.size inb_S2048x768_S2048x768_0_0).toLoadRect f = v.read (Elt Ideal) f :=
  whole2 v f _
theorem ldW (v : View sig .tc .vmem S1x2048x256 .f32) (f : v.ty.Contents (Elt Ideal)) :
    v.readAt (Elt Ideal) (Rect.unit (s := S1x2048x256) ![0, 0, 0] S1x2048x256.size inb_S1x2048x256_S1x2048x256_0_0_0).toLoadRect f = v.read (Elt Ideal) f :=
  whole3 v f _

/-- The one store of the product agrees with the product everywhere. -/
theorem outP_agree (x : Vec Ideal S32x2048 .bf16) (w : Vec Ideal S2048x768 .bf16) :
    ∀ p ∈ [(⟨Rect.unit (s := S32x768) ![0, 0] S32x768.size inb_S32x768_S32x768_0_0, k0_pay4 x w⟩ : View.Piece (Elt Ideal) S32x768 .f32)],
      ∀ z : p.1.shape.Idx, p.2 z = (fun y : S32x768.Idx => dotT x w (y 0) (y 1)) (p.1.emb z) := by
  simp only [List.forall_mem_cons, List.not_mem_nil, false_implies, implies_true, and_true]
  intro (z : S32x768.Idx)
  obtain ⟨r, q, rfl⟩ : ∃ (r : Fin 32) (q : Fin 768), z = ix2 r q := ⟨z 0, z 1, eq_ix2 z⟩
  refine (pay4_apply _ _ r q).trans ?_
  exact congrArg₂ (dotT x w) (Fin.ext (by dsimp <;> omega)) (Fin.ext (by dsimp <;> omega))

section Point
variable (c : Dev nD) (i : grid0.Coords)
  (arg2 : Memref sig .tc .vmem S32x2048 .bf16) (harg2 : arg2.IsWhole)
  (arg3 : Memref sig .tc .vmem S1x2048x256 .f32) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S32x768 .f32) (harg6 : arg6.IsWhole)
  (arg7 : Memref sig .tc .vmem S2048x768 .bf16) (harg7 : arg7.IsWhole) (hc0 : cond0_0 i)
  (x0 : Vec Ideal S32x2048 .bf16) (x1 x2 x3 : Vec Ideal S1x2048x256 .f32)

theorem pieces7 : (kernelRun0_A (F := Ideal) c i arg2 harg2 arg3 harg3 arg4 harg4 arg5 harg5 arg6 harg6 arg7 harg7 hc0 x0 x1 x2 x3).2.1
    = wP (arg3.view.readAt (Elt Ideal) (Rect.unit (s := S1x2048x256) ![0, 0, 0] S1x2048x256.size inb_S1x2048x256_S1x2048x256_0_0_0).toLoadRect (harg3.unread x1))
      (arg4.view.readAt (Elt Ideal) (Rect.unit (s := S1x2048x256) ![0, 0, 0] S1x2048x256.size inb_S1x2048x256_S1x2048x256_0_0_0).toLoadRect (harg4.unread x2))
      (arg5.view.readAt (Elt Ideal) (Rect.unit (s := S1x2048x256) ![0, 0, 0] S1x2048x256.size inb_S1x2048x256_S1x2048x256_0_0_0).toLoadRect (harg5.unread x3)) := by
  sl_kernel_rfl

theorem pieces6 : (kernelRun0_A (F := Ideal) c i arg2 harg2 arg3 harg3 arg4 harg4 arg5 harg5 arg6 harg6 arg7 harg7 hc0 x0 x1 x2 x3).1
    = [⟨Rect.unit (s := S32x768) ![0, 0] S32x768.size inb_S32x768_S32x768_0_0, k0_pay4 (arg2.view.readAt (Elt Ideal) (Rect.unit (s := S32x2048) ![0, 0] S32x2048.size inb_S32x2048_S32x2048_0_0).toLoadRect (harg2.unread x0))
        (arg7.view.readAt (Elt Ideal) (Rect.unit (s := S2048x768) ![0, 0] S2048x768.size inb_S2048x768_S2048x768_0_0).toLoadRect (arg7.view.writes (Elt Ideal) arg7.view.junk (kernelRun0_A (F := Ideal) c i arg2 harg2 arg3 harg3 arg4 harg4 arg5 harg5 arg6 harg6 arg7 harg7 hc0 x0 x1 x2 x3).2.1))⟩] := by
  sl_kernel_rfl

theorem fill (v : View sig .tc .vmem S2048x768 .bf16) (f : v.ty.Contents (Elt Ideal)) :
    v.read (Elt Ideal) (v.writes (Elt Ideal) f (kernelRun0_A (F := Ideal) c i arg2 harg2 arg3 harg3 arg4 harg4 arg5 harg5 arg6 harg6 arg7 harg7 hc0 x0 x1 x2 x3).2.1) = wT x1 x2 x3 := by
  funext y
  refine read_writes_of_agree v _ (wT x1 x2 x3) _ ?_ y (Or.inr (View.cover_of_tiledL (kernelRun0_A (F := Ideal) c i arg2 harg2 arg3 harg3 arg4 harg4 arg5 harg5 arg6 harg6 arg7 harg7 hc0 x0 x1 x2 x3).2.1 S2048x256.size (by sl_kernel_rfl) y))
  rw [pieces7, ldW, ldW, ldW, harg3.read_unread, harg4.read_unread, harg5.read_unread]
  exact wP_agree x1 x2 x3

theorem out_eq : out0_A_4 (F := Ideal) c i arg2 harg2 arg3 harg3 arg4 harg4 arg5 harg5 arg6 harg6 arg7 harg7 hc0 x0 x1 x2 x3 = fun y => dotT x0 (wT x1 x2 x3) (y 0) (y 1) := by
  funext y
  refine read_writes_of_agree VO0_4 _ (fun y => dotT x0 (wT x1 x2 x3) (y 0) (y 1)) _ ?_ y (Or.inr (cover0_A_4 c i arg2 harg2 arg3 harg3 arg4 harg4 arg5 harg5 arg6 harg6 arg7 harg7 hc0 x0 x1 x2 x3 y))
  rw [pieces6, ldX, ldS, fill, harg2.read_unread]
  exact outP_agree _ _
end Point

/-! ## The mathematics, over the argument arrays -/

/-- The projection by the layer's slice of the weight. -/
def proj (H : Vec Ideal S8x4x2048 .f32) (W : Vec Ideal S4x2048x5888 .f32) (b : Fin 8) (s : Fin 4) (q : Fin 5888) : EReal :=
  ∑ k : Fin 2048, H (ix3 b s k) * W (ix3 1 k q)

/-- The result. -/
def G4 (H : Vec Ideal S8x4x2048 .f32) (W : Vec Ideal S4x2048x5888 .f32) : Vec Ideal S32x5376 .f32 :=
  fun y => proj H W (bat (y 0)) (tok (y 0)) (cOf (y 1))

/-! ## The blocks -/

theorem pt0 : ∀ t : Fin cfg0.N, win0_0.index t (0 : Fin 2) = 0 ∧ win0_0.index t (1 : Fin 2) = 0 :=
  (by decide +kernel : ∀ t : Fin grid0.N, _)
theorem pt1 : ∀ t : Fin cfg0.N, win0_1.index t (0 : Fin 3) = 1 ∧ win0_1.index t (1 : Fin 3) = 0 ∧ win0_1.index t (2 : Fin 3) = 2 + 3 * t.val :=
  (by decide +kernel : ∀ t : Fin grid0.N, _)
theorem pt2 : ∀ t : Fin cfg0.N, win0_2.index t (0 : Fin 3) = 1 ∧ win0_2.index t (1 : Fin 3) = 0 ∧ win0_2.index t (2 : Fin 3) = 2 + 3 * t.val + 1 :=
  (by decide +kernel : ∀ t : Fin grid0.N, _)
theorem pt3 : ∀ t : Fin cfg0.N, win0_3.index t (0 : Fin 3) = 1 ∧ win0_3.index t (1 : Fin 3) = 0 ∧ win0_3.index t (2 : Fin 3) = 2 + 3 * t.val + 2 :=
  (by decide +kernel : ∀ t : Fin grid0.N, _)
theorem pt4 : ∀ t : Fin cfg0.N, win0_4.index t (0 : Fin 2) = 0 ∧ win0_4.index t (1 : Fin 2) = t.val :=
  (by decide +kernel : ∀ t : Fin grid0.N, _)

theorem lt7 (t : Fin cfg0.N) : t.val < 7 := lt_of_lt_of_eq t.isLt (show cfg0.N = 7 from N_0)

/-- A column of a point's tile of the result, -/
def qOf (t : Fin cfg0.N) (q : Fin 768) : Fin 5376 := ⟨768 * t.val + q.val, by have := lt7 t; omega⟩
/-- and of its tile of the weight. -/
def wOf (t : Fin cfg0.N) (n : ℕ) (q : Fin 256) (h : n ≤ 512) : Fin 5888 := ⟨512 + 768 * t.val + n + q.val, by have := lt7 t; omega⟩

theorem emb0 (t : Fin cfg0.N) (r : Fin 32) (k : Fin 2048) : ((cfg0.win 0).blk t).view.emb (ix2 r k) = ix2 r k := by
  obtain ⟨e0, e1⟩ := pt0 t
  exact ix2_of _ _ _ (show win0_0.index t (0 : Fin 2) * 32 + 1 * r.val = r.val by omega) (show win0_0.index t (1 : Fin 2) * 2048 + 1 * k.val = k.val by omega)
theorem emb1 (t : Fin cfg0.N) (k : Fin 2048) (q : Fin 256) : ((cfg0.win 1).blk t).view.emb (ix3 0 k q) = ix3 1 k (wOf t 0 q (by omega)) := by
  obtain ⟨e0, e1, e2⟩ := pt1 t
  exact ix3_of _ _ _ _ (show win0_1.index t (0 : Fin 3) * 1 + 1 * 0 = 1 by omega) (show win0_1.index t (1 : Fin 3) * 2048 + 1 * k.val = k.val by omega)
    (show win0_1.index t (2 : Fin 3) * 256 + 1 * q.val = 512 + 768 * t.val + 0 + q.val by omega)
theorem emb2 (t : Fin cfg0.N) (k : Fin 2048) (q : Fin 256) : ((cfg0.win 2).blk t).view.emb (ix3 0 k q) = ix3 1 k (wOf t 256 q (by omega)) := by
  obtain ⟨e0, e1, e2⟩ := pt2 t
  exact ix3_of _ _ _ _ (show win0_2.index t (0 : Fin 3) * 1 + 1 * 0 = 1 by omega) (show win0_2.index t (1 : Fin 3) * 2048 + 1 * k.val = k.val by omega)
    (show win0_2.index t (2 : Fin 3) * 256 + 1 * q.val = 512 + 768 * t.val + 256 + q.val by omega)
theorem emb3 (t : Fin cfg0.N) (k : Fin 2048) (q : Fin 256) : ((cfg0.win 3).blk t).view.emb (ix3 0 k q) = ix3 1 k (wOf t 512 q (by omega)) := by
  obtain ⟨e0, e1, e2⟩ := pt3 t
  exact ix3_of _ _ _ _ (show win0_3.index t (0 : Fin 3) * 1 + 1 * 0 = 1 by omega) (show win0_3.index t (1 : Fin 3) * 2048 + 1 * k.val = k.val by omega)
    (show win0_3.index t (2 : Fin 3) * 256 + 1 * q.val = 512 + 768 * t.val + 512 + q.val by omega)
theorem emb4 (t : Fin cfg0.N) (r : Fin 32) (q : Fin 768) : ((cfg0.win 4).blk t).view.emb (ix2 r q) = ix2 r (qOf t q) := by
  obtain ⟨e0, e1⟩ := pt4 t
  exact ix2_of _ _ _ (show win0_4.index t (0 : Fin 2) * 32 + 1 * r.val = r.val by omega)
    (show win0_4.index t (1 : Fin 2) * 768 + 1 * q.val = 768 * t.val + q.val by omega)

section Arrays
variable (m : (ℓ : Loc nD τ sig) → Buf (Elt Ideal) ℓ) (c : Dev nD)

/-- The argument arrays. -/
abbrev aH : Vec Ideal S8x4x2048 .f32 := m ((c : Thread nD τ).loc main_arg0)
abbrev aW : Vec Ideal S4x2048x5888 .f32 := m ((c : Thread nD τ).loc main_arg1)

theorem V_main_v1 : V m c main_v1 = (fun y => shapeCast S32x2048 (aH m c) shapeCasts_S8x4x2048_S32x2048 y : Vec Ideal S32x2048 .bf16) := by
  show StableHlo.after hostOps0 _ (Proc.devRef .tc main_v1) = _
  after_results
  rfl

theorem blk0 (t : Fin cfg0.N) (r : Fin 32) (k : Fin 2048) : iblk m c 0 t (ix2 r k) = aH m c (ix3 (bat r) (tok r) k) := by
  show V m c main_v1 (((cfg0.win 0).blk t).view.emb (ix2 r k)) = _
  rw [emb0, V_main_v1]
  exact flat_apply _ _ _ _
theorem blk1 (t : Fin cfg0.N) (k : Fin 2048) (q : Fin 256) : iblk m c 1 t (ix3 0 k q) = aW m c (ix3 1 k (wOf t 0 q (by omega))) := by
  show V m c main_arg1 (((cfg0.win 1).blk t).view.emb (ix3 0 k q)) = _
  rw [emb1, V_main_arg1]
theorem blk2 (t : Fin cfg0.N) (k : Fin 2048) (q : Fin 256) : iblk m c 2 t (ix3 0 k q) = aW m c (ix3 1 k (wOf t 256 q (by omega))) := by
  show V m c main_arg1 (((cfg0.win 2).blk t).view.emb (ix3 0 k q)) = _
  rw [emb2, V_main_arg1]
theorem blk3 (t : Fin cfg0.N) (k : Fin 2048) (q : Fin 256) : iblk m c 3 t (ix3 0 k q) = aW m c (ix3 1 k (wOf t 512 q (by omega))) := by
  show V m c main_arg1 (((cfg0.win 3).blk t).view.emb (ix3 0 k q)) = _
  rw [emb3, V_main_arg1]

/-- The scratch holds the point's columns of the layer's slice of the weight. -/
theorem wT_blk (t : Fin cfg0.N) (k : Fin 2048) (q : Fin 768) :
    wT (iblk m c 1 t) (iblk m c 2 t) (iblk m c 3 t) (ix2 k q) = aW m c (ix3 1 k (cOf (qOf t q))) := by
  have hq : q.val < 768 := q.isLt
  unfold wT
  by_cases h : q.val < 256
  · refine (dif_pos h).trans ((blk1 m c t _ _).trans ?_)
    exact congrArg (fun z => aW m c (ix3 1 k z)) (Fin.ext (show 512 + 768 * t.val + 0 + q.val = 512 + (768 * t.val + q.val) by omega))
  · by_cases h' : q.val < 512
    · refine (dif_neg h).trans ((dif_pos h').trans ((blk2 m c t _ _).trans ?_))
      exact congrArg (fun z => aW m c (ix3 1 k z)) (Fin.ext (show 512 + 768 * t.val + 256 + (q.val - 256) = 512 + (768 * t.val + q.val) by omega))
    · refine (dif_neg h).trans ((dif_neg h').trans ((blk3 m c t _ _).trans ?_))
      exact congrArg (fun z => aW m c (ix3 1 k z)) (Fin.ext (show 512 + 768 * t.val + 512 + (q.val - 512) = 512 + (768 * t.val + q.val) by omega))

theorem flushed_eq (t : Fin cfg0.N) : (dats m 0 c).flushed 4 t
    = ((cfg0.win 4).blk t).view.read (Elt Ideal) (G4 (aH m c) (aW m c)) := by
  rw [flushed4_A, out_eq]
  funext y
  obtain ⟨r, q, rfl⟩ : ∃ (r : Fin 32) (q : Fin 768), y = ix2 r q := ⟨y 0, y 1, eq_ix2 y⟩
  show dotT (iblk m c 0 t) (wT (iblk m c 1 t) (iblk m c 2 t) (iblk m c 3 t)) r q = G4 _ _ (((cfg0.win 4).blk t).view.emb (ix2 r q))
  rw [emb4]
  show _ = proj (aH m c) (aW m c) (bat r) (tok r) (cOf (qOf t q))
  refine Finset.sum_congr rfl fun k _ => ?_
  rw [blk0, wT_blk]

theorem covered (i : S32x5376.Idx) : ∃ t : Fin cfg0.N, (cfg0.win 4).flush t = true ∧ i ∈ ((cfg0.win 4).blk t).view.set := by
  have h1 : (i 1).val < 5376 := (i 1).isLt
  have hN : cfg0.N = 7 := N_0
  refine ⟨⟨(i 1).val / 768, by omega⟩, flush0_4 _, ?_⟩
  have h := ((cfg0.win 4).blk (⟨(i 1).val / 768, by omega⟩ : Fin cfg0.N)).view.emb_mem_set (ix2 (⟨(i 0).val, (i 0).isLt⟩ : Fin 32) ⟨(i 1).val % 768, by omega⟩)
  erw [emb4] at h
  rw [← ix2_of i] at h
  · exact h
  · rfl
  · dsimp [qOf]; omega

/-- The result array after the run. -/
theorem final : (dats m 0 c).arrAt 4 cfg0.N = G4 (aH m c) (aW m c) :=
  (dats m 0 c).arrAt_eq_of_cover 4 _ (fun t _ => flushed_eq m c t) covered

end Arrays
end Cert.ProjSIdeal.ProjS
end
-- ==== Proof.ProjSRef.lean ====
/- The reference of the input projection on the samples, read at each place of its result. -/
module
public import proofs.«01_k».proof.Proof.ProjSKernel
public import proofs.«01_k».proof.Proof.Gen.ProjSRefIdeal.Run
public import proofs.«01_k».proof.Proof.Gen.ProjSRefIdeal.Read
@[expose] public section
set_option maxRecDepth 16384
noncomputable section
namespace Cert.ProjSRefIdeal.ProjS
open Cert.ProjSRefIdeal Cert.ProjSRefIdeal.Gen Cert.ProjSRefIdeal.Read Cert.ProjSIdeal.ProjS Cert.KernelIdeal.Up Idealize.ShloMosaic Idealize.ShloMosaic.TcCoe Idealize.SL.Sem
open Cert.ProjIdeal.Proj (cOf)
open Cert.ShortIdeal.Short (bat tok)

variable (H : Vec Ideal S8x4x2048 .f32) (W : Vec Ideal S4x2048x5888 .f32)

theorem prod_apply (b : Fin 8) (s : Fin 4) (q : Fin 5888) : val_main_v2 (F := Ideal) H W (ix3 b s q) = proj H W b s q := by
  rw [val_main_v2_apply]
  refine Finset.sum_congr rfl fun k _ => ?_
  rw [val_main_v1_apply, val_main_v0_apply]
  exact congrArg₂ (· * ·) (congrArg H (ix3_of _ b s k rfl rfl rfl)) (congrArg W (ix3_of _ 1 k q (by dsimp <;> omega) (by dsimp <;> omega) (by dsimp <;> omega)))

/-- The result of the reference. -/
theorem out_eq : val_main_v4 (F := Ideal) H W = G4 H W := funext fun y => by
  have h0 : (y 0).val < 32 := (y 0).isLt
  have h1 : (y 1).val < 5376 := (y 1).isLt
  rw [val_main_v4_apply, val_main_v3_apply]
  exact (congrArg (val_main_v2 (F := Ideal) H W) (ix3_of (idx_main_v3 (idx_main_v4 y)) (bat (y 0)) (tok (y 0)) (cOf (y 1))
    (by dsimp [bat] <;> omega) (by dsimp [tok] <;> omega) (by dsimp [cOf] <;> omega))).trans (prod_apply H W _ _ _)

end Cert.ProjSRefIdeal.ProjS
end
-- ==== Proof.RopeTile.lean ====
/- The rotation of the samples' query and key: what one point leaves in its blocks. -/
module
public import proofs.«01_k».proof.Proof.Gen.RopeIdeal.Value
public import proofs.«01_k».proof.Proof.HgrnKernel
@[expose] public section
set_option maxRecDepth 16384
noncomputable section
namespace Cert.RopeIdeal.Rope
open Cert.RopeIdeal Cert.RopeIdeal.Gen Cert.RopeIdeal.Value Cert.KernelIdeal.Up Cert.HgrnIdeal.Hg Idealize.ShloMosaic Idealize.ShloMosaic.TcCoe

/-- The lane `d` places back, around the end. -/
def bk (l : Fin 128) (d : Fin 128) : Fin 128 := ⟨(l.val + (128 - d.val)) % 128, Nat.mod_lt _ (by omega)⟩

/-- A head's row, rotated: itself by `c`, its lanes moved back by 120 by `a` and by 8 by `b`. -/
def rotT (c a b : FVec Ideal S8x128 .f32) (x : Vec Ideal S1x8x128 .f32) (r : Fin 8) (l : Fin 128) : EReal :=
  x (ix3 0 r l) * c (ix2 r l) + x (ix3 0 r (bk l 120)) * a (ix2 r l) + x (ix3 0 r (bk l 8)) * b (ix2 r l)
/-- The query's scale. -/
abbrev qs : EReal := FloatOps.ofBits (F := Ideal) .f32 0x3E000000#32

section
variable (c a b : FVec Ideal S8x128 .f32) (x : Vec Ideal S1x8x128 .f32) (r : Fin 8) (l : Fin 128)
theorem p1 : k0_pay1 c a b x (ix3 0 r l) = rotT c a b x r l * qs := by unfold_payloads; pointwise; rfl
theorem p3 : k0_pay3 c a b x (ix3 0 r l) = rotT c a b x r l := by unfold_payloads; pointwise; rfl
theorem p4 : k0_pay4 c a b x (ix3 0 r l) = rotT c a b x r l := by unfold_payloads; pointwise; rfl
theorem p13 : k0_pay13 c a b (k0_pay11 x) (ix3 0 r l) = rotT c a b x r l := by unfold_payloads; pointwise; rfl
theorem p14 : k0_pay14 c a b (k0_pay11 x) (ix3 0 r l) = rotT c a b x r l := by unfold_payloads; pointwise; rfl
end

/-- A head's columns of a block. -/
def hq (x : Vec Ideal S1x8x768 .f32) (h : Fin 6) : Vec Ideal S1x8x128 .f32 := fun y => x (ix3 0 (y 1) ⟨128 * h.val + (y 2).val, by have := h.isLt; have : (y 2).val < 128 := (y 2).isLt; omega⟩)
/-- The rotated block, head by head. -/
def O (c a b : FVec Ideal S8x128 .f32) (x : Vec Ideal S1x8x768 .f32) (y : S1x8x768.Idx) : EReal := rotT c a b (hq x (hOf (y 2))) (y 1) (cOf (y 2))

theorem O_emb (c a b : FVec Ideal S8x128 .f32) (x : Vec Ideal S1x8x768 .f32) (h : Fin 6) (o : ℕ) (p) (e : o = 128 * h.val) (r : Fin 8) (l : Fin 128) :
    rotT c a b (View.ld x (Rect.unit (s := S1x8x768) ![0, 0, o] S1x8x128.size p)) r l
      = O c a b x ((Rect.unit (s := S1x8x768) ![0, 0, o] S1x8x128.size p).emb (ix3 0 r l)) := by
  subst e
  have hl : View.ld x (Rect.unit (s := S1x8x768) ![0, 0, 128 * h.val] S1x8x128.size p) = hq x h := by
    funext y
    exact congrArg x (ix3_of _ _ _ _ (by have : (y 0).val < 1 := (y 0).isLt; dsimp <;> omega) (by dsimp <;> omega) (by dsimp <;> omega))
  have e1 : ((Rect.unit (s := S1x8x768) ![0, 0, 128 * h.val] S1x8x128.size p).emb (ix3 0 r l)) 1 = r := Fin.ext (by show 0 + 1 * r.val = r.val; omega)
  have e2 : hOf (((Rect.unit (s := S1x8x768) ![0, 0, 128 * h.val] S1x8x128.size p).emb (ix3 0 r l)) 2) = h := Fin.ext (by show (128 * h.val + 1 * l.val) / 128 = h.val; omega)
  have e3 : cOf (((Rect.unit (s := S1x8x768) ![0, 0, 128 * h.val] S1x8x128.size p).emb (ix3 0 r l)) 2) = l := Fin.ext (by show (128 * h.val + 1 * l.val) % 128 = l.val; omega)
  unfold O
  rw [hl, e1, e2, e3]

section
variable (i : grid0.Coords) (x0 x1 : Vec Ideal S1x8x768 .f32) (x2 x3 x4 : Vec Ideal S1x128 .f32)
/-- The three tables of a point. -/
abbrev tc : FVec Ideal S8x128 .f32 := k0_pay34 i x0 x1 x2 x3 x4
abbrev ta : FVec Ideal S8x128 .f32 := k0_pay35 i x0 x1 x2 x3 x4
abbrev tb : FVec Ideal S8x128 .f32 := k0_pay36 i x0 x1 x2 x3 x4

theorem row_of (z : S1x8x128.Idx) : ∃ (r : Fin 8) (l : Fin 128), z = ix3 0 r l :=
  ⟨z 1, z 2, (eq_ix3 z).trans (congrArg (fun a => ix3 a _ _) (Subsingleton.elim (α := Fin 1) _ _))⟩

theorem out5_apply (y : S1x8x768.Idx) : out0_5 i x0 x1 x2 x3 x4 y = O (tc i x0 x1 x2 x3 x4) (ta i x0 x1 x2 x3 x4) (tb i x0 x1 x2 x3 x4) x0 y * qs := by
  refine View.canon_apply_of_pieces (Val := Elt Ideal) (e := .bf16) (fun y : S1x8x768.Idx => O (tc i x0 x1 x2 x3 x4) (ta i x0 x1 x2 x3 x4) (tb i x0 x1 x2 x3 x4) x0 y * qs) _ ?_ y (cover0_5 _ _ _ _ _ _ y)
  simp only [List.forall_mem_cons, List.not_mem_nil, false_implies, implies_true, and_true]
  refine ⟨?_, ?_, ?_, ?_, ?_, ?_⟩ <;> intro (z : S1x8x128.Idx) <;> obtain ⟨r, l, rfl⟩ := row_of z
  · exact (p1 _ _ _ _ r l).trans (congrArg (· * qs) (O_emb _ _ _ x0 5 _ _ rfl r l))
  · exact (p1 _ _ _ _ r l).trans (congrArg (· * qs) (O_emb _ _ _ x0 4 _ _ rfl r l))
  · exact (p1 _ _ _ _ r l).trans (congrArg (· * qs) (O_emb _ _ _ x0 3 _ _ rfl r l))
  · exact (p1 _ _ _ _ r l).trans (congrArg (· * qs) (O_emb _ _ _ x0 2 _ _ rfl r l))
  · exact (p1 _ _ _ _ r l).trans (congrArg (· * qs) (O_emb _ _ _ x0 1 _ _ rfl r l))
  · exact (p1 _ _ _ _ r l).trans (congrArg (· * qs) (O_emb _ _ _ x0 0 _ _ rfl r l))

theorem out6_apply (y : S1x8x768.Idx) : out0_6 i x0 x1 x2 x3 x4 y = O (tc i x0 x1 x2 x3 x4) (ta i x0 x1 x2 x3 x4) (tb i x0 x1 x2 x3 x4) x1 y := by
  refine View.canon_apply_of_pieces (Val := Elt Ideal) (e := .f32) (fun y : S1x8x768.Idx => O (tc i x0 x1 x2 x3 x4) (ta i x0 x1 x2 x3 x4) (tb i x0 x1 x2 x3 x4) x1 y) _ ?_ y (cover0_6 _ _ _ _ _ _ y)
  simp only [List.forall_mem_cons, List.not_mem_nil, false_implies, implies_true, and_true]
  refine ⟨?_, ?_, ?_, ?_, ?_, ?_⟩ <;> intro (z : S1x8x128.Idx) <;> obtain ⟨r, l, rfl⟩ := row_of z
  · exact (p3 _ _ _ _ r l).trans (O_emb _ _ _ x1 5 _ _ rfl r l)
  · exact (p3 _ _ _ _ r l).trans (O_emb _ _ _ x1 4 _ _ rfl r l)
  · exact (p3 _ _ _ _ r l).trans (O_emb _ _ _ x1 3 _ _ rfl r l)
  · exact (p3 _ _ _ _ r l).trans (O_emb _ _ _ x1 2 _ _ rfl r l)
  · exact (p3 _ _ _ _ r l).trans (O_emb _ _ _ x1 1 _ _ rfl r l)
  · exact (p13 _ _ _ _ r l).trans (O_emb _ _ _ x1 0 _ _ rfl r l)

theorem out7_apply (y : S1x8x768.Idx) : out0_7 i x0 x1 x2 x3 x4 y = O (tc i x0 x1 x2 x3 x4) (ta i x0 x1 x2 x3 x4) (tb i x0 x1 x2 x3 x4) x1 y := by
  refine View.canon_apply_of_pieces (Val := Elt Ideal) (e := .bf16) (fun y : S1x8x768.Idx => O (tc i x0 x1 x2 x3 x4) (ta i x0 x1 x2 x3 x4) (tb i x0 x1 x2 x3 x4) x1 y) _ ?_ y (cover0_7 _ _ _ _ _ _ y)
  simp only [List.forall_mem_cons, List.not_mem_nil, false_implies, implies_true, and_true]
  refine ⟨?_, ?_, ?_, ?_, ?_, ?_⟩ <;> intro (z : S1x8x128.Idx) <;> obtain ⟨r, l, rfl⟩ := row_of z
  · exact (p4 _ _ _ _ r l).trans (O_emb _ _ _ x1 5 _ _ rfl r l)
  · exact (p4 _ _ _ _ r l).trans (O_emb _ _ _ x1 4 _ _ rfl r l)
  · exact (p4 _ _ _ _ r l).trans (O_emb _ _ _ x1 3 _ _ rfl r l)
  · exact (p4 _ _ _ _ r l).trans (O_emb _ _ _ x1 2 _ _ rfl r l)
  · exact (p4 _ _ _ _ r l).trans (O_emb _ _ _ x1 1 _ _ rfl r l)
  · exact (p14 _ _ _ _ r l).trans (O_emb _ _ _ x1 0 _ _ rfl r l)
end
end Cert.RopeIdeal.Rope
end
-- ==== Proof.RopeMath.lean ====
/- The rotation of the samples' query and key: the numbers of one row. -/
module
public import proofs.«01_k».proof.Proof.RopeTile
@[expose] public section
set_option maxRecDepth 16384
noncomputable section
namespace Cert.RopeIdeal.Rope
open Cert.RopeIdeal Cert.RopeIdeal.Gen Cert.RopeIdeal.Value Cert.KernelIdeal.Up Cert.HgrnIdeal.Hg Cert.Hg Idealize.ShloMosaic Idealize.ShloMosaic.TcCoe

/-- The place of a sample's row, a number. -/
def pos (r : ℕ) : EReal := FloatOps.sitofp (F := Ideal) .f32 (BitVec.ofNat 32 (16384 + r))
/-- The eight frequencies. -/
def frq : FVec Ideal S8 .f32 :=
  Host.powf (broadcastInDim S8 ![] bcast_S_S8 (constant S_ .f32 0x48F42400#32))
    (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
      (broadcastInDim S8 ![] bcast_S_S8 (constant S_ .f32 0x41800000#32)))
/-- The angle at a lane. -/
def ang (r : ℕ) (l : Fin 128) : EReal := pos r * frq (ix1 ⟨l.val % 8, Nat.mod_lt _ (by omega)⟩)
/-- A head's row rotated: each half's first eight lanes against the next eight, the others as they are. -/
def rotR (f : Fin 128 → EReal) (r : ℕ) (l : Fin 128) : EReal :=
  if l.val % 64 < 8 then f l * Ideal.cos (ang r l) - f (bk l 120) * Ideal.sin (ang r l)
  else if l.val % 64 < 16 then f l * Ideal.cos (ang r l) + f (bk l 8) * Ideal.sin (ang r l)
  else f l

theorem rotR_zero (r : ℕ) (l : Fin 128) : rotR (fun _ => 0) r l = 0 := by
  unfold rotR
  split_ifs <;> simp

/-- The tables' lanes. -/
def flL (l : Fin 128) : EReal := if l.val % 64 < 16 then frq (ix1 ⟨l.val % 8, Nat.mod_lt _ (by omega)⟩) else 0
def s1L (l : Fin 128) : EReal := if l.val % 64 < 8 then -1 else 0
def s2L (l : Fin 128) : EReal := if l.val % 64 < 16 ∧ ¬ l.val % 64 < 8 then 1 else 0

theorem cos_zero' : Ideal.cos (0 : EReal) = 1 := by
  rw [show (0 : EReal) = ((0 : ℝ) : EReal) from rfl, Ideal.cos_coe, Real.cos_zero]; rfl

theorem rot_eq (f : Fin 128 → EReal) (r : ℕ) (l : Fin 128) :
    f l * Ideal.cos (pos r * flL l) + f (bk l 120) * (Ideal.sin (pos r * flL l) * s1L l) + f (bk l 8) * (Ideal.sin (pos r * flL l) * s2L l) = rotR f r l := by
  unfold rotR flL s1L s2L ang
  by_cases h8 : l.val % 64 < 8
  · have h16 : l.val % 64 < 16 := by omega
    simp only [h8, h16, if_true, not_true, and_false, if_false, mul_zero, add_zero, mul_neg, mul_one, sub_eq_add_neg]
  · by_cases h16 : l.val % 64 < 16
    · simp only [h8, h16, if_true, not_false_eq_true, and_self, if_false, mul_zero, add_zero, mul_one]
    · simp only [h8, h16, false_and, if_false, mul_zero, add_zero, cos_zero', mul_one]

/-! ## The tables of a point -/

section
variable (i : grid0.Coords) (x0 x1 : Vec Ideal S1x8x768 .f32) (x2 x3 x4 : Vec Ideal S1x128 .f32) (r : Fin 8) (l : Fin 128)
theorem idx0 : ((![0, 0] : Fin 2 → ℕ) = fun _ => 0) := by funext a; match a with | ⟨0, _⟩ => rfl | ⟨1, _⟩ => rfl

theorem posw (r : Fin 8) : IntOp.addi (Scalar.addi 16384#32 (Scalar.muli 0#32 8#32)) (BitVec.ofNat 32 r.val) = BitVec.ofNat 32 (16384 + r.val) := by
  revert r; decide
theorem ang_apply (f : Vec Ideal S1x128 .f32) : k0_pay5 i f (ix2 r l) = pos r.val * f (ix2 0 l) := by
  unfold pos
  rw [← posw r]
  unfold_payloads; pointwise
theorem tc_apply : tc i x0 x1 x2 x3 x4 (ix2 r l) = Ideal.cos (pos r.val * View.ld x2 r0_0 (ix2 0 l)) := congrArg Ideal.cos (ang_apply i r l _)
theorem ta_apply : ta i x0 x1 x2 x3 x4 (ix2 r l) = Ideal.sin (pos r.val * View.ld x2 r0_0 (ix2 0 l)) * View.ld x3 r0_0 (ix2 0 l) := by
  rw [← ang_apply i r l]
  unfold ta k0_pay35; unfold_payloads; pointwise
theorem tb_apply : tb i x0 x1 x2 x3 x4 (ix2 r l) = Ideal.sin (pos r.val * View.ld x2 r0_0 (ix2 0 l)) * View.ld x4 r0_0 (ix2 0 l) := by
  rw [← ang_apply i r l]
  unfold tb k0_pay36; unfold_payloads; pointwise
end
end Cert.RopeIdeal.Rope
end
-- ==== Proof.RopeKernel.lean ====
/- The rotation of the samples' query and key: the three result arrays after the run. -/
module
public import proofs.«01_k».proof.Proof.RopeMath
public import Idealize.ShloMosaic.Lib.KernelVsHost
@[expose] public section
set_option maxRecDepth 16384
noncomputable section
namespace Cert.RopeIdeal.Rope
open Cert.RopeIdeal Cert.RopeIdeal.Gen Cert.RopeIdeal.Value Cert.KernelIdeal.Up Cert.Rows Cert.Hg Idealize.ShloMosaic Idealize.ShloMosaic.TcCoe Idealize.SL.Sem
open Cert.HgrnIdeal.Hg (hOf cOf padM)

/-! ## The mathematics, over the argument array -/

section
variable (M : Vec Ideal S8x4x5376 .f32)
/-- A head's columns of the projections: `o` is 4 for the query and 5 for the key. -/
def prt (o : Fin 7) (b : Fin 8) (h : Fin 6) (t : Fin 4) (k : Fin 128) : EReal := M (ix3 b t ⟨768 * o.val + (128 * h.val + k.val), by omega⟩)
/-- The rotated rows, -/
def rotP (o : Fin 7) (b : Fin 8) (h : Fin 6) (t : Fin 4) (k : Fin 128) : EReal := rotR (prt M o b h t) t.val k
/-- the query's, scaled, the rows beyond the fourth zero, -/
def G5 : Vec Ideal S8x8x768 .bf16 := fun y => pad4 (fun t k => rotP M 4 (y 0) (hOf (y 2)) t k * qs) (y 1) (cOf (y 2))
/-- and the key's, unrounded -/
def G6 : Vec Ideal S8x8x768 .f32 := fun y => pad4 (rotP M 5 (y 0) (hOf (y 2))) (y 1) (cOf (y 2))
/-- and rounded. -/
def G7 : Vec Ideal S8x8x768 .bf16 := fun y => pad4 (rotP M 5 (y 0) (hOf (y 2))) (y 1) (cOf (y 2))
end

theorem pad4_qs (X : Fin 4 → Fin 128 → EReal) (r : Fin 8) (k : Fin 128) : pad4 X r k * qs = pad4 (fun t k => X t k * qs) r k := by
  unfold pad4
  split_ifs
  · rfl
  · exact zero_mul _
theorem rot_pad (X : Fin 4 → Fin 128 → EReal) (r : Fin 8) (k : Fin 128) : rotR (pad4 X r) r.val k = pad4 (fun t => rotR (X t) t.val) r k := by
  unfold pad4
  split_ifs
  · rfl
  · exact rotR_zero _ _

/-! ## The blocks -/

/-- The batch of a point. -/
def bOf (t : Fin cfg0.N) : Fin 8 := ⟨t.val, lt_of_lt_of_eq t.isLt (show cfg0.N = 8 from N_0)⟩

theorem pt0 : ∀ t : Fin cfg0.N, win0_0.index t (0 : Fin 3) = t.val ∧ win0_0.index t (1 : Fin 3) = 0 ∧ win0_0.index t (2 : Fin 3) = 4 :=
  (by decide +kernel : ∀ t : Fin grid0.N, _)
theorem emb0 (t : Fin cfg0.N) (r : Fin 8) (c : Fin 768) : ((cfg0.win 0).blk t).view.emb (ix3 0 r c) = ix3 (bOf t) r ⟨768 * 4 + c.val, by omega⟩ := by
  obtain ⟨e0, e1, e2⟩ := pt0 t
  funext a; apply Fin.ext
  match a with
  | ⟨0, _⟩ => show win0_0.index t (0 : Fin 3) * 1 + 1 * 0 = t.val; omega
  | ⟨1, _⟩ => show win0_0.index t (1 : Fin 3) * 8 + 1 * r.val = r.val; omega
  | ⟨2, _⟩ => show win0_0.index t (2 : Fin 3) * 768 + 1 * c.val = 768 * 4 + c.val; omega
theorem pt1 : ∀ t : Fin cfg0.N, win0_1.index t (0 : Fin 3) = t.val ∧ win0_1.index t (1 : Fin 3) = 0 ∧ win0_1.index t (2 : Fin 3) = 5 :=
  (by decide +kernel : ∀ t : Fin grid0.N, _)
theorem emb1 (t : Fin cfg0.N) (r : Fin 8) (c : Fin 768) : ((cfg0.win 1).blk t).view.emb (ix3 0 r c) = ix3 (bOf t) r ⟨768 * 5 + c.val, by omega⟩ := by
  obtain ⟨e0, e1, e2⟩ := pt1 t
  funext a; apply Fin.ext
  match a with
  | ⟨0, _⟩ => show win0_1.index t (0 : Fin 3) * 1 + 1 * 0 = t.val; omega
  | ⟨1, _⟩ => show win0_1.index t (1 : Fin 3) * 8 + 1 * r.val = r.val; omega
  | ⟨2, _⟩ => show win0_1.index t (2 : Fin 3) * 768 + 1 * c.val = 768 * 5 + c.val; omega
theorem pt2 : ∀ t : Fin cfg0.N, win0_2.index t (0 : Fin 2) = 0 ∧ win0_2.index t (1 : Fin 2) = 0 :=
  (by decide +kernel : ∀ t : Fin grid0.N, _)
theorem emb2 (t : Fin cfg0.N) (c : Fin 128) : ((cfg0.win 2).blk t).view.emb (ix2 0 c) = ix2 0 c := by
  obtain ⟨e0, e1⟩ := pt2 t
  funext a; apply Fin.ext
  match a with
  | ⟨0, _⟩ => show win0_2.index t (0 : Fin 2) * 1 + 1 * 0 = 0; omega
  | ⟨1, _⟩ => show win0_2.index t (1 : Fin 2) * 128 + 1 * c.val = c.val; omega
theorem pt3 : ∀ t : Fin cfg0.N, win0_3.index t (0 : Fin 2) = 0 ∧ win0_3.index t (1 : Fin 2) = 0 :=
  (by decide +kernel : ∀ t : Fin grid0.N, _)
theorem emb3 (t : Fin cfg0.N) (c : Fin 128) : ((cfg0.win 3).blk t).view.emb (ix2 0 c) = ix2 0 c := by
  obtain ⟨e0, e1⟩ := pt3 t
  funext a; apply Fin.ext
  match a with
  | ⟨0, _⟩ => show win0_3.index t (0 : Fin 2) * 1 + 1 * 0 = 0; omega
  | ⟨1, _⟩ => show win0_3.index t (1 : Fin 2) * 128 + 1 * c.val = c.val; omega
theorem pt4 : ∀ t : Fin cfg0.N, win0_4.index t (0 : Fin 2) = 0 ∧ win0_4.index t (1 : Fin 2) = 0 :=
  (by decide +kernel : ∀ t : Fin grid0.N, _)
theorem emb4 (t : Fin cfg0.N) (c : Fin 128) : ((cfg0.win 4).blk t).view.emb (ix2 0 c) = ix2 0 c := by
  obtain ⟨e0, e1⟩ := pt4 t
  funext a; apply Fin.ext
  match a with
  | ⟨0, _⟩ => show win0_4.index t (0 : Fin 2) * 1 + 1 * 0 = 0; omega
  | ⟨1, _⟩ => show win0_4.index t (1 : Fin 2) * 128 + 1 * c.val = c.val; omega
theorem pt5 : ∀ t : Fin cfg0.N, win0_5.index t (0 : Fin 3) = t.val ∧ win0_5.index t (1 : Fin 3) = 0 ∧ win0_5.index t (2 : Fin 3) = 0 :=
  (by decide +kernel : ∀ t : Fin grid0.N, _)
theorem emb5 (t : Fin cfg0.N) (r : Fin 8) (c : Fin 768) : ((cfg0.win 5).blk t).view.emb (ix3 0 r c) = ix3 (bOf t) r c := by
  obtain ⟨e0, e1, e2⟩ := pt5 t
  funext a; apply Fin.ext
  match a with
  | ⟨0, _⟩ => show win0_5.index t (0 : Fin 3) * 1 + 1 * 0 = t.val; omega
  | ⟨1, _⟩ => show win0_5.index t (1 : Fin 3) * 8 + 1 * r.val = r.val; omega
  | ⟨2, _⟩ => show win0_5.index t (2 : Fin 3) * 768 + 1 * c.val = c.val; omega
theorem pt6 : ∀ t : Fin cfg0.N, win0_6.index t (0 : Fin 3) = t.val ∧ win0_6.index t (1 : Fin 3) = 0 ∧ win0_6.index t (2 : Fin 3) = 0 :=
  (by decide +kernel : ∀ t : Fin grid0.N, _)
theorem emb6 (t : Fin cfg0.N) (r : Fin 8) (c : Fin 768) : ((cfg0.win 6).blk t).view.emb (ix3 0 r c) = ix3 (bOf t) r c := by
  obtain ⟨e0, e1, e2⟩ := pt6 t
  funext a; apply Fin.ext
  match a with
  | ⟨0, _⟩ => show win0_6.index t (0 : Fin 3) * 1 + 1 * 0 = t.val; omega
  | ⟨1, _⟩ => show win0_6.index t (1 : Fin 3) * 8 + 1 * r.val = r.val; omega
  | ⟨2, _⟩ => show win0_6.index t (2 : Fin 3) * 768 + 1 * c.val = c.val; omega
theorem pt7 : ∀ t : Fin cfg0.N, win0_7.index t (0 : Fin 3) = t.val ∧ win0_7.index t (1 : Fin 3) = 0 ∧ win0_7.index t (2 : Fin 3) = 0 :=
  (by decide +kernel : ∀ t : Fin grid0.N, _)
theorem emb7 (t : Fin cfg0.N) (r : Fin 8) (c : Fin 768) : ((cfg0.win 7).blk t).view.emb (ix3 0 r c) = ix3 (bOf t) r c := by
  obtain ⟨e0, e1, e2⟩ := pt7 t
  funext a; apply Fin.ext
  match a with
  | ⟨0, _⟩ => show win0_7.index t (0 : Fin 3) * 1 + 1 * 0 = t.val; omega
  | ⟨1, _⟩ => show win0_7.index t (1 : Fin 3) * 8 + 1 * r.val = r.val; omega
  | ⟨2, _⟩ => show win0_7.index t (2 : Fin 3) * 768 + 1 * c.val = c.val; omega

/-! ## The lanes of the tables -/

theorem lane0 : ∀ l : Fin 128, lit0 (S128.rowMajor (ix1 l)) = if l.val % 64 < 16 then 1#1 else 0#1 := by decide +kernel
theorem lane1 : ∀ l : Fin 128, lit1 (S128.rowMajor (ix1 l)) = if l.val % 64 < 8 then 0xBF800000#32 else 0#32 := by decide +kernel
theorem lane2 : ∀ l : Fin 128, lit2 (S128.rowMajor (ix1 l)) = if l.val % 64 < 16 ∧ ¬ l.val % 64 < 8 then 0x3F800000#32 else 0#32 := by decide +kernel
theorem neg_one : Ideal.ofBits .f32 0xBF800000#32 = (-1 : EReal) := by
  rw [show (-1 : EReal) = ((-(1 : ℝ) : ℝ) : EReal) by rw [EReal.coe_neg]; rfl]
  simp [Ideal.ofBits, Ideal.ieee, -EReal.coe_mul, -EReal.coe_neg]; norm_num

section Arrays
variable (m : (ℓ : Loc nD τ sig) → Buf (Elt Ideal) ℓ) (c : Dev nD)
/-- The argument array. -/
abbrev aM : Vec Ideal S8x4x5376 .f32 := m ((c : Thread nD τ).loc main_arg0)

theorem V_main_v0 : V m c main_v0 = (pad S8x8x5376 ![0, 0, 0] ![0, 4, 0] ![0, 0, 0] (aM m c) (sitofp (F := Ideal) .f32 (constantI S_ 32 0#32)) pads_S8x4x5376_S8x8x5376_000_040_000 h_S_ : Vec Ideal S8x8x5376 .f32) := by
  show StableHlo.after (hostOps0 ++ (hostOps0_1 ++ (hostOps0_2 ++ (hostOps0_3 ++ (hostOps0_4 ++ []))))) _ (Proc.devRef .tc main_v0) = _
  simp only [List.cons_append, List.nil_append, List.append_nil]
  after_results
  rfl
theorem V_main_v15 : V m c main_v15 = (shapeCast S1x128 (select (fun i => lit0 (S128.rowMajor i)) (shapeCast S128 (broadcastInDim S16x8 ![0, 1] bcast_S1x8_S16x8_0_1 (shapeCast S1x8 frq shapeCasts_S8_S1x8)) shapeCasts_S16x8_S128) (broadcastInDim S128 ![] bcast_S_S128 (constant (F := Ideal) S_ .f32 0x00000000#32))) shapeCasts_S128_S1x128 : Vec Ideal S1x128 .f32) := by
  show StableHlo.after (hostOps0 ++ (hostOps0_1 ++ (hostOps0_2 ++ (hostOps0_3 ++ (hostOps0_4 ++ []))))) _ (Proc.devRef .tc main_v15) = _
  simp only [List.cons_append, List.nil_append, List.append_nil]
  after_results
  rfl
theorem V_main_v16 : V m c main_v16 = (shapeCast S1x128 (fun i : S128.Idx => FloatOps.ofBits (F := Ideal) .f32 (lit1 (S128.rowMajor i))) shapeCasts_S128_S1x128 : Vec Ideal S1x128 .f32) := by
  show StableHlo.after (hostOps0 ++ (hostOps0_1 ++ (hostOps0_2 ++ (hostOps0_3 ++ (hostOps0_4 ++ []))))) _ (Proc.devRef .tc main_v16) = _
  simp only [List.cons_append, List.nil_append, List.append_nil]
  after_results
  rfl
theorem V_main_v17 : V m c main_v17 = (shapeCast S1x128 (fun i : S128.Idx => FloatOps.ofBits (F := Ideal) .f32 (lit2 (S128.rowMajor i))) shapeCasts_S128_S1x128 : Vec Ideal S1x128 .f32) := by
  show StableHlo.after (hostOps0 ++ (hostOps0_1 ++ (hostOps0_2 ++ (hostOps0_3 ++ (hostOps0_4 ++ []))))) _ (Proc.devRef .tc main_v17) = _
  simp only [List.cons_append, List.nil_append, List.append_nil]
  after_results
  rfl

theorem blkq (t : Fin cfg0.N) (h : Fin 6) (r : Fin 8) (k : Fin 128) : hq (iblk m c 0 t) h (ix3 0 r k) = pad4 (prt (aM m c) 4 (bOf t) h) r k := by
  show V m c main_v0 (((cfg0.win 0).blk t).view.emb (ix3 0 r ⟨128 * h.val + k.val, _⟩)) = _
  rw [emb0, V_main_v0]
  exact padM _ _ _ _
theorem blkk (t : Fin cfg0.N) (h : Fin 6) (r : Fin 8) (k : Fin 128) : hq (iblk m c 1 t) h (ix3 0 r k) = pad4 (prt (aM m c) 5 (bOf t) h) r k := by
  show V m c main_v0 (((cfg0.win 1).blk t).view.emb (ix3 0 r ⟨128 * h.val + k.val, _⟩)) = _
  rw [emb1, V_main_v0]
  exact padM _ _ _ _
theorem blkf (t : Fin cfg0.N) (l : Fin 128) : (iblk m c 2 t : Vec Ideal S1x128 .f32) (ix2 0 l) = flL l := by
  show V m c main_v15 (((cfg0.win 2).blk t).view.emb (ix2 0 l)) = _
  rw [emb2, V_main_v15]
  unfold flL
  pointwise
  rw [lane0]
  split_ifs <;> rfl
theorem blk1 (t : Fin cfg0.N) (l : Fin 128) : (iblk m c 3 t : Vec Ideal S1x128 .f32) (ix2 0 l) = s1L l := by
  show V m c main_v16 (((cfg0.win 3).blk t).view.emb (ix2 0 l)) = _
  rw [emb3, V_main_v16]
  refine Eq.trans (b := Ideal.ofBits .f32 (lit1 (S128.rowMajor (ix1 l)))) (by pointwise) ?_
  rw [lane1]
  unfold s1L
  split_ifs
  · exact neg_one
  · exact Ideal.ofBits_zero_f32
theorem blk2 (t : Fin cfg0.N) (l : Fin 128) : (iblk m c 4 t : Vec Ideal S1x128 .f32) (ix2 0 l) = s2L l := by
  show V m c main_v17 (((cfg0.win 4).blk t).view.emb (ix2 0 l)) = _
  rw [emb4, V_main_v17]
  refine Eq.trans (b := Ideal.ofBits .f32 (lit2 (S128.rowMajor (ix1 l)))) (by pointwise) ?_
  rw [lane2]
  unfold s2L
  split_ifs
  · exact Ideal.ofBits_one_f32
  · exact Ideal.ofBits_zero_f32

theorem ld_row (x : Vec Ideal S1x128 .f32) (l : Fin 128) : View.ld x r0_0 (ix2 0 l) = x (ix2 0 l) :=
  congrArg x (ix2_of _ _ _ (by dsimp <;> omega) (by dsimp <;> omega))

/-- A point's rotated block is the rotated rows. -/
theorem O_eq (t : Fin cfg0.N) (x0 x1 : Vec Ideal S1x8x768 .f32) (i : grid0.Coords) (x : Vec Ideal S1x8x768 .f32) (o : Fin 7)
    (hx : ∀ (h : Fin 6) (r : Fin 8) (k : Fin 128), hq x h (ix3 0 r k) = pad4 (prt (aM m c) o (bOf t) h) r k) (r : Fin 8) (j : Fin 768) :
    O (tc i x0 x1 (iblk m c 2 t) (iblk m c 3 t) (iblk m c 4 t)) (ta i x0 x1 (iblk m c 2 t) (iblk m c 3 t) (iblk m c 4 t)) (tb i x0 x1 (iblk m c 2 t) (iblk m c 3 t) (iblk m c 4 t)) x (ix3 0 r j)
      = pad4 (rotP (aM m c) o (bOf t) (hOf j)) r (cOf j) := by
  show rotT _ _ _ (hq x (hOf j)) r (cOf j) = _
  unfold rotT
  rw [tc_apply, ta_apply, tb_apply, ld_row, ld_row, ld_row, blkf, blk1, blk2, hx, hx, hx, rot_eq (pad4 (prt (aM m c) o (bOf t) (hOf j)) r)]
  exact rot_pad _ _ _

/-! ## The result arrays -/

theorem flushed5_eq (t : Fin cfg0.N) : (dats m 0 c).flushed 5 t = ((cfg0.win 5).blk t).view.read (Elt Ideal) (G5 (aM m c)) := by
  rw [flushed5]
  funext y
  obtain ⟨r, j, rfl⟩ : ∃ (r : Fin 8) (j : Fin 768), y = ix3 0 r j := ⟨y 1, y 2, (eq_ix3 y).trans (congrArg (fun a => ix3 a _ _) (Subsingleton.elim (α := Fin 1) _ _))⟩
  show out0_5 _ _ _ _ _ _ (ix3 0 r j) = G5 _ (((cfg0.win 5).blk t).view.emb (ix3 0 r j))
  rw [emb5, out5_apply]
  exact congrArg (· * qs) (O_eq m c t _ _ _ _ _ (blkq m c t) r j) |>.trans (pad4_qs _ _ _)
theorem flushed6_eq (t : Fin cfg0.N) : (dats m 0 c).flushed 6 t = ((cfg0.win 6).blk t).view.read (Elt Ideal) (G6 (aM m c)) := by
  rw [flushed6]
  funext y
  obtain ⟨r, j, rfl⟩ : ∃ (r : Fin 8) (j : Fin 768), y = ix3 0 r j := ⟨y 1, y 2, (eq_ix3 y).trans (congrArg (fun a => ix3 a _ _) (Subsingleton.elim (α := Fin 1) _ _))⟩
  show out0_6 _ _ _ _ _ _ (ix3 0 r j) = G6 _ (((cfg0.win 6).blk t).view.emb (ix3 0 r j))
  rw [emb6, out6_apply]
  exact O_eq m c t _ _ _ _ _ (blkk m c t) r j
theorem flushed7_eq (t : Fin cfg0.N) : (dats m 0 c).flushed 7 t = ((cfg0.win 7).blk t).view.read (Elt Ideal) (G7 (aM m c)) := by
  rw [flushed7]
  funext y
  obtain ⟨r, j, rfl⟩ : ∃ (r : Fin 8) (j : Fin 768), y = ix3 0 r j := ⟨y 1, y 2, (eq_ix3 y).trans (congrArg (fun a => ix3 a _ _) (Subsingleton.elim (α := Fin 1) _ _))⟩
  show out0_7 _ _ _ _ _ _ (ix3 0 r j) = G7 _ (((cfg0.win 7).blk t).view.emb (ix3 0 r j))
  rw [emb7, out7_apply]
  exact O_eq m c t _ _ _ _ _ (blkk m c t) r j
theorem covered5 (i : S8x8x768.Idx) : ∃ t : Fin cfg0.N, (cfg0.win 5).flush t = true ∧ i ∈ ((cfg0.win 5).blk t).view.set := by
  have h0 : (i 0).val < 8 := (i 0).isLt
  have hN : cfg0.N = 8 := N_0
  refine ⟨⟨(i 0).val, by omega⟩, flush0_5 _, ?_⟩
  have h := ((cfg0.win 5).blk (⟨(i 0).val, by omega⟩ : Fin cfg0.N)).view.emb_mem_set (ix3 (0 : Fin 1) (⟨(i 1).val, (i 1).isLt⟩ : Fin 8) (⟨(i 2).val, (i 2).isLt⟩ : Fin 768))
  erw [emb5] at h
  rw [← ix3_of i] at h
  · exact h
  · rfl
  · rfl
  · rfl
theorem covered6 (i : S8x8x768.Idx) : ∃ t : Fin cfg0.N, (cfg0.win 6).flush t = true ∧ i ∈ ((cfg0.win 6).blk t).view.set := by
  have h0 : (i 0).val < 8 := (i 0).isLt
  have hN : cfg0.N = 8 := N_0
  refine ⟨⟨(i 0).val, by omega⟩, flush0_6 _, ?_⟩
  have h := ((cfg0.win 6).blk (⟨(i 0).val, by omega⟩ : Fin cfg0.N)).view.emb_mem_set (ix3 (0 : Fin 1) (⟨(i 1).val, (i 1).isLt⟩ : Fin 8) (⟨(i 2).val, (i 2).isLt⟩ : Fin 768))
  erw [emb6] at h
  rw [← ix3_of i] at h
  · exact h
  · rfl
  · rfl
  · rfl
theorem covered7 (i : S8x8x768.Idx) : ∃ t : Fin cfg0.N, (cfg0.win 7).flush t = true ∧ i ∈ ((cfg0.win 7).blk t).view.set := by
  have h0 : (i 0).val < 8 := (i 0).isLt
  have hN : cfg0.N = 8 := N_0
  refine ⟨⟨(i 0).val, by omega⟩, flush0_7 _, ?_⟩
  have h := ((cfg0.win 7).blk (⟨(i 0).val, by omega⟩ : Fin cfg0.N)).view.emb_mem_set (ix3 (0 : Fin 1) (⟨(i 1).val, (i 1).isLt⟩ : Fin 8) (⟨(i 2).val, (i 2).isLt⟩ : Fin 768))
  erw [emb7] at h
  rw [← ix3_of i] at h
  · exact h
  · rfl
  · rfl
  · rfl

/-- The query after the run, -/
theorem final5 : (dats m 0 c).arrAt 5 cfg0.N = G5 (aM m c) := (dats m 0 c).arrAt_eq_of_cover 5 _ (fun t _ => flushed5_eq m c t) covered5
/-- the key, -/
theorem final6 : (dats m 0 c).arrAt 6 cfg0.N = G6 (aM m c) := (dats m 0 c).arrAt_eq_of_cover 6 _ (fun t _ => flushed6_eq m c t) covered6
/-- and the key rounded. -/
theorem final7 : (dats m 0 c).arrAt 7 cfg0.N = G7 (aM m c) := (dats m 0 c).arrAt_eq_of_cover 7 _ (fun t _ => flushed7_eq m c t) covered7

end Arrays
end Cert.RopeIdeal.Rope
end
-- ==== Proof.RopeRef.lean ====
/- The rotation's reference, read at each place of its three results. -/
module
public import proofs.«01_k».proof.Proof.RopeKernel
public import proofs.«01_k».proof.Proof.Gen.RopeRefIdeal.Run
public import proofs.«01_k».proof.Proof.Gen.RopeRefIdeal.Read
@[expose] public section
set_option maxRecDepth 16384
noncomputable section
namespace Cert.RopeRefIdeal.Rope
open Cert.RopeRefIdeal Cert.RopeRefIdeal.Gen Cert.RopeRefIdeal.Read Cert.RopeIdeal.Rope Cert.KernelIdeal.Up Cert.Rows Cert.Hg Idealize.ShloMosaic Idealize.ShloMosaic.TcCoe Idealize.SL.Sem
open Cert.HgrnIdeal.Hg (hOf cOf)

/-- An index of one axis is determined by its coordinate, -/
theorem ix1_of {a : ℕ} (y : Shape.Idx ⟨1, ![a]⟩) (i : Fin a) (h : (y 0).val = i.val) : y = ix1 i := by
  funext n; match n with | ⟨0, _⟩ => exact Fin.ext h
/-- one of five axes by its five. -/
theorem ix5_of {a b c d e : ℕ} (y : Shape.Idx ⟨5, ![a, b, c, d, e]⟩) (i : Fin a) (j : Fin b) (k : Fin c) (l : Fin d) (m : Fin e)
    (hi : (y 0).val = i.val) (hj : (y 1).val = j.val) (hk : (y 2).val = k.val) (hl : (y 3).val = l.val) (hm : (y 4).val = m.val) : y = ix5 i j k l m := by
  funext n
  match n with
  | ⟨0, _⟩ => exact Fin.ext hi
  | ⟨1, _⟩ => exact Fin.ext hj
  | ⟨2, _⟩ => exact Fin.ext hk
  | ⟨3, _⟩ => exact Fin.ext hl
  | ⟨4, _⟩ => exact Fin.ext hm

/-! ## The rotation of an array by halves -/

section
variable (Q : Vec Ideal S8x4x6x2x64 .f32)
/-- The first sixteen lanes of each half, -/
def top : Vec Ideal S8x4x6x2x16 .f32 := extractStridedSlice S8x4x6x2x16 ![0, 0, 0, 0, 0] Q slices_S8x4x6x2x64_S8x4x6x2x16_0_0_0_0_0
/-- the first eight of them, -/
def lo : Vec Ideal S8x4x6x2x8 .f32 := extractStridedSlice S8x4x6x2x8 ![0, 0, 0, 0, 0] (top Q) slices_S8x4x6x2x16_S8x4x6x2x8_0_0_0_0_0
/-- the last eight, -/
def hi : Vec Ideal S8x4x6x2x8 .f32 := extractStridedSlice S8x4x6x2x8 ![0, 0, 0, 0, 8] (top Q) slices_S8x4x6x2x16_S8x4x6x2x8_0_0_0_0_8
/-- and the lanes beyond. -/
def rest : Vec Ideal S8x4x6x2x48 .f32 := extractStridedSlice S8x4x6x2x48 ![0, 0, 0, 0, 16] Q slices_S8x4x6x2x64_S8x4x6x2x48_0_0_0_0_16
/-- The first eight rotated, -/
def loR : FVec Ideal S8x4x6x2x8 .f32 := subf (mulf (lo Q) (val_main_v29 (F := Ideal))) (mulf (hi Q) (val_main_v31 (F := Ideal)))
/-- the next, -/
def hiR : FVec Ideal S8x4x6x2x8 .f32 := addf (mulf (hi Q) (val_main_v34 (F := Ideal))) (mulf (lo Q) (val_main_v36 (F := Ideal)))
/-- both, -/
def topR : Vec Ideal S8x4x6x2x16 .f32 := concatenate S8x4x6x2x16 4 [⟨S8x4x6x2x8, loR Q⟩, ⟨S8x4x6x2x8, hiR Q⟩] concatenates_S8x4x6x2x8_S8x4x6x2x8_S8x4x6x2x16_d4
/-- and with the lanes beyond. -/
def rotV : Vec Ideal S8x4x6x2x64 .f32 := concatenate S8x4x6x2x64 4 [⟨S8x4x6x2x16, topR Q⟩, ⟨S8x4x6x2x48, rest Q⟩] concatenates_S8x4x6x2x16_S8x4x6x2x48_S8x4x6x2x64_d4

variable (b : Fin 8) (t : Fin 4) (h : Fin 6) (u : Fin 2)
theorem lo_apply (e : Fin 8) : lo Q (ix5 b t h u e) = Q (ix5 b t h u ⟨e.val, by omega⟩) := by unfold lo top; pointwise
theorem hi_apply (e : Fin 8) : hi Q (ix5 b t h u e) = Q (ix5 b t h u ⟨8 + e.val, by omega⟩) := by unfold hi top; pointwise
theorem rest_apply (e : Fin 48) : rest Q (ix5 b t h u e) = Q (ix5 b t h u ⟨16 + e.val, by omega⟩) := by unfold rest; pointwise

theorem frq_eq : val_main_v15 (F := Ideal) = frq := rfl
theorem posw' (t : Fin 4) : IntOp.addi (16384#32) (BitVec.ofNat 32 t.val) = BitVec.ofNat 32 (16384 + t.val) := by revert t; decide

theorem ang_apply' (e : Fin 8) (i : S4x8.Idx) (e0 : (i 0).val = t.val) (e1 : (i 1).val = e.val) : val_main_v21 (F := Ideal) i = pos t.val * frq (ix1 e) := by
  rw [val_main_v21_apply, val_main_v19_apply, val_main_v20_apply, val_main_v17_apply, val_main_v18_apply, val_main_v16_apply, val_main_v2_apply, val_main_v1_apply, val_main_v0_apply, val_main_c_apply, frq_eq]
  refine congrArg₂ (· * ·) ?_ (congrArg frq (ix1_of _ e e1))
  show FloatOps.sitofp (F := Ideal) .f32 (IntOp.addi (16384#32) (BitVec.ofNat 32 (i 0).val)) = pos t.val
  rw [e0, posw' t]
  rfl
theorem c29 (e : Fin 8) : val_main_v29 (F := Ideal) (ix5 b t h u e) = Ideal.cos (pos t.val * frq (ix1 e)) := by
  rw [val_main_v29_apply, val_main_v23_apply, val_main_v22_apply, ang_apply' t e _ rfl rfl]; rfl
theorem s31 (e : Fin 8) : val_main_v31 (F := Ideal) (ix5 b t h u e) = Ideal.sin (pos t.val * frq (ix1 e)) := by
  rw [val_main_v31_apply, val_main_v25_apply, val_main_v24_apply, ang_apply' t e _ rfl rfl]; rfl
theorem c34 (e : Fin 8) : val_main_v34 (F := Ideal) (ix5 b t h u e) = Ideal.cos (pos t.val * frq (ix1 e)) := c29 b t h u e
theorem s36 (e : Fin 8) : val_main_v36 (F := Ideal) (ix5 b t h u e) = Ideal.sin (pos t.val * frq (ix1 e)) := s31 b t h u e

/-- A lane of a half, in the head. -/
def ln (u : Fin 2) (d : Fin 64) : Fin 128 := ⟨64 * u.val + d.val, by omega⟩

theorem rotV_apply (f : Fin 128 → EReal) (hf : ∀ d : Fin 64, Q (ix5 b t h u d) = f (ln u d)) (d : Fin 64) :
    rotV Q (ix5 b t h u d) = rotR f t.val (ln u d) := by
  have hd : (ln u d).val % 64 = d.val := by show (64 * u.val + d.val) % 64 = d.val; omega
  have hang (e : Fin 8) (he : d.val % 8 = e.val) : ang t.val (ln u d) = pos t.val * frq (ix1 e) :=
    congrArg (fun z => pos t.val * frq (ix1 z)) (Fin.ext (by show (64 * u.val + d.val) % 8 = e.val; omega))
  unfold rotV rotR
  rw [hd]
  by_cases h16 : d.val < 16
  · refine (concatenate_pair_apply_left (4 : Fin S8x4x6x2x64.rank) (topR Q) (rest Q) _ (ix5 b t h u d) rfl (ix5 b t h u ⟨d.val, h16⟩)
      (fun a => match a with | ⟨0, _⟩ => rfl | ⟨1, _⟩ => rfl | ⟨2, _⟩ => rfl | ⟨3, _⟩ => rfl | ⟨4, _⟩ => rfl)).trans ?_
    unfold topR
    by_cases h8 : d.val < 8
    · rw [if_pos h8, hang ⟨d.val, h8⟩ (by dsimp; omega)]
      refine (concatenate_pair_apply_left (4 : Fin S8x4x6x2x16.rank) (loR Q) (hiR Q) _ (ix5 b t h u (⟨d.val, h16⟩ : Fin 16)) rfl (ix5 b t h u ⟨d.val, h8⟩)
        (fun a => match a with | ⟨0, _⟩ => rfl | ⟨1, _⟩ => rfl | ⟨2, _⟩ => rfl | ⟨3, _⟩ => rfl | ⟨4, _⟩ => rfl)).trans ?_
      show lo Q _ * val_main_v29 (F := Ideal) _ - hi Q _ * val_main_v31 (F := Ideal) _ = _
      rw [lo_apply, hi_apply, c29, s31, hf, hf]
      refine congrArg₂ (fun x y => f x * Ideal.cos _ - f y * Ideal.sin _) rfl (Fin.ext ?_)
      show 64 * u.val + (8 + d.val) = (64 * u.val + d.val + (128 - 120)) % 128
      omega
    · rw [if_neg h8, if_pos h16, hang ⟨d.val - 8, by omega⟩ (by dsimp; omega)]
      refine (concatenate_pair_apply_right (4 : Fin S8x4x6x2x16.rank) (loR Q) (hiR Q) _ (ix5 b t h u (⟨d.val, h16⟩ : Fin 16)) rfl rfl (ix5 b t h u ⟨d.val - 8, by omega⟩)
        (fun a ha => match a with | ⟨0, _⟩ => rfl | ⟨1, _⟩ => rfl | ⟨2, _⟩ => rfl | ⟨3, _⟩ => rfl | ⟨4, _⟩ => absurd rfl ha) (by show d.val - 8 + 8 = d.val; omega)).trans ?_
      show hi Q _ * val_main_v34 (F := Ideal) _ + lo Q _ * val_main_v36 (F := Ideal) _ = _
      rw [lo_apply, hi_apply, c34, s36, hf, hf]
      refine congrArg₂ (fun x y => f x * Ideal.cos _ + f y * Ideal.sin _) (Fin.ext ?_) (Fin.ext ?_)
      · show 64 * u.val + (8 + (d.val - 8)) = 64 * u.val + d.val
        omega
      · show 64 * u.val + (d.val - 8) = (64 * u.val + d.val + (128 - 8)) % 128
        omega
  · rw [if_neg (by omega), if_neg h16]
    refine (concatenate_pair_apply_right (4 : Fin S8x4x6x2x64.rank) (topR Q) (rest Q) _ (ix5 b t h u d) rfl rfl (ix5 b t h u ⟨d.val - 16, by omega⟩)
      (fun a ha => match a with | ⟨0, _⟩ => rfl | ⟨1, _⟩ => rfl | ⟨2, _⟩ => rfl | ⟨3, _⟩ => rfl | ⟨4, _⟩ => absurd rfl ha) (by show d.val - 16 + 16 = d.val; omega)).trans ?_
    rw [rest_apply, hf]
    exact congrArg f (Fin.ext (by show 64 * u.val + (16 + (d.val - 16)) = 64 * u.val + d.val; omega))
end

/-! ## The three results -/

section
variable (M : Vec Ideal S8x4x5376 .f32)

theorem q_half (b : Fin 8) (t : Fin 4) (h : Fin 6) (u : Fin 2) (d : Fin 64) : val_main_v5 (F := Ideal) M (ix5 b t h u d) = prt M 4 b h t (ln u d) := by
  rw [val_main_v5_apply, val_main_v3_apply]
  exact congrArg M (ix3_of _ _ _ _ (by dsimp <;> omega) (by dsimp <;> omega) (by dsimp [ln] <;> omega))
theorem k_half (b : Fin 8) (t : Fin 4) (h : Fin 6) (u : Fin 2) (d : Fin 64) : val_main_v44 (F := Ideal) M (ix5 b t h u d) = prt M 5 b h t (ln u d) := by
  rw [val_main_v44_apply, val_main_v4_apply]
  exact congrArg M (ix3_of _ _ _ _ (by dsimp <;> omega) (by dsimp <;> omega) (by dsimp [ln] <;> omega))

/-- A column's half of its head, -/
def uOf (c : Fin 768) : Fin 2 := ⟨c.val / 64 % 2, by omega⟩
/-- its place in the half, -/
def dOf (c : Fin 768) : Fin 64 := ⟨c.val % 64, by omega⟩
/-- and both together. -/
theorem ln_of (c : Fin 768) : ln (uOf c) (dOf c) = cOf c := Fin.ext (by show 64 * (c.val / 64 % 2) + c.val % 64 = c.val % 128; omega)

theorem q_rows (b : Fin 8) (t : Fin 4) (c : Fin 768) : val_main_v81 (F := Ideal) M (ix3 b t c) = rotP M 4 b (hOf c) t (cOf c) * qs := by
  rw [val_main_v81_apply, ix5_of (idx_main_v81 (ix3 b t c)) b t (hOf c) (uOf c) (dOf c)
    (by dsimp <;> omega) (by dsimp <;> omega) (by dsimp [hOf] <;> omega) (by dsimp [uOf] <;> omega) (by dsimp [dOf] <;> omega),
    val_main_v43_apply, val_main_v42_apply, val_main_cst_3_apply]
  refine congrArg (· * qs) (Eq.trans (b := rotV (val_main_v5 (F := Ideal) M) (ix5 b t (hOf c) (uOf c) (dOf c))) rfl ?_)
  rw [rotV_apply _ b t (hOf c) (uOf c) _ (fun d => q_half M b t (hOf c) (uOf c) d), ln_of]
  rfl
theorem k_rows (b : Fin 8) (t : Fin 4) (c : Fin 768) : val_main_v83 (F := Ideal) M (ix3 b t c) = rotP M 5 b (hOf c) t (cOf c) := by
  rw [val_main_v83_apply, ix5_of (idx_main_v83 (ix3 b t c)) b t (hOf c) (uOf c) (dOf c)
    (by dsimp <;> omega) (by dsimp <;> omega) (by dsimp [hOf] <;> omega) (by dsimp [uOf] <;> omega) (by dsimp [dOf] <;> omega)]
  refine Eq.trans (b := rotV (val_main_v44 (F := Ideal) M) (ix5 b t (hOf c) (uOf c) (dOf c))) rfl ?_
  rw [rotV_apply _ b t (hOf c) (uOf c) _ (fun d => k_half M b t (hOf c) (uOf c) d), ln_of]
  rfl

/-- Rows padded to eight, read at a place. -/
theorem pad_rows (X : Vec Ideal S8x4x768 .f32) (z : FVec Ideal S_ .f32) (hz : ∀ i, z i = (0 : EReal)) (f : Fin 8 → Fin 6 → Fin 4 → Fin 128 → EReal)
    (hX : ∀ (b : Fin 8) (t : Fin 4) (c : Fin 768), X (ix3 b t c) = f b (hOf c) t (cOf c)) (b r : Fin 8) (c : Fin 768) :
    pad S8x8x768 ![0, 0, 0] ![0, 4, 0] ![0, 0, 0] X z pads_S8x4x768_S8x8x768_000_040_000 h_S_ (ix3 b r c) = pad4 (f b (hOf c)) r (cOf c) := by
  unfold pad4
  by_cases h : r.val < 4
  · rw [dif_pos h, ← hX]
    refine pad_apply_of_inside _ _ _ _ _ _ _ _ _ (fun a => ?_)
    match a with
    | ⟨0, _⟩ => show b.val = 0 + b.val * (0 + 1); omega
    | ⟨1, _⟩ => show r.val = 0 + r.val * (0 + 1); omega
    | ⟨2, _⟩ => show c.val = 0 + c.val * (0 + 1); omega
  · rw [dif_neg h]
    refine (pad_apply_of_not_inside _ _ _ _ _ _ _ _ (1 : Fin 3) ?_).trans (hz _)
    show ¬ (0 ≤ r.val ∧ (r.val - 0) % (0 + 1) = 0 ∧ (r.val - 0) / (0 + 1) < 4)
    omega

theorem zero_pad (i : S_.Idx) : val_main_call0_v0 (F := Ideal) i = (0 : EReal) := by
  show (((0#32 : BitVec 32).toInt : ℝ) : EReal) = 0
  simp

/-- The query, -/
theorem out0_eq : val_main_v85 (F := Ideal) M = G5 M := funext fun y => by
  obtain ⟨b, r, c, rfl⟩ : ∃ (b r : Fin 8) (c : Fin 768), y = ix3 b r c := ⟨y 0, y 1, y 2, eq_ix3 y⟩
  rw [val_main_v85_apply]
  exact pad_rows _ _ zero_pad (fun b h t k => rotP M 4 b h t k * qs) (q_rows M) b r c
/-- the key, -/
theorem out1_eq : val_main_v84 (F := Ideal) M = G6 M := funext fun y => by
  obtain ⟨b, r, c, rfl⟩ : ∃ (b r : Fin 8) (c : Fin 768), y = ix3 b r c := ⟨y 0, y 1, y 2, eq_ix3 y⟩
  exact pad_rows _ _ zero_pad (rotP M 5) (k_rows M) b r c
/-- and the key rounded. -/
theorem out2_eq : val_main_v86 (F := Ideal) M = G7 M := funext fun y => by
  rw [val_main_v86_apply]
  exact congrFun (out1_eq M) y
end
end Cert.RopeRefIdeal.Rope
end
-- ==== Proof.lean ====
/- The calls of the layer, each with its reference: the claims and their proof. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.UpRef
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownRef
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.ProjRef
public import proofs.«01_k».proof.Proof.Gen.Outp
public import proofs.«01_k».proof.Proof.Gen.Outp.Frame
public import proofs.«01_k».proof.Proof.Gen.OutpIdeal
public import proofs.«01_k».proof.Proof.Gen.OutpIdeal.Frame
public import proofs.«01_k».proof.Proof.Gen.OutpIdeal.Value
public import proofs.«01_k».proof.Proof.Gen.OutpRefIdeal
public import proofs.«01_k».proof.Proof.Gen.OutpRefIdeal.Run
public import proofs.«01_k».proof.Proof.Gen.OutpRefIdeal.Read
public import proofs.«01_k».proof.Proof.OutpRef
public import proofs.«01_k».proof.Proof.Gen.Hgrn
public import proofs.«01_k».proof.Proof.Gen.Hgrn.Frame
public import proofs.«01_k».proof.Proof.Gen.HgrnIdeal
public import proofs.«01_k».proof.Proof.Gen.HgrnIdeal.Frame
public import proofs.«01_k».proof.Proof.Gen.HgrnIdeal.Value
public import proofs.«01_k».proof.Proof.Gen.HgrnRefIdeal
public import proofs.«01_k».proof.Proof.Gen.HgrnRefIdeal.Run
public import proofs.«01_k».proof.Proof.Gen.HgrnRefIdeal.Read
public import proofs.«01_k».proof.Proof.HgrnRef
public import proofs.«01_k».proof.Proof.Gen.Short
public import proofs.«01_k».proof.Proof.Gen.Short.Frame
public import proofs.«01_k».proof.Proof.Gen.ShortIdeal
public import proofs.«01_k».proof.Proof.Gen.ShortIdeal.Frame
public import proofs.«01_k».proof.Proof.Gen.ShortIdeal.Value
public import proofs.«01_k».proof.Proof.Gen.ShortRefIdeal
public import proofs.«01_k».proof.Proof.Gen.ShortRefIdeal.Run
public import proofs.«01_k».proof.Proof.Gen.ShortRefIdeal.Read
public import proofs.«01_k».proof.Proof.ShortRef
public import proofs.«01_k».proof.Proof.Gen.DownS
public import proofs.«01_k».proof.Proof.Gen.DownS.Frame
public import proofs.«01_k».proof.Proof.Gen.DownSIdeal
public import proofs.«01_k».proof.Proof.Gen.DownSIdeal.Frame
public import proofs.«01_k».proof.Proof.Gen.DownSIdeal.Value
public import proofs.«01_k».proof.Proof.Gen.DownSRefIdeal
public import proofs.«01_k».proof.Proof.Gen.DownSRefIdeal.Run
public import proofs.«01_k».proof.Proof.Gen.DownSRefIdeal.Read
public import proofs.«01_k».proof.Proof.DownSRef
public import proofs.«01_k».proof.Proof.Gen.ProjS
public import proofs.«01_k».proof.Proof.Gen.ProjS.Frame
public import proofs.«01_k».proof.Proof.Gen.ProjSIdeal
public import proofs.«01_k».proof.Proof.Gen.ProjSIdeal.Frame
public import proofs.«01_k».proof.Proof.Gen.ProjSIdeal.Value
public import proofs.«01_k».proof.Proof.Gen.ProjSRefIdeal
public import proofs.«01_k».proof.Proof.Gen.ProjSRefIdeal.Run
public import proofs.«01_k».proof.Proof.Gen.ProjSRefIdeal.Read
public import proofs.«01_k».proof.Proof.ProjSRef
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.RopeRef
public import proofs.«01_k».proof.Proof.Gen.Pre_lower_bounds
public import Idealize.ShloMosaic.Adequacy
public import Idealize.ShloMosaic.Init

@[expose] public section

noncomputable section

namespace Cert.Proof

open Idealize.ShloMosaic Idealize.SL.Sem Cert.Kernel

/-- The gated convolution and its reference compute the same two arrays. -/
theorem algebraic_up [hk : Cert.KernelIdeal.Facts] [hr : Cert.ReferenceIdeal.Facts] : Cert.algebraic_KernelIdeal_ReferenceIdeal := by
  intro m g m' g' _ agree
  refine ⟨fun c => Cert.KernelIdeal.Up.G6 (Cert.KernelIdeal.Up.aH m c) (Cert.KernelIdeal.Up.aG m c) (Cert.KernelIdeal.Up.aU m c)
      (Cert.KernelIdeal.Up.aW m c) (Cert.KernelIdeal.Up.aB m c) (Cert.KernelIdeal.Up.aP m c),
    fun c => Cert.KernelIdeal.Up.G7 (Cert.KernelIdeal.Up.aH m c) (Cert.KernelIdeal.Up.aG m c) (Cert.KernelIdeal.Up.aP m c), ?_, ?_⟩
  · exact (θ_run _ _ _).mono (fun r h c => ⟨(h c).1.trans (Cert.KernelIdeal.Up.final6 m c),
      (h c).2.1.trans (Cert.KernelIdeal.Up.final7 m c), (h c).2.2⟩) (Cert.KernelIdeal.Value.run_blocks m g)
  · refine (θ_run _ _ _).mono (fun r h c => ⟨(h c).1.trans ?_, (h c).2.1.trans ?_, (h c).2.2⟩) (Cert.ReferenceIdeal.Value.run m' g')
    · obtain ⟨e0, e1, e2, e3, e4, e5⟩ := agree c
      refine (Cert.ReferenceIdeal.Read.val_main_v32_eq m' c).trans ?_
      rw [e0, e1, e2, e3, e4, e5]
      exact Cert.ReferenceIdeal.Up.out0_eq _ _ _ _ _ _
    · obtain ⟨e0, e1, e2, e3, e4, e5⟩ := agree c
      refine (Cert.ReferenceIdeal.Read.val_main_v33_eq _ _ _).trans ?_
      rw [e0, e1, e5]
      exact Cert.ReferenceIdeal.Up.out1_eq _ _ _

/-- So do the down projection and its reference, -/
theorem algebraic_down [hk : Cert.DownIdeal.Facts] [hr : Cert.DownRefIdeal.Facts] : Cert.algebraic_DownIdeal_DownRefIdeal := by
  intro m g m' g' _ agree
  refine ⟨fun c => Cert.DownIdeal.Down.G5 (Cert.DownIdeal.Down.aA m c) (Cert.DownIdeal.Down.aW m c) (Cert.DownIdeal.Down.aX m c)
      (Cert.DownIdeal.Down.aGP m c),
    fun c => Cert.DownIdeal.Down.G6 (Cert.DownIdeal.Down.aA m c) (Cert.DownIdeal.Down.aW m c) (Cert.DownIdeal.Down.aX m c)
      (Cert.DownIdeal.Down.aGP m c) (Cert.DownIdeal.Down.aGN m c), ?_, ?_⟩
  · exact (θ_run _ _ _).mono (fun r h c => ⟨(h c).1.trans (Cert.DownIdeal.Down.final5 m c),
      (h c).2.1.trans (Cert.DownIdeal.Down.final6 m c), (h c).2.2⟩) (Cert.DownIdeal.Value.run_blocks m g)
  · refine (θ_run _ _ _).mono (fun r h c => ⟨(h c).1.trans ?_, (h c).2.1.trans ?_, (h c).2.2⟩) (Cert.DownRefIdeal.Value.run m' g')
    · obtain ⟨e0, e1, e2, e3, e4⟩ := agree c
      refine (Cert.DownRefIdeal.Read.val_main_v30_eq _ _ _ _).trans ?_
      rw [e0, e1, e2, e3]
      exact Cert.DownRefIdeal.Down.out0_eq _ _ _ _
    · obtain ⟨e0, e1, e2, e3, e4⟩ := agree c
      refine (Cert.DownRefIdeal.Read.val_main_v32_eq m' c).trans ?_
      rw [e0, e1, e2, e3, e4]
      exact Cert.DownRefIdeal.Down.out1_eq _ _ _ _ _

/-- the input projection and its reference, -/
theorem algebraic_proj [hk : Cert.ProjIdeal.Facts] [hr : Cert.ProjRefIdeal.Facts] : Cert.algebraic_ProjIdeal_ProjRefIdeal := by
  intro m g m' g' _ agree
  refine ⟨fun c => Cert.ProjIdeal.Proj.G4 (Cert.ProjIdeal.Proj.aH m c) (Cert.ProjIdeal.Proj.aW m c), ?_, ?_⟩
  · exact (θ_run _ _ _).mono (fun r h c => ⟨(h c).1.trans (Cert.ProjIdeal.Proj.final m c), (h c).2⟩) (Cert.ProjIdeal.Value.run_blocks m g)
  · refine (θ_run _ _ _).mono (fun r h c => ⟨(h c).1.trans ?_, (h c).2⟩) (Cert.ProjRefIdeal.Value.run m' g')
    obtain ⟨e0, e1⟩ := agree c
    refine (Cert.ProjRefIdeal.Read.val_main_v4_eq _ _).trans ?_
    rw [e0, e1]
    exact Cert.ProjRefIdeal.Proj.out_eq _ _

/-- and the output projection and its reference. -/
theorem algebraic_outp [hk : Cert.OutpIdeal.Facts] [hr : Cert.OutpRefIdeal.Facts] : Cert.algebraic_OutpIdeal_OutpRefIdeal := by
  intro m g m' g' _ agree
  refine ⟨fun c => Cert.OutpIdeal.Outp.G7 (Cert.OutpIdeal.Outp.aA m c) (Cert.OutpIdeal.Outp.aB m c) (Cert.OutpIdeal.Outp.aC m c)
      (Cert.OutpIdeal.Outp.aW m c) (Cert.OutpIdeal.Outp.aX m c) (Cert.OutpIdeal.Outp.aGP m c),
    fun c => Cert.OutpIdeal.Outp.G8 (Cert.OutpIdeal.Outp.aA m c) (Cert.OutpIdeal.Outp.aB m c) (Cert.OutpIdeal.Outp.aC m c)
      (Cert.OutpIdeal.Outp.aW m c) (Cert.OutpIdeal.Outp.aX m c) (Cert.OutpIdeal.Outp.aGP m c) (Cert.OutpIdeal.Outp.aGN m c), ?_, ?_⟩
  · exact (θ_run _ _ _).mono (fun r h c => ⟨(h c).1.trans (Cert.OutpIdeal.Outp.final7 m c),
      (h c).2.1.trans (Cert.OutpIdeal.Outp.final8 m c), (h c).2.2⟩) (Cert.OutpIdeal.Value.run_blocks m g)
  · refine (θ_run _ _ _).mono (fun r h c => ⟨(h c).1.trans ?_, (h c).2.1.trans ?_, (h c).2.2⟩) (Cert.OutpRefIdeal.Value.run m' g')
    · obtain ⟨e0, e1, e2, e3, e4, e5, e6⟩ := agree c
      refine (Cert.OutpRefIdeal.Read.val_main_v31_eq _ _ _ _ _ _).trans ?_
      rw [e0, e1, e2, e3, e4, e5]
      exact Cert.OutpRefIdeal.Outp.out0_eq _ _ _ _ _ _
    · obtain ⟨e0, e1, e2, e3, e4, e5, e6⟩ := agree c
      refine (Cert.OutpRefIdeal.Read.val_main_v33_eq m' c).trans ?_
      rw [e0, e1, e2, e3, e4, e5, e6]
      exact Cert.OutpRefIdeal.Outp.out1_eq _ _ _ _ _ _ _

/-- Where the precondition holds, a decay's lower bound is a real number and at most one. -/
theorem bounds [hp : Cert.Pre_lower_bounds.Facts] (m : (ℓ : Loc Cert.HgrnIdeal.nD Cert.HgrnIdeal.τ Cert.HgrnIdeal.sig) → Buf (Elt Ideal) ℓ) (h : Cert.Pre_HgrnIdeal m)
    (c : Dev Cert.HgrnIdeal.nD) (i : Fin 768) : ∃ l : ℝ, Cert.HgrnIdeal.Hg.aL m c (ix1 i) = l ∧ l ≤ 1 := by
  have hi := congrFun (h c) (ix1 i)
  obtain ⟨x, e⟩ : ∃ x : EReal, Cert.HgrnIdeal.Hg.aL m c (ix1 i) = x := ⟨_, rfl⟩
  rw [e]
  have hx : BitVec.ofBool (decide (Ideal.ofBits .f32 0xFF800000#32 < x)) &&& BitVec.ofBool (decide (x ≤ Ideal.ofBits .f32 0x3F800000#32)) = 1#1 := by
    rw [← e]
    exact hi
  rw [Ideal.ofBits_one_f32] at hx
  by_cases h1 : Ideal.ofBits .f32 0xFF800000#32 < x
  · by_cases h2 : x ≤ 1
    · induction x with
      | bot => exact absurd h1 not_lt_bot
      | top => exact absurd h2 (by rw [top_le_iff]; exact EReal.coe_ne_top 1)
      | coe l => exact ⟨l, rfl, EReal.coe_le_coe_iff.mp h2⟩
    · rw [decide_eq_false h2] at hx
      simp at hx
  · rw [decide_eq_false h1] at hx
    simp at hx

/-- The gated recurrence and its reference end alike where the lower bounds are those. -/
theorem algebraic_hgrn [hk : Cert.HgrnIdeal.Facts] [hr : Cert.HgrnRefIdeal.Facts] [hp : Cert.Pre_lower_bounds.Facts] : Cert.algebraic_HgrnIdeal_HgrnRefIdeal := by
  intro m g m' g' pre agree
  refine ⟨fun c => Cert.HgrnIdeal.Hg.G7 (Cert.HgrnIdeal.Hg.aM m c) (Cert.HgrnIdeal.Hg.aS0 m c) (Cert.HgrnIdeal.Hg.aL m c) (Cert.HgrnIdeal.Hg.aG m c),
    fun c => Cert.HgrnIdeal.Hg.G8 (Cert.HgrnIdeal.Hg.aM m c) (Cert.HgrnIdeal.Hg.aS0 m c) (Cert.HgrnIdeal.Hg.aL m c), ?_, ?_⟩
  · exact (θ_run _ _ _).mono (fun r h c => ⟨(h c).1.trans (Cert.HgrnIdeal.Hg.final7 m c (bounds m pre c)),
      (h c).2.1.trans (Cert.HgrnIdeal.Hg.final8 m c (bounds m pre c)), (h c).2.2⟩) (Cert.HgrnIdeal.Value.run_blocks m g)
  · refine (θ_run _ _ _).mono (fun r h c => ⟨(h c).1.trans ?_, (h c).2.1.trans ?_, (h c).2.2⟩) (Cert.HgrnRefIdeal.Value.run m' g')
    · obtain ⟨e0, e1, e2, e3⟩ := agree c
      have e : ∀ a0 a1 a2 a3, a0 = Cert.HgrnIdeal.Hg.aM m c → a1 = Cert.HgrnIdeal.Hg.aS0 m c → a2 = Cert.HgrnIdeal.Hg.aL m c → a3 = Cert.HgrnIdeal.Hg.aG m c →
          Cert.HgrnRefIdeal.Read.val_main_v88 (F := Ideal) a0 a1 a2 a3 = Cert.HgrnIdeal.Hg.G7 (Cert.HgrnIdeal.Hg.aM m c) (Cert.HgrnIdeal.Hg.aS0 m c) (Cert.HgrnIdeal.Hg.aL m c) (Cert.HgrnIdeal.Hg.aG m c) := by
        rintro _ _ _ _ rfl rfl rfl rfl
        exact Cert.HgrnRefIdeal.Hg.out0_eq _ _ _ _ (bounds m pre c)
      exact (Cert.HgrnRefIdeal.Read.val_main_v88_eq _).trans (e _ _ _ _ e0 e1 e2 e3)
    · obtain ⟨e0, e1, e2, e3⟩ := agree c
      have e : ∀ a0 a1 a2, a0 = Cert.HgrnIdeal.Hg.aM m c → a1 = Cert.HgrnIdeal.Hg.aS0 m c → a2 = Cert.HgrnIdeal.Hg.aL m c →
          Cert.HgrnRefIdeal.Read.val_main_v67 (F := Ideal) a0 a1 a2 = Cert.HgrnIdeal.Hg.G8 (Cert.HgrnIdeal.Hg.aM m c) (Cert.HgrnIdeal.Hg.aS0 m c) (Cert.HgrnIdeal.Hg.aL m c) := by
        rintro _ _ _ rfl rfl rfl
        exact Cert.HgrnRefIdeal.Hg.out1_eq _ _ _ (bounds m pre c)
      exact (Cert.HgrnRefIdeal.Read.val_main_v67_eq _).trans (e _ _ _ e0 e1 e2)

theorem algebraic_short [hk : Cert.ShortIdeal.Facts] [hr : Cert.ShortRefIdeal.Facts] : Cert.algebraic_ShortIdeal_ShortRefIdeal := by
  intro m g m' g' _ agree
  refine ⟨fun c => Cert.ShortIdeal.Short.G7 (Cert.ShortIdeal.Short.aH m c) (Cert.ShortIdeal.Short.aWG m c) (Cert.ShortIdeal.Short.aWU m c) (Cert.ShortIdeal.Short.aCW m c) (Cert.ShortIdeal.Short.aCB m c) (Cert.ShortIdeal.Short.aP m c),
    fun c => Cert.ShortIdeal.Short.G8 (Cert.ShortIdeal.Short.aH m c) (Cert.ShortIdeal.Short.aWG m c), ?_, ?_⟩
  · exact (θ_run _ _ _).mono (fun r h c => ⟨(h c).1.trans (Cert.ShortIdeal.Short.final7 m c), (h c).2.1.trans (Cert.ShortIdeal.Short.final8 m c), (h c).2.2⟩) (Cert.ShortIdeal.Value.run_blocks m g)
  · refine (θ_run _ _ _).mono (fun r h c => ⟨(h c).1.trans ?_, (h c).2.1.trans ?_, (h c).2.2⟩) (Cert.ShortRefIdeal.Value.run m' g')
    · obtain ⟨e0, e1, e2, e3, e4, e5⟩ := agree c
      have e : ∀ a0 a1 a2 a3 a4 a5, a0 = Cert.ShortIdeal.Short.aH m c → a1 = Cert.ShortIdeal.Short.aWG m c → a2 = Cert.ShortIdeal.Short.aWU m c → a3 = Cert.ShortIdeal.Short.aCW m c → a4 = Cert.ShortIdeal.Short.aCB m c → a5 = Cert.ShortIdeal.Short.aP m c →
          Cert.ShortRefIdeal.Read.val_main_v33 (F := Ideal) a0 a1 a2 a3 a4 a5 = Cert.ShortIdeal.Short.G7 (Cert.ShortIdeal.Short.aH m c) (Cert.ShortIdeal.Short.aWG m c) (Cert.ShortIdeal.Short.aWU m c) (Cert.ShortIdeal.Short.aCW m c) (Cert.ShortIdeal.Short.aCB m c) (Cert.ShortIdeal.Short.aP m c) := by
        rintro _ _ _ _ _ _ rfl rfl rfl rfl rfl rfl
        exact Cert.ShortRefIdeal.Short.out0_eq _ _ _ _ _ _
      exact (Cert.ShortRefIdeal.Read.val_main_v33_eq _ _).trans (e _ _ _ _ _ _ e0 e1 e2 e3 e4 e5)
    · obtain ⟨e0, e1, e2, e3, e4, e5⟩ := agree c
      have e : ∀ a0 a1, a0 = Cert.ShortIdeal.Short.aH m c → a1 = Cert.ShortIdeal.Short.aWG m c → Cert.ShortRefIdeal.Read.val_main_v34 (F := Ideal) a0 a1 = Cert.ShortIdeal.Short.G8 (Cert.ShortIdeal.Short.aH m c) (Cert.ShortIdeal.Short.aWG m c) := by
        rintro _ _ rfl rfl
        exact Cert.ShortRefIdeal.Short.out1_eq _ _
      exact (Cert.ShortRefIdeal.Read.val_main_v34_eq _ _).trans (e _ _ e0 e1)

/-- On the samples the down projection and its reference end alike, -/
theorem algebraic_downS [hk : Cert.DownSIdeal.Facts] [hr : Cert.DownSRefIdeal.Facts] : Cert.algebraic_DownSIdeal_DownSRefIdeal := by
  intro m g m' g' _ agree
  refine ⟨fun c => Cert.DownSIdeal.DownS.G5 (Cert.DownSIdeal.DownS.aA m c) (Cert.DownSIdeal.DownS.aW m c) (Cert.DownSIdeal.DownS.aX m c)
      (Cert.DownSIdeal.DownS.aGP m c),
    fun c => Cert.DownSIdeal.DownS.G6 (Cert.DownSIdeal.DownS.aA m c) (Cert.DownSIdeal.DownS.aW m c) (Cert.DownSIdeal.DownS.aX m c)
      (Cert.DownSIdeal.DownS.aGP m c) (Cert.DownSIdeal.DownS.aGN m c), ?_, ?_⟩
  · exact (θ_run _ _ _).mono (fun r h c => ⟨(h c).1.trans (Cert.DownSIdeal.DownS.final5 m c),
      (h c).2.1.trans (Cert.DownSIdeal.DownS.final6 m c), (h c).2.2⟩) (Cert.DownSIdeal.Value.run_blocks m g)
  · refine (θ_run _ _ _).mono (fun r h c => ⟨(h c).1.trans ?_, (h c).2.1.trans ?_, (h c).2.2⟩) (Cert.DownSRefIdeal.Value.run m' g')
    · obtain ⟨e0, e1, e2, e3, e4⟩ := agree c
      refine (Cert.DownSRefIdeal.Read.val_main_v30_eq _ _ _ _).trans ?_
      rw [e0, e1, e2, e3]
      exact Cert.DownSRefIdeal.DownS.out0_eq _ _ _ _
    · obtain ⟨e0, e1, e2, e3, e4⟩ := agree c
      refine (Cert.DownSRefIdeal.Read.val_main_v32_eq m' c).trans ?_
      rw [e0, e1, e2, e3, e4]
      exact Cert.DownSRefIdeal.DownS.out1_eq _ _ _ _ _

/-- so do the input projection and its reference, -/
theorem algebraic_projS [hk : Cert.ProjSIdeal.Facts] [hr : Cert.ProjSRefIdeal.Facts] : Cert.algebraic_ProjSIdeal_ProjSRefIdeal := by
  intro m g m' g' _ agree
  refine ⟨fun c => Cert.ProjSIdeal.ProjS.G4 (Cert.ProjSIdeal.ProjS.aH m c) (Cert.ProjSIdeal.ProjS.aW m c), ?_, ?_⟩
  · exact (θ_run _ _ _).mono (fun r h c => ⟨(h c).1.trans (Cert.ProjSIdeal.ProjS.final m c), (h c).2⟩) (Cert.ProjSIdeal.Value.run_blocks m g)
  · refine (θ_run _ _ _).mono (fun r h c => ⟨(h c).1.trans ?_, (h c).2⟩) (Cert.ProjSRefIdeal.Value.run m' g')
    obtain ⟨e0, e1⟩ := agree c
    refine (Cert.ProjSRefIdeal.Read.val_main_v4_eq _ _).trans ?_
    rw [e0, e1]
    exact Cert.ProjSRefIdeal.ProjS.out_eq _ _

/-- and the rotation of the query and key and its reference. -/
theorem algebraic_rope [hk : Cert.RopeIdeal.Facts] [hr : Cert.RopeRefIdeal.Facts] : Cert.algebraic_RopeIdeal_RopeRefIdeal := by
  intro m g m' g' _ agree
  refine ⟨fun c => Cert.RopeIdeal.Rope.G5 (Cert.RopeIdeal.Rope.aM m c), fun c => Cert.RopeIdeal.Rope.G6 (Cert.RopeIdeal.Rope.aM m c),
    fun c => Cert.RopeIdeal.Rope.G7 (Cert.RopeIdeal.Rope.aM m c), ?_, ?_⟩
  · exact (θ_run _ _ _).mono (fun r h c => ⟨(h c).1.trans (Cert.RopeIdeal.Rope.final5 m c), (h c).2.1.trans (Cert.RopeIdeal.Rope.final6 m c),
      (h c).2.2.1.trans (Cert.RopeIdeal.Rope.final7 m c), (h c).2.2.2⟩) (Cert.RopeIdeal.Value.run_blocks m g)
  · refine (θ_run _ _ _).mono (fun r h c => ⟨(h c).1.trans ?_, (h c).2.1.trans ?_, (h c).2.2.1.trans ?_, (h c).2.2.2⟩) (Cert.RopeRefIdeal.Value.run m' g')
    · refine (Cert.RopeRefIdeal.Read.val_main_v85_eq m' c).trans ?_
      rw [show m' _ = _ from agree c]
      exact Cert.RopeRefIdeal.Rope.out0_eq _
    · refine (Cert.RopeRefIdeal.Read.val_main_v84_eq m' c).trans ?_
      rw [show m' _ = _ from agree c]
      exact Cert.RopeRefIdeal.Rope.out1_eq _
    · refine (Cert.RopeRefIdeal.Read.val_main_v86_eq m' c).trans ?_
      rw [show m' _ = _ from agree c]
      exact Cert.RopeRefIdeal.Rope.out2_eq _

theorem claim : Cert.Claim := ⟨Cert.Kernel.Gen.facts, Cert.KernelIdeal.Gen.facts, Cert.ReferenceIdeal.Gen.facts, Cert.Down.Gen.facts, Cert.DownIdeal.Gen.facts, Cert.DownRefIdeal.Gen.facts, Cert.Proj.Gen.facts, Cert.ProjIdeal.Gen.facts, Cert.ProjRefIdeal.Gen.facts, Cert.Outp.Gen.facts, Cert.OutpIdeal.Gen.facts, Cert.OutpRefIdeal.Gen.facts, Cert.Hgrn.Gen.facts, Cert.HgrnIdeal.Gen.facts, Cert.HgrnRefIdeal.Gen.facts, Cert.Short.Gen.facts, Cert.ShortIdeal.Gen.facts, Cert.ShortRefIdeal.Gen.facts, Cert.DownS.Gen.facts, Cert.DownSIdeal.Gen.facts, Cert.DownSRefIdeal.Gen.facts, Cert.ProjS.Gen.facts, Cert.ProjSIdeal.Gen.facts, Cert.ProjSRefIdeal.Gen.facts, Cert.Rope.Gen.facts, Cert.RopeIdeal.Gen.facts, Cert.RopeRefIdeal.Gen.facts, Cert.Pre_lower_bounds.Gen.facts,
  fun m ρ _ => Cert.Kernel.Gen.frame m ρ, fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  fun m ρ _ => Cert.Down.Gen.frame m ρ, fun m ρ _ => Cert.DownIdeal.Gen.frame m ρ,
  fun m ρ _ => (θ_run _ _ _).mono (fun r h => ⟨fun c => (h c).2.2, sem_eq_zero_of_no_sems (by decide) r.2⟩) (Cert.DownRefIdeal.Value.run m ρ),
  fun m ρ _ => Cert.Proj.Gen.frame m ρ, fun m ρ _ => Cert.ProjIdeal.Gen.frame m ρ,
  fun m ρ _ => (θ_run _ _ _).mono (fun r h => ⟨fun c => (h c).2, sem_eq_zero_of_no_sems (by decide) r.2⟩) (Cert.ProjRefIdeal.Value.run m ρ),
  fun m ρ _ => Cert.Outp.Gen.frame m ρ, fun m ρ _ => Cert.OutpIdeal.Gen.frame m ρ,
  fun m ρ _ => (θ_run _ _ _).mono (fun r h => ⟨fun c => (h c).2.2, sem_eq_zero_of_no_sems (by decide) r.2⟩) (Cert.OutpRefIdeal.Value.run m ρ),
  fun m ρ _ => Cert.Hgrn.Gen.frame m ρ, fun m ρ _ => Cert.HgrnIdeal.Gen.frame m ρ,
  fun m ρ _ => (θ_run _ _ _).mono (fun r h => ⟨fun c => (h c).2.2, sem_eq_zero_of_no_sems (by decide) r.2⟩) (Cert.HgrnRefIdeal.Value.run m ρ),
  fun m ρ _ => Cert.Short.Gen.frame m ρ, fun m ρ _ => Cert.ShortIdeal.Gen.frame m ρ,
  fun m ρ _ => (θ_run _ _ _).mono (fun r h => ⟨fun c => (h c).2.2, sem_eq_zero_of_no_sems (by decide) r.2⟩) (Cert.ShortRefIdeal.Value.run m ρ),
  fun m ρ _ => Cert.DownS.Gen.frame m ρ, fun m ρ _ => Cert.DownSIdeal.Gen.frame m ρ,
  fun m ρ _ => (θ_run _ _ _).mono (fun r h => ⟨fun c => (h c).2.2, sem_eq_zero_of_no_sems (by decide) r.2⟩) (Cert.DownSRefIdeal.Value.run m ρ),
  fun m ρ _ => Cert.ProjS.Gen.frame m ρ, fun m ρ _ => Cert.ProjSIdeal.Gen.frame m ρ,
  fun m ρ _ => (θ_run _ _ _).mono (fun r h => ⟨fun c => (h c).2, sem_eq_zero_of_no_sems (by decide) r.2⟩) (Cert.ProjSRefIdeal.Value.run m ρ),
  fun m ρ _ => Cert.Rope.Gen.frame m ρ, fun m ρ _ => Cert.RopeIdeal.Gen.frame m ρ,
  fun m ρ _ => (θ_run _ _ _).mono (fun r h => ⟨fun c => (h c).2.2.2, sem_eq_zero_of_no_sems (by decide) r.2⟩) (Cert.RopeRefIdeal.Value.run m ρ),
  trivial, algebraic_up, trivial, algebraic_down, trivial, algebraic_proj, trivial, algebraic_outp, trivial, algebraic_hgrn, trivial, algebraic_short, trivial, algebraic_downS, trivial, algebraic_projS, trivial, algebraic_rope⟩

end Cert.Proof

end
